-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))) = (fun _ => 1#1)

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_in_dx_finite [hPre_in_dx_finite : Cert.Pre_in_dx_finite.Facts] (m : (ℓ : Loc Cert.InDxIdeal.nD Cert.InDxIdeal.τ Cert.InDxIdeal.sig) → Buf (Elt Ideal) ℓ) : Prop :=
  ∀ c : Dev Cert.InDxIdeal.nD,
    (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))) = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_in_dx_finite [hPre_in_dx_finite : Cert.Pre_in_dx_finite.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_in_dx_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))) = (fun _ => 1#1)

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_QDw (m : (ℓ : Loc Cert.QDw.nD Cert.QDw.τ Cert.QDw.sig) → Buf (Elt Bits) ℓ) : Prop :=
  True

def Pre_QDwIdeal (m : (ℓ : Loc Cert.QDwIdeal.nD Cert.QDwIdeal.τ Cert.QDwIdeal.sig) → Buf (Elt Ideal) ℓ) : Prop :=
  True

def Pre_QDwRefIdeal (m : (ℓ : Loc Cert.QDwRefIdeal.nD Cert.QDwRefIdeal.τ Cert.QDwRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_MixerDw (m : (ℓ : Loc Cert.MixerDw.nD Cert.MixerDw.τ Cert.MixerDw.sig) → Buf (Elt Bits) ℓ) : Prop :=
  True

def Pre_MixerDwIdeal (m : (ℓ : Loc Cert.MixerDwIdeal.nD Cert.MixerDwIdeal.τ Cert.MixerDwIdeal.sig) → Buf (Elt Ideal) ℓ) : Prop :=
  True

def Pre_MixerDwRefIdeal (m : (ℓ : Loc Cert.MixerDwRefIdeal.nD Cert.MixerDwRefIdeal.τ Cert.MixerDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_MixerDx (m : (ℓ : Loc Cert.MixerDx.nD Cert.MixerDx.τ Cert.MixerDx.sig) → Buf (Elt Bits) ℓ) : Prop :=
  True

def Pre_MixerDxIdeal (m : (ℓ : Loc Cert.MixerDxIdeal.nD Cert.MixerDxIdeal.τ Cert.MixerDxIdeal.sig) → Buf (Elt Ideal) ℓ) : Prop :=
  True

def Pre_MixerDxIdeal_mixer_dx_finite [hPre_mixer_dx_finite : Cert.Pre_mixer_dx_finite.Facts] (m : (ℓ : Loc Cert.MixerDxIdeal.nD Cert.MixerDxIdeal.τ Cert.MixerDxIdeal.sig) → Buf (Elt Ideal) ℓ) : Prop :=
  ∀ c : Dev Cert.MixerDxIdeal.nD,
    (Cert.Pre_mixer_dx_finite.fn (F := Ideal) (m ((c.tc : Thread Cert.MixerDxIdeal.nD Cert.MixerDxIdeal.τ).loc Cert.MixerDxIdeal.main_arg0)) (m ((c.tc : Thread Cert.MixerDxIdeal.nD Cert.MixerDxIdeal.τ).loc Cert.MixerDxIdeal.main_arg1)) (m ((c.tc : Thread Cert.MixerDxIdeal.nD Cert.MixerDxIdeal.τ).loc Cert.MixerDxIdeal.main_arg2)) (m ((c.tc : Thread Cert.MixerDxIdeal.nD Cert.MixerDxIdeal.τ).loc Cert.MixerDxIdeal.main_arg3)) (m ((c.tc : Thread Cert.MixerDxIdeal.nD Cert.MixerDxIdeal.τ).loc Cert.MixerDxIdeal.main_arg4))) = (fun _ => 1#1)

def Pre_MixerDxRefIdeal (m : (ℓ : Loc Cert.MixerDxRefIdeal.nD Cert.MixerDxRefIdeal.τ Cert.MixerDxRefIdeal.sig) → Buf (Elt Ideal) ℓ) : Prop :=
  True

def Pre_MixerDxRefIdeal_mixer_dx_finite [hPre_mixer_dx_finite : Cert.Pre_mixer_dx_finite.Facts] (m : (ℓ : Loc Cert.MixerDxRefIdeal.nD Cert.MixerDxRefIdeal.τ Cert.MixerDxRefIdeal.sig) → Buf (Elt Ideal) ℓ) : Prop :=
  ∀ c : Dev Cert.MixerDxRefIdeal.nD,
    (Cert.Pre_mixer_dx_finite.fn (F := Ideal) (m ((c.tc : Thread Cert.MixerDxRefIdeal.nD Cert.MixerDxRefIdeal.τ).loc Cert.MixerDxRefIdeal.main_arg0)) (m ((c.tc : Thread Cert.MixerDxRefIdeal.nD Cert.MixerDxRefIdeal.τ).loc Cert.MixerDxRefIdeal.main_arg1)) (m ((c.tc : Thread Cert.MixerDxRefIdeal.nD Cert.MixerDxRefIdeal.τ).loc Cert.MixerDxRefIdeal.main_arg2)) (m ((c.tc : Thread Cert.MixerDxRefIdeal.nD Cert.MixerDxRefIdeal.τ).loc Cert.MixerDxRefIdeal.main_arg3)) (m ((c.tc : Thread Cert.MixerDxRefIdeal.nD Cert.MixerDxRefIdeal.τ).loc Cert.MixerDxRefIdeal.main_arg4))) = (fun _ => 1#1)

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxIdeal_qkv_dx_finite [hPre_qkv_dx_finite : Cert.Pre_qkv_dx_finite.Facts] (m : (ℓ : Loc Cert.QkvDxIdeal.nD Cert.QkvDxIdeal.τ Cert.QkvDxIdeal.sig) → Buf (Elt Ideal) ℓ) : Prop :=
  ∀ c : Dev Cert.QkvDxIdeal.nD,
    (Cert.Pre_qkv_dx_finite.fn (F := Ideal) (m ((c.tc : Thread Cert.QkvDxIdeal.nD Cert.QkvDxIdeal.τ).loc Cert.QkvDxIdeal.main_arg0)) (m ((c.tc : Thread Cert.QkvDxIdeal.nD Cert.QkvDxIdeal.τ).loc Cert.QkvDxIdeal.main_arg1)) (m ((c.tc : Thread Cert.QkvDxIdeal.nD Cert.QkvDxIdeal.τ).loc Cert.QkvDxIdeal.main_arg2)) (m ((c.tc : Thread Cert.QkvDxIdeal.nD Cert.QkvDxIdeal.τ).loc Cert.QkvDxIdeal.main_arg3)) (m ((c.tc : Thread Cert.QkvDxIdeal.nD Cert.QkvDxIdeal.τ).loc Cert.QkvDxIdeal.main_arg4)) (m ((c.tc : Thread Cert.QkvDxIdeal.nD Cert.QkvDxIdeal.τ).loc Cert.QkvDxIdeal.main_arg5)) (m ((c.tc : Thread Cert.QkvDxIdeal.nD Cert.QkvDxIdeal.τ).loc Cert.QkvDxIdeal.main_arg6)) (m ((c.tc : Thread Cert.QkvDxIdeal.nD Cert.QkvDxIdeal.τ).loc Cert.QkvDxIdeal.main_arg7))) = (fun _ => 1#1)

def Pre_QkvDxRefIdeal (m : (ℓ : Loc Cert.QkvDxRefIdeal.nD Cert.QkvDxRefIdeal.τ Cert.QkvDxRefIdeal.sig) → Buf (Elt Ideal) ℓ) : Prop :=
  True

def Pre_QkvDxRefIdeal_qkv_dx_finite [hPre_qkv_dx_finite : Cert.Pre_qkv_dx_finite.Facts] (m : (ℓ : Loc Cert.QkvDxRefIdeal.nD Cert.QkvDxRefIdeal.τ Cert.QkvDxRefIdeal.sig) → Buf (Elt Ideal) ℓ) : Prop :=
  ∀ c : Dev Cert.QkvDxRefIdeal.nD,
    (Cert.Pre_qkv_dx_finite.fn (F := Ideal) (m ((c.tc : Thread Cert.QkvDxRefIdeal.nD Cert.QkvDxRefIdeal.τ).loc Cert.QkvDxRefIdeal.main_arg0)) (m ((c.tc : Thread Cert.QkvDxRefIdeal.nD Cert.QkvDxRefIdeal.τ).loc Cert.QkvDxRefIdeal.main_arg1)) (m ((c.tc : Thread Cert.QkvDxRefIdeal.nD Cert.QkvDxRefIdeal.τ).loc Cert.QkvDxRefIdeal.main_arg2)) (m ((c.tc : Thread Cert.QkvDxRefIdeal.nD Cert.QkvDxRefIdeal.τ).loc Cert.QkvDxRefIdeal.main_arg3)) (m ((c.tc : Thread Cert.QkvDxRefIdeal.nD Cert.QkvDxRefIdeal.τ).loc Cert.QkvDxRefIdeal.main_arg4)) (m ((c.tc : Thread Cert.QkvDxRefIdeal.nD Cert.QkvDxRefIdeal.τ).loc Cert.QkvDxRefIdeal.main_arg5)) (m ((c.tc : Thread Cert.QkvDxRefIdeal.nD Cert.QkvDxRefIdeal.τ).loc Cert.QkvDxRefIdeal.main_arg6)) (m ((c.tc : Thread Cert.QkvDxRefIdeal.nD Cert.QkvDxRefIdeal.τ).loc Cert.QkvDxRefIdeal.main_arg7))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_MixerA (m : (ℓ : Loc Cert.MixerA.nD Cert.MixerA.τ Cert.MixerA.sig) → Buf (Elt Bits) ℓ) : Prop :=
  True

def Pre_MixerAIdeal (m : (ℓ : Loc Cert.MixerAIdeal.nD Cert.MixerAIdeal.τ Cert.MixerAIdeal.sig) → Buf (Elt Ideal) ℓ) : Prop :=
  True

def Pre_MixerARefIdeal (m : (ℓ : Loc Cert.MixerARefIdeal.nD Cert.MixerARefIdeal.τ Cert.MixerARefIdeal.sig) → Buf (Elt Ideal) ℓ) : Prop :=
  True

def Pre_AdamWide (m : (ℓ : Loc Cert.AdamWide.nD Cert.AdamWide.τ Cert.AdamWide.sig) → Buf (Elt Bits) ℓ) : Prop :=
  True

def Pre_AdamWideIdeal (m : (ℓ : Loc Cert.AdamWideIdeal.nD Cert.AdamWideIdeal.τ Cert.AdamWideIdeal.sig) → Buf (Elt Ideal) ℓ) : Prop :=
  True

def Pre_AdamWideRefIdeal (m : (ℓ : Loc Cert.AdamWideRefIdeal.nD Cert.AdamWideRefIdeal.τ Cert.AdamWideRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_BiasReduce (m : (ℓ : Loc Cert.BiasReduce.nD Cert.BiasReduce.τ Cert.BiasReduce.sig) → Buf (Elt Bits) ℓ) : Prop :=
  True

def Pre_BiasReduceIdeal (m : (ℓ : Loc Cert.BiasReduceIdeal.nD Cert.BiasReduceIdeal.τ Cert.BiasReduceIdeal.sig) → Buf (Elt Ideal) ℓ) : Prop :=
  True

def Pre_BiasReduceIdeal_bias_reduce_finite [hPre_bias_reduce_finite : Cert.Pre_bias_reduce_finite.Facts] (m : (ℓ : Loc Cert.BiasReduceIdeal.nD Cert.BiasReduceIdeal.τ Cert.BiasReduceIdeal.sig) → Buf (Elt Ideal) ℓ) : Prop :=
  ∀ c : Dev Cert.BiasReduceIdeal.nD,
    (Cert.Pre_bias_reduce_finite.fn (F := Ideal) (m ((c.tc : Thread Cert.BiasReduceIdeal.nD Cert.BiasReduceIdeal.τ).loc Cert.BiasReduceIdeal.main_arg0)) (m ((c.tc : Thread Cert.BiasReduceIdeal.nD Cert.BiasReduceIdeal.τ).loc Cert.BiasReduceIdeal.main_arg1))) = (fun _ => 1#1)

def Pre_BiasReduceRefIdeal (m : (ℓ : Loc Cert.BiasReduceRefIdeal.nD Cert.BiasReduceRefIdeal.τ Cert.BiasReduceRefIdeal.sig) → Buf (Elt Ideal) ℓ) : Prop :=
  True

def Pre_BiasReduceRefIdeal_bias_reduce_finite [hPre_bias_reduce_finite : Cert.Pre_bias_reduce_finite.Facts] (m : (ℓ : Loc Cert.BiasReduceRefIdeal.nD Cert.BiasReduceRefIdeal.τ Cert.BiasReduceRefIdeal.sig) → Buf (Elt Ideal) ℓ) : Prop :=
  ∀ c : Dev Cert.BiasReduceRefIdeal.nD,
    (Cert.Pre_bias_reduce_finite.fn (F := Ideal) (m ((c.tc : Thread Cert.BiasReduceRefIdeal.nD Cert.BiasReduceRefIdeal.τ).loc Cert.BiasReduceRefIdeal.main_arg0)) (m ((c.tc : Thread Cert.BiasReduceRefIdeal.nD Cert.BiasReduceRefIdeal.τ).loc Cert.BiasReduceRefIdeal.main_arg1))) = (fun _ => 1#1)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxIdeal_pre_in_dx_finite [hInDxIdeal : Cert.InDxIdeal.Facts] [hPre_in_dx_finite : Cert.Pre_in_dx_finite.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_in_dx_finite m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_InDxRefIdeal_pre_in_dx_finite [hInDxRefIdeal : Cert.InDxRefIdeal.Facts] [hPre_in_dx_finite : Cert.Pre_in_dx_finite.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_in_dx_finite m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_QDw [hQDw : Cert.QDw.Facts] : Prop :=
  ∀ (m : (ℓ : Loc Cert.QDw.nD Cert.QDw.τ Cert.QDw.sig) → Buf (Elt Bits) ℓ) (g : Dev Cert.QDw.nD → PrngReg), Pre_QDw m →
    θ_run (Cert.QDw.defs (F := Bits)) (onTc (τ := Cert.QDw.τ) (Cert.QDw.main (F := Bits))) ⟨m, fun _ => 0, g⟩ (fun r => (∀ c : Dev Cert.QDw.nD,
      r.2.mem ((c.tc : Thread Cert.QDw.nD Cert.QDw.τ).loc Cert.QDw.main_arg0) = m ((c.tc : Thread Cert.QDw.nD Cert.QDw.τ).loc Cert.QDw.main_arg0)
      ∧ r.2.mem ((c.tc : Thread Cert.QDw.nD Cert.QDw.τ).loc Cert.QDw.main_arg1) = m ((c.tc : Thread Cert.QDw.nD Cert.QDw.τ).loc Cert.QDw.main_arg1))
      ∧ r.2.sem = fun _ => 0)

def quiescent_QDwIdeal [hQDwIdeal : Cert.QDwIdeal.Facts] : Prop :=
  ∀ (m : (ℓ : Loc Cert.QDwIdeal.nD Cert.QDwIdeal.τ Cert.QDwIdeal.sig) → Buf (Elt Ideal) ℓ) (g : Dev Cert.QDwIdeal.nD → PrngReg), Pre_QDwIdeal m →
    θ_run (Cert.QDwIdeal.defs (F := Ideal)) (onTc (τ := Cert.QDwIdeal.τ) (Cert.QDwIdeal.main (F := Ideal))) ⟨m, fun _ => 0, g⟩ (fun r => (∀ c : Dev Cert.QDwIdeal.nD,
      r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
      ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ r.2.sem = fun _ => 0)

def quiescent_QDwRefIdeal [hQDwRefIdeal : Cert.QDwRefIdeal.Facts] : Prop :=
  ∀ (m : (ℓ : Loc Cert.QDwRefIdeal.nD Cert.QDwRefIdeal.τ Cert.QDwRefIdeal.sig) → Buf (Elt Ideal) ℓ) (g : Dev Cert.QDwRefIdeal.nD → PrngReg), Pre_QDwRefIdeal m →
    θ_run (Cert.QDwRefIdeal.defs (F := Ideal)) (onTc (τ := Cert.QDwRefIdeal.τ) (Cert.QDwRefIdeal.main (F := Ideal))) ⟨m, fun _ => 0, g⟩ (fun r => (∀ c : Dev Cert.QDwRefIdeal.nD,
      r.2.mem ((c.tc : Thread Cert.QDwRefIdeal.nD Cert.QDwRefIdeal.τ).loc Cert.QDwRefIdeal.main_arg0) = m ((c.tc : Thread Cert.QDwRefIdeal.nD Cert.QDwRefIdeal.τ).loc Cert.QDwRefIdeal.main_arg0)
      ∧ r.2.mem ((c.tc : Thread Cert.QDwRefIdeal.nD Cert.QDwRefIdeal.τ).loc Cert.QDwRefIdeal.main_arg1) = m ((c.tc : Thread Cert.QDwRefIdeal.nD Cert.QDwRefIdeal.τ).loc Cert.QDwRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_MixerDw [hMixerDw : Cert.MixerDw.Facts] : Prop :=
  ∀ (m : (ℓ : Loc Cert.MixerDw.nD Cert.MixerDw.τ Cert.MixerDw.sig) → Buf (Elt Bits) ℓ) (g : Dev Cert.MixerDw.nD → PrngReg), Pre_MixerDw m →
    θ_run (Cert.MixerDw.defs (F := Bits)) (onTc (τ := Cert.MixerDw.τ) (Cert.MixerDw.main (F := Bits))) ⟨m, fun _ => 0, g⟩ (fun r => (∀ c : Dev Cert.MixerDw.nD,
      r.2.mem ((c.tc : Thread Cert.MixerDw.nD Cert.MixerDw.τ).loc Cert.MixerDw.main_arg0) = m ((c.tc : Thread Cert.MixerDw.nD Cert.MixerDw.τ).loc Cert.MixerDw.main_arg0)
      ∧ r.2.mem ((c.tc : Thread Cert.MixerDw.nD Cert.MixerDw.τ).loc Cert.MixerDw.main_arg1) = m ((c.tc : Thread Cert.MixerDw.nD Cert.MixerDw.τ).loc Cert.MixerDw.main_arg1))
      ∧ r.2.sem = fun _ => 0)

def quiescent_MixerDwIdeal [hMixerDwIdeal : Cert.MixerDwIdeal.Facts] : Prop :=
  ∀ (m : (ℓ : Loc Cert.MixerDwIdeal.nD Cert.MixerDwIdeal.τ Cert.MixerDwIdeal.sig) → Buf (Elt Ideal) ℓ) (g : Dev Cert.MixerDwIdeal.nD → PrngReg), Pre_MixerDwIdeal m →
    θ_run (Cert.MixerDwIdeal.defs (F := Ideal)) (onTc (τ := Cert.MixerDwIdeal.τ) (Cert.MixerDwIdeal.main (F := Ideal))) ⟨m, fun _ => 0, g⟩ (fun r => (∀ c : Dev Cert.MixerDwIdeal.nD,
      r.2.mem ((c.tc : Thread Cert.MixerDwIdeal.nD Cert.MixerDwIdeal.τ).loc Cert.MixerDwIdeal.main_arg0) = m ((c.tc : Thread Cert.MixerDwIdeal.nD Cert.MixerDwIdeal.τ).loc Cert.MixerDwIdeal.main_arg0)
      ∧ r.2.mem ((c.tc : Thread Cert.MixerDwIdeal.nD Cert.MixerDwIdeal.τ).loc Cert.MixerDwIdeal.main_arg1) = m ((c.tc : Thread Cert.MixerDwIdeal.nD Cert.MixerDwIdeal.τ).loc Cert.MixerDwIdeal.main_arg1))
      ∧ r.2.sem = fun _ => 0)

def quiescent_MixerDwRefIdeal [hMixerDwRefIdeal : Cert.MixerDwRefIdeal.Facts] : Prop :=
  ∀ (m : (ℓ : Loc Cert.MixerDwRefIdeal.nD Cert.MixerDwRefIdeal.τ Cert.MixerDwRefIdeal.sig) → Buf (Elt Ideal) ℓ) (g : Dev Cert.MixerDwRefIdeal.nD → PrngReg), Pre_MixerDwRefIdeal m →
    θ_run (Cert.MixerDwRefIdeal.defs (F := Ideal)) (onTc (τ := Cert.MixerDwRefIdeal.τ) (Cert.MixerDwRefIdeal.main (F := Ideal))) ⟨m, fun _ => 0, g⟩ (fun r => (∀ c : Dev Cert.MixerDwRefIdeal.nD,
      r.2.mem ((c.tc : Thread Cert.MixerDwRefIdeal.nD Cert.MixerDwRefIdeal.τ).loc Cert.MixerDwRefIdeal.main_arg0) = m ((c.tc : Thread Cert.MixerDwRefIdeal.nD Cert.MixerDwRefIdeal.τ).loc Cert.MixerDwRefIdeal.main_arg0)
      ∧ r.2.mem ((c.tc : Thread Cert.MixerDwRefIdeal.nD Cert.MixerDwRefIdeal.τ).loc Cert.MixerDwRefIdeal.main_arg1) = m ((c.tc : Thread Cert.MixerDwRefIdeal.nD Cert.MixerDwRefIdeal.τ).loc Cert.MixerDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2))
      ∧ r.2.sem = fun _ => 0)

def quiescent_MixerDx [hMixerDx : Cert.MixerDx.Facts] : Prop :=
  ∀ (m : (ℓ : Loc Cert.MixerDx.nD Cert.MixerDx.τ Cert.MixerDx.sig) → Buf (Elt Bits) ℓ) (g : Dev Cert.MixerDx.nD → PrngReg), Pre_MixerDx m →
    θ_run (Cert.MixerDx.defs (F := Bits)) (onTc (τ := Cert.MixerDx.τ) (Cert.MixerDx.main (F := Bits))) ⟨m, fun _ => 0, g⟩ (fun r => (∀ c : Dev Cert.MixerDx.nD,
      r.2.mem ((c.tc : Thread Cert.MixerDx.nD Cert.MixerDx.τ).loc Cert.MixerDx.main_arg0) = m ((c.tc : Thread Cert.MixerDx.nD Cert.MixerDx.τ).loc Cert.MixerDx.main_arg0)
      ∧ r.2.mem ((c.tc : Thread Cert.MixerDx.nD Cert.MixerDx.τ).loc Cert.MixerDx.main_arg1) = m ((c.tc : Thread Cert.MixerDx.nD Cert.MixerDx.τ).loc Cert.MixerDx.main_arg1)
      ∧ r.2.mem ((c.tc : Thread Cert.MixerDx.nD Cert.MixerDx.τ).loc Cert.MixerDx.main_arg2) = m ((c.tc : Thread Cert.MixerDx.nD Cert.MixerDx.τ).loc Cert.MixerDx.main_arg2)
      ∧ r.2.mem ((c.tc : Thread Cert.MixerDx.nD Cert.MixerDx.τ).loc Cert.MixerDx.main_arg3) = m ((c.tc : Thread Cert.MixerDx.nD Cert.MixerDx.τ).loc Cert.MixerDx.main_arg3)
      ∧ r.2.mem ((c.tc : Thread Cert.MixerDx.nD Cert.MixerDx.τ).loc Cert.MixerDx.main_arg4) = m ((c.tc : Thread Cert.MixerDx.nD Cert.MixerDx.τ).loc Cert.MixerDx.main_arg4))
      ∧ r.2.sem = fun _ => 0)

def quiescent_MixerDxIdeal [hMixerDxIdeal : Cert.MixerDxIdeal.Facts] : Prop :=
  ∀ (m : (ℓ : Loc Cert.MixerDxIdeal.nD Cert.MixerDxIdeal.τ Cert.MixerDxIdeal.sig) → Buf (Elt Ideal) ℓ) (g : Dev Cert.MixerDxIdeal.nD → PrngReg), Pre_MixerDxIdeal m →
    θ_run (Cert.MixerDxIdeal.defs (F := Ideal)) (onTc (τ := Cert.MixerDxIdeal.τ) (Cert.MixerDxIdeal.main (F := Ideal))) ⟨m, fun _ => 0, g⟩ (fun r => (∀ c : Dev Cert.MixerDxIdeal.nD,
      r.2.mem ((c.tc : Thread Cert.MixerDxIdeal.nD Cert.MixerDxIdeal.τ).loc Cert.MixerDxIdeal.main_arg0) = m ((c.tc : Thread Cert.MixerDxIdeal.nD Cert.MixerDxIdeal.τ).loc Cert.MixerDxIdeal.main_arg0)
      ∧ r.2.mem ((c.tc : Thread Cert.MixerDxIdeal.nD Cert.MixerDxIdeal.τ).loc Cert.MixerDxIdeal.main_arg1) = m ((c.tc : Thread Cert.MixerDxIdeal.nD Cert.MixerDxIdeal.τ).loc Cert.MixerDxIdeal.main_arg1)
      ∧ r.2.mem ((c.tc : Thread Cert.MixerDxIdeal.nD Cert.MixerDxIdeal.τ).loc Cert.MixerDxIdeal.main_arg2) = m ((c.tc : Thread Cert.MixerDxIdeal.nD Cert.MixerDxIdeal.τ).loc Cert.MixerDxIdeal.main_arg2)
      ∧ r.2.mem ((c.tc : Thread Cert.MixerDxIdeal.nD Cert.MixerDxIdeal.τ).loc Cert.MixerDxIdeal.main_arg3) = m ((c.tc : Thread Cert.MixerDxIdeal.nD Cert.MixerDxIdeal.τ).loc Cert.MixerDxIdeal.main_arg3)
      ∧ r.2.mem ((c.tc : Thread Cert.MixerDxIdeal.nD Cert.MixerDxIdeal.τ).loc Cert.MixerDxIdeal.main_arg4) = m ((c.tc : Thread Cert.MixerDxIdeal.nD Cert.MixerDxIdeal.τ).loc Cert.MixerDxIdeal.main_arg4))
      ∧ r.2.sem = fun _ => 0)

def quiescent_MixerDxIdeal_pre_mixer_dx_finite [hMixerDxIdeal : Cert.MixerDxIdeal.Facts] [hPre_mixer_dx_finite : Cert.Pre_mixer_dx_finite.Facts] : Prop :=
  ∀ (m : (ℓ : Loc Cert.MixerDxIdeal.nD Cert.MixerDxIdeal.τ Cert.MixerDxIdeal.sig) → Buf (Elt Ideal) ℓ) (g : Dev Cert.MixerDxIdeal.nD → PrngReg), Pre_MixerDxIdeal_mixer_dx_finite m →
    θ_run (Cert.MixerDxIdeal.defs (F := Ideal)) (onTc (τ := Cert.MixerDxIdeal.τ) (Cert.MixerDxIdeal.main (F := Ideal))) ⟨m, fun _ => 0, g⟩ (fun r => (∀ c : Dev Cert.MixerDxIdeal.nD,
      r.2.mem ((c.tc : Thread Cert.MixerDxIdeal.nD Cert.MixerDxIdeal.τ).loc Cert.MixerDxIdeal.main_arg0) = m ((c.tc : Thread Cert.MixerDxIdeal.nD Cert.MixerDxIdeal.τ).loc Cert.MixerDxIdeal.main_arg0)
      ∧ r.2.mem ((c.tc : Thread Cert.MixerDxIdeal.nD Cert.MixerDxIdeal.τ).loc Cert.MixerDxIdeal.main_arg1) = m ((c.tc : Thread Cert.MixerDxIdeal.nD Cert.MixerDxIdeal.τ).loc Cert.MixerDxIdeal.main_arg1)
      ∧ r.2.mem ((c.tc : Thread Cert.MixerDxIdeal.nD Cert.MixerDxIdeal.τ).loc Cert.MixerDxIdeal.main_arg2) = m ((c.tc : Thread Cert.MixerDxIdeal.nD Cert.MixerDxIdeal.τ).loc Cert.MixerDxIdeal.main_arg2)
      ∧ r.2.mem ((c.tc : Thread Cert.MixerDxIdeal.nD Cert.MixerDxIdeal.τ).loc Cert.MixerDxIdeal.main_arg3) = m ((c.tc : Thread Cert.MixerDxIdeal.nD Cert.MixerDxIdeal.τ).loc Cert.MixerDxIdeal.main_arg3)
      ∧ r.2.mem ((c.tc : Thread Cert.MixerDxIdeal.nD Cert.MixerDxIdeal.τ).loc Cert.MixerDxIdeal.main_arg4) = m ((c.tc : Thread Cert.MixerDxIdeal.nD Cert.MixerDxIdeal.τ).loc Cert.MixerDxIdeal.main_arg4))
      ∧ r.2.sem = fun _ => 0)

def quiescent_MixerDxRefIdeal [hMixerDxRefIdeal : Cert.MixerDxRefIdeal.Facts] : Prop :=
  ∀ (m : (ℓ : Loc Cert.MixerDxRefIdeal.nD Cert.MixerDxRefIdeal.τ Cert.MixerDxRefIdeal.sig) → Buf (Elt Ideal) ℓ) (g : Dev Cert.MixerDxRefIdeal.nD → PrngReg), Pre_MixerDxRefIdeal m →
    θ_run (Cert.MixerDxRefIdeal.defs (F := Ideal)) (onTc (τ := Cert.MixerDxRefIdeal.τ) (Cert.MixerDxRefIdeal.main (F := Ideal))) ⟨m, fun _ => 0, g⟩ (fun r => (∀ c : Dev Cert.MixerDxRefIdeal.nD,
      r.2.mem ((c.tc : Thread Cert.MixerDxRefIdeal.nD Cert.MixerDxRefIdeal.τ).loc Cert.MixerDxRefIdeal.main_arg0) = m ((c.tc : Thread Cert.MixerDxRefIdeal.nD Cert.MixerDxRefIdeal.τ).loc Cert.MixerDxRefIdeal.main_arg0)
      ∧ r.2.mem ((c.tc : Thread Cert.MixerDxRefIdeal.nD Cert.MixerDxRefIdeal.τ).loc Cert.MixerDxRefIdeal.main_arg1) = m ((c.tc : Thread Cert.MixerDxRefIdeal.nD Cert.MixerDxRefIdeal.τ).loc Cert.MixerDxRefIdeal.main_arg1)
      ∧ r.2.mem ((c.tc : Thread Cert.MixerDxRefIdeal.nD Cert.MixerDxRefIdeal.τ).loc Cert.MixerDxRefIdeal.main_arg2) = m ((c.tc : Thread Cert.MixerDxRefIdeal.nD Cert.MixerDxRefIdeal.τ).loc Cert.MixerDxRefIdeal.main_arg2)
      ∧ r.2.mem ((c.tc : Thread Cert.MixerDxRefIdeal.nD Cert.MixerDxRefIdeal.τ).loc Cert.MixerDxRefIdeal.main_arg3) = m ((c.tc : Thread Cert.MixerDxRefIdeal.nD Cert.MixerDxRefIdeal.τ).loc Cert.MixerDxRefIdeal.main_arg3)
      ∧ r.2.mem ((c.tc : Thread Cert.MixerDxRefIdeal.nD Cert.MixerDxRefIdeal.τ).loc Cert.MixerDxRefIdeal.main_arg4) = m ((c.tc : Thread Cert.MixerDxRefIdeal.nD Cert.MixerDxRefIdeal.τ).loc Cert.MixerDxRefIdeal.main_arg4))
      ∧ r.2.sem = fun _ => 0)

def quiescent_MixerDxRefIdeal_pre_mixer_dx_finite [hMixerDxRefIdeal : Cert.MixerDxRefIdeal.Facts] [hPre_mixer_dx_finite : Cert.Pre_mixer_dx_finite.Facts] : Prop :=
  ∀ (m : (ℓ : Loc Cert.MixerDxRefIdeal.nD Cert.MixerDxRefIdeal.τ Cert.MixerDxRefIdeal.sig) → Buf (Elt Ideal) ℓ) (g : Dev Cert.MixerDxRefIdeal.nD → PrngReg), Pre_MixerDxRefIdeal_mixer_dx_finite m →
    θ_run (Cert.MixerDxRefIdeal.defs (F := Ideal)) (onTc (τ := Cert.MixerDxRefIdeal.τ) (Cert.MixerDxRefIdeal.main (F := Ideal))) ⟨m, fun _ => 0, g⟩ (fun r => (∀ c : Dev Cert.MixerDxRefIdeal.nD,
      r.2.mem ((c.tc : Thread Cert.MixerDxRefIdeal.nD Cert.MixerDxRefIdeal.τ).loc Cert.MixerDxRefIdeal.main_arg0) = m ((c.tc : Thread Cert.MixerDxRefIdeal.nD Cert.MixerDxRefIdeal.τ).loc Cert.MixerDxRefIdeal.main_arg0)
      ∧ r.2.mem ((c.tc : Thread Cert.MixerDxRefIdeal.nD Cert.MixerDxRefIdeal.τ).loc Cert.MixerDxRefIdeal.main_arg1) = m ((c.tc : Thread Cert.MixerDxRefIdeal.nD Cert.MixerDxRefIdeal.τ).loc Cert.MixerDxRefIdeal.main_arg1)
      ∧ r.2.mem ((c.tc : Thread Cert.MixerDxRefIdeal.nD Cert.MixerDxRefIdeal.τ).loc Cert.MixerDxRefIdeal.main_arg2) = m ((c.tc : Thread Cert.MixerDxRefIdeal.nD Cert.MixerDxRefIdeal.τ).loc Cert.MixerDxRefIdeal.main_arg2)
      ∧ r.2.mem ((c.tc : Thread Cert.MixerDxRefIdeal.nD Cert.MixerDxRefIdeal.τ).loc Cert.MixerDxRefIdeal.main_arg3) = m ((c.tc : Thread Cert.MixerDxRefIdeal.nD Cert.MixerDxRefIdeal.τ).loc Cert.MixerDxRefIdeal.main_arg3)
      ∧ r.2.mem ((c.tc : Thread Cert.MixerDxRefIdeal.nD Cert.MixerDxRefIdeal.τ).loc Cert.MixerDxRefIdeal.main_arg4) = m ((c.tc : Thread Cert.MixerDxRefIdeal.nD Cert.MixerDxRefIdeal.τ).loc Cert.MixerDxRefIdeal.main_arg4))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1)
      ∧ r.2.mem ((c.tc : Thread Cert.QkvDx.nD Cert.QkvDx.τ).loc Cert.QkvDx.main_arg2) = m ((c.tc : Thread Cert.QkvDx.nD Cert.QkvDx.τ).loc Cert.QkvDx.main_arg2)
      ∧ r.2.mem ((c.tc : Thread Cert.QkvDx.nD Cert.QkvDx.τ).loc Cert.QkvDx.main_arg3) = m ((c.tc : Thread Cert.QkvDx.nD Cert.QkvDx.τ).loc Cert.QkvDx.main_arg3)
      ∧ r.2.mem ((c.tc : Thread Cert.QkvDx.nD Cert.QkvDx.τ).loc Cert.QkvDx.main_arg4) = m ((c.tc : Thread Cert.QkvDx.nD Cert.QkvDx.τ).loc Cert.QkvDx.main_arg4)
      ∧ r.2.mem ((c.tc : Thread Cert.QkvDx.nD Cert.QkvDx.τ).loc Cert.QkvDx.main_arg5) = m ((c.tc : Thread Cert.QkvDx.nD Cert.QkvDx.τ).loc Cert.QkvDx.main_arg5)
      ∧ r.2.mem ((c.tc : Thread Cert.QkvDx.nD Cert.QkvDx.τ).loc Cert.QkvDx.main_arg6) = m ((c.tc : Thread Cert.QkvDx.nD Cert.QkvDx.τ).loc Cert.QkvDx.main_arg6)
      ∧ r.2.mem ((c.tc : Thread Cert.QkvDx.nD Cert.QkvDx.τ).loc Cert.QkvDx.main_arg7) = m ((c.tc : Thread Cert.QkvDx.nD Cert.QkvDx.τ).loc Cert.QkvDx.main_arg7))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
      ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2)
      ∧ r.2.mem ((c.tc : Thread Cert.QkvDxIdeal.nD Cert.QkvDxIdeal.τ).loc Cert.QkvDxIdeal.main_arg3) = m ((c.tc : Thread Cert.QkvDxIdeal.nD Cert.QkvDxIdeal.τ).loc Cert.QkvDxIdeal.main_arg3)
      ∧ r.2.mem ((c.tc : Thread Cert.QkvDxIdeal.nD Cert.QkvDxIdeal.τ).loc Cert.QkvDxIdeal.main_arg4) = m ((c.tc : Thread Cert.QkvDxIdeal.nD Cert.QkvDxIdeal.τ).loc Cert.QkvDxIdeal.main_arg4)
      ∧ r.2.mem ((c.tc : Thread Cert.QkvDxIdeal.nD Cert.QkvDxIdeal.τ).loc Cert.QkvDxIdeal.main_arg5) = m ((c.tc : Thread Cert.QkvDxIdeal.nD Cert.QkvDxIdeal.τ).loc Cert.QkvDxIdeal.main_arg5)
      ∧ r.2.mem ((c.tc : Thread Cert.QkvDxIdeal.nD Cert.QkvDxIdeal.τ).loc Cert.QkvDxIdeal.main_arg6) = m ((c.tc : Thread Cert.QkvDxIdeal.nD Cert.QkvDxIdeal.τ).loc Cert.QkvDxIdeal.main_arg6)
      ∧ r.2.mem ((c.tc : Thread Cert.QkvDxIdeal.nD Cert.QkvDxIdeal.τ).loc Cert.QkvDxIdeal.main_arg7) = m ((c.tc : Thread Cert.QkvDxIdeal.nD Cert.QkvDxIdeal.τ).loc Cert.QkvDxIdeal.main_arg7))
      ∧ r.2.sem = fun _ => 0)

def quiescent_QkvDxIdeal_pre_qkv_dx_finite [hQkvDxIdeal : Cert.QkvDxIdeal.Facts] [hPre_qkv_dx_finite : Cert.Pre_qkv_dx_finite.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal_qkv_dx_finite m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
      ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2)
      ∧ r.2.mem ((c.tc : Thread Cert.QkvDxIdeal.nD Cert.QkvDxIdeal.τ).loc Cert.QkvDxIdeal.main_arg3) = m ((c.tc : Thread Cert.QkvDxIdeal.nD Cert.QkvDxIdeal.τ).loc Cert.QkvDxIdeal.main_arg3)
      ∧ r.2.mem ((c.tc : Thread Cert.QkvDxIdeal.nD Cert.QkvDxIdeal.τ).loc Cert.QkvDxIdeal.main_arg4) = m ((c.tc : Thread Cert.QkvDxIdeal.nD Cert.QkvDxIdeal.τ).loc Cert.QkvDxIdeal.main_arg4)
      ∧ r.2.mem ((c.tc : Thread Cert.QkvDxIdeal.nD Cert.QkvDxIdeal.τ).loc Cert.QkvDxIdeal.main_arg5) = m ((c.tc : Thread Cert.QkvDxIdeal.nD Cert.QkvDxIdeal.τ).loc Cert.QkvDxIdeal.main_arg5)
      ∧ r.2.mem ((c.tc : Thread Cert.QkvDxIdeal.nD Cert.QkvDxIdeal.τ).loc Cert.QkvDxIdeal.main_arg6) = m ((c.tc : Thread Cert.QkvDxIdeal.nD Cert.QkvDxIdeal.τ).loc Cert.QkvDxIdeal.main_arg6)
      ∧ r.2.mem ((c.tc : Thread Cert.QkvDxIdeal.nD Cert.QkvDxIdeal.τ).loc Cert.QkvDxIdeal.main_arg7) = m ((c.tc : Thread Cert.QkvDxIdeal.nD Cert.QkvDxIdeal.τ).loc Cert.QkvDxIdeal.main_arg7))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1)
      ∧ r.2.mem ((c.tc : Thread Cert.QkvDxRefIdeal.nD Cert.QkvDxRefIdeal.τ).loc Cert.QkvDxRefIdeal.main_arg2) = m ((c.tc : Thread Cert.QkvDxRefIdeal.nD Cert.QkvDxRefIdeal.τ).loc Cert.QkvDxRefIdeal.main_arg2)
      ∧ r.2.mem ((c.tc : Thread Cert.QkvDxRefIdeal.nD Cert.QkvDxRefIdeal.τ).loc Cert.QkvDxRefIdeal.main_arg3) = m ((c.tc : Thread Cert.QkvDxRefIdeal.nD Cert.QkvDxRefIdeal.τ).loc Cert.QkvDxRefIdeal.main_arg3)
      ∧ r.2.mem ((c.tc : Thread Cert.QkvDxRefIdeal.nD Cert.QkvDxRefIdeal.τ).loc Cert.QkvDxRefIdeal.main_arg4) = m ((c.tc : Thread Cert.QkvDxRefIdeal.nD Cert.QkvDxRefIdeal.τ).loc Cert.QkvDxRefIdeal.main_arg4)
      ∧ r.2.mem ((c.tc : Thread Cert.QkvDxRefIdeal.nD Cert.QkvDxRefIdeal.τ).loc Cert.QkvDxRefIdeal.main_arg5) = m ((c.tc : Thread Cert.QkvDxRefIdeal.nD Cert.QkvDxRefIdeal.τ).loc Cert.QkvDxRefIdeal.main_arg5)
      ∧ r.2.mem ((c.tc : Thread Cert.QkvDxRefIdeal.nD Cert.QkvDxRefIdeal.τ).loc Cert.QkvDxRefIdeal.main_arg6) = m ((c.tc : Thread Cert.QkvDxRefIdeal.nD Cert.QkvDxRefIdeal.τ).loc Cert.QkvDxRefIdeal.main_arg6)
      ∧ r.2.mem ((c.tc : Thread Cert.QkvDxRefIdeal.nD Cert.QkvDxRefIdeal.τ).loc Cert.QkvDxRefIdeal.main_arg7) = m ((c.tc : Thread Cert.QkvDxRefIdeal.nD Cert.QkvDxRefIdeal.τ).loc Cert.QkvDxRefIdeal.main_arg7))
      ∧ r.2.sem = fun _ => 0)

def quiescent_QkvDxRefIdeal_pre_qkv_dx_finite [hQkvDxRefIdeal : Cert.QkvDxRefIdeal.Facts] [hPre_qkv_dx_finite : Cert.Pre_qkv_dx_finite.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal_qkv_dx_finite m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1)
      ∧ r.2.mem ((c.tc : Thread Cert.QkvDxRefIdeal.nD Cert.QkvDxRefIdeal.τ).loc Cert.QkvDxRefIdeal.main_arg2) = m ((c.tc : Thread Cert.QkvDxRefIdeal.nD Cert.QkvDxRefIdeal.τ).loc Cert.QkvDxRefIdeal.main_arg2)
      ∧ r.2.mem ((c.tc : Thread Cert.QkvDxRefIdeal.nD Cert.QkvDxRefIdeal.τ).loc Cert.QkvDxRefIdeal.main_arg3) = m ((c.tc : Thread Cert.QkvDxRefIdeal.nD Cert.QkvDxRefIdeal.τ).loc Cert.QkvDxRefIdeal.main_arg3)
      ∧ r.2.mem ((c.tc : Thread Cert.QkvDxRefIdeal.nD Cert.QkvDxRefIdeal.τ).loc Cert.QkvDxRefIdeal.main_arg4) = m ((c.tc : Thread Cert.QkvDxRefIdeal.nD Cert.QkvDxRefIdeal.τ).loc Cert.QkvDxRefIdeal.main_arg4)
      ∧ r.2.mem ((c.tc : Thread Cert.QkvDxRefIdeal.nD Cert.QkvDxRefIdeal.τ).loc Cert.QkvDxRefIdeal.main_arg5) = m ((c.tc : Thread Cert.QkvDxRefIdeal.nD Cert.QkvDxRefIdeal.τ).loc Cert.QkvDxRefIdeal.main_arg5)
      ∧ r.2.mem ((c.tc : Thread Cert.QkvDxRefIdeal.nD Cert.QkvDxRefIdeal.τ).loc Cert.QkvDxRefIdeal.main_arg6) = m ((c.tc : Thread Cert.QkvDxRefIdeal.nD Cert.QkvDxRefIdeal.τ).loc Cert.QkvDxRefIdeal.main_arg6)
      ∧ r.2.mem ((c.tc : Thread Cert.QkvDxRefIdeal.nD Cert.QkvDxRefIdeal.τ).loc Cert.QkvDxRefIdeal.main_arg7) = m ((c.tc : Thread Cert.QkvDxRefIdeal.nD Cert.QkvDxRefIdeal.τ).loc Cert.QkvDxRefIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_MixerA [hMixerA : Cert.MixerA.Facts] : Prop :=
  ∀ (m : (ℓ : Loc Cert.MixerA.nD Cert.MixerA.τ Cert.MixerA.sig) → Buf (Elt Bits) ℓ) (g : Dev Cert.MixerA.nD → PrngReg), Pre_MixerA m →
    θ_run (Cert.MixerA.defs (F := Bits)) (onTc (τ := Cert.MixerA.τ) (Cert.MixerA.main (F := Bits))) ⟨m, fun _ => 0, g⟩ (fun r => (∀ c : Dev Cert.MixerA.nD,
      r.2.mem ((c.tc : Thread Cert.MixerA.nD Cert.MixerA.τ).loc Cert.MixerA.main_arg0) = m ((c.tc : Thread Cert.MixerA.nD Cert.MixerA.τ).loc Cert.MixerA.main_arg0)
      ∧ r.2.mem ((c.tc : Thread Cert.MixerA.nD Cert.MixerA.τ).loc Cert.MixerA.main_arg1) = m ((c.tc : Thread Cert.MixerA.nD Cert.MixerA.τ).loc Cert.MixerA.main_arg1)
      ∧ r.2.mem ((c.tc : Thread Cert.MixerA.nD Cert.MixerA.τ).loc Cert.MixerA.main_arg2) = m ((c.tc : Thread Cert.MixerA.nD Cert.MixerA.τ).loc Cert.MixerA.main_arg2)
      ∧ r.2.mem ((c.tc : Thread Cert.MixerA.nD Cert.MixerA.τ).loc Cert.MixerA.main_arg3) = m ((c.tc : Thread Cert.MixerA.nD Cert.MixerA.τ).loc Cert.MixerA.main_arg3)
      ∧ r.2.mem ((c.tc : Thread Cert.MixerA.nD Cert.MixerA.τ).loc Cert.MixerA.main_arg4) = m ((c.tc : Thread Cert.MixerA.nD Cert.MixerA.τ).loc Cert.MixerA.main_arg4)
      ∧ r.2.mem ((c.tc : Thread Cert.MixerA.nD Cert.MixerA.τ).loc Cert.MixerA.main_arg5) = m ((c.tc : Thread Cert.MixerA.nD Cert.MixerA.τ).loc Cert.MixerA.main_arg5)
      ∧ r.2.mem ((c.tc : Thread Cert.MixerA.nD Cert.MixerA.τ).loc Cert.MixerA.main_arg6) = m ((c.tc : Thread Cert.MixerA.nD Cert.MixerA.τ).loc Cert.MixerA.main_arg6))
      ∧ r.2.sem = fun _ => 0)

def quiescent_MixerAIdeal [hMixerAIdeal : Cert.MixerAIdeal.Facts] : Prop :=
  ∀ (m : (ℓ : Loc Cert.MixerAIdeal.nD Cert.MixerAIdeal.τ Cert.MixerAIdeal.sig) → Buf (Elt Ideal) ℓ) (g : Dev Cert.MixerAIdeal.nD → PrngReg), Pre_MixerAIdeal m →
    θ_run (Cert.MixerAIdeal.defs (F := Ideal)) (onTc (τ := Cert.MixerAIdeal.τ) (Cert.MixerAIdeal.main (F := Ideal))) ⟨m, fun _ => 0, g⟩ (fun r => (∀ c : Dev Cert.MixerAIdeal.nD,
      r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
      ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1)
      ∧ r.2.mem ((c.tc : Thread Cert.MixerAIdeal.nD Cert.MixerAIdeal.τ).loc Cert.MixerAIdeal.main_arg2) = m ((c.tc : Thread Cert.MixerAIdeal.nD Cert.MixerAIdeal.τ).loc Cert.MixerAIdeal.main_arg2)
      ∧ r.2.mem ((c.tc : Thread Cert.MixerAIdeal.nD Cert.MixerAIdeal.τ).loc Cert.MixerAIdeal.main_arg3) = m ((c.tc : Thread Cert.MixerAIdeal.nD Cert.MixerAIdeal.τ).loc Cert.MixerAIdeal.main_arg3)
      ∧ r.2.mem ((c.tc : Thread Cert.MixerAIdeal.nD Cert.MixerAIdeal.τ).loc Cert.MixerAIdeal.main_arg4) = m ((c.tc : Thread Cert.MixerAIdeal.nD Cert.MixerAIdeal.τ).loc Cert.MixerAIdeal.main_arg4)
      ∧ r.2.mem ((c.tc : Thread Cert.MixerAIdeal.nD Cert.MixerAIdeal.τ).loc Cert.MixerAIdeal.main_arg5) = m ((c.tc : Thread Cert.MixerAIdeal.nD Cert.MixerAIdeal.τ).loc Cert.MixerAIdeal.main_arg5)
      ∧ r.2.mem ((c.tc : Thread Cert.MixerAIdeal.nD Cert.MixerAIdeal.τ).loc Cert.MixerAIdeal.main_arg6) = m ((c.tc : Thread Cert.MixerAIdeal.nD Cert.MixerAIdeal.τ).loc Cert.MixerAIdeal.main_arg6))
      ∧ r.2.sem = fun _ => 0)

def quiescent_MixerARefIdeal [hMixerARefIdeal : Cert.MixerARefIdeal.Facts] : Prop :=
  ∀ (m : (ℓ : Loc Cert.MixerARefIdeal.nD Cert.MixerARefIdeal.τ Cert.MixerARefIdeal.sig) → Buf (Elt Ideal) ℓ) (g : Dev Cert.MixerARefIdeal.nD → PrngReg), Pre_MixerARefIdeal m →
    θ_run (Cert.MixerARefIdeal.defs (F := Ideal)) (onTc (τ := Cert.MixerARefIdeal.τ) (Cert.MixerARefIdeal.main (F := Ideal))) ⟨m, fun _ => 0, g⟩ (fun r => (∀ c : Dev Cert.MixerARefIdeal.nD,
      r.2.mem ((c.tc : Thread Cert.MixerARefIdeal.nD Cert.MixerARefIdeal.τ).loc Cert.MixerARefIdeal.main_arg0) = m ((c.tc : Thread Cert.MixerARefIdeal.nD Cert.MixerARefIdeal.τ).loc Cert.MixerARefIdeal.main_arg0)
      ∧ r.2.mem ((c.tc : Thread Cert.MixerARefIdeal.nD Cert.MixerARefIdeal.τ).loc Cert.MixerARefIdeal.main_arg1) = m ((c.tc : Thread Cert.MixerARefIdeal.nD Cert.MixerARefIdeal.τ).loc Cert.MixerARefIdeal.main_arg1)
      ∧ r.2.mem ((c.tc : Thread Cert.MixerARefIdeal.nD Cert.MixerARefIdeal.τ).loc Cert.MixerARefIdeal.main_arg2) = m ((c.tc : Thread Cert.MixerARefIdeal.nD Cert.MixerARefIdeal.τ).loc Cert.MixerARefIdeal.main_arg2)
      ∧ r.2.mem ((c.tc : Thread Cert.MixerARefIdeal.nD Cert.MixerARefIdeal.τ).loc Cert.MixerARefIdeal.main_arg3) = m ((c.tc : Thread Cert.MixerARefIdeal.nD Cert.MixerARefIdeal.τ).loc Cert.MixerARefIdeal.main_arg3)
      ∧ r.2.mem ((c.tc : Thread Cert.MixerARefIdeal.nD Cert.MixerARefIdeal.τ).loc Cert.MixerARefIdeal.main_arg4) = m ((c.tc : Thread Cert.MixerARefIdeal.nD Cert.MixerARefIdeal.τ).loc Cert.MixerARefIdeal.main_arg4)
      ∧ r.2.mem ((c.tc : Thread Cert.MixerARefIdeal.nD Cert.MixerARefIdeal.τ).loc Cert.MixerARefIdeal.main_arg5) = m ((c.tc : Thread Cert.MixerARefIdeal.nD Cert.MixerARefIdeal.τ).loc Cert.MixerARefIdeal.main_arg5)
      ∧ r.2.mem ((c.tc : Thread Cert.MixerARefIdeal.nD Cert.MixerARefIdeal.τ).loc Cert.MixerARefIdeal.main_arg6) = m ((c.tc : Thread Cert.MixerARefIdeal.nD Cert.MixerARefIdeal.τ).loc Cert.MixerARefIdeal.main_arg6))
      ∧ r.2.sem = fun _ => 0)

def quiescent_AdamWide [hAdamWide : Cert.AdamWide.Facts] : Prop :=
  ∀ (m : (ℓ : Loc Cert.AdamWide.nD Cert.AdamWide.τ Cert.AdamWide.sig) → Buf (Elt Bits) ℓ) (g : Dev Cert.AdamWide.nD → PrngReg), Pre_AdamWide m →
    θ_run (Cert.AdamWide.defs (F := Bits)) (onTc (τ := Cert.AdamWide.τ) (Cert.AdamWide.main (F := Bits))) ⟨m, fun _ => 0, g⟩ (fun r => (∀ c : Dev Cert.AdamWide.nD,
      r.2.mem ((c.tc : Thread Cert.AdamWide.nD Cert.AdamWide.τ).loc Cert.AdamWide.main_arg0) = m ((c.tc : Thread Cert.AdamWide.nD Cert.AdamWide.τ).loc Cert.AdamWide.main_arg0)
      ∧ r.2.mem ((c.tc : Thread Cert.AdamWide.nD Cert.AdamWide.τ).loc Cert.AdamWide.main_arg1) = m ((c.tc : Thread Cert.AdamWide.nD Cert.AdamWide.τ).loc Cert.AdamWide.main_arg1)
      ∧ r.2.mem ((c.tc : Thread Cert.AdamWide.nD Cert.AdamWide.τ).loc Cert.AdamWide.main_arg2) = m ((c.tc : Thread Cert.AdamWide.nD Cert.AdamWide.τ).loc Cert.AdamWide.main_arg2)
      ∧ r.2.mem ((c.tc : Thread Cert.AdamWide.nD Cert.AdamWide.τ).loc Cert.AdamWide.main_arg3) = m ((c.tc : Thread Cert.AdamWide.nD Cert.AdamWide.τ).loc Cert.AdamWide.main_arg3))
      ∧ r.2.sem = fun _ => 0)

def quiescent_AdamWideIdeal [hAdamWideIdeal : Cert.AdamWideIdeal.Facts] : Prop :=
  ∀ (m : (ℓ : Loc Cert.AdamWideIdeal.nD Cert.AdamWideIdeal.τ Cert.AdamWideIdeal.sig) → Buf (Elt Ideal) ℓ) (g : Dev Cert.AdamWideIdeal.nD → PrngReg), Pre_AdamWideIdeal m →
    θ_run (Cert.AdamWideIdeal.defs (F := Ideal)) (onTc (τ := Cert.AdamWideIdeal.τ) (Cert.AdamWideIdeal.main (F := Ideal))) ⟨m, fun _ => 0, g⟩ (fun r => (∀ c : Dev Cert.AdamWideIdeal.nD,
      r.2.mem ((c.tc : Thread Cert.AdamWideIdeal.nD Cert.AdamWideIdeal.τ).loc Cert.AdamWideIdeal.main_arg0) = m ((c.tc : Thread Cert.AdamWideIdeal.nD Cert.AdamWideIdeal.τ).loc Cert.AdamWideIdeal.main_arg0)
      ∧ r.2.mem ((c.tc : Thread Cert.AdamWideIdeal.nD Cert.AdamWideIdeal.τ).loc Cert.AdamWideIdeal.main_arg1) = m ((c.tc : Thread Cert.AdamWideIdeal.nD Cert.AdamWideIdeal.τ).loc Cert.AdamWideIdeal.main_arg1)
      ∧ r.2.mem ((c.tc : Thread Cert.AdamWideIdeal.nD Cert.AdamWideIdeal.τ).loc Cert.AdamWideIdeal.main_arg2) = m ((c.tc : Thread Cert.AdamWideIdeal.nD Cert.AdamWideIdeal.τ).loc Cert.AdamWideIdeal.main_arg2)
      ∧ r.2.mem ((c.tc : Thread Cert.AdamWideIdeal.nD Cert.AdamWideIdeal.τ).loc Cert.AdamWideIdeal.main_arg3) = m ((c.tc : Thread Cert.AdamWideIdeal.nD Cert.AdamWideIdeal.τ).loc Cert.AdamWideIdeal.main_arg3))
      ∧ r.2.sem = fun _ => 0)

def quiescent_AdamWideRefIdeal [hAdamWideRefIdeal : Cert.AdamWideRefIdeal.Facts] : Prop :=
  ∀ (m : (ℓ : Loc Cert.AdamWideRefIdeal.nD Cert.AdamWideRefIdeal.τ Cert.AdamWideRefIdeal.sig) → Buf (Elt Ideal) ℓ) (g : Dev Cert.AdamWideRefIdeal.nD → PrngReg), Pre_AdamWideRefIdeal m →
    θ_run (Cert.AdamWideRefIdeal.defs (F := Ideal)) (onTc (τ := Cert.AdamWideRefIdeal.τ) (Cert.AdamWideRefIdeal.main (F := Ideal))) ⟨m, fun _ => 0, g⟩ (fun r => (∀ c : Dev Cert.AdamWideRefIdeal.nD,
      r.2.mem ((c.tc : Thread Cert.AdamWideRefIdeal.nD Cert.AdamWideRefIdeal.τ).loc Cert.AdamWideRefIdeal.main_arg0) = m ((c.tc : Thread Cert.AdamWideRefIdeal.nD Cert.AdamWideRefIdeal.τ).loc Cert.AdamWideRefIdeal.main_arg0)
      ∧ r.2.mem ((c.tc : Thread Cert.AdamWideRefIdeal.nD Cert.AdamWideRefIdeal.τ).loc Cert.AdamWideRefIdeal.main_arg1) = m ((c.tc : Thread Cert.AdamWideRefIdeal.nD Cert.AdamWideRefIdeal.τ).loc Cert.AdamWideRefIdeal.main_arg1)
      ∧ r.2.mem ((c.tc : Thread Cert.AdamWideRefIdeal.nD Cert.AdamWideRefIdeal.τ).loc Cert.AdamWideRefIdeal.main_arg2) = m ((c.tc : Thread Cert.AdamWideRefIdeal.nD Cert.AdamWideRefIdeal.τ).loc Cert.AdamWideRefIdeal.main_arg2)
      ∧ r.2.mem ((c.tc : Thread Cert.AdamWideRefIdeal.nD Cert.AdamWideRefIdeal.τ).loc Cert.AdamWideRefIdeal.main_arg3) = m ((c.tc : Thread Cert.AdamWideRefIdeal.nD Cert.AdamWideRefIdeal.τ).loc Cert.AdamWideRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_BiasReduce [hBiasReduce : Cert.BiasReduce.Facts] : Prop :=
  ∀ (m : (ℓ : Loc Cert.BiasReduce.nD Cert.BiasReduce.τ Cert.BiasReduce.sig) → Buf (Elt Bits) ℓ) (g : Dev Cert.BiasReduce.nD → PrngReg), Pre_BiasReduce m →
    θ_run (Cert.BiasReduce.defs (F := Bits)) (onTc (τ := Cert.BiasReduce.τ) (Cert.BiasReduce.main (F := Bits))) ⟨m, fun _ => 0, g⟩ (fun r => (∀ c : Dev Cert.BiasReduce.nD,
      r.2.mem ((c.tc : Thread Cert.BiasReduce.nD Cert.BiasReduce.τ).loc Cert.BiasReduce.main_arg0) = m ((c.tc : Thread Cert.BiasReduce.nD Cert.BiasReduce.τ).loc Cert.BiasReduce.main_arg0)
      ∧ r.2.mem ((c.tc : Thread Cert.BiasReduce.nD Cert.BiasReduce.τ).loc Cert.BiasReduce.main_arg1) = m ((c.tc : Thread Cert.BiasReduce.nD Cert.BiasReduce.τ).loc Cert.BiasReduce.main_arg1))
      ∧ r.2.sem = fun _ => 0)

def quiescent_BiasReduceIdeal [hBiasReduceIdeal : Cert.BiasReduceIdeal.Facts] : Prop :=
  ∀ (m : (ℓ : Loc Cert.BiasReduceIdeal.nD Cert.BiasReduceIdeal.τ Cert.BiasReduceIdeal.sig) → Buf (Elt Ideal) ℓ) (g : Dev Cert.BiasReduceIdeal.nD → PrngReg), Pre_BiasReduceIdeal m →
    θ_run (Cert.BiasReduceIdeal.defs (F := Ideal)) (onTc (τ := Cert.BiasReduceIdeal.τ) (Cert.BiasReduceIdeal.main (F := Ideal))) ⟨m, fun _ => 0, g⟩ (fun r => (∀ c : Dev Cert.BiasReduceIdeal.nD,
      r.2.mem ((c.tc : Thread Cert.BiasReduceIdeal.nD Cert.BiasReduceIdeal.τ).loc Cert.BiasReduceIdeal.main_arg0) = m ((c.tc : Thread Cert.BiasReduceIdeal.nD Cert.BiasReduceIdeal.τ).loc Cert.BiasReduceIdeal.main_arg0)
      ∧ r.2.mem ((c.tc : Thread Cert.BiasReduceIdeal.nD Cert.BiasReduceIdeal.τ).loc Cert.BiasReduceIdeal.main_arg1) = m ((c.tc : Thread Cert.BiasReduceIdeal.nD Cert.BiasReduceIdeal.τ).loc Cert.BiasReduceIdeal.main_arg1))
      ∧ r.2.sem = fun _ => 0)

def quiescent_BiasReduceIdeal_pre_bias_reduce_finite [hBiasReduceIdeal : Cert.BiasReduceIdeal.Facts] [hPre_bias_reduce_finite : Cert.Pre_bias_reduce_finite.Facts] : Prop :=
  ∀ (m : (ℓ : Loc Cert.BiasReduceIdeal.nD Cert.BiasReduceIdeal.τ Cert.BiasReduceIdeal.sig) → Buf (Elt Ideal) ℓ) (g : Dev Cert.BiasReduceIdeal.nD → PrngReg), Pre_BiasReduceIdeal_bias_reduce_finite m →
    θ_run (Cert.BiasReduceIdeal.defs (F := Ideal)) (onTc (τ := Cert.BiasReduceIdeal.τ) (Cert.BiasReduceIdeal.main (F := Ideal))) ⟨m, fun _ => 0, g⟩ (fun r => (∀ c : Dev Cert.BiasReduceIdeal.nD,
      r.2.mem ((c.tc : Thread Cert.BiasReduceIdeal.nD Cert.BiasReduceIdeal.τ).loc Cert.BiasReduceIdeal.main_arg0) = m ((c.tc : Thread Cert.BiasReduceIdeal.nD Cert.BiasReduceIdeal.τ).loc Cert.BiasReduceIdeal.main_arg0)
      ∧ r.2.mem ((c.tc : Thread Cert.BiasReduceIdeal.nD Cert.BiasReduceIdeal.τ).loc Cert.BiasReduceIdeal.main_arg1) = m ((c.tc : Thread Cert.BiasReduceIdeal.nD Cert.BiasReduceIdeal.τ).loc Cert.BiasReduceIdeal.main_arg1))
      ∧ r.2.sem = fun _ => 0)

def quiescent_BiasReduceRefIdeal [hBiasReduceRefIdeal : Cert.BiasReduceRefIdeal.Facts] : Prop :=
  ∀ (m : (ℓ : Loc Cert.BiasReduceRefIdeal.nD Cert.BiasReduceRefIdeal.τ Cert.BiasReduceRefIdeal.sig) → Buf (Elt Ideal) ℓ) (g : Dev Cert.BiasReduceRefIdeal.nD → PrngReg), Pre_BiasReduceRefIdeal m →
    θ_run (Cert.BiasReduceRefIdeal.defs (F := Ideal)) (onTc (τ := Cert.BiasReduceRefIdeal.τ) (Cert.BiasReduceRefIdeal.main (F := Ideal))) ⟨m, fun _ => 0, g⟩ (fun r => (∀ c : Dev Cert.BiasReduceRefIdeal.nD,
      r.2.mem ((c.tc : Thread Cert.BiasReduceRefIdeal.nD Cert.BiasReduceRefIdeal.τ).loc Cert.BiasReduceRefIdeal.main_arg0) = m ((c.tc : Thread Cert.BiasReduceRefIdeal.nD Cert.BiasReduceRefIdeal.τ).loc Cert.BiasReduceRefIdeal.main_arg0)
      ∧ r.2.mem ((c.tc : Thread Cert.BiasReduceRefIdeal.nD Cert.BiasReduceRefIdeal.τ).loc Cert.BiasReduceRefIdeal.main_arg1) = m ((c.tc : Thread Cert.BiasReduceRefIdeal.nD Cert.BiasReduceRefIdeal.τ).loc Cert.BiasReduceRefIdeal.main_arg1))
      ∧ r.2.sem = fun _ => 0)

def quiescent_BiasReduceRefIdeal_pre_bias_reduce_finite [hBiasReduceRefIdeal : Cert.BiasReduceRefIdeal.Facts] [hPre_bias_reduce_finite : Cert.Pre_bias_reduce_finite.Facts] : Prop :=
  ∀ (m : (ℓ : Loc Cert.BiasReduceRefIdeal.nD Cert.BiasReduceRefIdeal.τ Cert.BiasReduceRefIdeal.sig) → Buf (Elt Ideal) ℓ) (g : Dev Cert.BiasReduceRefIdeal.nD → PrngReg), Pre_BiasReduceRefIdeal_bias_reduce_finite m →
    θ_run (Cert.BiasReduceRefIdeal.defs (F := Ideal)) (onTc (τ := Cert.BiasReduceRefIdeal.τ) (Cert.BiasReduceRefIdeal.main (F := Ideal))) ⟨m, fun _ => 0, g⟩ (fun r => (∀ c : Dev Cert.BiasReduceRefIdeal.nD,
      r.2.mem ((c.tc : Thread Cert.BiasReduceRefIdeal.nD Cert.BiasReduceRefIdeal.τ).loc Cert.BiasReduceRefIdeal.main_arg0) = m ((c.tc : Thread Cert.BiasReduceRefIdeal.nD Cert.BiasReduceRefIdeal.τ).loc Cert.BiasReduceRefIdeal.main_arg0)
      ∧ r.2.mem ((c.tc : Thread Cert.BiasReduceRefIdeal.nD Cert.BiasReduceRefIdeal.τ).loc Cert.BiasReduceRefIdeal.main_arg1) = m ((c.tc : Thread Cert.BiasReduceRefIdeal.nD Cert.BiasReduceRefIdeal.τ).loc Cert.BiasReduceRefIdeal.main_arg1))
      ∧ r.2.sem = fun _ => 0)

def preserves_Gate_GateIdeal : Prop :=
  IdealRules.named_const.Statement Cert.GateIdeal.κ "gelu_cubic" .f32 0x3D372713#32 ((8943 / 200000 : ℝ) : EReal)
  ∧ IdealRules.named_const.Statement Cert.GateIdeal.κ "gelu_cubic3" .f32 0x3E095D4F#32 ((26829 / 200000 : ℝ) : EReal)

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v3_0)) (v1 : (c : Dev Cert.GateIdeal.nD) → Buf (Elt Ideal) ((c.tc : Thread Cert.GateIdeal.nD Cert.GateIdeal.τ).loc Cert.GateIdeal.main_v3_1)) (v2 : (c : Dev Cert.GateIdeal.nD) → Buf (Elt Ideal) ((c.tc : Thread Cert.GateIdeal.nD Cert.GateIdeal.τ).loc Cert.GateIdeal.main_v3_2)) (v3 : (c : Dev Cert.GateIdeal.nD) → Buf (Elt Ideal) ((c.tc : Thread Cert.GateIdeal.nD Cert.GateIdeal.τ).loc Cert.GateIdeal.main_v3_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3_0) = v0 c
          ∧ r.2.mem ((c.tc : Thread Cert.GateIdeal.nD Cert.GateIdeal.τ).loc Cert.GateIdeal.main_v3_1) = v1 c
          ∧ r.2.mem ((c.tc : Thread Cert.GateIdeal.nD Cert.GateIdeal.τ).loc Cert.GateIdeal.main_v3_2) = v2 c
          ∧ r.2.mem ((c.tc : Thread Cert.GateIdeal.nD Cert.GateIdeal.τ).loc Cert.GateIdeal.main_v3_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v104) = v0 c
          ∧ r.2.mem ((c.tc : Thread Cert.GateRefIdeal.nD Cert.GateRefIdeal.τ).loc Cert.GateRefIdeal.main_v71) = v1 c
          ∧ r.2.mem ((c.tc : Thread Cert.GateRefIdeal.nD Cert.GateRefIdeal.τ).loc Cert.GateRefIdeal.main_v65) = v2 c
          ∧ r.2.mem ((c.tc : Thread Cert.GateRefIdeal.nD Cert.GateRefIdeal.τ).loc Cert.GateRefIdeal.main_v74) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v13) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_InDx_InDxIdeal : Prop :=
  True

def algebraic_InDxIdeal_InDxRefIdeal_pre_in_dx_finite [hInDxIdeal : Cert.InDxIdeal.Facts] [hInDxRefIdeal : Cert.InDxRefIdeal.Facts] [hPre_in_dx_finite : Cert.Pre_in_dx_finite.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_in_dx_finite m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v1_0)) (v1 : (c : Dev Cert.InDxIdeal.nD) → Buf (Elt Ideal) ((c.tc : Thread Cert.InDxIdeal.nD Cert.InDxIdeal.τ).loc Cert.InDxIdeal.main_v1_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v1_0) = v0 c
          ∧ r.2.mem ((c.tc : Thread Cert.InDxIdeal.nD Cert.InDxIdeal.τ).loc Cert.InDxIdeal.main_v1_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v46) = v0 c
          ∧ r.2.mem ((c.tc : Thread Cert.InDxRefIdeal.nD Cert.InDxRefIdeal.τ).loc Cert.InDxRefIdeal.main_v47) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v7) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_QDw_QDwIdeal : Prop :=
  True

def algebraic_QDwIdeal_QDwRefIdeal [hQDwIdeal : Cert.QDwIdeal.Facts] [hQDwRefIdeal : Cert.QDwRefIdeal.Facts] : Prop :=
  ∀ (m : (ℓ : Loc Cert.QDwIdeal.nD Cert.QDwIdeal.τ Cert.QDwIdeal.sig) → Buf (Elt Ideal) ℓ) (g : Dev Cert.QDwIdeal.nD → PrngReg)
    (m' : (ℓ : Loc Cert.QDwRefIdeal.nD Cert.QDwRefIdeal.τ Cert.QDwRefIdeal.sig) → Buf (Elt Ideal) ℓ) (g' : Dev Cert.QDwRefIdeal.nD → PrngReg), Pre_QDwIdeal m →
    (∀ c : Dev Cert.QDwIdeal.nD,
      m' ((c.tc : Thread Cert.QDwRefIdeal.nD Cert.QDwRefIdeal.τ).loc Cert.QDwRefIdeal.main_arg0) = m ((c.tc : Thread Cert.QDwIdeal.nD Cert.QDwIdeal.τ).loc Cert.QDwIdeal.main_arg0)
      ∧ m' ((c.tc : Thread Cert.QDwRefIdeal.nD Cert.QDwRefIdeal.τ).loc Cert.QDwRefIdeal.main_arg1) = m ((c.tc : Thread Cert.QDwIdeal.nD Cert.QDwIdeal.τ).loc Cert.QDwIdeal.main_arg1)) →
    ∃ (v0 : (c : Dev Cert.QDwIdeal.nD) → Buf (Elt Ideal) ((c.tc : Thread Cert.QDwIdeal.nD Cert.QDwIdeal.τ).loc Cert.QDwIdeal.main_v0)),
      θ_run (Cert.QDwIdeal.defs (F := Ideal)) (onTc (τ := Cert.QDwIdeal.τ) (Cert.QDwIdeal.main (F := Ideal))) ⟨m, fun _ => 0, g⟩ (fun r => ∀ c : Dev Cert.QDwIdeal.nD,
          r.2.mem ((c.tc : Thread Cert.QDwIdeal.nD Cert.QDwIdeal.τ).loc Cert.QDwIdeal.main_v0) = v0 c
          ∧ r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
          ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ θ_run (Cert.QDwRefIdeal.defs (F := Ideal)) (onTc (τ := Cert.QDwRefIdeal.τ) (Cert.QDwRefIdeal.main (F := Ideal))) ⟨m', fun _ => 0, g'⟩ (fun r => ∀ c : Dev Cert.QDwRefIdeal.nD,
          r.2.mem ((c.tc : Thread Cert.QDwRefIdeal.nD Cert.QDwRefIdeal.τ).loc Cert.QDwRefIdeal.main_v8) = v0 c
          ∧ r.2.mem ((c.tc : Thread Cert.QDwRefIdeal.nD Cert.QDwRefIdeal.τ).loc Cert.QDwRefIdeal.main_arg0) = m' ((c.tc : Thread Cert.QDwRefIdeal.nD Cert.QDwRefIdeal.τ).loc Cert.QDwRefIdeal.main_arg0)
          ∧ r.2.mem ((c.tc : Thread Cert.QDwRefIdeal.nD Cert.QDwRefIdeal.τ).loc Cert.QDwRefIdeal.main_arg1) = m' ((c.tc : Thread Cert.QDwRefIdeal.nD Cert.QDwRefIdeal.τ).loc Cert.QDwRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v13) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_MixerDw_MixerDwIdeal : Prop :=
  True

def algebraic_MixerDwIdeal_MixerDwRefIdeal [hMixerDwIdeal : Cert.MixerDwIdeal.Facts] [hMixerDwRefIdeal : Cert.MixerDwRefIdeal.Facts] : Prop :=
  ∀ (m : (ℓ : Loc Cert.MixerDwIdeal.nD Cert.MixerDwIdeal.τ Cert.MixerDwIdeal.sig) → Buf (Elt Ideal) ℓ) (g : Dev Cert.MixerDwIdeal.nD → PrngReg)
    (m' : (ℓ : Loc Cert.MixerDwRefIdeal.nD Cert.MixerDwRefIdeal.τ Cert.MixerDwRefIdeal.sig) → Buf (Elt Ideal) ℓ) (g' : Dev Cert.MixerDwRefIdeal.nD → PrngReg), Pre_MixerDwIdeal m →
    (∀ c : Dev Cert.MixerDwIdeal.nD,
      m' ((c.tc : Thread Cert.MixerDwRefIdeal.nD Cert.MixerDwRefIdeal.τ).loc Cert.MixerDwRefIdeal.main_arg0) = m ((c.tc : Thread Cert.MixerDwIdeal.nD Cert.MixerDwIdeal.τ).loc Cert.MixerDwIdeal.main_arg0)
      ∧ m' ((c.tc : Thread Cert.MixerDwRefIdeal.nD Cert.MixerDwRefIdeal.τ).loc Cert.MixerDwRefIdeal.main_arg1) = m ((c.tc : Thread Cert.MixerDwIdeal.nD Cert.MixerDwIdeal.τ).loc Cert.MixerDwIdeal.main_arg1)) →
    ∃ (v0 : (c : Dev Cert.MixerDwIdeal.nD) → Buf (Elt Ideal) ((c.tc : Thread Cert.MixerDwIdeal.nD Cert.MixerDwIdeal.τ).loc Cert.MixerDwIdeal.main_v0)),
      θ_run (Cert.MixerDwIdeal.defs (F := Ideal)) (onTc (τ := Cert.MixerDwIdeal.τ) (Cert.MixerDwIdeal.main (F := Ideal))) ⟨m, fun _ => 0, g⟩ (fun r => ∀ c : Dev Cert.MixerDwIdeal.nD,
          r.2.mem ((c.tc : Thread Cert.MixerDwIdeal.nD Cert.MixerDwIdeal.τ).loc Cert.MixerDwIdeal.main_v0) = v0 c
          ∧ r.2.mem ((c.tc : Thread Cert.MixerDwIdeal.nD Cert.MixerDwIdeal.τ).loc Cert.MixerDwIdeal.main_arg0) = m ((c.tc : Thread Cert.MixerDwIdeal.nD Cert.MixerDwIdeal.τ).loc Cert.MixerDwIdeal.main_arg0)
          ∧ r.2.mem ((c.tc : Thread Cert.MixerDwIdeal.nD Cert.MixerDwIdeal.τ).loc Cert.MixerDwIdeal.main_arg1) = m ((c.tc : Thread Cert.MixerDwIdeal.nD Cert.MixerDwIdeal.τ).loc Cert.MixerDwIdeal.main_arg1))
      ∧ θ_run (Cert.MixerDwRefIdeal.defs (F := Ideal)) (onTc (τ := Cert.MixerDwRefIdeal.τ) (Cert.MixerDwRefIdeal.main (F := Ideal))) ⟨m', fun _ => 0, g'⟩ (fun r => ∀ c : Dev Cert.MixerDwRefIdeal.nD,
          r.2.mem ((c.tc : Thread Cert.MixerDwRefIdeal.nD Cert.MixerDwRefIdeal.τ).loc Cert.MixerDwRefIdeal.main_v8) = v0 c
          ∧ r.2.mem ((c.tc : Thread Cert.MixerDwRefIdeal.nD Cert.MixerDwRefIdeal.τ).loc Cert.MixerDwRefIdeal.main_arg0) = m' ((c.tc : Thread Cert.MixerDwRefIdeal.nD Cert.MixerDwRefIdeal.τ).loc Cert.MixerDwRefIdeal.main_arg0)
          ∧ r.2.mem ((c.tc : Thread Cert.MixerDwRefIdeal.nD Cert.MixerDwRefIdeal.τ).loc Cert.MixerDwRefIdeal.main_arg1) = m' ((c.tc : Thread Cert.MixerDwRefIdeal.nD Cert.MixerDwRefIdeal.τ).loc Cert.MixerDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v4) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2))

def preserves_MixerDx_MixerDxIdeal : Prop :=
  True

def algebraic_MixerDxIdeal_MixerDxRefIdeal_pre_mixer_dx_finite [hMixerDxIdeal : Cert.MixerDxIdeal.Facts] [hMixerDxRefIdeal : Cert.MixerDxRefIdeal.Facts] [hPre_mixer_dx_finite : Cert.Pre_mixer_dx_finite.Facts] : Prop :=
  ∀ (m : (ℓ : Loc Cert.MixerDxIdeal.nD Cert.MixerDxIdeal.τ Cert.MixerDxIdeal.sig) → Buf (Elt Ideal) ℓ) (g : Dev Cert.MixerDxIdeal.nD → PrngReg)
    (m' : (ℓ : Loc Cert.MixerDxRefIdeal.nD Cert.MixerDxRefIdeal.τ Cert.MixerDxRefIdeal.sig) → Buf (Elt Ideal) ℓ) (g' : Dev Cert.MixerDxRefIdeal.nD → PrngReg), Pre_MixerDxIdeal_mixer_dx_finite m →
    (∀ c : Dev Cert.MixerDxIdeal.nD,
      m' ((c.tc : Thread Cert.MixerDxRefIdeal.nD Cert.MixerDxRefIdeal.τ).loc Cert.MixerDxRefIdeal.main_arg0) = m ((c.tc : Thread Cert.MixerDxIdeal.nD Cert.MixerDxIdeal.τ).loc Cert.MixerDxIdeal.main_arg0)
      ∧ m' ((c.tc : Thread Cert.MixerDxRefIdeal.nD Cert.MixerDxRefIdeal.τ).loc Cert.MixerDxRefIdeal.main_arg1) = m ((c.tc : Thread Cert.MixerDxIdeal.nD Cert.MixerDxIdeal.τ).loc Cert.MixerDxIdeal.main_arg1)
      ∧ m' ((c.tc : Thread Cert.MixerDxRefIdeal.nD Cert.MixerDxRefIdeal.τ).loc Cert.MixerDxRefIdeal.main_arg2) = m ((c.tc : Thread Cert.MixerDxIdeal.nD Cert.MixerDxIdeal.τ).loc Cert.MixerDxIdeal.main_arg2)
      ∧ m' ((c.tc : Thread Cert.MixerDxRefIdeal.nD Cert.MixerDxRefIdeal.τ).loc Cert.MixerDxRefIdeal.main_arg3) = m ((c.tc : Thread Cert.MixerDxIdeal.nD Cert.MixerDxIdeal.τ).loc Cert.MixerDxIdeal.main_arg3)
      ∧ m' ((c.tc : Thread Cert.MixerDxRefIdeal.nD Cert.MixerDxRefIdeal.τ).loc Cert.MixerDxRefIdeal.main_arg4) = m ((c.tc : Thread Cert.MixerDxIdeal.nD Cert.MixerDxIdeal.τ).loc Cert.MixerDxIdeal.main_arg4)) →
    ∃ (v0 : (c : Dev Cert.MixerDxIdeal.nD) → Buf (Elt Ideal) ((c.tc : Thread Cert.MixerDxIdeal.nD Cert.MixerDxIdeal.τ).loc Cert.MixerDxIdeal.main_v1_0)) (v1 : (c : Dev Cert.MixerDxIdeal.nD) → Buf (Elt Ideal) ((c.tc : Thread Cert.MixerDxIdeal.nD Cert.MixerDxIdeal.τ).loc Cert.MixerDxIdeal.main_v1_1)),
      θ_run (Cert.MixerDxIdeal.defs (F := Ideal)) (onTc (τ := Cert.MixerDxIdeal.τ) (Cert.MixerDxIdeal.main (F := Ideal))) ⟨m, fun _ => 0, g⟩ (fun r => ∀ c : Dev Cert.MixerDxIdeal.nD,
          r.2.mem ((c.tc : Thread Cert.MixerDxIdeal.nD Cert.MixerDxIdeal.τ).loc Cert.MixerDxIdeal.main_v1_0) = v0 c
          ∧ r.2.mem ((c.tc : Thread Cert.MixerDxIdeal.nD Cert.MixerDxIdeal.τ).loc Cert.MixerDxIdeal.main_v1_1) = v1 c
          ∧ r.2.mem ((c.tc : Thread Cert.MixerDxIdeal.nD Cert.MixerDxIdeal.τ).loc Cert.MixerDxIdeal.main_arg0) = m ((c.tc : Thread Cert.MixerDxIdeal.nD Cert.MixerDxIdeal.τ).loc Cert.MixerDxIdeal.main_arg0)
          ∧ r.2.mem ((c.tc : Thread Cert.MixerDxIdeal.nD Cert.MixerDxIdeal.τ).loc Cert.MixerDxIdeal.main_arg1) = m ((c.tc : Thread Cert.MixerDxIdeal.nD Cert.MixerDxIdeal.τ).loc Cert.MixerDxIdeal.main_arg1)
          ∧ r.2.mem ((c.tc : Thread Cert.MixerDxIdeal.nD Cert.MixerDxIdeal.τ).loc Cert.MixerDxIdeal.main_arg2) = m ((c.tc : Thread Cert.MixerDxIdeal.nD Cert.MixerDxIdeal.τ).loc Cert.MixerDxIdeal.main_arg2)
          ∧ r.2.mem ((c.tc : Thread Cert.MixerDxIdeal.nD Cert.MixerDxIdeal.τ).loc Cert.MixerDxIdeal.main_arg3) = m ((c.tc : Thread Cert.MixerDxIdeal.nD Cert.MixerDxIdeal.τ).loc Cert.MixerDxIdeal.main_arg3)
          ∧ r.2.mem ((c.tc : Thread Cert.MixerDxIdeal.nD Cert.MixerDxIdeal.τ).loc Cert.MixerDxIdeal.main_arg4) = m ((c.tc : Thread Cert.MixerDxIdeal.nD Cert.MixerDxIdeal.τ).loc Cert.MixerDxIdeal.main_arg4))
      ∧ θ_run (Cert.MixerDxRefIdeal.defs (F := Ideal)) (onTc (τ := Cert.MixerDxRefIdeal.τ) (Cert.MixerDxRefIdeal.main (F := Ideal))) ⟨m', fun _ => 0, g'⟩ (fun r => ∀ c : Dev Cert.MixerDxRefIdeal.nD,
          r.2.mem ((c.tc : Thread Cert.MixerDxRefIdeal.nD Cert.MixerDxRefIdeal.τ).loc Cert.MixerDxRefIdeal.main_v41) = v0 c
          ∧ r.2.mem ((c.tc : Thread Cert.MixerDxRefIdeal.nD Cert.MixerDxRefIdeal.τ).loc Cert.MixerDxRefIdeal.main_v42) = v1 c
          ∧ r.2.mem ((c.tc : Thread Cert.MixerDxRefIdeal.nD Cert.MixerDxRefIdeal.τ).loc Cert.MixerDxRefIdeal.main_arg0) = m' ((c.tc : Thread Cert.MixerDxRefIdeal.nD Cert.MixerDxRefIdeal.τ).loc Cert.MixerDxRefIdeal.main_arg0)
          ∧ r.2.mem ((c.tc : Thread Cert.MixerDxRefIdeal.nD Cert.MixerDxRefIdeal.τ).loc Cert.MixerDxRefIdeal.main_arg1) = m' ((c.tc : Thread Cert.MixerDxRefIdeal.nD Cert.MixerDxRefIdeal.τ).loc Cert.MixerDxRefIdeal.main_arg1)
          ∧ r.2.mem ((c.tc : Thread Cert.MixerDxRefIdeal.nD Cert.MixerDxRefIdeal.τ).loc Cert.MixerDxRefIdeal.main_arg2) = m' ((c.tc : Thread Cert.MixerDxRefIdeal.nD Cert.MixerDxRefIdeal.τ).loc Cert.MixerDxRefIdeal.main_arg2)
          ∧ r.2.mem ((c.tc : Thread Cert.MixerDxRefIdeal.nD Cert.MixerDxRefIdeal.τ).loc Cert.MixerDxRefIdeal.main_arg3) = m' ((c.tc : Thread Cert.MixerDxRefIdeal.nD Cert.MixerDxRefIdeal.τ).loc Cert.MixerDxRefIdeal.main_arg3)
          ∧ r.2.mem ((c.tc : Thread Cert.MixerDxRefIdeal.nD Cert.MixerDxRefIdeal.τ).loc Cert.MixerDxRefIdeal.main_arg4) = m' ((c.tc : Thread Cert.MixerDxRefIdeal.nD Cert.MixerDxRefIdeal.τ).loc Cert.MixerDxRefIdeal.main_arg4))

def preserves_QkvDx_QkvDxIdeal : Prop :=
  True

def algebraic_QkvDxIdeal_QkvDxRefIdeal_pre_qkv_dx_finite [hQkvDxIdeal : Cert.QkvDxIdeal.Facts] [hQkvDxRefIdeal : Cert.QkvDxRefIdeal.Facts] [hPre_qkv_dx_finite : Cert.Pre_qkv_dx_finite.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal_qkv_dx_finite m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)
      ∧ m' ((c.tc : Thread Cert.QkvDxRefIdeal.nD Cert.QkvDxRefIdeal.τ).loc Cert.QkvDxRefIdeal.main_arg2) = m ((c.tc : Thread Cert.QkvDxIdeal.nD Cert.QkvDxIdeal.τ).loc Cert.QkvDxIdeal.main_arg2)
      ∧ m' ((c.tc : Thread Cert.QkvDxRefIdeal.nD Cert.QkvDxRefIdeal.τ).loc Cert.QkvDxRefIdeal.main_arg3) = m ((c.tc : Thread Cert.QkvDxIdeal.nD Cert.QkvDxIdeal.τ).loc Cert.QkvDxIdeal.main_arg3)
      ∧ m' ((c.tc : Thread Cert.QkvDxRefIdeal.nD Cert.QkvDxRefIdeal.τ).loc Cert.QkvDxRefIdeal.main_arg4) = m ((c.tc : Thread Cert.QkvDxIdeal.nD Cert.QkvDxIdeal.τ).loc Cert.QkvDxIdeal.main_arg4)
      ∧ m' ((c.tc : Thread Cert.QkvDxRefIdeal.nD Cert.QkvDxRefIdeal.τ).loc Cert.QkvDxRefIdeal.main_arg5) = m ((c.tc : Thread Cert.QkvDxIdeal.nD Cert.QkvDxIdeal.τ).loc Cert.QkvDxIdeal.main_arg5)
      ∧ m' ((c.tc : Thread Cert.QkvDxRefIdeal.nD Cert.QkvDxRefIdeal.τ).loc Cert.QkvDxRefIdeal.main_arg6) = m ((c.tc : Thread Cert.QkvDxIdeal.nD Cert.QkvDxIdeal.τ).loc Cert.QkvDxIdeal.main_arg6)
      ∧ m' ((c.tc : Thread Cert.QkvDxRefIdeal.nD Cert.QkvDxRefIdeal.τ).loc Cert.QkvDxRefIdeal.main_arg7) = m ((c.tc : Thread Cert.QkvDxIdeal.nD Cert.QkvDxIdeal.τ).loc Cert.QkvDxIdeal.main_arg7)) →
    ∃ (v0 : (c : Dev Cert.QkvDxIdeal.nD) → Buf (Elt Ideal) ((c.tc : Thread Cert.QkvDxIdeal.nD Cert.QkvDxIdeal.τ).loc Cert.QkvDxIdeal.main_v2_0)) (v1 : (c : Dev Cert.QkvDxIdeal.nD) → Buf (Elt Ideal) ((c.tc : Thread Cert.QkvDxIdeal.nD Cert.QkvDxIdeal.τ).loc Cert.QkvDxIdeal.main_v2_1)) (v2 : (c : Dev Cert.QkvDxIdeal.nD) → Buf (Elt Ideal) ((c.tc : Thread Cert.QkvDxIdeal.nD Cert.QkvDxIdeal.τ).loc Cert.QkvDxIdeal.main_v2_2)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v2_0) = v0 c
          ∧ r.2.mem ((c.tc : Thread Cert.QkvDxIdeal.nD Cert.QkvDxIdeal.τ).loc Cert.QkvDxIdeal.main_v2_1) = v1 c
          ∧ r.2.mem ((c.tc : Thread Cert.QkvDxIdeal.nD Cert.QkvDxIdeal.τ).loc Cert.QkvDxIdeal.main_v2_2) = v2 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
          ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2)
          ∧ r.2.mem ((c.tc : Thread Cert.QkvDxIdeal.nD Cert.QkvDxIdeal.τ).loc Cert.QkvDxIdeal.main_arg3) = m ((c.tc : Thread Cert.QkvDxIdeal.nD Cert.QkvDxIdeal.τ).loc Cert.QkvDxIdeal.main_arg3)
          ∧ r.2.mem ((c.tc : Thread Cert.QkvDxIdeal.nD Cert.QkvDxIdeal.τ).loc Cert.QkvDxIdeal.main_arg4) = m ((c.tc : Thread Cert.QkvDxIdeal.nD Cert.QkvDxIdeal.τ).loc Cert.QkvDxIdeal.main_arg4)
          ∧ r.2.mem ((c.tc : Thread Cert.QkvDxIdeal.nD Cert.QkvDxIdeal.τ).loc Cert.QkvDxIdeal.main_arg5) = m ((c.tc : Thread Cert.QkvDxIdeal.nD Cert.QkvDxIdeal.τ).loc Cert.QkvDxIdeal.main_arg5)
          ∧ r.2.mem ((c.tc : Thread Cert.QkvDxIdeal.nD Cert.QkvDxIdeal.τ).loc Cert.QkvDxIdeal.main_arg6) = m ((c.tc : Thread Cert.QkvDxIdeal.nD Cert.QkvDxIdeal.τ).loc Cert.QkvDxIdeal.main_arg6)
          ∧ r.2.mem ((c.tc : Thread Cert.QkvDxIdeal.nD Cert.QkvDxIdeal.τ).loc Cert.QkvDxIdeal.main_arg7) = m ((c.tc : Thread Cert.QkvDxIdeal.nD Cert.QkvDxIdeal.τ).loc Cert.QkvDxIdeal.main_arg7))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v61) = v0 c
          ∧ r.2.mem ((c.tc : Thread Cert.QkvDxRefIdeal.nD Cert.QkvDxRefIdeal.τ).loc Cert.QkvDxRefIdeal.main_v62) = v1 c
          ∧ r.2.mem ((c.tc : Thread Cert.QkvDxRefIdeal.nD Cert.QkvDxRefIdeal.τ).loc Cert.QkvDxRefIdeal.main_v63) = v2 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1)
          ∧ r.2.mem ((c.tc : Thread Cert.QkvDxRefIdeal.nD Cert.QkvDxRefIdeal.τ).loc Cert.QkvDxRefIdeal.main_arg2) = m' ((c.tc : Thread Cert.QkvDxRefIdeal.nD Cert.QkvDxRefIdeal.τ).loc Cert.QkvDxRefIdeal.main_arg2)
          ∧ r.2.mem ((c.tc : Thread Cert.QkvDxRefIdeal.nD Cert.QkvDxRefIdeal.τ).loc Cert.QkvDxRefIdeal.main_arg3) = m' ((c.tc : Thread Cert.QkvDxRefIdeal.nD Cert.QkvDxRefIdeal.τ).loc Cert.QkvDxRefIdeal.main_arg3)
          ∧ r.2.mem ((c.tc : Thread Cert.QkvDxRefIdeal.nD Cert.QkvDxRefIdeal.τ).loc Cert.QkvDxRefIdeal.main_arg4) = m' ((c.tc : Thread Cert.QkvDxRefIdeal.nD Cert.QkvDxRefIdeal.τ).loc Cert.QkvDxRefIdeal.main_arg4)
          ∧ r.2.mem ((c.tc : Thread Cert.QkvDxRefIdeal.nD Cert.QkvDxRefIdeal.τ).loc Cert.QkvDxRefIdeal.main_arg5) = m' ((c.tc : Thread Cert.QkvDxRefIdeal.nD Cert.QkvDxRefIdeal.τ).loc Cert.QkvDxRefIdeal.main_arg5)
          ∧ r.2.mem ((c.tc : Thread Cert.QkvDxRefIdeal.nD Cert.QkvDxRefIdeal.τ).loc Cert.QkvDxRefIdeal.main_arg6) = m' ((c.tc : Thread Cert.QkvDxRefIdeal.nD Cert.QkvDxRefIdeal.τ).loc Cert.QkvDxRefIdeal.main_arg6)
          ∧ r.2.mem ((c.tc : Thread Cert.QkvDxRefIdeal.nD Cert.QkvDxRefIdeal.τ).loc Cert.QkvDxRefIdeal.main_arg7) = m' ((c.tc : Thread Cert.QkvDxRefIdeal.nD Cert.QkvDxRefIdeal.τ).loc Cert.QkvDxRefIdeal.main_arg7))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)) (v3 : (c : Dev Cert.QkvIdeal.nD) → Buf (Elt Ideal) ((c.tc : Thread Cert.QkvIdeal.nD Cert.QkvIdeal.τ).loc Cert.QkvIdeal.main_v2_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_v2_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v29) = v0 c
          ∧ r.2.mem ((c.tc : Thread Cert.QkvRefIdeal.nD Cert.QkvRefIdeal.τ).loc Cert.QkvRefIdeal.main_v30) = v1 c
          ∧ r.2.mem ((c.tc : Thread Cert.QkvRefIdeal.nD Cert.QkvRefIdeal.τ).loc Cert.QkvRefIdeal.main_v31) = v2 c
          ∧ r.2.mem ((c.tc : Thread Cert.QkvRefIdeal.nD Cert.QkvRefIdeal.τ).loc Cert.QkvRefIdeal.main_v32) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_MixerA_MixerAIdeal : Prop :=
  IdealRules.named_const.Statement Cert.MixerAIdeal.κ "gelu_cubic" .f32 0x3D372713#32 ((8943 / 200000 : ℝ) : EReal)

def algebraic_MixerAIdeal_MixerARefIdeal [hMixerAIdeal : Cert.MixerAIdeal.Facts] [hMixerARefIdeal : Cert.MixerARefIdeal.Facts] : Prop :=
  ∀ (m : (ℓ : Loc Cert.MixerAIdeal.nD Cert.MixerAIdeal.τ Cert.MixerAIdeal.sig) → Buf (Elt Ideal) ℓ) (g : Dev Cert.MixerAIdeal.nD → PrngReg)
    (m' : (ℓ : Loc Cert.MixerARefIdeal.nD Cert.MixerARefIdeal.τ Cert.MixerARefIdeal.sig) → Buf (Elt Ideal) ℓ) (g' : Dev Cert.MixerARefIdeal.nD → PrngReg), Pre_MixerAIdeal m →
    (∀ c : Dev Cert.MixerAIdeal.nD,
      m' ((c.tc : Thread Cert.MixerARefIdeal.nD Cert.MixerARefIdeal.τ).loc Cert.MixerARefIdeal.main_arg0) = m ((c.tc : Thread Cert.MixerAIdeal.nD Cert.MixerAIdeal.τ).loc Cert.MixerAIdeal.main_arg0)
      ∧ m' ((c.tc : Thread Cert.MixerARefIdeal.nD Cert.MixerARefIdeal.τ).loc Cert.MixerARefIdeal.main_arg1) = m ((c.tc : Thread Cert.MixerAIdeal.nD Cert.MixerAIdeal.τ).loc Cert.MixerAIdeal.main_arg1)
      ∧ m' ((c.tc : Thread Cert.MixerARefIdeal.nD Cert.MixerARefIdeal.τ).loc Cert.MixerARefIdeal.main_arg2) = m ((c.tc : Thread Cert.MixerAIdeal.nD Cert.MixerAIdeal.τ).loc Cert.MixerAIdeal.main_arg2)
      ∧ m' ((c.tc : Thread Cert.MixerARefIdeal.nD Cert.MixerARefIdeal.τ).loc Cert.MixerARefIdeal.main_arg3) = m ((c.tc : Thread Cert.MixerAIdeal.nD Cert.MixerAIdeal.τ).loc Cert.MixerAIdeal.main_arg3)
      ∧ m' ((c.tc : Thread Cert.MixerARefIdeal.nD Cert.MixerARefIdeal.τ).loc Cert.MixerARefIdeal.main_arg4) = m ((c.tc : Thread Cert.MixerAIdeal.nD Cert.MixerAIdeal.τ).loc Cert.MixerAIdeal.main_arg4)
      ∧ m' ((c.tc : Thread Cert.MixerARefIdeal.nD Cert.MixerARefIdeal.τ).loc Cert.MixerARefIdeal.main_arg5) = m ((c.tc : Thread Cert.MixerAIdeal.nD Cert.MixerAIdeal.τ).loc Cert.MixerAIdeal.main_arg5)
      ∧ m' ((c.tc : Thread Cert.MixerARefIdeal.nD Cert.MixerARefIdeal.τ).loc Cert.MixerARefIdeal.main_arg6) = m ((c.tc : Thread Cert.MixerAIdeal.nD Cert.MixerAIdeal.τ).loc Cert.MixerAIdeal.main_arg6)) →
    ∃ (v0 : (c : Dev Cert.MixerAIdeal.nD) → Buf (Elt Ideal) ((c.tc : Thread Cert.MixerAIdeal.nD Cert.MixerAIdeal.τ).loc Cert.MixerAIdeal.main_v4_0)) (v1 : (c : Dev Cert.MixerAIdeal.nD) → Buf (Elt Ideal) ((c.tc : Thread Cert.MixerAIdeal.nD Cert.MixerAIdeal.τ).loc Cert.MixerAIdeal.main_v4_1)) (v2 : (c : Dev Cert.MixerAIdeal.nD) → Buf (Elt Ideal) ((c.tc : Thread Cert.MixerAIdeal.nD Cert.MixerAIdeal.τ).loc Cert.MixerAIdeal.main_v4_2)) (v3 : (c : Dev Cert.MixerAIdeal.nD) → Buf (Elt Ideal) ((c.tc : Thread Cert.MixerAIdeal.nD Cert.MixerAIdeal.τ).loc Cert.MixerAIdeal.main_v4_3)),
      θ_run (Cert.MixerAIdeal.defs (F := Ideal)) (onTc (τ := Cert.MixerAIdeal.τ) (Cert.MixerAIdeal.main (F := Ideal))) ⟨m, fun _ => 0, g⟩ (fun r => ∀ c : Dev Cert.MixerAIdeal.nD,
          r.2.mem ((c.tc : Thread Cert.MixerAIdeal.nD Cert.MixerAIdeal.τ).loc Cert.MixerAIdeal.main_v4_0) = v0 c
          ∧ r.2.mem ((c.tc : Thread Cert.MixerAIdeal.nD Cert.MixerAIdeal.τ).loc Cert.MixerAIdeal.main_v4_1) = v1 c
          ∧ r.2.mem ((c.tc : Thread Cert.MixerAIdeal.nD Cert.MixerAIdeal.τ).loc Cert.MixerAIdeal.main_v4_2) = v2 c
          ∧ r.2.mem ((c.tc : Thread Cert.MixerAIdeal.nD Cert.MixerAIdeal.τ).loc Cert.MixerAIdeal.main_v4_3) = v3 c
          ∧ r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
          ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1)
          ∧ r.2.mem ((c.tc : Thread Cert.MixerAIdeal.nD Cert.MixerAIdeal.τ).loc Cert.MixerAIdeal.main_arg2) = m ((c.tc : Thread Cert.MixerAIdeal.nD Cert.MixerAIdeal.τ).loc Cert.MixerAIdeal.main_arg2)
          ∧ r.2.mem ((c.tc : Thread Cert.MixerAIdeal.nD Cert.MixerAIdeal.τ).loc Cert.MixerAIdeal.main_arg3) = m ((c.tc : Thread Cert.MixerAIdeal.nD Cert.MixerAIdeal.τ).loc Cert.MixerAIdeal.main_arg3)
          ∧ r.2.mem ((c.tc : Thread Cert.MixerAIdeal.nD Cert.MixerAIdeal.τ).loc Cert.MixerAIdeal.main_arg4) = m ((c.tc : Thread Cert.MixerAIdeal.nD Cert.MixerAIdeal.τ).loc Cert.MixerAIdeal.main_arg4)
          ∧ r.2.mem ((c.tc : Thread Cert.MixerAIdeal.nD Cert.MixerAIdeal.τ).loc Cert.MixerAIdeal.main_arg5) = m ((c.tc : Thread Cert.MixerAIdeal.nD Cert.MixerAIdeal.τ).loc Cert.MixerAIdeal.main_arg5)
          ∧ r.2.mem ((c.tc : Thread Cert.MixerAIdeal.nD Cert.MixerAIdeal.τ).loc Cert.MixerAIdeal.main_arg6) = m ((c.tc : Thread Cert.MixerAIdeal.nD Cert.MixerAIdeal.τ).loc Cert.MixerAIdeal.main_arg6))
      ∧ θ_run (Cert.MixerARefIdeal.defs (F := Ideal)) (onTc (τ := Cert.MixerARefIdeal.τ) (Cert.MixerARefIdeal.main (F := Ideal))) ⟨m', fun _ => 0, g'⟩ (fun r => ∀ c : Dev Cert.MixerARefIdeal.nD,
          r.2.mem ((c.tc : Thread Cert.MixerARefIdeal.nD Cert.MixerARefIdeal.τ).loc Cert.MixerARefIdeal.main_v65) = v0 c
          ∧ r.2.mem ((c.tc : Thread Cert.MixerARefIdeal.nD Cert.MixerARefIdeal.τ).loc Cert.MixerARefIdeal.main_v66) = v1 c
          ∧ r.2.mem ((c.tc : Thread Cert.MixerARefIdeal.nD Cert.MixerARefIdeal.τ).loc Cert.MixerARefIdeal.main_v67) = v2 c
          ∧ r.2.mem ((c.tc : Thread Cert.MixerARefIdeal.nD Cert.MixerARefIdeal.τ).loc Cert.MixerARefIdeal.main_v68) = v3 c
          ∧ r.2.mem ((c.tc : Thread Cert.MixerARefIdeal.nD Cert.MixerARefIdeal.τ).loc Cert.MixerARefIdeal.main_arg0) = m' ((c.tc : Thread Cert.MixerARefIdeal.nD Cert.MixerARefIdeal.τ).loc Cert.MixerARefIdeal.main_arg0)
          ∧ r.2.mem ((c.tc : Thread Cert.MixerARefIdeal.nD Cert.MixerARefIdeal.τ).loc Cert.MixerARefIdeal.main_arg1) = m' ((c.tc : Thread Cert.MixerARefIdeal.nD Cert.MixerARefIdeal.τ).loc Cert.MixerARefIdeal.main_arg1)
          ∧ r.2.mem ((c.tc : Thread Cert.MixerARefIdeal.nD Cert.MixerARefIdeal.τ).loc Cert.MixerARefIdeal.main_arg2) = m' ((c.tc : Thread Cert.MixerARefIdeal.nD Cert.MixerARefIdeal.τ).loc Cert.MixerARefIdeal.main_arg2)
          ∧ r.2.mem ((c.tc : Thread Cert.MixerARefIdeal.nD Cert.MixerARefIdeal.τ).loc Cert.MixerARefIdeal.main_arg3) = m' ((c.tc : Thread Cert.MixerARefIdeal.nD Cert.MixerARefIdeal.τ).loc Cert.MixerARefIdeal.main_arg3)
          ∧ r.2.mem ((c.tc : Thread Cert.MixerARefIdeal.nD Cert.MixerARefIdeal.τ).loc Cert.MixerARefIdeal.main_arg4) = m' ((c.tc : Thread Cert.MixerARefIdeal.nD Cert.MixerARefIdeal.τ).loc Cert.MixerARefIdeal.main_arg4)
          ∧ r.2.mem ((c.tc : Thread Cert.MixerARefIdeal.nD Cert.MixerARefIdeal.τ).loc Cert.MixerARefIdeal.main_arg5) = m' ((c.tc : Thread Cert.MixerARefIdeal.nD Cert.MixerARefIdeal.τ).loc Cert.MixerARefIdeal.main_arg5)
          ∧ r.2.mem ((c.tc : Thread Cert.MixerARefIdeal.nD Cert.MixerARefIdeal.τ).loc Cert.MixerARefIdeal.main_arg6) = m' ((c.tc : Thread Cert.MixerARefIdeal.nD Cert.MixerARefIdeal.τ).loc Cert.MixerARefIdeal.main_arg6))

def preserves_AdamWide_AdamWideIdeal : Prop :=
  True

def algebraic_AdamWideIdeal_AdamWideRefIdeal [hAdamWideIdeal : Cert.AdamWideIdeal.Facts] [hAdamWideRefIdeal : Cert.AdamWideRefIdeal.Facts] : Prop :=
  ∀ (m : (ℓ : Loc Cert.AdamWideIdeal.nD Cert.AdamWideIdeal.τ Cert.AdamWideIdeal.sig) → Buf (Elt Ideal) ℓ) (g : Dev Cert.AdamWideIdeal.nD → PrngReg)
    (m' : (ℓ : Loc Cert.AdamWideRefIdeal.nD Cert.AdamWideRefIdeal.τ Cert.AdamWideRefIdeal.sig) → Buf (Elt Ideal) ℓ) (g' : Dev Cert.AdamWideRefIdeal.nD → PrngReg), Pre_AdamWideIdeal m →
    (∀ c : Dev Cert.AdamWideIdeal.nD,
      m' ((c.tc : Thread Cert.AdamWideRefIdeal.nD Cert.AdamWideRefIdeal.τ).loc Cert.AdamWideRefIdeal.main_arg0) = m ((c.tc : Thread Cert.AdamWideIdeal.nD Cert.AdamWideIdeal.τ).loc Cert.AdamWideIdeal.main_arg0)
      ∧ m' ((c.tc : Thread Cert.AdamWideRefIdeal.nD Cert.AdamWideRefIdeal.τ).loc Cert.AdamWideRefIdeal.main_arg1) = m ((c.tc : Thread Cert.AdamWideIdeal.nD Cert.AdamWideIdeal.τ).loc Cert.AdamWideIdeal.main_arg1)
      ∧ m' ((c.tc : Thread Cert.AdamWideRefIdeal.nD Cert.AdamWideRefIdeal.τ).loc Cert.AdamWideRefIdeal.main_arg2) = m ((c.tc : Thread Cert.AdamWideIdeal.nD Cert.AdamWideIdeal.τ).loc Cert.AdamWideIdeal.main_arg2)
      ∧ m' ((c.tc : Thread Cert.AdamWideRefIdeal.nD Cert.AdamWideRefIdeal.τ).loc Cert.AdamWideRefIdeal.main_arg3) = m ((c.tc : Thread Cert.AdamWideIdeal.nD Cert.AdamWideIdeal.τ).loc Cert.AdamWideIdeal.main_arg3)) →
    ∃ (v0 : (c : Dev Cert.AdamWideIdeal.nD) → Buf (Elt Ideal) ((c.tc : Thread Cert.AdamWideIdeal.nD Cert.AdamWideIdeal.τ).loc Cert.AdamWideIdeal.main_v0_0)) (v1 : (c : Dev Cert.AdamWideIdeal.nD) → Buf (Elt Ideal) ((c.tc : Thread Cert.AdamWideIdeal.nD Cert.AdamWideIdeal.τ).loc Cert.AdamWideIdeal.main_v0_1)) (v2 : (c : Dev Cert.AdamWideIdeal.nD) → Buf (Elt Ideal) ((c.tc : Thread Cert.AdamWideIdeal.nD Cert.AdamWideIdeal.τ).loc Cert.AdamWideIdeal.main_v0_2)),
      θ_run (Cert.AdamWideIdeal.defs (F := Ideal)) (onTc (τ := Cert.AdamWideIdeal.τ) (Cert.AdamWideIdeal.main (F := Ideal))) ⟨m, fun _ => 0, g⟩ (fun r => ∀ c : Dev Cert.AdamWideIdeal.nD,
          r.2.mem ((c.tc : Thread Cert.AdamWideIdeal.nD Cert.AdamWideIdeal.τ).loc Cert.AdamWideIdeal.main_v0_0) = v0 c
          ∧ r.2.mem ((c.tc : Thread Cert.AdamWideIdeal.nD Cert.AdamWideIdeal.τ).loc Cert.AdamWideIdeal.main_v0_1) = v1 c
          ∧ r.2.mem ((c.tc : Thread Cert.AdamWideIdeal.nD Cert.AdamWideIdeal.τ).loc Cert.AdamWideIdeal.main_v0_2) = v2 c
          ∧ r.2.mem ((c.tc : Thread Cert.AdamWideIdeal.nD Cert.AdamWideIdeal.τ).loc Cert.AdamWideIdeal.main_arg0) = m ((c.tc : Thread Cert.AdamWideIdeal.nD Cert.AdamWideIdeal.τ).loc Cert.AdamWideIdeal.main_arg0)
          ∧ r.2.mem ((c.tc : Thread Cert.AdamWideIdeal.nD Cert.AdamWideIdeal.τ).loc Cert.AdamWideIdeal.main_arg1) = m ((c.tc : Thread Cert.AdamWideIdeal.nD Cert.AdamWideIdeal.τ).loc Cert.AdamWideIdeal.main_arg1)
          ∧ r.2.mem ((c.tc : Thread Cert.AdamWideIdeal.nD Cert.AdamWideIdeal.τ).loc Cert.AdamWideIdeal.main_arg2) = m ((c.tc : Thread Cert.AdamWideIdeal.nD Cert.AdamWideIdeal.τ).loc Cert.AdamWideIdeal.main_arg2)
          ∧ r.2.mem ((c.tc : Thread Cert.AdamWideIdeal.nD Cert.AdamWideIdeal.τ).loc Cert.AdamWideIdeal.main_arg3) = m ((c.tc : Thread Cert.AdamWideIdeal.nD Cert.AdamWideIdeal.τ).loc Cert.AdamWideIdeal.main_arg3))
      ∧ θ_run (Cert.AdamWideRefIdeal.defs (F := Ideal)) (onTc (τ := Cert.AdamWideRefIdeal.τ) (Cert.AdamWideRefIdeal.main (F := Ideal))) ⟨m', fun _ => 0, g'⟩ (fun r => ∀ c : Dev Cert.AdamWideRefIdeal.nD,
          r.2.mem ((c.tc : Thread Cert.AdamWideRefIdeal.nD Cert.AdamWideRefIdeal.τ).loc Cert.AdamWideRefIdeal.main_v23) = v0 c
          ∧ r.2.mem ((c.tc : Thread Cert.AdamWideRefIdeal.nD Cert.AdamWideRefIdeal.τ).loc Cert.AdamWideRefIdeal.main_v4) = v1 c
          ∧ r.2.mem ((c.tc : Thread Cert.AdamWideRefIdeal.nD Cert.AdamWideRefIdeal.τ).loc Cert.AdamWideRefIdeal.main_v10) = v2 c
          ∧ r.2.mem ((c.tc : Thread Cert.AdamWideRefIdeal.nD Cert.AdamWideRefIdeal.τ).loc Cert.AdamWideRefIdeal.main_arg0) = m' ((c.tc : Thread Cert.AdamWideRefIdeal.nD Cert.AdamWideRefIdeal.τ).loc Cert.AdamWideRefIdeal.main_arg0)
          ∧ r.2.mem ((c.tc : Thread Cert.AdamWideRefIdeal.nD Cert.AdamWideRefIdeal.τ).loc Cert.AdamWideRefIdeal.main_arg1) = m' ((c.tc : Thread Cert.AdamWideRefIdeal.nD Cert.AdamWideRefIdeal.τ).loc Cert.AdamWideRefIdeal.main_arg1)
          ∧ r.2.mem ((c.tc : Thread Cert.AdamWideRefIdeal.nD Cert.AdamWideRefIdeal.τ).loc Cert.AdamWideRefIdeal.main_arg2) = m' ((c.tc : Thread Cert.AdamWideRefIdeal.nD Cert.AdamWideRefIdeal.τ).loc Cert.AdamWideRefIdeal.main_arg2)
          ∧ r.2.mem ((c.tc : Thread Cert.AdamWideRefIdeal.nD Cert.AdamWideRefIdeal.τ).loc Cert.AdamWideRefIdeal.main_arg3) = m' ((c.tc : Thread Cert.AdamWideRefIdeal.nD Cert.AdamWideRefIdeal.τ).loc Cert.AdamWideRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v51) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v6)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v6) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v37) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def preserves_BiasReduce_BiasReduceIdeal : Prop :=
  True

def algebraic_BiasReduceIdeal_BiasReduceRefIdeal_pre_bias_reduce_finite [hBiasReduceIdeal : Cert.BiasReduceIdeal.Facts] [hBiasReduceRefIdeal : Cert.BiasReduceRefIdeal.Facts] [hPre_bias_reduce_finite : Cert.Pre_bias_reduce_finite.Facts] : Prop :=
  ∀ (m : (ℓ : Loc Cert.BiasReduceIdeal.nD Cert.BiasReduceIdeal.τ Cert.BiasReduceIdeal.sig) → Buf (Elt Ideal) ℓ) (g : Dev Cert.BiasReduceIdeal.nD → PrngReg)
    (m' : (ℓ : Loc Cert.BiasReduceRefIdeal.nD Cert.BiasReduceRefIdeal.τ Cert.BiasReduceRefIdeal.sig) → Buf (Elt Ideal) ℓ) (g' : Dev Cert.BiasReduceRefIdeal.nD → PrngReg), Pre_BiasReduceIdeal_bias_reduce_finite m →
    (∀ c : Dev Cert.BiasReduceIdeal.nD,
      m' ((c.tc : Thread Cert.BiasReduceRefIdeal.nD Cert.BiasReduceRefIdeal.τ).loc Cert.BiasReduceRefIdeal.main_arg0) = m ((c.tc : Thread Cert.BiasReduceIdeal.nD Cert.BiasReduceIdeal.τ).loc Cert.BiasReduceIdeal.main_arg0)
      ∧ m' ((c.tc : Thread Cert.BiasReduceRefIdeal.nD Cert.BiasReduceRefIdeal.τ).loc Cert.BiasReduceRefIdeal.main_arg1) = m ((c.tc : Thread Cert.BiasReduceIdeal.nD Cert.BiasReduceIdeal.τ).loc Cert.BiasReduceIdeal.main_arg1)) →
    ∃ (v0 : (c : Dev Cert.BiasReduceIdeal.nD) → Buf (Elt Ideal) ((c.tc : Thread Cert.BiasReduceIdeal.nD Cert.BiasReduceIdeal.τ).loc Cert.BiasReduceIdeal.main_v0)),
      θ_run (Cert.BiasReduceIdeal.defs (F := Ideal)) (onTc (τ := Cert.BiasReduceIdeal.τ) (Cert.BiasReduceIdeal.main (F := Ideal))) ⟨m, fun _ => 0, g⟩ (fun r => ∀ c : Dev Cert.BiasReduceIdeal.nD,
          r.2.mem ((c.tc : Thread Cert.BiasReduceIdeal.nD Cert.BiasReduceIdeal.τ).loc Cert.BiasReduceIdeal.main_v0) = v0 c
          ∧ r.2.mem ((c.tc : Thread Cert.BiasReduceIdeal.nD Cert.BiasReduceIdeal.τ).loc Cert.BiasReduceIdeal.main_arg0) = m ((c.tc : Thread Cert.BiasReduceIdeal.nD Cert.BiasReduceIdeal.τ).loc Cert.BiasReduceIdeal.main_arg0)
          ∧ r.2.mem ((c.tc : Thread Cert.BiasReduceIdeal.nD Cert.BiasReduceIdeal.τ).loc Cert.BiasReduceIdeal.main_arg1) = m ((c.tc : Thread Cert.BiasReduceIdeal.nD Cert.BiasReduceIdeal.τ).loc Cert.BiasReduceIdeal.main_arg1))
      ∧ θ_run (Cert.BiasReduceRefIdeal.defs (F := Ideal)) (onTc (τ := Cert.BiasReduceRefIdeal.τ) (Cert.BiasReduceRefIdeal.main (F := Ideal))) ⟨m', fun _ => 0, g'⟩ (fun r => ∀ c : Dev Cert.BiasReduceRefIdeal.nD,
          r.2.mem ((c.tc : Thread Cert.BiasReduceRefIdeal.nD Cert.BiasReduceRefIdeal.τ).loc Cert.BiasReduceRefIdeal.main_v29) = v0 c
          ∧ r.2.mem ((c.tc : Thread Cert.BiasReduceRefIdeal.nD Cert.BiasReduceRefIdeal.τ).loc Cert.BiasReduceRefIdeal.main_arg0) = m' ((c.tc : Thread Cert.BiasReduceRefIdeal.nD Cert.BiasReduceRefIdeal.τ).loc Cert.BiasReduceRefIdeal.main_arg0)
          ∧ r.2.mem ((c.tc : Thread Cert.BiasReduceRefIdeal.nD Cert.BiasReduceRefIdeal.τ).loc Cert.BiasReduceRefIdeal.main_arg1) = m' ((c.tc : Thread Cert.BiasReduceRefIdeal.nD Cert.BiasReduceRefIdeal.τ).loc Cert.BiasReduceRefIdeal.main_arg1))

def Claim : Prop :=
  ∃ (hGate : Cert.Gate.Facts) (hGateIdeal : Cert.GateIdeal.Facts) (hGateRefIdeal : Cert.GateRefIdeal.Facts) (hInDw : Cert.InDw.Facts) (hInDwIdeal : Cert.InDwIdeal.Facts) (hInDwRefIdeal : Cert.InDwRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hInDx : Cert.InDx.Facts) (hInDxIdeal : Cert.InDxIdeal.Facts) (hInDxRefIdeal : Cert.InDxRefIdeal.Facts) (hOutDw : Cert.OutDw.Facts) (hOutDwIdeal : Cert.OutDwIdeal.Facts) (hOutDwRefIdeal : Cert.OutDwRefIdeal.Facts) (hQDw : Cert.QDw.Facts) (hQDwIdeal : Cert.QDwIdeal.Facts) (hQDwRefIdeal : Cert.QDwRefIdeal.Facts) (hKvDw : Cert.KvDw.Facts) (hKvDwIdeal : Cert.KvDwIdeal.Facts) (hKvDwRefIdeal : Cert.KvDwRefIdeal.Facts) (hMixerDw : Cert.MixerDw.Facts) (hMixerDwIdeal : Cert.MixerDwIdeal.Facts) (hMixerDwRefIdeal : Cert.MixerDwRefIdeal.Facts) (hOutDx : Cert.OutDx.Facts) (hOutDxIdeal : Cert.OutDxIdeal.Facts) (hOutDxRefIdeal : Cert.OutDxRefIdeal.Facts) (hDown : Cert.Down.Facts) (hDownIdeal : Cert.DownIdeal.Facts) (hDownRefIdeal : Cert.DownRefIdeal.Facts) (hAttnOut : Cert.AttnOut.Facts) (hAttnOutIdeal : Cert.AttnOutIdeal.Facts) (hAttnOutRefIdeal : Cert.AttnOutRefIdeal.Facts) (hMixerDx : Cert.MixerDx.Facts) (hMixerDxIdeal : Cert.MixerDxIdeal.Facts) (hMixerDxRefIdeal : Cert.MixerDxRefIdeal.Facts) (hQkvDx : Cert.QkvDx.Facts) (hQkvDxIdeal : Cert.QkvDxIdeal.Facts) (hQkvDxRefIdeal : Cert.QkvDxRefIdeal.Facts) (hQkv : Cert.Qkv.Facts) (hQkvIdeal : Cert.QkvIdeal.Facts) (hQkvRefIdeal : Cert.QkvRefIdeal.Facts) (hMixerA : Cert.MixerA.Facts) (hMixerAIdeal : Cert.MixerAIdeal.Facts) (hMixerARefIdeal : Cert.MixerARefIdeal.Facts) (hAdamWide : Cert.AdamWide.Facts) (hAdamWideIdeal : Cert.AdamWideIdeal.Facts) (hAdamWideRefIdeal : Cert.AdamWideRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hAttn : Cert.Attn.Facts) (hAttnIdeal : Cert.AttnIdeal.Facts) (hAttnRefIdeal : Cert.AttnRefIdeal.Facts) (hBias : Cert.Bias.Facts) (hBiasIdeal : Cert.BiasIdeal.Facts) (hBiasRefIdeal : Cert.BiasRefIdeal.Facts) (hBiasReduce : Cert.BiasReduce.Facts) (hBiasReduceIdeal : Cert.BiasReduceIdeal.Facts) (hBiasReduceRefIdeal : Cert.BiasReduceRefIdeal.Facts) (hPre_gate_finite : Cert.Pre_gate_finite.Facts) (hPre_in_dx_finite : Cert.Pre_in_dx_finite.Facts) (hPre_mixer_dx_finite : Cert.Pre_mixer_dx_finite.Facts) (hPre_qkv_dx_finite : Cert.Pre_qkv_dx_finite.Facts) (hPre_attn_finite : Cert.Pre_attn_finite.Facts) (hPre_bias_reduce_finite : Cert.Pre_bias_reduce_finite.Facts),
    quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_InDw (hInDw := hInDw)
    ∧ quiescent_InDwIdeal (hInDwIdeal := hInDwIdeal)
    ∧ quiescent_InDwRefIdeal (hInDwRefIdeal := hInDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_InDx (hInDx := hInDx)
    ∧ quiescent_InDxIdeal (hInDxIdeal := hInDxIdeal)
    ∧ quiescent_InDxIdeal_pre_in_dx_finite (hInDxIdeal := hInDxIdeal) (hPre_in_dx_finite := hPre_in_dx_finite)
    ∧ quiescent_InDxRefIdeal (hInDxRefIdeal := hInDxRefIdeal)
    ∧ quiescent_InDxRefIdeal_pre_in_dx_finite (hInDxRefIdeal := hInDxRefIdeal) (hPre_in_dx_finite := hPre_in_dx_finite)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_QDw (hQDw := hQDw)
    ∧ quiescent_QDwIdeal (hQDwIdeal := hQDwIdeal)
    ∧ quiescent_QDwRefIdeal (hQDwRefIdeal := hQDwRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_MixerDw (hMixerDw := hMixerDw)
    ∧ quiescent_MixerDwIdeal (hMixerDwIdeal := hMixerDwIdeal)
    ∧ quiescent_MixerDwRefIdeal (hMixerDwRefIdeal := hMixerDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_Down (hDown := hDown)
    ∧ quiescent_DownIdeal (hDownIdeal := hDownIdeal)
    ∧ quiescent_DownRefIdeal (hDownRefIdeal := hDownRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_MixerDx (hMixerDx := hMixerDx)
    ∧ quiescent_MixerDxIdeal (hMixerDxIdeal := hMixerDxIdeal)
    ∧ quiescent_MixerDxIdeal_pre_mixer_dx_finite (hMixerDxIdeal := hMixerDxIdeal) (hPre_mixer_dx_finite := hPre_mixer_dx_finite)
    ∧ quiescent_MixerDxRefIdeal (hMixerDxRefIdeal := hMixerDxRefIdeal)
    ∧ quiescent_MixerDxRefIdeal_pre_mixer_dx_finite (hMixerDxRefIdeal := hMixerDxRefIdeal) (hPre_mixer_dx_finite := hPre_mixer_dx_finite)
    ∧ quiescent_QkvDx (hQkvDx := hQkvDx)
    ∧ quiescent_QkvDxIdeal (hQkvDxIdeal := hQkvDxIdeal)
    ∧ quiescent_QkvDxIdeal_pre_qkv_dx_finite (hQkvDxIdeal := hQkvDxIdeal) (hPre_qkv_dx_finite := hPre_qkv_dx_finite)
    ∧ quiescent_QkvDxRefIdeal (hQkvDxRefIdeal := hQkvDxRefIdeal)
    ∧ quiescent_QkvDxRefIdeal_pre_qkv_dx_finite (hQkvDxRefIdeal := hQkvDxRefIdeal) (hPre_qkv_dx_finite := hPre_qkv_dx_finite)
    ∧ quiescent_Qkv (hQkv := hQkv)
    ∧ quiescent_QkvIdeal (hQkvIdeal := hQkvIdeal)
    ∧ quiescent_QkvRefIdeal (hQkvRefIdeal := hQkvRefIdeal)
    ∧ quiescent_MixerA (hMixerA := hMixerA)
    ∧ quiescent_MixerAIdeal (hMixerAIdeal := hMixerAIdeal)
    ∧ quiescent_MixerARefIdeal (hMixerARefIdeal := hMixerARefIdeal)
    ∧ quiescent_AdamWide (hAdamWide := hAdamWide)
    ∧ quiescent_AdamWideIdeal (hAdamWideIdeal := hAdamWideIdeal)
    ∧ quiescent_AdamWideRefIdeal (hAdamWideRefIdeal := hAdamWideRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Bias (hBias := hBias)
    ∧ quiescent_BiasIdeal (hBiasIdeal := hBiasIdeal)
    ∧ quiescent_BiasRefIdeal (hBiasRefIdeal := hBiasRefIdeal)
    ∧ quiescent_BiasReduce (hBiasReduce := hBiasReduce)
    ∧ quiescent_BiasReduceIdeal (hBiasReduceIdeal := hBiasReduceIdeal)
    ∧ quiescent_BiasReduceIdeal_pre_bias_reduce_finite (hBiasReduceIdeal := hBiasReduceIdeal) (hPre_bias_reduce_finite := hPre_bias_reduce_finite)
    ∧ quiescent_BiasReduceRefIdeal (hBiasReduceRefIdeal := hBiasReduceRefIdeal)
    ∧ quiescent_BiasReduceRefIdeal_pre_bias_reduce_finite (hBiasReduceRefIdeal := hBiasReduceRefIdeal) (hPre_bias_reduce_finite := hPre_bias_reduce_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_InDw_InDwIdeal
    ∧ algebraic_InDwIdeal_InDwRefIdeal (hInDwIdeal := hInDwIdeal) (hInDwRefIdeal := hInDwRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_InDx_InDxIdeal
    ∧ algebraic_InDxIdeal_InDxRefIdeal_pre_in_dx_finite (hInDxIdeal := hInDxIdeal) (hInDxRefIdeal := hInDxRefIdeal) (hPre_in_dx_finite := hPre_in_dx_finite)
    ∧ preserves_OutDw_OutDwIdeal
    ∧ algebraic_OutDwIdeal_OutDwRefIdeal (hOutDwIdeal := hOutDwIdeal) (hOutDwRefIdeal := hOutDwRefIdeal)
    ∧ preserves_QDw_QDwIdeal
    ∧ algebraic_QDwIdeal_QDwRefIdeal (hQDwIdeal := hQDwIdeal) (hQDwRefIdeal := hQDwRefIdeal)
    ∧ preserves_KvDw_KvDwIdeal
    ∧ algebraic_KvDwIdeal_KvDwRefIdeal (hKvDwIdeal := hKvDwIdeal) (hKvDwRefIdeal := hKvDwRefIdeal)
    ∧ preserves_MixerDw_MixerDwIdeal
    ∧ algebraic_MixerDwIdeal_MixerDwRefIdeal (hMixerDwIdeal := hMixerDwIdeal) (hMixerDwRefIdeal := hMixerDwRefIdeal)
    ∧ preserves_OutDx_OutDxIdeal
    ∧ algebraic_OutDxIdeal_OutDxRefIdeal (hOutDxIdeal := hOutDxIdeal) (hOutDxRefIdeal := hOutDxRefIdeal)
    ∧ preserves_Down_DownIdeal
    ∧ algebraic_DownIdeal_DownRefIdeal (hDownIdeal := hDownIdeal) (hDownRefIdeal := hDownRefIdeal)
    ∧ preserves_AttnOut_AttnOutIdeal
    ∧ algebraic_AttnOutIdeal_AttnOutRefIdeal (hAttnOutIdeal := hAttnOutIdeal) (hAttnOutRefIdeal := hAttnOutRefIdeal)
    ∧ preserves_MixerDx_MixerDxIdeal
    ∧ algebraic_MixerDxIdeal_MixerDxRefIdeal_pre_mixer_dx_finite (hMixerDxIdeal := hMixerDxIdeal) (hMixerDxRefIdeal := hMixerDxRefIdeal) (hPre_mixer_dx_finite := hPre_mixer_dx_finite)
    ∧ preserves_QkvDx_QkvDxIdeal
    ∧ algebraic_QkvDxIdeal_QkvDxRefIdeal_pre_qkv_dx_finite (hQkvDxIdeal := hQkvDxIdeal) (hQkvDxRefIdeal := hQkvDxRefIdeal) (hPre_qkv_dx_finite := hPre_qkv_dx_finite)
    ∧ preserves_Qkv_QkvIdeal
    ∧ algebraic_QkvIdeal_QkvRefIdeal (hQkvIdeal := hQkvIdeal) (hQkvRefIdeal := hQkvRefIdeal)
    ∧ preserves_MixerA_MixerAIdeal
    ∧ algebraic_MixerAIdeal_MixerARefIdeal (hMixerAIdeal := hMixerAIdeal) (hMixerARefIdeal := hMixerARefIdeal)
    ∧ preserves_AdamWide_AdamWideIdeal
    ∧ algebraic_AdamWideIdeal_AdamWideRefIdeal (hAdamWideIdeal := hAdamWideIdeal) (hAdamWideRefIdeal := hAdamWideRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Bias_BiasIdeal
    ∧ algebraic_BiasIdeal_BiasRefIdeal (hBiasIdeal := hBiasIdeal) (hBiasRefIdeal := hBiasRefIdeal)
    ∧ preserves_BiasReduce_BiasReduceIdeal
    ∧ algebraic_BiasReduceIdeal_BiasReduceRefIdeal_pre_bias_reduce_finite (hBiasReduceIdeal := hBiasReduceIdeal) (hBiasReduceRefIdeal := hBiasReduceRefIdeal) (hPre_bias_reduce_finite := hPre_bias_reduce_finite)
-- ==== Pre_attn_finite.lean ====
abbrev S2x2048x1024 : Shape := ⟨3, ![2, 2048, 1024]⟩
abbrev S2x2x2048x1024 : Shape := ⟨4, ![2, 2, 2048, 1024]⟩
abbrev S16x256x768 : Shape := ⟨3, ![16, 256, 768]⟩
abbrev S_ : Shape := ⟨0, ![]⟩

class Facts : Prop where
  bitsLt_bf16_f32 : FTy.bits .bf16 < FTy.bits .f32
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2x2048x1024 : S_.BroadcastsInDim S2x2x2048x1024 (![] : Fin 0 → Fin S2x2x2048x1024.rank)
  reducesTo_S2x2x2048x1024_S_d0_1_2_3 : S2x2x2048x1024.ReducesTo [0, 1, 2, 3] S_
  bcast_S_S16x256x768 : S_.BroadcastsInDim S16x256x768 (![] : Fin 0 → Fin S16x256x768.rank)
  reducesTo_S16x256x768_S_d0_1_2 : S16x256x768.ReducesTo [0, 1, 2] S_

variable [Facts]

def fn {F : FTy → Type} [FloatOps F] (main_arg0 : FVec F S2x2048x1024 .bf16) (main_arg1 : FVec F S2x2x2048x1024 .bf16) (main_arg2 : FVec F S16x256x768 .f32) : IVec S_ 1 :=
  let main_v0 : FVec F S2x2048x1024 .f32 := (extf .f32 · bitsLt_bf16_f32) main_arg0
  let main_v1 : FVec F S2x2048x1024 .f32 := Host.absf main_v0
  let main_cst : FVec F S_ .f32 := constant S_ .f32 0x7F800000#32
  let main_v2 : FVec F S2x2048x1024 .f32 := broadcastInDim S2x2048x1024 ![] bcast_S_S2x2048x1024 main_cst
  let main_v3 : IVec S2x2048x1024 1 := cmpf .olt main_v1 main_v2
  let main_c : IVec S_ 1 := constantI S_ 1 1#1
  let main_v4 : IVec S_ 1 := (fun x v => Host.reduce IntOp.andi x v reducesTo_S2x2048x1024_S_d0_1_2 h_S_) main_v3 main_c
  let main_v5 : FVec F S2x2x2048x1024 .f32 := (extf .f32 · bitsLt_bf16_f32) main_arg1
  let main_v6 : FVec F S2x2x2048x1024 .f32 := Host.absf main_v5
  let main_cst_0 : FVec F S_ .f32 := constant S_ .f32 0x7F800000#32
  let main_v7 : FVec F S2x2x2048x1024 .f32 := broadcastInDim S2x2x2048x1024 ![] bcast_S_S2x2x2048x1024 main_cst_0
  let main_v8 : IVec S2x2x2048x1024 1 := cmpf .olt main_v6 main_v7
  let main_c_1 : IVec S_ 1 := constantI S_ 1 1#1
  let main_v9 : IVec S_ 1 := (fun x v => Host.reduce IntOp.andi x v reducesTo_S2x2x2048x1024_S_d0_1_2_3 h_S_) main_v8 main_c_1
  let main_v10 : IVec S_ 1 := andi main_v4 main_v9
  let main_v11 : FVec F S16x256x768 .f32 := Host.absf main_arg2
  let main_cst_2 : FVec F S_ .f32 := constant S_ .f32 0x7F800000#32
  let main_v12 : FVec F S16x256x768 .f32 := broadcastInDim S16x256x768 ![] bcast_S_S16x256x768 main_cst_2
  let main_v13 : IVec S16x256x768 1 := cmpf .olt main_v11 main_v12
  let main_c_3 : IVec S_ 1 := constantI S_ 1 1#1
  let main_v14 : IVec S_ 1 := (fun x v => Host.reduce IntOp.andi x v reducesTo_S16x256x768_S_d0_1_2 h_S_) main_v13 main_c_3
  let main_v15 : IVec S_ 1 := andi main_v10 main_v14
  main_v15
-- ==== Pre_bias_reduce_finite.lean ====
abbrev S16x256x768 : Shape := ⟨3, ![16, 256, 768]⟩
abbrev S1024x257 : Shape := ⟨2, ![1024, 257]⟩
abbrev S_ : Shape := ⟨0, ![]⟩

class Facts : Prop where
  bcast_S_S16x256x768 : S_.BroadcastsInDim S16x256x768 (![] : Fin 0 → Fin S16x256x768.rank)
  reducesTo_S16x256x768_S_d0_1_2 : S16x256x768.ReducesTo [0, 1, 2] S_
  h_S_ : 0 < S_.numel

variable [Facts]

def fn {F : FTy → Type} [FloatOps F] (main_arg0 : FVec F S16x256x768 .f32) (main_arg1 : FVec F S1024x257 .bf16) : IVec S_ 1 :=
  let main_v0 : FVec F S16x256x768 .f32 := Host.absf main_arg0
  let main_cst : FVec F S_ .f32 := constant S_ .f32 0x7F800000#32
  let main_v1 : FVec F S16x256x768 .f32 := broadcastInDim S16x256x768 ![] bcast_S_S16x256x768 main_cst
  let main_v2 : IVec S16x256x768 1 := cmpf .olt main_v0 main_v1
  let main_c : IVec S_ 1 := constantI S_ 1 1#1
  let main_v3 : IVec S_ 1 := (fun x v => Host.reduce IntOp.andi x v reducesTo_S16x256x768_S_d0_1_2 h_S_) main_v2 main_c
  main_v3
-- ==== Pre_gate_finite.lean ====
abbrev S4096x2048 : Shape := ⟨2, ![4096, 2048]⟩
abbrev S4096x1024 : Shape := ⟨2, ![4096, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128 .f32) (main_v15 : IVec S_ 1) (main_v16 : FVec F S8x128x128 .f32) (main_cst_4 : FVec F S_ .f32) : IVec S_ 1 :=
  let main_v17 : FVec F S8x128x128 .f32 := broadcastInDim S8x128x128 ![] bcast_S_S8x128x128 main_cst_4
  let main_v18 : IVec S8x128x128 1 := cmpf .olt main_v16 main_v17
  let main_c_5 : IVec S_ 1 := constantI S_ 1 1#1
  let main_v19 : IVec S_ 1 := (fun x v => Host.reduce IntOp.andi x v reducesTo_S8x128x128_S_d0_1_2 h_S_) main_v18 main_c_5
  let main_v20 : IVec S_ 1 := andi main_v15 main_v19
  let main_v21 : FVec F S8x128 .f32 := Host.absf main_arg4
  let main_cst_6 : FVec F S_ .f32 := constant S_ .f32 0x7F800000#32
  let main_v22 : FVec F S8x128 .f32 := broadcastInDim S8x128 ![] bcast_S_S8x128 main_cst_6
  let main_v23 : IVec S8x128 1 := cmpf .olt main_v21 main_v22
  let main_c_7 : IVec S_ 1 := constantI S_ 1 1#1
  let main_v24 : IVec S_ 1 := (fun x v => Host.reduce IntOp.andi x v reducesTo_S8x128_S_d0_1 h_S_) main_v23 main_c_7
  let main_v25 : IVec S_ 1 := andi main_v20 main_v24
  main_v25

def fn {F : FTy → Type} [FloatOps F] (main_arg0 : FVec F S4096x2048 .bf16) (main_arg1 : FVec F S4096x1024 .bf16) (main_arg2 : FVec F S1x1024 .f32) (main_arg3 : FVec F S8x128x128 .f32) (main_arg4 : FVec F S8x128 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S1x1024 .f32 := Host.absf main_arg2
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_c_3 : IVec S_ 1 := constantI S_ 1 1#1
  let main_v14 : IVec S_ 1 := (fun x v => Host.reduce IntOp.andi x v reducesTo_S1x1024_S_d0_1 h_S_) main_v13 main_c_3
  let main_v15 : IVec S_ 1 := andi main_v10 main_v14
  let main_v16 : FVec F S8x128x128 .f32 := Host.absf main_arg3
  let main_cst_4 : FVec F S_ .f32 := constant S_ .f32 0x7F800000#32
  fn_part1 (F := F) main_arg4 main_v15 main_v16 main_cst_4
-- ==== Pre_in_dx_finite.lean ====
abbrev S2x4096x2816 : Shape := ⟨3, ![2, 4096, 2816]⟩
abbrev S1x1024x5632 : Shape := ⟨3, ![1, 1024, 5632]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S2x4096x2816 .bf16) (main_arg1 : FVec F S1x1024x5632 .bf16) (main_arg2 : FVec F S4096x1024 .f32) (main_arg3 : FVec F S1024 .f32) (main_arg4 : FVec F S4096x1024 .f32) : IVec S_ 1 :=
  let main_v0 : FVec F S2x4096x2816 .f32 := (extf .f32 · bitsLt_bf16_f32) main_arg0
  let main_v1 : FVec F S2x4096x2816 .f32 := Host.absf main_v0
  let main_cst : FVec F S_ .f32 := constant S_ .f32 0x7F800000#32
  let main_v2 : FVec F S2x4096x2816 .f32 := broadcastInDim S2x4096x2816 ![] bcast_S_S2x4096x2816 main_cst
  let main_v3 : IVec S2x4096x2816 1 := cmpf .olt main_v1 main_v2
  let main_c : IVec S_ 1 := constantI S_ 1 1#1
  let main_v4 : IVec S_ 1 := (fun x v => Host.reduce IntOp.andi x v reducesTo_S2x4096x2816_S_d0_1_2 h_S_) main_v3 main_c
  let main_v5 : FVec F S1x1024x5632 .f32 := (extf .f32 · bitsLt_bf16_f32) main_arg1
  let main_v6 : FVec F S1x1024x5632 .f32 := Host.absf main_v5
  let main_cst_0 : FVec F S_ .f32 := constant S_ .f32 0x7F800000#32
  let main_v7 : FVec F S1x1024x5632 .f32 := broadcastInDim S1x1024x5632 ![] bcast_S_S1x1024x5632 main_cst_0
  let main_v8 : IVec S1x1024x5632 1 := cmpf .olt main_v6 main_v7
  let main_c_1 : IVec S_ 1 := constantI S_ 1 1#1
  let main_v9 : IVec S_ 1 := (fun x v => Host.reduce IntOp.andi x v reducesTo_S1x1024x5632_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_arg4 main_v15 main_v16 main_cst_4
-- ==== Pre_mixer_dx_finite.lean ====
abbrev S4096x2048 : Shape := ⟨2, ![4096, 2048]⟩
abbrev S1x1024x2048 : Shape := ⟨3, ![1, 1024, 2048]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  main_v25

def fn {F : FTy → Type} [FloatOps F] (main_arg0 : FVec F S4096x2048 .bf16) (main_arg1 : FVec F S1x1024x2048 .bf16) (main_arg2 : FVec F S4096x1024 .f32) (main_arg3 : FVec F S1024 .f32) (main_arg4 : FVec F S4096x1024 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S1x1024x2048 .f32 := (extf .f32 · bitsLt_bf16_f32) main_arg1
  let main_v6 : FVec F S1x1024x2048 .f32 := Host.absf main_v5
  let main_cst_0 : FVec F S_ .f32 := constant S_ .f32 0x7F800000#32
  let main_v7 : FVec F S1x1024x2048 .f32 := broadcastInDim S1x1024x2048 ![] bcast_S_S1x1024x2048 main_cst_0
  let main_v8 : IVec S1x1024x2048 1 := cmpf .olt main_v6 main_v7
  let main_c_1 : IVec S_ 1 := constantI S_ 1 1#1
  let main_v9 : IVec S_ 1 := (fun x v => Host.reduce IntOp.andi x v reducesTo_S1x1024x2048_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_arg4 main_v15 main_v16 main_cst_4
-- ==== Pre_qkv_dx_finite.lean ====
abbrev S4096x1024 : Shape := ⟨2, ![4096, 1024]⟩
abbrev S1x1024x1024 : Shape := ⟨3, ![1, 1024, 1024]⟩
abbrev S1024 : Shape := ⟨1, ![1024]⟩
abbrev S2x4096x1024 : Shape := ⟨3, ![2, 4096, 1024]⟩
abbrev S1x1024x2048 : Shape := ⟨3, ![1, 1024, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1024 : S_.BroadcastsInDim S1024 (![] : Fin 0 → Fin S1024.rank)
  reducesTo_S1024_S_d0 : S1024.ReducesTo [0] S_
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn_part2 {F : FTy → Type} [FloatOps F] (main_arg7 : FVec F S4096x1024 .f32) (main_v32 : IVec S_ 1) (main_v33 : FVec F S4096x1024 .f32) (main_v34 : FVec F S4096x1024 .f32) : IVec S_ 1 :=
  let main_v35 : IVec S4096x1024 1 := cmpf .olt main_v33 main_v34
  let main_c_11 : IVec S_ 1 := constantI S_ 1 1#1
  let main_v36 : IVec S_ 1 := (fun x v => Host.reduce IntOp.andi x v reducesTo_S4096x1024_S_d0_1 h_S_) main_v35 main_c_11
  let main_v37 : IVec S_ 1 := andi main_v32 main_v36
  let main_v38 : FVec F S4096x1024 .f32 := Host.absf main_arg7
  let main_cst_12 : FVec F S_ .f32 := constant S_ .f32 0x7F800000#32
  let main_v39 : FVec F S4096x1024 .f32 := broadcastInDim S4096x1024 ![] bcast_S_S4096x1024 main_cst_12
  let main_v40 : IVec S4096x1024 1 := cmpf .olt main_v38 main_v39
  let main_c_13 : IVec S_ 1 := constantI S_ 1 1#1
  let main_v41 : IVec S_ 1 := (fun x v => Host.reduce IntOp.andi x v reducesTo_S4096x1024_S_d0_1 h_S_) main_v40 main_c_13
  let main_v42 : IVec S_ 1 := andi main_v37 main_v41
  main_v42

def fn_part1 {F : FTy → Type} [FloatOps F] (main_arg4 : FVec F S1x1024x2048 .bf16) (main_arg5 : FVec F S1024 .f32) (main_arg6 : FVec F S4096x1024 .f32) (main_arg7 : FVec F S4096x1024 .f32) (main_v15 : IVec S_ 1) (main_v17 : FVec F S2x4096x1024 .f32) : IVec S_ 1 :=
  let main_cst_4 : FVec F S_ .f32 := constant S_ .f32 0x7F800000#32
  let main_v18 : FVec F S2x4096x1024 .f32 := broadcastInDim S2x4096x1024 ![] bcast_S_S2x4096x1024 main_cst_4
  let main_v19 : IVec S2x4096x1024 1 := cmpf .olt main_v17 main_v18
  let main_c_5 : IVec S_ 1 := constantI S_ 1 1#1
  let main_v20 : IVec S_ 1 := (fun x v => Host.reduce IntOp.andi x v reducesTo_S2x4096x1024_S_d0_1_2 h_S_) main_v19 main_c_5
  let main_v21 : IVec S_ 1 := andi main_v15 main_v20
  let main_v22 : FVec F S1x1024x2048 .f32 := (extf .f32 · bitsLt_bf16_f32) main_arg4
  let main_v23 : FVec F S1x1024x2048 .f32 := Host.absf main_v22
  let main_cst_6 : FVec F S_ .f32 := constant S_ .f32 0x7F800000#32
  let main_v24 : FVec F S1x1024x2048 .f32 := broadcastInDim S1x1024x2048 ![] bcast_S_S1x1024x2048 main_cst_6
  let main_v25 : IVec S1x1024x2048 1 := cmpf .olt main_v23 main_v24
  let main_c_7 : IVec S_ 1 := constantI S_ 1 1#1
  let main_v26 : IVec S_ 1 := (fun x v => Host.reduce IntOp.andi x v reducesTo_S1x1024x2048_S_d0_1_2 h_S_) main_v25 main_c_7
  let main_v27 : IVec S_ 1 := andi main_v21 main_v26
  let main_v28 : FVec F S1024 .f32 := Host.absf main_arg5
  let main_cst_8 : FVec F S_ .f32 := constant S_ .f32 0x7F800000#32
  let main_v29 : FVec F S1024 .f32 := broadcastInDim S1024 ![] bcast_S_S1024 main_cst_8
  let main_v30 : IVec S1024 1 := cmpf .olt main_v28 main_v29
  let main_c_9 : IVec S_ 1 := constantI S_ 1 1#1
  let main_v31 : IVec S_ 1 := (fun x v => Host.reduce IntOp.andi x v reducesTo_S1024_S_d0 h_S_) main_v30 main_c_9
  let main_v32 : IVec S_ 1 := andi main_v27 main_v31
  let main_v33 : FVec F S4096x1024 .f32 := Host.absf main_arg6
  let main_cst_10 : FVec F S_ .f32 := constant S_ .f32 0x7F800000#32
  let main_v34 : FVec F S4096x1024 .f32 := broadcastInDim S4096x1024 ![] bcast_S_S4096x1024 main_cst_10
  fn_part2 (F := F) main_arg7 main_v32 main_v33 main_v34

def fn {F : FTy → Type} [FloatOps F] (main_arg0 : FVec F S4096x1024 .bf16) (main_arg1 : FVec F S1x1024x1024 .bf16) (main_arg2 : FVec F S1024 .f32) (main_arg3 : FVec F S2x4096x1024 .bf16) (main_arg4 : FVec F S1x1024x2048 .bf16) (main_arg5 : FVec F S1024 .f32) (main_arg6 : FVec F S4096x1024 .f32) (main_arg7 : FVec F S4096x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1x1024x1024 .f32 := (extf .f32 · bitsLt_bf16_f32) main_arg1
  let main_v6 : FVec F S1x1024x1024 .f32 := Host.absf main_v5
  let main_cst_0 : FVec F S_ .f32 := constant S_ .f32 0x7F800000#32
  let main_v7 : FVec F S1x1024x1024 .f32 := broadcastInDim S1x1024x1024 ![] bcast_S_S1x1024x1024 main_cst_0
  let main_v8 : IVec S1x1024x1024 1 := cmpf .olt main_v6 main_v7
  let main_c_1 : IVec S_ 1 := constantI S_ 1 1#1
  let main_v9 : IVec S_ 1 := (fun x v => Host.reduce IntOp.andi x v reducesTo_S1x1024x1024_S_d0_1_2 h_S_) main_v8 main_c_1
  let main_v10 : IVec S_ 1 := andi main_v4 main_v9
  let main_v11 : FVec F S1024 .f32 := Host.absf main_arg2
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v10 main_v14
  let main_v16 : FVec F S2x4096x1024 .f32 := (extf .f32 · bitsLt_bf16_f32) main_arg3
  let main_v17 : FVec F S2x4096x1024 .f32 := Host.absf main_v16
  fn_part1 (F := F) main_arg4 main_arg5 main_arg6 main_arg7 main_v15 main_v17
-- ==== Gate.lean ====
abbrev S4096x2048 : Shape := ⟨2, ![4096, 2048]⟩
abbrev S4096x1024 : Shape := ⟨2, ![4096, 1024]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1024 : Shape := ⟨1, ![1024]⟩
abbrev S8x1024 : Shape := ⟨2, ![8, 1024]⟩

abbrev nBuf : Space → Nat
  | .hbm => 12
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S128x8x128, .f32⟩
  | .hbm, ⟨7, _⟩ => ⟨S128x1024, .f32⟩
  | .hbm, ⟨8, _⟩ => ⟨S4096x2048, .bf16⟩
  | .hbm, ⟨9, _⟩ => ⟨S8x128x128, .f32⟩
  | .hbm, ⟨10, _⟩ => ⟨S8x128, .f32⟩
  | .hbm, ⟨11, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S8x128x128, .f32⟩
  | .local _ .vmem, ⟨6, _⟩ => ⟨S128x1024, .f32⟩
  | .local _ .vmem, ⟨7, _⟩ => ⟨S256x2048, .bf16⟩
  | .local _ .vmem, ⟨8, _⟩ => ⟨S256x2048, .bf16⟩
  | .local _ .vmem, ⟨9, _⟩ => ⟨S8x128x128, .f32⟩
  | .local _ .vmem, ⟨10, _⟩ => ⟨S8x128, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S128x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v658 : BitVec 1 := Scalar.cmpi .eq arg0 c15_i32
  let v659 : BitVec 32 := Scalar.extui v658
  let c0_i32_334 : BitVec 32 := 0#32
  let v660 : BitVec 1 := Scalar.cmpi .ne v659 c0_i32_334
  v660

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GateIdeal.lean ====
variable {F : FTy → Type} [FloatOps F] [Named F]
def κ : String → Option EReal := fun
  | "gelu_cubic" => some ((8943 / 200000 : ℝ) : EReal)
  | "gelu_cubic3" => some ((26829 / 200000 : ℝ) : EReal)
  | _ => none
-- ==== GateRefIdeal.lean ====
abbrev S4096x2048 : Shape := ⟨2, ![4096, 2048]⟩
abbrev S4096x1024 : Shape := ⟨2, ![4096, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S32x128x8x128 : Shape := ⟨4, ![32, 128, 8, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S1024 : Shape := ⟨1, ![1024]⟩

abbrev nBuf : Space → Nat
  | .hbm => 155
  | .vmem => 0
  | .smem => 0
  | _ => 0

abbrev hbmTy0_0 (i : Nat) : BufTy := match i % 128 with
  | 0 => ⟨S4096x2048, .bf16⟩
  | 1 => ⟨S4096x1024, .bf16⟩
  | 2 => ⟨S1x1024, .f32⟩
  | 3 => ⟨S8x128x128, .f32⟩
  | 4 => ⟨S8x128, .f32⟩
  | 5 => ⟨S4096x2048, .f32⟩
  | 6 => ⟨S_, .f32⟩
  | 7 => ⟨S_, .f32⟩
  | 8 => ⟨S_, .f32⟩
  | 9 => ⟨S_, .f32⟩
  | 10 => ⟨S4096x2048, .f32⟩
  | 11 => ⟨S4096x2048, .f32⟩
  | 12 => ⟨S4096x2048, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S4096x2048, .f32⟩
  | 19 => ⟨S4096x2048, .f32⟩
  | 20 => ⟨S4096x2048, .f32⟩
  | 21 => ⟨S_, .f32⟩
  | 22 => ⟨S4096x2048, .f32⟩
  | 23 => ⟨S4096x2048, .f32⟩
  | 24 => ⟨S4096x2048, .f32⟩
  | 25 => ⟨S_, .f32⟩
  | 26 => ⟨S4096x2048, .f32⟩
  | 27 => ⟨S4096x2048, .f32⟩
  | 28 => ⟨S_, .f32⟩
  | 29 => ⟨S4096x2048, .f32⟩
  | 30 => ⟨S4096x2048, .f32⟩
  | 31 => ⟨S4096x2048, .f32⟩
  | 32 => ⟨S_, .f32⟩
  | 33 => ⟨S4096x2048, .f32⟩
  | 34 => ⟨S4096x2048, .f32⟩
  | 35 => ⟨S4096x2048, .f32⟩
  | 36 => ⟨S4096x1024, .f32⟩
  | 37 => ⟨S4096x1024, .f32⟩
  | 38 => ⟨S4096x1024, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1024, .f32⟩
  | 54 => ⟨S4096x1024, .f32⟩
  | 55 => ⟨S4096x1024, .f32⟩
  | 56 => ⟨S4096x1024, .f32⟩
  | 57 => ⟨S128, .i32⟩
  | 58 => ⟨S_, .i32⟩
  | 59 => ⟨S_, .i32⟩
  | 60 => ⟨S128, .i32⟩
  | 61 => ⟨S128, .i32⟩
  | 62 => ⟨S128, .i32⟩
  | 63 => ⟨S_, .i32⟩
  | 64 => ⟨S128, .i32⟩
  | 65 => ⟨S128, .i1⟩
  | 66 => ⟨S128, .i32⟩
  | 67 => ⟨S128, .i32⟩
  | 68 => ⟨S_, .i32⟩
  | 69 => ⟨S128, .i32⟩
  | 70 => ⟨S128, .i1⟩
  | 71 => ⟨S128, .i1⟩
  | 72 => ⟨S_, .i32⟩
  | 73 => ⟨S128, .i32⟩
  | 74 => ⟨S128, .i32⟩
  | 75 => ⟨S128, .i32⟩
  | 76 => ⟨S128x1, .i32⟩
  | 77 => ⟨S1x128, .i32⟩
  | 78 => ⟨S128x128, .i32⟩
  | 79 => ⟨S128x128, .i32⟩
  | 80 => ⟨S128x128, .i1⟩
  | 81 => ⟨S1x128x128, .i1⟩
  | 82 => ⟨S_, .i32⟩
  | 83 => ⟨S_, .f32⟩
  | 84 => ⟨S8x128x128, .i1⟩
  | 85 => ⟨S8x128x128, .f32⟩
  | 86 => ⟨S8x128x128, .f32⟩
  | 87 => ⟨S_, .f32⟩
  | 88 => ⟨S8x128x128, .f32⟩
  | 89 => ⟨S32x128x8x128, .f32⟩
  | 90 => ⟨S8x32x128x128, .f32⟩
  | 91 => ⟨S32x128x8x128, .f32⟩
  | 92 => ⟨S128x8, .f32⟩
  | 93 => ⟨S1x128x8x1, .f32⟩
  | 94 => ⟨S32x128x8x128, .f32⟩
  | 95 => ⟨S32x128x8x128, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S32x128x8x128, .f32⟩
  | 102 => ⟨S_, .f32⟩
  | 103 => ⟨S128x8, .f32⟩
  | 104 => ⟨S1x128x8x1, .f32⟩
  | 105 => ⟨S_, .f32⟩
  | 106 => ⟨S128x8, .f32⟩
  | 107 => ⟨S8x128, .f32⟩
  | 108 => ⟨S8x32x128x128, .f32⟩
  | 109 => ⟨S8x128x128, .f32⟩
  | 110 => ⟨S8x32x128x128, .f32⟩
  | 111 => ⟨S32x128x8x128, .f32⟩
  | 112 => ⟨S4096x1024, .f32⟩
  | 113 => ⟨S_, .f32⟩
  | 114 => ⟨S8x128x128, .f32⟩
  | 115 => ⟨S8x128x128, .f32⟩
  | 116 => ⟨S4096x1024, .f32⟩
  | 117 => ⟨S_, .f32⟩
  | 118 => ⟨S1024, .f32⟩
  | 119 => ⟨S1x1024, .f32⟩
  | 120 => ⟨S4096x1024, .f32⟩
  | 121 => ⟨S4096x1024, .f32⟩
  | 122 => ⟨S4096x1024, .f32⟩
  | 123 => ⟨S_, .f32⟩
  | 124 => ⟨S4096, .f32⟩
  | 125 => ⟨S4096x1, .f32⟩
  | 126 => ⟨S4096x1024, .f32⟩
  | 127 => ⟨S4096x1024, .f32⟩
  | _ => ⟨S4096x2048, .bf16⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x2048, .f32⟩
  | 12 => ⟨S4096x2048, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S4096x2048, .f32⟩
  | 19 => ⟨S4096x2048, .f32⟩
  | 20 => ⟨S4096x2048, .f32⟩
  | 21 => ⟨S4096x2048, .f32⟩
  | 22 => ⟨S_, .f32⟩
  | 23 => ⟨S4096x2048, .f32⟩
  | 24 => ⟨S4096x2048, .f32⟩
  | 25 => ⟨S4096x2048, .f32⟩
  | 26 => ⟨S4096x2048, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_c : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_0 : Ref sig .tc := ⟨.hbm, 72, rfl⟩
abbrev main_call0_v12 : Ref sig .tc := ⟨.hbm, 73, rfl⟩
abbrev main_call0_v13 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_11 : Ref sig .tc := ⟨.hbm, 82, rfl⟩
abbrev main_call1_v0 : Ref sig .tc := ⟨.hbm, 83, rfl⟩
abbrev main_v48_1 : Ref sig .tc := ⟨.hbm, 84, rfl⟩
abbrev main_call1_v2 : Ref sig .tc := ⟨.hbm, 85, rfl⟩
abbrev main_v48_0 : Ref sig .tc := ⟨.hbm, 86, rfl⟩
abbrev main_call1_cst : Ref sig .tc := ⟨.hbm, 87, rfl⟩
abbrev main_v48_2 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_12 : Ref sig .tc := ⟨.hbm, 102, rfl⟩
abbrev main_v62 : Ref sig .tc := ⟨.hbm, 103, rfl⟩
abbrev main_v63 : Ref sig .tc := ⟨.hbm, 104, rfl⟩
abbrev main_cst_13 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_call2_cst : Ref sig .tc := ⟨.hbm, 113, rfl⟩
abbrev main_call2_v0 : Ref sig .tc := ⟨.hbm, 114, rfl⟩
abbrev main_v71 : Ref sig .tc := ⟨.hbm, 115, rfl⟩
abbrev main_v72 : Ref sig .tc := ⟨.hbm, 116, rfl⟩
abbrev main_cst_14 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_15 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_16 : Ref sig .tc := ⟨.hbm, 129, rfl⟩
abbrev main_v83 : Ref sig .tc := ⟨.hbm, 130, rfl⟩
abbrev main_v84 : Ref sig .tc := ⟨.hbm, 131, rfl⟩
abbrev main_cst_17 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_18 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_19 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩

abbrev nD : Nat := 1
abbrev τ : Topo := Topo.v7x

variable {F : FTy → Type} [FloatOps F]
-- ==== InDw.lean ====
abbrev S4096x1024 : Shape := ⟨2, ![4096, 1024]⟩
abbrev S2x4096x2816 : Shape := ⟨3, ![2, 4096, 2816]⟩
abbrev S2x4x512x1408 : Shape := ⟨4, ![2, 4, 512, 1408]⟩
abbrev S1x1024x2816 : Shape := ⟨3, ![1, 1024, 2816]⟩
abbrev S2x2x512x1408 : Shape := ⟨4, ![2, 2, 512, 1408]⟩
abbrev S1024x2816 : Shape := ⟨2, ![1024, 2816]⟩
abbrev S1024x1024 : Shape := ⟨2, ![1024, 1024]⟩
abbrev S1024x1408 : Shape := ⟨2, ![1024, 1408]⟩
abbrev S2x512x1408 : Shape := ⟨3, ![2, 512, 1408]⟩
abbrev S2x1x512x1408 : Shape := ⟨4, ![2, 1, 512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S2x4x512x1408, .bf16⟩
  | .local _ .vmem, ⟨0, _⟩ => ⟨S4096x1024, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S2x2x512x1408, .bf16⟩
  | .local _ .vmem, ⟨4, _⟩ => ⟨S2x2x512x1408, .bf16⟩
  | .local _ .vmem, ⟨5, _⟩ => ⟨S1024x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDwRefIdeal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S2x512x4x1408 : Shape := ⟨4, ![2, 512, 4, 1408]⟩
abbrev S2x4x512x1408 : Shape := ⟨4, ![2, 4, 512, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S4096x5632, .f32⟩
  | .hbm, ⟨8, _⟩ => ⟨S_, .f32⟩
  | .hbm, ⟨9, _⟩ => ⟨S1024x5632, .f32⟩
  | .hbm, ⟨10, _⟩ => ⟨S4096x1024, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S2x512x4x1408, .f32⟩
  | .hbm, ⟨15, _⟩ => ⟨S2x4x512x1408, .f32⟩
  | .hbm, ⟨16, _⟩ => ⟨S2x4x512x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2x4x704x512 : Shape := ⟨4, ![2, 4, 704, 512]⟩
abbrev S1024x2816 : Shape := ⟨2, ![1024, 2816]⟩
abbrev S1024x1024 : Shape := ⟨2, ![1024, 1024]⟩
abbrev S2816x1024 : Shape := ⟨2, ![2816, 1024]⟩
abbrev S2816x512 : Shape := ⟨2, ![2816, 512]⟩
abbrev S4x704x512 : Shape := ⟨3, ![4, 704, 512]⟩
abbrev S1x4x704x512 : Shape := ⟨4, ![1, 4, 704, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2x4x704x512, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2x4x704x512, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x4x704x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x2x512 : Shape := ⟨4, ![4, 704, 2, 512]⟩
abbrev S2x4x704x512 : Shape := ⟨4, ![2, 4, 704, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S4x704x2x512, .f32⟩
  | .hbm, ⟨9, _⟩ => ⟨S2x4x704x512, .f32⟩
  | .hbm, ⟨10, _⟩ => ⟨S2x4x704x512, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDx.lean ====
abbrev S4096x1024 : Shape := ⟨2, ![4096, 1024]⟩
abbrev S1x2816x1024 : Shape := ⟨3, ![1, 2816, 1024]⟩
abbrev S4096x2816 : Shape := ⟨2, ![4096, 2816]⟩
abbrev S512x1024 : Shape := ⟨2, ![512, 1024]⟩
abbrev S512x2816 : Shape := ⟨2, ![512, 2816]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x2816x1024, .bf16⟩
  | .hbm, ⟨2, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x2816x1024, .bf16⟩
  | .local _ .vmem, ⟨3, _⟩ => ⟨S512x2816, .bf16⟩
  | .local _ .vmem, ⟨4, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownDxRefIdeal.lean ====
abbrev S4096x1024 : Shape := ⟨2, ![4096, 1024]⟩
abbrev S1x2816x1024 : Shape := ⟨3, ![1, 2816, 1024]⟩
abbrev S_ : Shape := ⟨0, ![]⟩
abbrev S4096x2816 : Shape := ⟨2, ![4096, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x2816x1024, .bf16⟩
  | .hbm, ⟨2, _⟩ => ⟨S_, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S2x4096x2816 : Shape := ⟨3, ![2, 4096, 2816]⟩
abbrev S1x1024x5632 : Shape := ⟨3, ![1, 1024, 5632]⟩
abbrev S4096x1024 : Shape := ⟨2, ![4096, 1024]⟩
abbrev S1024 : Shape := ⟨1, ![1024]⟩
abbrev S1x1024 : Shape := ⟨2, ![1, 1024]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S1x1024x2816 : Shape := ⟨3, ![1, 1024, 2816]⟩
abbrev S1024x2816 : Shape := ⟨2, ![1024, 2816]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S2x4096x2816, .bf16⟩
  | .hbm, ⟨1, _⟩ => ⟨S1x1024x5632, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S1x1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InDxRefIdeal.lean ====
abbrev S2x4096x2816 : Shape := ⟨3, ![2, 4096, 2816]⟩
abbrev S1x1024x5632 : Shape := ⟨3, ![1, 1024, 5632]⟩
abbrev S4096x1024 : Shape := ⟨2, ![4096, 1024]⟩
abbrev S1024 : Shape := ⟨1, ![1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x5632 : Shape := ⟨2, ![1024, 5632]⟩

abbrev nBuf : Space → Nat
  | .hbm => 62
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1x1024x5632, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x4096x2816, .bf16⟩
  | .hbm, ⟨6, _⟩ => ⟨S4096x2816, .bf16⟩
  | .hbm, ⟨7, _⟩ => ⟨S1x4096x2816, .bf16⟩
  | .hbm, ⟨8, _⟩ => ⟨S4096x2816, .bf16⟩
  | .hbm, ⟨9, _⟩ => ⟨S4096x5632, .bf16⟩
  | .hbm, ⟨10, _⟩ => ⟨S4096x5632, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1024x5632, .bf16⟩
  | .hbm, ⟨32, _⟩ => ⟨S1024x5632, .f32⟩
  | .hbm, ⟨33, _⟩ => ⟨S4096x5632, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== OutDw.lean ====
abbrev S4096x1024 : Shape := ⟨2, ![4096, 1024]⟩
abbrev S2x4x256x512 : Shape := ⟨4, ![2, 4, 256, 512]⟩
abbrev S1024x1024 : Shape := ⟨2, ![1024, 1024]⟩
abbrev S1024x512 : Shape := ⟨2, ![1024, 512]⟩
abbrev S4x256x512 : Shape := ⟨3, ![4, 256, 512]⟩
abbrev S1x4x256x512 : Shape := ⟨4, ![1, 4, 256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S2x4x256x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S2x4x256x512, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== OutDwRefIdeal.lean ====
abbrev S4096x1024 : Shape := ⟨2, ![4096, 1024]⟩
abbrev S_ : Shape := ⟨0, ![]⟩
abbrev S1024x1024 : Shape := ⟨2, ![1024, 1024]⟩
abbrev S4x256x2x512 : Shape := ⟨4, ![4, 256, 2, 512]⟩
abbrev S2x4x256x512 : Shape := ⟨4, ![2, 4, 256, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4x256x2x512, .f32⟩
  | .hbm, ⟨9, _⟩ => ⟨S2x4x256x512, .f32⟩
  | .hbm, ⟨10, _⟩ => ⟨S2x4x256x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== QDw.lean ====
abbrev S4096x1024 : Shape := ⟨2, ![4096, 1024]⟩
abbrev S2x4x256x512 : Shape := ⟨4, ![2, 4, 256, 512]⟩
abbrev S1024x1024 : Shape := ⟨2, ![1024, 1024]⟩
abbrev S1024x512 : Shape := ⟨2, ![1024, 512]⟩
abbrev S4x256x512 : Shape := ⟨3, ![4, 256, 512]⟩
abbrev S1x4x256x512 : Shape := ⟨4, ![1, 4, 256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x4x256x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x4x256x512, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== QDwRefIdeal.lean ====
abbrev S4096x1024 : Shape := ⟨2, ![4096, 1024]⟩
abbrev S_ : Shape := ⟨0, ![]⟩
abbrev S1024x1024 : Shape := ⟨2, ![1024, 1024]⟩
abbrev S4x256x2x512 : Shape := ⟨4, ![4, 256, 2, 512]⟩
abbrev S2x4x256x512 : Shape := ⟨4, ![2, 4, 256, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4x256x2x512, .f32⟩
  | .hbm, ⟨10, _⟩ => ⟨S2x4x256x512, .f32⟩
  | .hbm, ⟨11, _⟩ => ⟨S2x4x256x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KvDw.lean ====
abbrev S4096x1024 : Shape := ⟨2, ![4096, 1024]⟩
abbrev S2x4096x1024 : Shape := ⟨3, ![2, 4096, 1024]⟩
abbrev S2x4x512x512 : Shape := ⟨4, ![2, 4, 512, 512]⟩
abbrev S1x1024x1024 : Shape := ⟨3, ![1, 1024, 1024]⟩
abbrev S2x2x512x512 : Shape := ⟨4, ![2, 2, 512, 512]⟩
abbrev S1024x1024 : Shape := ⟨2, ![1024, 1024]⟩
abbrev S1024x512 : Shape := ⟨2, ![1024, 512]⟩
abbrev S2x512x512 : Shape := ⟨3, ![2, 512, 512]⟩
abbrev S2x1x512x512 : Shape := ⟨4, ![2, 1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S2x4x512x512, .bf16⟩
  | .local _ .vmem, ⟨0, _⟩ => ⟨S4096x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S2x2x512x512, .bf16⟩
  | .local _ .vmem, ⟨4, _⟩ => ⟨S2x2x512x512, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KvDwRefIdeal.lean ====
abbrev S4096x1024 : Shape := ⟨2, ![4096, 1024]⟩
abbrev S2x4096x1024 : Shape := ⟨3, ![2, 4096, 1024]⟩
abbrev S1x4096x1024 : Shape := ⟨3, ![1, 4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S2x512x4x512 : Shape := ⟨4, ![2, 512, 4, 512]⟩
abbrev S2x4x512x512 : Shape := ⟨4, ![2, 4, 512, 512]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S1x4096x1024, .bf16⟩
  | .hbm, ⟨3, _⟩ => ⟨S4096x1024, .bf16⟩
  | .hbm, ⟨4, _⟩ => ⟨S1x4096x1024, .bf16⟩
  | .hbm, ⟨5, _⟩ => ⟨S4096x1024, .bf16⟩
  | .hbm, ⟨6, _⟩ => ⟨S4096x2048, .bf16⟩
  | .hbm, ⟨7, _⟩ => ⟨S4096x2048, .f32⟩
  | .hbm, ⟨8, _⟩ => ⟨S_, .f32⟩
  | .hbm, ⟨9, _⟩ => ⟨S1024x2048, .f32⟩
  | .hbm, ⟨10, _⟩ => ⟨S4096x1024, .f32⟩
  | .hbm, ⟨11, _⟩ => ⟨S4096x2048, .f32⟩
  | .hbm, ⟨12, _⟩ => ⟨S2048x1024, .f32⟩
  | .hbm, ⟨13, _⟩ => ⟨S1024x2048, .f32⟩
  | .hbm, ⟨14, _⟩ => ⟨S2x512x4x512, .f32⟩
  | .hbm, ⟨15, _⟩ => ⟨S2x4x512x512, .f32⟩
  | .hbm, ⟨16, _⟩ => ⟨S2x4x512x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== MixerDw.lean ====
abbrev S4096x1024 : Shape := ⟨2, ![4096, 1024]⟩
abbrev S4096x2048 : Shape := ⟨2, ![4096, 2048]⟩
abbrev S2x4x512x512 : Shape := ⟨4, ![2, 4, 512, 512]⟩
abbrev S1024x1024 : Shape := ⟨2, ![1024, 1024]⟩
abbrev S1024x2048 : Shape := ⟨2, ![1024, 2048]⟩
abbrev S1024x512 : Shape := ⟨2, ![1024, 512]⟩
abbrev S2x512x512 : Shape := ⟨3, ![2, 512, 512]⟩
abbrev S2x1x512x512 : Shape := ⟨4, ![2, 1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S2x4x512x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2x4x512x512, .bf16⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== MixerDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S2x512x4x512 : Shape := ⟨4, ![2, 512, 4, 512]⟩
abbrev S2x4x512x512 : Shape := ⟨4, ![2, 4, 512, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S2x512x4x512, .f32⟩
  | .hbm, ⟨10, _⟩ => ⟨S2x4x512x512, .f32⟩
  | .hbm, ⟨11, _⟩ => ⟨S2x4x512x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutDx.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutDxRefIdeal.lean ====
abbrev S4096x1024 : Shape := ⟨2, ![4096, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .bf16⟩
  | .hbm, ⟨2, _⟩ => ⟨S_, .f32⟩
  | .hbm, ⟨3, _⟩ => ⟨S4096x1024, .f32⟩
  | .hbm, ⟨4, _⟩ => ⟨S1024x1024, .bf16⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S4096x2816 : Shape := ⟨2, ![4096, 2816]⟩
abbrev S1x2816x1024 : Shape := ⟨3, ![1, 2816, 1024]⟩
abbrev S4096x1024 : Shape := ⟨2, ![4096, 1024]⟩
abbrev S512x2816 : Shape := ⟨2, ![512, 2816]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnOut.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnOutRefIdeal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S4096x1024, .f32⟩
  | .hbm, ⟨4, _⟩ => ⟨S1024x1024, .bf16⟩
  | .hbm, ⟨5, _⟩ => ⟨S1024x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixerDx.lean ====
abbrev S4096x2048 : Shape := ⟨2, ![4096, 2048]⟩
abbrev S1x1024x2048 : Shape := ⟨3, ![1, 1024, 2048]⟩
abbrev S4096x1024 : Shape := ⟨2, ![4096, 1024]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S1x1024x2048, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixerDxRefIdeal.lean ====
abbrev S4096x2048 : Shape := ⟨2, ![4096, 2048]⟩
abbrev S1x1024x2048 : Shape := ⟨3, ![1, 1024, 2048]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2048 : Shape := ⟨2, ![1024, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x1024x2048, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x2048, .bf16⟩
  | .hbm, ⟨26, _⟩ => ⟨S1024x2048, .f32⟩
  | .hbm, ⟨27, _⟩ => ⟨S4096x2048, .f32⟩
  | .hbm, ⟨28, _⟩ => ⟨S4096x2048, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== QkvDx.lean ====
abbrev S4096x1024 : Shape := ⟨2, ![4096, 1024]⟩
abbrev S1x1024x1024 : Shape := ⟨3, ![1, 1024, 1024]⟩
abbrev S1024 : Shape := ⟨1, ![1024]⟩
abbrev S2x4096x1024 : Shape := ⟨3, ![2, 4096, 1024]⟩
abbrev S1x1024x2048 : Shape := ⟨3, ![1, 1024, 2048]⟩
abbrev S1x1024 : Shape := ⟨2, ![1, 1024]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1024x1024 : Shape := ⟨2, ![1024, 1024]⟩
abbrev S1x512x1024 : Shape := ⟨3, ![1, 512, 1024]⟩

abbrev nBuf : Space → Nat
  | .hbm => 13
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S1024, .f32⟩
  | .hbm, ⟨3, _⟩ => ⟨S2x4096x1024, .bf16⟩
  | .hbm, ⟨4, _⟩ => ⟨S1x1024x2048, .bf16⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S1x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024, .f32⟩
  | .local _ .vmem, ⟨4, _⟩ => ⟨S2x512x1024, .bf16⟩
  | .local _ .vmem, ⟨5, _⟩ => ⟨S2x512x1024, .bf16⟩
  | .local _ .vmem, ⟨6, _⟩ => ⟨S1x1024x2048, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== QkvDxRefIdeal.lean ====
abbrev S4096x1024 : Shape := ⟨2, ![4096, 1024]⟩
abbrev S1x1024x1024 : Shape := ⟨3, ![1, 1024, 1024]⟩
abbrev S1024 : Shape := ⟨1, ![1024]⟩
abbrev S2x4096x1024 : Shape := ⟨3, ![2, 4096, 1024]⟩
abbrev S1x1024x2048 : Shape := ⟨3, ![1, 1024, 2048]⟩
abbrev S1x4096x1024 : Shape := ⟨3, ![1, 4096, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1024 : Shape := ⟨2, ![1024, 1024]⟩
abbrev S1024x2048 : Shape := ⟨2, ![1024, 2048]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S1024, .f32⟩
  | .hbm, ⟨3, _⟩ => ⟨S2x4096x1024, .bf16⟩
  | .hbm, ⟨4, _⟩ => ⟨S1x1024x2048, .bf16⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S1x4096x1024, .bf16⟩
  | .hbm, ⟨9, _⟩ => ⟨S4096x1024, .bf16⟩
  | .hbm, ⟨10, _⟩ => ⟨S1x4096x1024, .bf16⟩
  | .hbm, ⟨11, _⟩ => ⟨S4096x1024, .bf16⟩
  | .hbm, ⟨12, _⟩ => ⟨S4096x2048, .bf16⟩
  | .hbm, ⟨13, _⟩ => ⟨S4096x2048, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1024x1024, .bf16⟩
  | .hbm, ⟨35, _⟩ => ⟨S1024x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1024x2048, .bf16⟩
  | .hbm, ⟨41, _⟩ => ⟨S1024x2048, .f32⟩
  | .hbm, ⟨42, _⟩ => ⟨S4096x2048, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S1x1024, .f32⟩
  | .hbm, ⟨82, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Qkv.lean ====
abbrev S4096x1024 : Shape := ⟨2, ![4096, 1024]⟩
abbrev S1x1024x1024 : Shape := ⟨3, ![1, 1024, 1024]⟩
abbrev S1024 : Shape := ⟨1, ![1024]⟩
abbrev S1x1024x2048 : Shape := ⟨3, ![1, 1024, 2048]⟩
abbrev S1x1024 : Shape := ⟨2, ![1, 1024]⟩
abbrev S2x4096x1024 : Shape := ⟨3, ![2, 4096, 1024]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1024x1024 : Shape := ⟨2, ![1024, 1024]⟩
abbrev S1024x2048 : Shape := ⟨2, ![1024, 2048]⟩
abbrev S512x2048 : Shape := ⟨2, ![512, 2048]⟩
abbrev S1x512x1024 : Shape := ⟨3, ![1, 512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .bf16⟩
  | .hbm, ⟨2, _⟩ => ⟨S1024, .f32⟩
  | .hbm, ⟨3, _⟩ => ⟨S1x1024x2048, .bf16⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S2x4096x1024, .bf16⟩
  | .hbm, ⟨9, _⟩ => ⟨S4096x1024, .bf16⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024, .f32⟩
  | .local _ .vmem, ⟨4, _⟩ => ⟨S1x1024x2048, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S2x512x1024, .bf16⟩
  | .local _ .vmem, ⟨9, _⟩ => ⟨S2x512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkvRefIdeal.lean ====
abbrev S4096x1024 : Shape := ⟨2, ![4096, 1024]⟩
abbrev S1x1024x1024 : Shape := ⟨3, ![1, 1024, 1024]⟩
abbrev S1024 : Shape := ⟨1, ![1024]⟩
abbrev S1x1024x2048 : Shape := ⟨3, ![1, 1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1024 : Shape := ⟨2, ![1024, 1024]⟩
abbrev S1024x2048 : Shape := ⟨2, ![1024, 2048]⟩
abbrev S4096x2048 : Shape := ⟨2, ![4096, 2048]⟩
abbrev S1x4096x1024 : Shape := ⟨3, ![1, 4096, 1024]⟩
abbrev S2x4096x1024 : Shape := ⟨3, ![2, 4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .bf16⟩
  | .hbm, ⟨2, _⟩ => ⟨S1024, .f32⟩
  | .hbm, ⟨3, _⟩ => ⟨S1x1024x2048, .bf16⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x1024, .bf16⟩
  | .hbm, ⟨25, _⟩ => ⟨S1024x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S1024x2048, .bf16⟩
  | .hbm, ⟨31, _⟩ => ⟨S1024x2048, .f32⟩
  | .hbm, ⟨32, _⟩ => ⟨S4096x2048, .f32⟩
  | .hbm, ⟨33, _⟩ => ⟨S4096x1024, .f32⟩
  | .hbm, ⟨34, _⟩ => ⟨S4096x1024, .f32⟩
  | .hbm, ⟨35, _⟩ => ⟨S1x4096x1024, .f32⟩
  | .hbm, ⟨36, _⟩ => ⟨S1x4096x1024, .f32⟩
  | .hbm, ⟨37, _⟩ => ⟨S2x4096x1024, .f32⟩
  | .hbm, ⟨38, _⟩ => ⟨S4096x1024, .bf16⟩
  | .hbm, ⟨39, _⟩ => ⟨S2x4096x1024, .bf16⟩
  | .hbm, ⟨40, _⟩ => ⟨S4096x1024, .bf16⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== MixerA.lean ====
abbrev S4096x1024 : Shape := ⟨2, ![4096, 1024]⟩
abbrev S1x1024x2048 : Shape := ⟨3, ![1, 1024, 2048]⟩
abbrev S1024 : Shape := ⟨1, ![1024]⟩
abbrev S1x1024 : Shape := ⟨2, ![1, 1024]⟩
abbrev S8x128x128 : Shape := ⟨3, ![8, 128, 128]⟩
abbrev S8x128 : Shape := ⟨2, ![8, 128]⟩
abbrev S1x1024x1024 : Shape := ⟨3, ![1, 1024, 1024]⟩
abbrev S128x8 : Shape := ⟨2, ![128, 8]⟩
abbrev S128x8x128 : Shape := ⟨3, ![128, 8, 128]⟩
abbrev S128x1024 : Shape := ⟨2, ![128, 1024]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩
abbrev S128x128 : Shape := ⟨2, ![128, 128]⟩
abbrev S1x128x128 : Shape := ⟨3, ![1, 128, 128]⟩
abbrev S1024x1024 : Shape := ⟨2, ![1024, 1024]⟩

abbrev nBuf : Space → Nat
  | .hbm => 15
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024x2048, .bf16⟩
  | .hbm, ⟨2, _⟩ => ⟨S1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S1x1024x1024, .bf16⟩
  | .hbm, ⟨7, _⟩ => ⟨S128x8, .f32⟩
  | .hbm, ⟨8, _⟩ => ⟨S128x8x128, .f32⟩
  | .hbm, ⟨9, _⟩ => ⟨S128x1024, .f32⟩
  | .hbm, ⟨10, _⟩ => ⟨S1x1024, .f32⟩
  | .hbm, ⟨11, _⟩ => ⟨S4096x1024, .f32⟩
  | .hbm, ⟨12, _⟩ => ⟨S4096x2048, .bf16⟩
  | .hbm, ⟨13, _⟩ => ⟨S4096x1024, .bf16⟩
  | .hbm, ⟨14, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024x2048, .bf16⟩
  | .local _ .vmem, ⟨3, _⟩ => ⟨S1x1024, .f32⟩
  | .local _ .vmem, ⟨4, _⟩ => ⟨S1x1024, .f32⟩
  | .local _ .vmem, ⟨5, _⟩ => ⟨S8x128x128, .f32⟩
  | .local _ .vmem, ⟨6, _⟩ => ⟨S128x1024, .f32⟩
  | .local _ .vmem, ⟨7, _⟩ => ⟨S1x1024x1024, .bf16⟩
  | .local _ .vmem, ⟨8, _⟩ => ⟨S256x1024, .f32⟩
  | .local _ .vmem, ⟨9, _⟩ => ⟨S256x1024, .f32⟩
  | .local _ .vmem, ⟨10, _⟩ => ⟨S256x2048, .bf16⟩
  | .local _ .vmem, ⟨11, _⟩ => ⟨S256x2048, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixerAIdeal.lean ====
variable {F : FTy → Type} [FloatOps F] [Named F]
def κ : String → Option EReal := fun
  | "gelu_cubic" => some ((8943 / 200000 : ℝ) : EReal)
  | _ => none
-- ==== MixerARefIdeal.lean ====
abbrev S4096x1024 : Shape := ⟨2, ![4096, 1024]⟩
abbrev S1x1024x2048 : Shape := ⟨3, ![1, 1024, 2048]⟩
abbrev S1024 : Shape := ⟨1, ![1024]⟩
abbrev S1x1024 : Shape := ⟨2, ![1, 1024]⟩
abbrev S8x128x128 : Shape := ⟨3, ![8, 128, 128]⟩
abbrev S8x128 : Shape := ⟨2, ![8, 128]⟩
abbrev S1x1024x1024 : Shape := ⟨3, ![1, 1024, 1024]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S4096x2048 : Shape := ⟨2, ![4096, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S32x128x8x128 : Shape := ⟨4, ![32, 128, 8, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S1024x1024 : Shape := ⟨2, ![1024, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x2048, .bf16⟩
  | .hbm, ⟨2, _⟩ => ⟨S1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S1x1024x1024, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x2048, .bf16⟩
  | .hbm, ⟨24, _⟩ => ⟨S1024x2048, .f32⟩
  | .hbm, ⟨25, _⟩ => ⟨S4096x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S128, .i32⟩
  | .hbm, ⟨63, _⟩ => ⟨S_, .i32⟩
  | .hbm, ⟨64, _⟩ => ⟨S_, .i32⟩
  | .hbm, ⟨65, _⟩ => ⟨S128, .i32⟩
  | .hbm, ⟨66, _⟩ => ⟨S128, .i32⟩
  | .hbm, ⟨67, _⟩ => ⟨S128, .i32⟩
  | .hbm, ⟨68, _⟩ => ⟨S_, .i32⟩
  | .hbm, ⟨69, _⟩ => ⟨S128, .i32⟩
  | .hbm, ⟨70, _⟩ => ⟨S128, .i1⟩
  | .hbm, ⟨71, _⟩ => ⟨S128, .i32⟩
  | .hbm, ⟨72, _⟩ => ⟨S128, .i32⟩
  | .hbm, ⟨73, _⟩ => ⟨S_, .i32⟩
  | .hbm, ⟨74, _⟩ => ⟨S128, .i32⟩
  | .hbm, ⟨75, _⟩ => ⟨S128, .i1⟩
  | .hbm, ⟨76, _⟩ => ⟨S128, .i1⟩
  | .hbm, ⟨77, _⟩ => ⟨S_, .i32⟩
  | .hbm, ⟨78, _⟩ => ⟨S128, .i32⟩
  | .hbm, ⟨79, _⟩ => ⟨S128, .i32⟩
  | .hbm, ⟨80, _⟩ => ⟨S128, .i32⟩
  | .hbm, ⟨81, _⟩ => ⟨S128x1, .i32⟩
  | .hbm, ⟨82, _⟩ => ⟨S1x128, .i32⟩
  | .hbm, ⟨83, _⟩ => ⟨S128x128, .i32⟩
  | .hbm, ⟨84, _⟩ => ⟨S128x128, .i32⟩
  | .hbm, ⟨85, _⟩ => ⟨S128x128, .i1⟩
  | .hbm, ⟨86, _⟩ => ⟨S1x128x128, .i1⟩
  | .hbm, ⟨87, _⟩ => ⟨S_, .i32⟩
  | .hbm, ⟨88, _⟩ => ⟨S_, .f32⟩
  | .hbm, ⟨89, _⟩ => ⟨S8x128x128, .i1⟩
  | .hbm, ⟨90, _⟩ => ⟨S8x128x128, .f32⟩
  | .hbm, ⟨91, _⟩ => ⟨S8x128x128, .f32⟩
  | .hbm, ⟨92, _⟩ => ⟨S32x128x8x128, .f32⟩
  | .hbm, ⟨93, _⟩ => ⟨S8x32x128x128, .f32⟩
  | .hbm, ⟨94, _⟩ => ⟨S32x128x8x128, .f32⟩
  | .hbm, ⟨95, _⟩ => ⟨S128x8, .f32⟩
  | .hbm, ⟨96, _⟩ => ⟨S1x128x8x1, .f32⟩
  | .hbm, ⟨97, _⟩ => ⟨S32x128x8x128, .f32⟩
  | .hbm, ⟨98, _⟩ => ⟨S32x128x8x128, .f32⟩
  | .hbm, ⟨99, _⟩ => ⟨S4096x1024, .f32⟩
  | .hbm, ⟨100, _⟩ => ⟨S4096x1024, .f32⟩
  | .hbm, ⟨101, _⟩ => ⟨S1024x1024, .bf16⟩
  | .hbm, ⟨102, _⟩ => ⟨S1024x1024, .f32⟩
  | .hbm, ⟨103, _⟩ => ⟨S4096x1024, .f32⟩
  | .hbm, ⟨104, _⟩ => ⟨S4096x1024, .f32⟩
  | .hbm, ⟨105, _⟩ => ⟨S4096x2048, .bf16⟩
  | .hbm, ⟨106, _⟩ => ⟨S4096x1024, .bf16⟩
  | .hbm, ⟨107, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_c : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_c_0 : Ref sig .tc := ⟨.hbm, 77, rfl⟩
abbrev main_call0_v12 : Ref sig .tc := ⟨.hbm, 78, rfl⟩
abbrev main_call0_v13 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_10 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩

abbrev nD : Nat := 1
abbrev τ : Topo := Topo.v7x

variable {F : FTy → Type} [FloatOps F]
-- ==== AdamWide.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWideRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1280x128 : Shape := ⟨2, ![1280, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S1280x128, .f32⟩
  | .hbm, ⟨5, _⟩ => ⟨S1280x128, .f32⟩
  | .hbm, ⟨6, _⟩ => ⟨S1280x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S1280x128 : Shape := ⟨2, ![1280, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S_, .f32⟩
  | .hbm, ⟨5, _⟩ => ⟨S1280x128, .f32⟩
  | .hbm, ⟨6, _⟩ => ⟨S1280x128, .f32⟩
  | .hbm, ⟨7, _⟩ => ⟨S_, .f32⟩
  | .hbm, ⟨8, _⟩ => ⟨S1280x128, .f32⟩
  | .hbm, ⟨9, _⟩ => ⟨S1280x128, .f32⟩
  | .hbm, ⟨10, _⟩ => ⟨S1280x128, .f32⟩
  | .hbm, ⟨11, _⟩ => ⟨S_, .f32⟩
  | .hbm, ⟨12, _⟩ => ⟨S1280x128, .f32⟩
  | .hbm, ⟨13, _⟩ => ⟨S1280x128, .f32⟩
  | .hbm, ⟨14, _⟩ => ⟨S1280x128, .f32⟩
  | .hbm, ⟨15, _⟩ => ⟨S_, .f32⟩
  | .hbm, ⟨16, _⟩ => ⟨S1280x128, .f32⟩
  | .hbm, ⟨17, _⟩ => ⟨S1280x128, .f32⟩
  | .hbm, ⟨18, _⟩ => ⟨S1280x128, .f32⟩
  | .hbm, ⟨19, _⟩ => ⟨S_, .f32⟩
  | .hbm, ⟨20, _⟩ => ⟨S1280x128, .f32⟩
  | .hbm, ⟨21, _⟩ => ⟨S1280x128, .f32⟩
  | .hbm, ⟨22, _⟩ => ⟨S_, .f32⟩
  | .hbm, ⟨23, _⟩ => ⟨S1280x128, .f32⟩
  | .hbm, ⟨24, _⟩ => ⟨S1280x128, .f32⟩
  | .hbm, ⟨25, _⟩ => ⟨S1280x128, .f32⟩
  | .hbm, ⟨26, _⟩ => ⟨S_, .f32⟩
  | .hbm, ⟨27, _⟩ => ⟨S1280x128, .f32⟩
  | .hbm, ⟨28, _⟩ => ⟨S1280x128, .f32⟩
  | .hbm, ⟨29, _⟩ => ⟨S1280x128, .f32⟩
  | .hbm, ⟨30, _⟩ => ⟨S_, .f32⟩
  | .hbm, ⟨31, _⟩ => ⟨S1280x128, .f32⟩
  | .hbm, ⟨32, _⟩ => ⟨S1280x128, .f32⟩
  | .hbm, ⟨33, _⟩ => ⟨S1280x128, .f32⟩
  | .hbm, ⟨34, _⟩ => ⟨S_, .f32⟩
  | .hbm, ⟨35, _⟩ => ⟨S1280x128, .f32⟩
  | .hbm, ⟨36, _⟩ => ⟨S1280x128, .f32⟩
  | _, _ => ⟨S1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Attn.lean ====
abbrev S2x2048x1024 : Shape := ⟨3, ![2, 2048, 1024]⟩
abbrev S2x2x2048x1024 : Shape := ⟨4, ![2, 2, 2048, 1024]⟩
abbrev S16x256x768 : Shape := ⟨3, ![16, 256, 768]⟩
abbrev S1x256x512 : Shape := ⟨3, ![1, 256, 512]⟩
abbrev S1x1x2048x512 : Shape := ⟨4, ![1, 1, 2048, 512]⟩
abbrev S8x256x768 : Shape := ⟨3, ![8, 256, 768]⟩
abbrev S1x1x256x64 : Shape := ⟨4, ![1, 1, 256, 64]⟩
abbrev S256x64 : Shape := ⟨2, ![256, 64]⟩
abbrev S1x256x64 : Shape := ⟨3, ![1, 256, 64]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S256x512 : Shape := ⟨2, ![256, 512]⟩
abbrev S1x1x512x64 : Shape := ⟨4, ![1, 1, 512, 64]⟩
abbrev S512x64 : Shape := ⟨2, ![512, 64]⟩
abbrev S1x1x768x64 : Shape := ⟨4, ![1, 1, 768, 64]⟩
abbrev S768x64 : Shape := ⟨2, ![768, 64]⟩
abbrev S256x768 : Shape := ⟨2, ![256, 768]⟩
abbrev S1x256x768 : Shape := ⟨3, ![1, 256, 768]⟩

abbrev nBuf : Space → Nat
  | .hbm => 4
  | .vmem => 10
  | .smem => 0
  | _ => 0

abbrev bufTy : (tb : Table) → Fin (tcTables nBuf tb) → BufTy
  | .hbm, ⟨0, _⟩ => ⟨S2x2048x1024, .bf16⟩
  | .hbm, ⟨1, _⟩ => ⟨S2x2x2048x1024, .bf16⟩
  | .hbm, ⟨2, _⟩ => ⟨S16x256x768, .f32⟩
  | .hbm, ⟨3, _⟩ => ⟨S2x2048x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S8x256x768, .f32⟩
  | .local _ .vmem, ⟨7, _⟩ => ⟨S8x256x768, .f32⟩
  | .local _ .vmem, ⟨8, _⟩ => ⟨S1x256x512, .bf16⟩
  | .local _ .vmem, ⟨9, _⟩ => ⟨S1x256x512, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c2_i32 : BitVec 32 := 2#32
  let v6 : BitVec 1 := Scalar.cmpi .sge arg2 c2_i32
  let v7 : BitVec 32 := Scalar.extui v6
  let c0_i32_2 : BitVec 32 := 0#32
  let v8 : BitVec 1 := Scalar.cmpi .ne v7 c0_i32_2
  v8

def k0_mult1 (i : grid0.Coords) : BitVec 32 :=
  let arg2 : BitVec 32 := BitVec.ofNat 32 (i 2).val
  let c256_i32 : BitVec 32 := 256#32
  let v9 : BitVec 32 := Scalar.muli arg2 c256_i32
  let c512_i32 : BitVec 32 := 512#32
  let v10 : BitVec 32 := Scalar.subi v9 c512_i32
  v10
def k0_off1 (i : grid0.Coords) : Fin 4 → Nat :=
  let c0 : Index := 0#32
  let c0_3 : Index := 0#32
  let arg2 : BitVec 32 := BitVec.ofNat 32 (i 2).val
  let c256_i32 : BitVec 32 := 256#32
  let v9 : BitVec 32 := Scalar.muli arg2 c256_i32
  let c512_i32 : BitVec 32 := 512#32
  let v10 : BitVec 32 := Scalar.subi v9 c512_i32
  let v11 : BitVec 32 := v10
  let v12 : Index := Scalar.indexCast v11
  let c0_4 : Index := 0#32
  ![0, 0, v12.toNat, 0]
def k0_off2 (i : grid0.Coords) : Fin 4 → Nat :=
  let c0_18 : Index := 0#32
  let c0_19 : Index := 0#32
  let arg2 : BitVec 32 := BitVec.ofNat 32 (i 2).val
  let c256_i32 : BitVec 32 := 256#32
  let v9 : BitVec 32 := Scalar.muli arg2 c256_i32
  let c512_i32 : BitVec 32 := 512#32
  let v10 : BitVec 32 := Scalar.subi v9 c512_i32
  let v11 : BitVec 32 := v10
  let v37 : Index := Scalar.indexCast v11
  let c64 : Index := 64#32
  ![0, 0, v37.toNat, 64]
def k0_off3 (i : grid0.Coords) : Fin 4 → Nat :=
  let c0_33 : Index := 0#32
  let c0_34 : Index := 0#32
  let arg2 : BitVec 32 := BitVec.ofNat 32 (i 2).val
  let c256_i32 : BitVec 32 := 256#32
  let v9 : BitVec 32 := Scalar.muli arg2 c256_i32
  let c512_i32 : BitVec 32 := 512#32
  let v10 : BitVec 32 := Scalar.subi v9 c512_i32
  let v11 : BitVec 32 := v10
  let v62 : Index := Scalar.indexCast v11
  let c128 : Index := 128#32
  ![0, 0, v62.toNat, 128]
def k0_off4 (i : grid0.Coords) : Fin 4 → Nat :=
  let c0_48 : Index := 0#32
  let c0_49 : Index := 0#32
  let arg2 : BitVec 32 := BitVec.ofNat 32 (i 2).val
  let c256_i32 : BitVec 32 := 256#32
  let v9 : BitVec 32 := Scalar.muli arg2 c256_i32
  let c512_i32 : BitVec 32 := 512#32
  let v10 : BitVec 32 := Scalar.subi v9 c512_i32
  let v11 : BitVec 32 := v10
  let v87 : Index := Scalar.indexCast v11
  let c192 : Index := 192#32
  ![0, 0, v87.toNat, 192]
def k0_off5 (i : grid0.Coords) : Fin 4 → Nat :=
  let c0_63 : Index := 0#32
  let c0_64 : Index := 0#32
  let arg2 : BitVec 32 := BitVec.ofNat 32 (i 2).val
  let c256_i32 : BitVec 32 := 256#32
  let v9 : BitVec 32 := Scalar.muli arg2 c256_i32
  let c512_i32 : BitVec 32 := 512#32
  let v10 : BitVec 32 := Scalar.subi v9 c512_i32
  let v11 : BitVec 32 := v10
  let v112 : Index := Scalar.indexCast v11
  let c256 : Index := 256#32
  ![0, 0, v112.toNat, 256]
def k0_off6 (i : grid0.Coords) : Fin 4 → Nat :=
  let c0_78 : Index := 0#32
  let c0_79 : Index := 0#32
  let arg2 : BitVec 32 := BitVec.ofNat 32 (i 2).val
  let c256_i32 : BitVec 32 := 256#32
  let v9 : BitVec 32 := Scalar.muli arg2 c256_i32
  let c512_i32 : BitVec 32 := 512#32
  let v10 : BitVec 32 := Scalar.subi v9 c512_i32
  let v11 : BitVec 32 := v10
  let v137 : Index := Scalar.indexCast v11
  let c320 : Index := 320#32
  ![0, 0, v137.toNat, 320]
def k0_off7 (i : grid0.Coords) : Fin 4 → Nat :=
  let c0_93 : Index := 0#32
  let c0_94 : Index := 0#32
  let arg2 : BitVec 32 := BitVec.ofNat 32 (i 2).val
  let c256_i32 : BitVec 32 := 256#32
  let v9 : BitVec 32 := Scalar.muli arg2 c256_i32
  let c512_i32 : BitVec 32 := 512#32
  let v10 : BitVec 32 := Scalar.subi v9 c512_i32
  let v11 : BitVec 32 := v10
  let v162 : Index := Scalar.indexCast v11
  let c384 : Index := 384#32
  ![0, 0, v162.toNat, 384]
def k0_off8 (i : grid0.Coords) : Fin 4 → Nat :=
  let c0_108 : Index := 0#32
  let c0_109 : Index := 0#32
  let arg2 : BitVec 32 := BitVec.ofNat 32 (i 2).val
  let c256_i32 : BitVec 32 := 256#32
  let v9 : BitVec 32 := Scalar.muli arg2 c256_i32
  let c512_i32 : BitVec 32 := 512#32
  let v10 : BitVec 32 := Scalar.subi v9 c512_i32
  let v11 : BitVec 32 := v10
  let v187 : Index := Scalar.indexCast v11
  let c448 : Index := 448#32
  ![0, 0, v187.toNat, 448]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnRefIdeal.lean ====
abbrev S2x2048x1024 : Shape := ⟨3, ![2, 2048, 1024]⟩
abbrev S2x2x2048x1024 : Shape := ⟨4, ![2, 2, 2048, 1024]⟩
abbrev S16x256x768 : Shape := ⟨3, ![16, 256, 768]⟩
abbrev S2x8x256x16x64 : Shape := ⟨5, ![2, 8, 256, 16, 64]⟩
abbrev S1x2x2048x1024 : Shape := ⟨4, ![1, 2, 2048, 1024]⟩
abbrev S_ : Shape := ⟨0, ![]⟩
abbrev S2x2560x1024 : Shape := ⟨3, ![2, 2560, 1024]⟩
abbrev S2x10x256x16x64 : Shape := ⟨5, ![2, 10, 256, 16, 64]⟩
abbrev S2x8x768x16x64 : Shape := ⟨5, ![2, 8, 768, 16, 64]⟩
abbrev S2x8x16x256x768 : Shape := ⟨5, ![2, 8, 16, 256, 768]⟩
abbrev S1x1x16x256x768 : Shape := ⟨5, ![1, 1, 16, 256, 768]⟩
abbrev S8 : Shape := ⟨1, ![8]⟩
abbrev S8x1 : Shape := ⟨2, ![8, 1]⟩
abbrev S768 : Shape := ⟨1, ![768]⟩
abbrev S1x768 : Shape := ⟨2, ![1, 768]⟩
abbrev S8x768 : Shape := ⟨2, ![8, 768]⟩
abbrev S1x8x1x1x768 : Shape := ⟨5, ![1, 8, 1, 1, 768]⟩
abbrev S2x8x16x256 : Shape := ⟨4, ![2, 8, 16, 256]⟩
abbrev S2x8x16x256x1 : Shape := ⟨5, ![2, 8, 16, 256, 1]⟩
abbrev S2x8x16x64x256 : Shape := ⟨5, ![2, 8, 16, 64, 256]⟩

abbrev nBuf : Space → Nat
  | .hbm => 68
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2x2048x1024, .bf16⟩
  | .hbm, ⟨2, _⟩ => ⟨S16x256x768, .f32⟩
  | .hbm, ⟨3, _⟩ => ⟨S2x2048x1024, .f32⟩
  | .hbm, ⟨4, _⟩ => ⟨S2x8x256x16x64, .f32⟩
  | .hbm, ⟨5, _⟩ => ⟨S1x2x2048x1024, .bf16⟩
  | .hbm, ⟨6, _⟩ => ⟨S2x2048x1024, .bf16⟩
  | .hbm, ⟨7, _⟩ => ⟨S2x2048x1024, .f32⟩
  | .hbm, ⟨8, _⟩ => ⟨S_, .i32⟩
  | .hbm, ⟨9, _⟩ => ⟨S_, .f32⟩
  | .hbm, ⟨10, _⟩ => ⟨S2x2560x1024, .f32⟩
  | .hbm, ⟨11, _⟩ => ⟨S2x10x256x16x64, .f32⟩
  | .hbm, ⟨12, _⟩ => ⟨S2x8x256x16x64, .f32⟩
  | .hbm, ⟨13, _⟩ => ⟨S2x8x256x16x64, .f32⟩
  | .hbm, ⟨14, _⟩ => ⟨S2x8x256x16x64, .f32⟩
  | .hbm, ⟨15, _⟩ => ⟨S2x8x768x16x64, .f32⟩
  | .hbm, ⟨16, _⟩ => ⟨S1x2x2048x1024, .bf16⟩
  | .hbm, ⟨17, _⟩ => ⟨S2x2048x1024, .bf16⟩
  | .hbm, ⟨18, _⟩ => ⟨S2x2048x1024, .f32⟩
  | .hbm, ⟨19, _⟩ => ⟨S_, .i32⟩
  | .hbm, ⟨20, _⟩ => ⟨S_, .f32⟩
  | .hbm, ⟨21, _⟩ => ⟨S2x2560x1024, .f32⟩
  | .hbm, ⟨22, _⟩ => ⟨S2x10x256x16x64, .f32⟩
  | .hbm, ⟨23, _⟩ => ⟨S2x8x256x16x64, .f32⟩
  | .hbm, ⟨24, _⟩ => ⟨S2x8x256x16x64, .f32⟩
  | .hbm, ⟨25, _⟩ => ⟨S2x8x256x16x64, .f32⟩
  | .hbm, ⟨26, _⟩ => ⟨S2x8x768x16x64, .f32⟩
  | .hbm, ⟨27, _⟩ => ⟨S2x8x16x256x768, .f32⟩
  | .hbm, ⟨28, _⟩ => ⟨S1x1x16x256x768, .f32⟩
  | .hbm, ⟨29, _⟩ => ⟨S2x8x16x256x768, .f32⟩
  | .hbm, ⟨30, _⟩ => ⟨S2x8x16x256x768, .f32⟩
  | .hbm, ⟨31, _⟩ => ⟨S8, .i32⟩
  | .hbm, ⟨32, _⟩ => ⟨S8x1, .i32⟩
  | .hbm, ⟨33, _⟩ => ⟨S_, .i32⟩
  | .hbm, ⟨34, _⟩ => ⟨S8x1, .i32⟩
  | .hbm, ⟨35, _⟩ => ⟨S8x1, .i32⟩
  | .hbm, ⟨36, _⟩ => ⟨S768, .i32⟩
  | .hbm, ⟨37, _⟩ => ⟨S1x768, .i32⟩
  | .hbm, ⟨38, _⟩ => ⟨S8x768, .i32⟩
  | .hbm, ⟨39, _⟩ => ⟨S8x768, .i32⟩
  | .hbm, ⟨40, _⟩ => ⟨S8x768, .i32⟩
  | .hbm, ⟨41, _⟩ => ⟨S_, .i32⟩
  | .hbm, ⟨42, _⟩ => ⟨S8x768, .i32⟩
  | .hbm, ⟨43, _⟩ => ⟨S8x768, .i1⟩
  | .hbm, ⟨44, _⟩ => ⟨S1x8x1x1x768, .i1⟩
  | .hbm, ⟨45, _⟩ => ⟨S_, .f32⟩
  | .hbm, ⟨46, _⟩ => ⟨S_, .f32⟩
  | .hbm, ⟨47, _⟩ => ⟨S2x8x16x256x768, .i1⟩
  | .hbm, ⟨48, _⟩ => ⟨S2x8x16x256x768, .f32⟩
  | .hbm, ⟨49, _⟩ => ⟨S2x8x16x256x768, .f32⟩
  | .hbm, ⟨50, _⟩ => ⟨S_, .f32⟩
  | .hbm, ⟨51, _⟩ => ⟨S2x8x16x256, .f32⟩
  | .hbm, ⟨52, _⟩ => ⟨S_, .f32⟩
  | .hbm, ⟨53, _⟩ => ⟨S2x8x16x256, .f32⟩
  | .hbm, ⟨54, _⟩ => ⟨S2x8x16x256, .f32⟩
  | .hbm, ⟨55, _⟩ => ⟨S2x8x16x256x1, .f32⟩
  | .hbm, ⟨56, _⟩ => ⟨S2x8x16x256x768, .f32⟩
  | .hbm, ⟨57, _⟩ => ⟨S2x8x16x256x768, .f32⟩
  | .hbm, ⟨58, _⟩ => ⟨S2x8x16x256x768, .f32⟩
  | .hbm, ⟨59, _⟩ => ⟨S_, .f32⟩
  | .hbm, ⟨60, _⟩ => ⟨S2x8x16x256, .f32⟩
  | .hbm, ⟨61, _⟩ => ⟨S2x8x16x256x1, .f32⟩
  | .hbm, ⟨62, _⟩ => ⟨S2x8x16x256x768, .f32⟩
  | .hbm, ⟨63, _⟩ => ⟨S2x8x16x256x768, .f32⟩
  | .hbm, ⟨64, _⟩ => ⟨S2x8x16x64x256, .f32⟩
  | .hbm, ⟨65, _⟩ => ⟨S2x8x256x16x64, .f32⟩
  | .hbm, ⟨66, _⟩ => ⟨S2x2048x1024, .f32⟩
  | .hbm, ⟨67, _⟩ => ⟨S2x2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_call1_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Bias.lean ====
abbrev S16x257 : Shape := ⟨2, ![16, 257]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S16x1x1024 : Shape := ⟨3, ![16, 1, 1024]⟩
abbrev S16x256x768 : Shape := ⟨3, ![16, 256, 768]⟩
abbrev S1x1x1024 : Shape := ⟨3, ![1, 1, 1024]⟩
abbrev S1x256x768 : Shape := ⟨3, ![1, 256, 768]⟩
abbrev S1x1024 : Shape := ⟨2, ![1, 1024]⟩
abbrev S256x1024 : Shape := ⟨2, ![256, 1024]⟩
abbrev S256x768 : Shape := ⟨2, ![256, 768]⟩

abbrev nBuf : Space → Nat
  | .hbm => 11
  | .vmem => 4
  | .smem => 0
  | _ => 0

abbrev bufTy : (tb : Table) → Fin (tcTables nBuf tb) → BufTy
  | .hbm, ⟨0, _⟩ => ⟨S16x257, .f32⟩
  | .hbm, ⟨1, _⟩ => ⟨S1024, .i32⟩
  | .hbm, ⟨2, _⟩ => ⟨S1024, .i1⟩
  | .hbm, ⟨3, _⟩ => ⟨S_, .i32⟩
  | .hbm, ⟨4, _⟩ => ⟨S1024, .i32⟩
  | .hbm, ⟨5, _⟩ => ⟨S1024, .i32⟩
  | .hbm, ⟨6, _⟩ => ⟨S1024, .i32⟩
  | .hbm, ⟨7, _⟩ => ⟨S1024x1, .i32⟩
  | .hbm, ⟨8, _⟩ => ⟨S16x1024, .f32⟩
  | .hbm, ⟨9, _⟩ => ⟨S16x1x1024, .f32⟩
  | .hbm, ⟨10, _⟩ => ⟨S16x256x768, .f32⟩
  | .local _ .vmem, ⟨0, _⟩ => ⟨S1x1x1024, .f32⟩
  | .local _ .vmem, ⟨1, _⟩ => ⟨S1x1x1024, .f32⟩
  | .local _ .vmem, ⟨2, _⟩ => ⟨S1x256x768, .f32⟩
  | .local _ .vmem, ⟨3, _⟩ => ⟨S1x256x768, .f32⟩
  | _, _ => ⟨S16x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasRefIdeal.lean ====
abbrev S16x257 : Shape := ⟨2, ![16, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S_ : Shape := ⟨0, ![]⟩
abbrev S256x768x1 : Shape := ⟨3, ![256, 768, 1]⟩
abbrev S16x256x768 : Shape := ⟨3, ![16, 256, 768]⟩
abbrev S1x256x768 : Shape := ⟨3, ![1, 256, 768]⟩

abbrev nBuf : Space → Nat
  | .hbm => 59
  | .vmem => 0
  | .smem => 0
  | _ => 0

abbrev bufTy : (tb : Table) → Fin (tcTables nBuf tb) → BufTy
  | .hbm, ⟨0, _⟩ => ⟨S16x257, .f32⟩
  | .hbm, ⟨1, _⟩ => ⟨S256, .i32⟩
  | .hbm, ⟨2, _⟩ => ⟨S256x1, .i32⟩
  | .hbm, ⟨3, _⟩ => ⟨S768, .i32⟩
  | .hbm, ⟨4, _⟩ => ⟨S1x768, .i32⟩
  | .hbm, ⟨5, _⟩ => ⟨S256x768, .i32⟩
  | .hbm, ⟨6, _⟩ => ⟨S256x768, .i32⟩
  | .hbm, ⟨7, _⟩ => ⟨S256x768, .i32⟩
  | .hbm, ⟨8, _⟩ => ⟨S_, .i32⟩
  | .hbm, ⟨9, _⟩ => ⟨S256x768, .i32⟩
  | .hbm, ⟨10, _⟩ => ⟨S256x768, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S256x768, .i32⟩
  | .hbm, ⟨15, _⟩ => ⟨S256x768, .i32⟩
  | .hbm, ⟨16, _⟩ => ⟨S_, .i32⟩
  | .hbm, ⟨17, _⟩ => ⟨S256x768, .i32⟩
  | .hbm, ⟨18, _⟩ => ⟨S256x768, .i32⟩
  | .hbm, ⟨19, _⟩ => ⟨S_, .i32⟩
  | .hbm, ⟨20, _⟩ => ⟨S256x768, .i32⟩
  | .hbm, ⟨21, _⟩ => ⟨S256x768, .i32⟩
  | .hbm, ⟨22, _⟩ => ⟨S_, .i32⟩
  | .hbm, ⟨23, _⟩ => ⟨S256x768, .i32⟩
  | .hbm, ⟨24, _⟩ => ⟨S256x768, .i1⟩
  | .hbm, ⟨25, _⟩ => ⟨S_, .i32⟩
  | .hbm, ⟨26, _⟩ => ⟨S256x768, .i32⟩
  | .hbm, ⟨27, _⟩ => ⟨S256x768, .i32⟩
  | .hbm, ⟨28, _⟩ => ⟨S256x768, .i32⟩
  | .hbm, ⟨29, _⟩ => ⟨S256x768x1, .i32⟩
  | .hbm, ⟨30, _⟩ => ⟨S16x256x768, .f32⟩
  | .hbm, ⟨31, _⟩ => ⟨S_, .i32⟩
  | .hbm, ⟨32, _⟩ => ⟨S1x768, .i32⟩
  | .hbm, ⟨33, _⟩ => ⟨S1x768, .i32⟩
  | .hbm, ⟨34, _⟩ => ⟨S_, .i32⟩
  | .hbm, ⟨35, _⟩ => ⟨S256x1, .i32⟩
  | .hbm, ⟨36, _⟩ => ⟨S256x1, .i32⟩
  | .hbm, ⟨37, _⟩ => ⟨S256x768, .i32⟩
  | .hbm, ⟨38, _⟩ => ⟨S256x768, .i32⟩
  | .hbm, ⟨39, _⟩ => ⟨S256x768, .i1⟩
  | .hbm, ⟨40, _⟩ => ⟨S_, .i32⟩
  | .hbm, ⟨41, _⟩ => ⟨S1x768, .i32⟩
  | .hbm, ⟨42, _⟩ => ⟨S1x768, .i32⟩
  | .hbm, ⟨43, _⟩ => ⟨S_, .i32⟩
  | .hbm, ⟨44, _⟩ => ⟨S256x1, .i32⟩
  | .hbm, ⟨45, _⟩ => ⟨S256x1, .i32⟩
  | .hbm, ⟨46, _⟩ => ⟨S_, .i32⟩
  | .hbm, ⟨47, _⟩ => ⟨S256x1, .i32⟩
  | .hbm, ⟨48, _⟩ => ⟨S256x1, .i32⟩
  | .hbm, ⟨49, _⟩ => ⟨S256x768, .i32⟩
  | .hbm, ⟨50, _⟩ => ⟨S256x768, .i32⟩
  | .hbm, ⟨51, _⟩ => ⟨S256x768, .i1⟩
  | .hbm, ⟨52, _⟩ => ⟨S256x768, .i1⟩
  | .hbm, ⟨53, _⟩ => ⟨S1x256x768, .i1⟩
  | .hbm, ⟨54, _⟩ => ⟨S_, .f32⟩
  | .hbm, ⟨55, _⟩ => ⟨S_, .f32⟩
  | .hbm, ⟨56, _⟩ => ⟨S16x256x768, .i1⟩
  | .hbm, ⟨57, _⟩ => ⟨S16x256x768, .f32⟩
  | .hbm, ⟨58, _⟩ => ⟨S16x256x768, .f32⟩
  | _, _ => ⟨S16x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_c_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== BiasReduce.lean ====
abbrev S16x256x768 : Shape := ⟨3, ![16, 256, 768]⟩
abbrev S1024x257 : Shape := ⟨2, ![1024, 257]⟩
abbrev S16x1x257 : Shape := ⟨3, ![16, 1, 257]⟩
abbrev S1x256x768 : Shape := ⟨3, ![1, 256, 768]⟩
abbrev S1x1x257 : Shape := ⟨3, ![1, 1, 257]⟩
abbrev S256x768 : Shape := ⟨2, ![256, 768]⟩
abbrev S256x256 : Shape := ⟨2, ![256, 256]⟩
abbrev S256x1024 : Shape := ⟨2, ![256, 1024]⟩
abbrev S16x16x1024 : Shape := ⟨3, ![16, 16, 1024]⟩
abbrev S16x1024 : Shape := ⟨2, ![16, 1024]⟩
abbrev S1024 : Shape := ⟨1, ![1024]⟩
abbrev S1x1024 : Shape := ⟨2, ![1, 1024]⟩
abbrev S8x1024 : Shape := ⟨2, ![8, 1024]⟩
abbrev S8x257 : Shape := ⟨2, ![8, 257]⟩
abbrev S1x257 : Shape := ⟨2, ![1, 257]⟩

abbrev nBuf : Space → Nat
  | .hbm => 3
  | .vmem => 5
  | .smem => 0
  | _ => 0

abbrev bufTy : (tb : Table) → Fin (tcTables nBuf tb) → BufTy
  | .hbm, ⟨0, _⟩ => ⟨S16x256x768, .f32⟩
  | .hbm, ⟨1, _⟩ => ⟨S1024x257, .bf16⟩
  | .hbm, ⟨2, _⟩ => ⟨S16x1x257, .f32⟩
  | .local _ .vmem, ⟨0, _⟩ => ⟨S1x256x768, .f32⟩
  | .local _ .vmem, ⟨1, _⟩ => ⟨S1x256x768, .f32⟩
  | .local _ .vmem, ⟨2, _⟩ => ⟨S1024x257, .bf16⟩
  | .local _ .vmem, ⟨3, _⟩ => ⟨S1x1x257, .f32⟩
  | .local _ .vmem, ⟨4, _⟩ => ⟨S1x1x257, .f32⟩
  | _, _ => ⟨S16x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x257 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasReduceRefIdeal.lean ====
abbrev S16x256x768 : Shape := ⟨3, ![16, 256, 768]⟩
abbrev S1024x257 : Shape := ⟨2, ![1024, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S_ : Shape := ⟨0, ![]⟩
abbrev S256x768x1 : Shape := ⟨3, ![256, 768, 1]⟩
abbrev S1024 : Shape := ⟨1, ![1024]⟩
abbrev S1x1x1024 : Shape := ⟨3, ![1, 1, 1024]⟩
abbrev S256x768x1024 : Shape := ⟨3, ![256, 768, 1024]⟩
abbrev S1x256x768x1024 : Shape := ⟨4, ![1, 256, 768, 1024]⟩
abbrev S16x256x768x1 : Shape := ⟨4, ![16, 256, 768, 1]⟩
abbrev S16x256x768x1024 : Shape := ⟨4, ![16, 256, 768, 1024]⟩
abbrev S16x256x1024 : Shape := ⟨3, ![16, 256, 1024]⟩
abbrev S16x1024 : Shape := ⟨2, ![16, 1024]⟩
abbrev S16x257 : Shape := ⟨2, ![16, 257]⟩
abbrev S16x1x257 : Shape := ⟨3, ![16, 1, 257]⟩

abbrev nBuf : Space → Nat
  | .hbm => 40
  | .vmem => 0
  | .smem => 0
  | _ => 0

abbrev bufTy : (tb : Table) → Fin (tcTables nBuf tb) → BufTy
  | .hbm, ⟨0, _⟩ => ⟨S16x256x768, .f32⟩
  | .hbm, ⟨1, _⟩ => ⟨S1024x257, .bf16⟩
  | .hbm, ⟨2, _⟩ => ⟨S256, .i32⟩
  | .hbm, ⟨3, _⟩ => ⟨S256x1, .i32⟩
  | .hbm, ⟨4, _⟩ => ⟨S768, .i32⟩
  | .hbm, ⟨5, _⟩ => ⟨S1x768, .i32⟩
  | .hbm, ⟨6, _⟩ => ⟨S256x768, .i32⟩
  | .hbm, ⟨7, _⟩ => ⟨S256x768, .i32⟩
  | .hbm, ⟨8, _⟩ => ⟨S256x768, .i1⟩
  | .hbm, ⟨9, _⟩ => ⟨S256x768, .i32⟩
  | .hbm, ⟨10, _⟩ => ⟨S256x768, .i32⟩
  | .hbm, ⟨11, _⟩ => ⟨S256x768, .i32⟩
  | .hbm, ⟨12, _⟩ => ⟨S_, .i32⟩
  | .hbm, ⟨13, _⟩ => ⟨S256x768, .i32⟩
  | .hbm, ⟨14, _⟩ => ⟨S256x768, .i32⟩
  | .hbm, ⟨15, _⟩ => ⟨S256x768, .i32⟩
  | .hbm, ⟨16, _⟩ => ⟨S256x768, .i32⟩
  | .hbm, ⟨17, _⟩ => ⟨S256x768, .i32⟩
  | .hbm, ⟨18, _⟩ => ⟨S256x768, .i32⟩
  | .hbm, ⟨19, _⟩ => ⟨S256x768x1, .i32⟩
  | .hbm, ⟨20, _⟩ => ⟨S1024, .i32⟩
  | .hbm, ⟨21, _⟩ => ⟨S1x1x1024, .i32⟩
  | .hbm, ⟨22, _⟩ => ⟨S256x768x1024, .i32⟩
  | .hbm, ⟨23, _⟩ => ⟨S256x768x1024, .i32⟩
  | .hbm, ⟨24, _⟩ => ⟨S256x768x1024, .i1⟩
  | .hbm, ⟨25, _⟩ => ⟨S1x256x768x1024, .i1⟩
  | .hbm, ⟨26, _⟩ => ⟨S16x256x768x1, .f32⟩
  | .hbm, ⟨27, _⟩ => ⟨S_, .f32⟩
  | .hbm, ⟨28, _⟩ => ⟨S_, .f32⟩
  | .hbm, ⟨29, _⟩ => ⟨S16x256x768x1024, .i1⟩
  | .hbm, ⟨30, _⟩ => ⟨S16x256x768x1024, .f32⟩
  | .hbm, ⟨31, _⟩ => ⟨S16x256x768x1024, .f32⟩
  | .hbm, ⟨32, _⟩ => ⟨S16x256x768x1024, .f32⟩
  | .hbm, ⟨33, _⟩ => ⟨S_, .f32⟩
  | .hbm, ⟨34, _⟩ => ⟨S16x256x1024, .f32⟩
  | .hbm, ⟨35, _⟩ => ⟨S_, .f32⟩
  | .hbm, ⟨36, _⟩ => ⟨S16x1024, .f32⟩
  | .hbm, ⟨37, _⟩ => ⟨S1024x257, .f32⟩
  | .hbm, ⟨38, _⟩ => ⟨S16x257, .f32⟩
  | .hbm, ⟨39, _⟩ => ⟨S16x1x257, .f32⟩
  | _, _ => ⟨S16x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.GatePre.lean ====
module

public import proofs.«01_k».proof.Pre_gate_finite
public import Idealize.ShloMosaic.Lib.ReduceAll
public import Idealize.ShloMosaic.Lib.Affine
public import Idealize.ShloMosaic.Lib.Pointwise

/-! The precondition says that every entry of every argument is a real number. -/

@[expose] public section

noncomputable section

namespace Cert.GatePre

open Idealize.ShloMosaic Cert.Pre_gate_finite

/-- A value whose absolute value is below infinity is a real number. -/
theorem real_of_lt (x : Ideal .f32) (h : FloatOps.cmpf .olt (FloatOps.hostAbsf x) (FloatOps.ofBits (F := Ideal) .f32 0x7F800000#32) = 1#1) :
    ∃ r : ℝ, (x : EReal) = r := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hx : (x : EReal) ≠ ⊤ ∧ (x : EReal) ≠ ⊥ := by
    constructor <;> intro e <;> rw [e] at h <;> simp at h
  exact ⟨(x : EReal).toReal, (EReal.coe_toReal hx.1 hx.2).symm⟩

/-- An array whose absolute values are all below infinity holds real numbers. -/
theorem real_of_all {s : Shape} {axes : List (Fin s.rank)} (x : FVec Ideal s .f32) (hb : S_.BroadcastsInDim s ![]) (v : IVec S_ 1)
    (hr : s.ReducesTo axes S_) (hu : 0 < S_.numel) (j : S_.Idx)
    (h : Host.reduce IntOp.andi (cmpf .olt (Host.absf x) (broadcastInDim s ![] hb (constant S_ .f32 0x7F800000#32))) v hr hu j = 1#1)
    (i : s.Idx) : ∃ r : ℝ, (x i : EReal) = r :=
  have : Subsingleton S_.Idx := ⟨fun a b => funext fun k => k.elim0⟩
  real_of_lt _ (Host.reduce_andi_all _ _ _ _ _ h i)

variable [Cert.Pre_gate_finite.Facts] in
/-- The precondition's arguments hold real numbers. -/
theorem real_args (x0 x1 x2 x3 x4) (h : Cert.Pre_gate_finite.fn (F := Ideal) x0 x1 x2 x3 x4 = fun _ => 1#1) :
    (∀ i, ∃ r : ℝ, (x0 i : EReal) = r) ∧ (∀ i, ∃ r : ℝ, (x1 i : EReal) = r) ∧ (∀ i, ∃ r : ℝ, (x2 i : EReal) = r)
    ∧ (∀ i, ∃ r : ℝ, (x3 i : EReal) = r) ∧ ∀ i, ∃ r : ℝ, (x4 i : EReal) = r := by
  have h := congrFun h fun a => a.elim0
  unfold Cert.Pre_gate_finite.fn Cert.Pre_gate_finite.fn_part1 at h
  dsimp only at h
  have e : ∀ (a b : IVec S_ 1) (i), andi a b i = 1#1 ↔ a i = 1#1 ∧ b i = 1#1 := fun a b i => IntOp.andi_eq_one
  simp only [e] at h
  obtain ⟨⟨⟨⟨h0, h1⟩, h2⟩, h3⟩, h4⟩ := h
  exact ⟨fun i => real_of_all _ _ _ _ _ _ h0 i, fun i => real_of_all _ _ _ _ _ _ h1 i, fun i => real_of_all _ _ _ _ _ _ h2 i,
    fun i => real_of_all _ _ _ _ _ _ h3 i, fun i => real_of_all _ _ _ _ _ _ h4 i⟩

/-- A matrix of real values, extended to all numbers. -/
theorem ext2 {n k : ℕ} (f : (⟨2, ![n, k]⟩ : Shape).Idx → EReal) (h : ∀ i, ∃ r : ℝ, f i = r) :
    ∃ F : ℕ → ℕ → ℝ, ∀ i, f i = ((F (i 0).val (i 1).val : ℝ) : EReal) := by
  choose r hr using h
  exact ⟨fun a b => if hk : a < n ∧ b < k then r (ix2 ⟨a, hk.1⟩ ⟨b, hk.2⟩) else 0, fun i => by
    dsimp only
    rw [dif_pos ⟨(i 0).isLt, (i 1).isLt⟩]
    exact (hr i).trans (congrArg (fun j => ((r j : ℝ) : EReal)) (eq_ix2 i))⟩

/-- A stack of matrices of real values, extended to all numbers. -/
theorem ext3 {n k l : ℕ} (f : (⟨3, ![n, k, l]⟩ : Shape).Idx → EReal) (h : ∀ i, ∃ r : ℝ, f i = r) :
    ∃ F : ℕ → ℕ → ℕ → ℝ, ∀ i, f i = ((F (i 0).val (i 1).val (i 2).val : ℝ) : EReal) := by
  choose r hr using h
  exact ⟨fun a b d => if hk : a < n ∧ b < k ∧ d < l then r (ix3 ⟨a, hk.1⟩ ⟨b, hk.2.1⟩ ⟨d, hk.2.2⟩) else 0, fun i => by
    dsimp only
    rw [dif_pos ⟨(i 0).isLt, (i 1).isLt, (i 2).isLt⟩]
    exact (hr i).trans (congrArg (fun j => ((r j : ℝ) : EReal)) (eq_ix3 i))⟩

end Cert.GatePre

end

end
-- ==== Proof.NormPre.lean ====
module

public import proofs.«01_k».proof.Pre_in_dx_finite
public import proofs.«01_k».proof.Pre_mixer_dx_finite
public import proofs.«01_k».proof.Pre_qkv_dx_finite
public import proofs.«01_k».proof.Proof.GatePre

/-! The preconditions of the gradients through a norm say that every entry of every argument is a real number. -/

@[expose] public section

noncomputable section

namespace Cert.NormPre

open Idealize.ShloMosaic

/-- A vector of real values, extended to all numbers. -/
theorem ext1 {n : ℕ} (f : (⟨1, ![n]⟩ : Shape).Idx → EReal) (h : ∀ i, ∃ r : ℝ, f i = r) :
    ∃ F : ℕ → ℝ, ∀ i, f i = ((F (i 0).val : ℝ) : EReal) := by
  choose r hr using h
  exact ⟨fun a => if hk : a < n then r (ix1 ⟨a, hk⟩) else 0, fun i => by
    dsimp only
    rw [dif_pos (show (i 0).val < n from (i 0).isLt), ← hr]
    exact congrArg f (funext fun a => match a with | ⟨0, _⟩ => rfl)⟩

theorem and_one (a b : IVec ⟨0, ![]⟩ 1) (i) : andi a b i = 1#1 ↔ a i = 1#1 ∧ b i = 1#1 := IntOp.andi_eq_one

section
variable [Cert.Pre_in_dx_finite.Facts]

theorem in_dx (x0 x1 x2 x3 x4) (h : Cert.Pre_in_dx_finite.fn (F := Ideal) x0 x1 x2 x3 x4 = fun _ => 1#1) :
    (∀ i, ∃ r : ℝ, (x0 i : EReal) = r) ∧ (∀ i, ∃ r : ℝ, (x1 i : EReal) = r) ∧ (∀ i, ∃ r : ℝ, (x2 i : EReal) = r)
    ∧ (∀ i, ∃ r : ℝ, (x3 i : EReal) = r) ∧ ∀ i, ∃ r : ℝ, (x4 i : EReal) = r := by
  have h := congrFun h fun a => a.elim0
  unfold Cert.Pre_in_dx_finite.fn Cert.Pre_in_dx_finite.fn_part1 at h
  dsimp only at h
  simp only [and_one] at h
  obtain ⟨⟨⟨⟨h0, h1⟩, h2⟩, h3⟩, h4⟩ := h
  exact ⟨fun i => Cert.GatePre.real_of_all _ _ _ _ _ _ h0 i, fun i => Cert.GatePre.real_of_all _ _ _ _ _ _ h1 i, fun i => Cert.GatePre.real_of_all _ _ _ _ _ _ h2 i,
    fun i => Cert.GatePre.real_of_all _ _ _ _ _ _ h3 i, fun i => Cert.GatePre.real_of_all _ _ _ _ _ _ h4 i⟩

end

section
variable [Cert.Pre_mixer_dx_finite.Facts]

theorem mixer_dx (x0 x1 x2 x3 x4) (h : Cert.Pre_mixer_dx_finite.fn (F := Ideal) x0 x1 x2 x3 x4 = fun _ => 1#1) :
    (∀ i, ∃ r : ℝ, (x0 i : EReal) = r) ∧ (∀ i, ∃ r : ℝ, (x1 i : EReal) = r) ∧ (∀ i, ∃ r : ℝ, (x2 i : EReal) = r)
    ∧ (∀ i, ∃ r : ℝ, (x3 i : EReal) = r) ∧ ∀ i, ∃ r : ℝ, (x4 i : EReal) = r := by
  have h := congrFun h fun a => a.elim0
  unfold Cert.Pre_mixer_dx_finite.fn Cert.Pre_mixer_dx_finite.fn_part1 at h
  dsimp only at h
  simp only [and_one] at h
  obtain ⟨⟨⟨⟨h0, h1⟩, h2⟩, h3⟩, h4⟩ := h
  exact ⟨fun i => Cert.GatePre.real_of_all _ _ _ _ _ _ h0 i, fun i => Cert.GatePre.real_of_all _ _ _ _ _ _ h1 i, fun i => Cert.GatePre.real_of_all _ _ _ _ _ _ h2 i,
    fun i => Cert.GatePre.real_of_all _ _ _ _ _ _ h3 i, fun i => Cert.GatePre.real_of_all _ _ _ _ _ _ h4 i⟩

end

section
variable [Cert.Pre_qkv_dx_finite.Facts]

theorem qkv_dx (x0 x1 x2 x3 x4 x5 x6 x7) (h : Cert.Pre_qkv_dx_finite.fn (F := Ideal) x0 x1 x2 x3 x4 x5 x6 x7 = fun _ => 1#1) :
    (∀ i, ∃ r : ℝ, (x0 i : EReal) = r) ∧ (∀ i, ∃ r : ℝ, (x1 i : EReal) = r) ∧ (∀ i, ∃ r : ℝ, (x2 i : EReal) = r)
    ∧ (∀ i, ∃ r : ℝ, (x3 i : EReal) = r) ∧ (∀ i, ∃ r : ℝ, (x4 i : EReal) = r) ∧ (∀ i, ∃ r : ℝ, (x5 i : EReal) = r)
    ∧ (∀ i, ∃ r : ℝ, (x6 i : EReal) = r) ∧ ∀ i, ∃ r : ℝ, (x7 i : EReal) = r := by
  have h := congrFun h fun a => a.elim0
  unfold Cert.Pre_qkv_dx_finite.fn Cert.Pre_qkv_dx_finite.fn_part1 Cert.Pre_qkv_dx_finite.fn_part2 at h
  dsimp only at h
  simp only [and_one] at h
  obtain ⟨⟨⟨⟨⟨⟨⟨h0, h1⟩, h2⟩, h3⟩, h4⟩, h5⟩, h6⟩, h7⟩ := h
  exact ⟨fun i => Cert.GatePre.real_of_all _ _ _ _ _ _ h0 i, fun i => Cert.GatePre.real_of_all _ _ _ _ _ _ h1 i, fun i => Cert.GatePre.real_of_all _ _ _ _ _ _ h2 i,
    fun i => Cert.GatePre.real_of_all _ _ _ _ _ _ h3 i, fun i => Cert.GatePre.real_of_all _ _ _ _ _ _ h4 i, fun i => Cert.GatePre.real_of_all _ _ _ _ _ _ h5 i,
    fun i => Cert.GatePre.real_of_all _ _ _ _ _ _ h6 i, fun i => Cert.GatePre.real_of_all _ _ _ _ _ _ h7 i⟩

end

end Cert.NormPre

end

end
-- ==== Proof.AttnPre.lean ====
module

public import proofs.«01_k».proof.Pre_attn_finite
public import proofs.«01_k».proof.Proof.NormPre

/-! The attention's precondition says that every entry of its three arguments is a real number. -/

@[expose] public section

noncomputable section

namespace Cert.AttnPre

open Idealize.ShloMosaic

/-- A real array on four axes, extended to all numbers. -/
theorem ext4 {n k l p : ℕ} (f : (⟨4, ![n, k, l, p]⟩ : Shape).Idx → EReal) (h : ∀ i, ∃ r : ℝ, f i = r) :
    ∃ F : ℕ → ℕ → ℕ → ℕ → ℝ, ∀ i, f i = ((F (i 0).val (i 1).val (i 2).val (i 3).val : ℝ) : EReal) := by
  choose r hr using h
  exact ⟨fun a b d e => if hk : a < n ∧ b < k ∧ d < l ∧ e < p then r (ix4 ⟨a, hk.1⟩ ⟨b, hk.2.1⟩ ⟨d, hk.2.2.1⟩ ⟨e, hk.2.2.2⟩) else 0,
    fun i => by
      dsimp only
      rw [dif_pos ⟨(i 0).isLt, (i 1).isLt, (i 2).isLt, (i 3).isLt⟩]
      exact (hr i).trans (congrArg (fun j => ((r j : ℝ) : EReal)) (eq_ix4 i))⟩

variable [Cert.Pre_attn_finite.Facts]

/-- The attention's arguments hold real numbers. -/
theorem attn (x0 x1 x2) (h : Cert.Pre_attn_finite.fn (F := Ideal) x0 x1 x2 = fun _ => 1#1) :
    (∀ i, ∃ r : ℝ, (x0 i : EReal) = r) ∧ (∀ i, ∃ r : ℝ, (x1 i : EReal) = r) ∧ ∀ i, ∃ r : ℝ, (x2 i : EReal) = r := by
  have h := congrFun h fun a => a.elim0
  unfold Cert.Pre_attn_finite.fn at h
  dsimp only at h
  simp only [Cert.NormPre.and_one] at h
  obtain ⟨⟨h0, h1⟩, h2⟩ := h
  exact ⟨fun i => Cert.GatePre.real_of_all _ _ _ _ _ _ h0 i, fun i => Cert.GatePre.real_of_all _ _ _ _ _ _ h1 i,
    fun i => Cert.GatePre.real_of_all _ _ _ _ _ _ h2 i⟩

end Cert.AttnPre

end

end
-- ==== Proof.GateMath.lean ====
module

public import Idealize.ShloMosaic.Lib.IdealHost
public import Idealize.ShloMosaic.Lib.ValueIdx

/-! The mathematics of the gate's backward call, over the real numbers and with plain row and column numbers. A row `r`
    belongs to the block of 128 positions `r / 128`, a column `c` to the group `c / 128`. Both programs are shown to
    compute these functions of their arguments. -/

@[expose] public section

noncomputable section

namespace Cert.GateMath

open Idealize.ShloMosaic

/-- The constant under the tangent, the float nearest the square root of 2/π. -/
def cT : ℝ := (Ideal.ofBits .f32 0x3F4C422A#32).toReal

/-- The constant added to the mean square. -/
def eps : ℝ := 8796093 / 8796093022208

theorem cT_eq : Ideal.ofBits .f32 0x3F4C422A#32 = (cT : EReal) := by
  unfold cT
  refine (EReal.coe_toReal ?_ ?_).symm <;> simp [Ideal.ofBits, Ideal.ieee, ← EReal.coe_mul]

theorem eps_eq : Ideal.ofBits .f32 0x358637BD#32 = (eps : EReal) := by
  unfold eps; simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem neg_half_eq : Ideal.ofBits .f32 0xBF000000#32 = ((-1 / 2 : ℝ) : EReal) := by
  simp [Ideal.ofBits, Ideal.ieee, -EReal.coe_mul, -EReal.coe_neg]; norm_num

theorem three_eq : Ideal.ofBits .f32 0x40400000#32 = ((3 : ℝ) : EReal) := by
  simp [Ideal.ofBits, Ideal.ieee, -EReal.coe_mul]; norm_num

theorem width_eq : Ideal.ofBits .f32 0x44800000#32 = ((1024 : ℝ) : EReal) := by
  simp [Ideal.ofBits, Ideal.ieee, -EReal.coe_mul]; norm_num

theorem one_eq : Ideal.ofBits .f32 0x3F800000#32 = ((1 : ℝ) : EReal) := by
  rw [Ideal.ofBits_one_f32]; rfl

theorem zero_eq : Ideal.ofBits .f32 0x00000000#32 = ((0 : ℝ) : EReal) := by
  rw [Ideal.ofBits_zero_f32]; rfl

/-- A finite sum of real numbers, read as extended reals, is the sum of the readings. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- Division of two real numbers by one that is not zero. -/
theorem div_real (x y : ℝ) (h : y ≠ 0) : Ideal.div (x : EReal) (y : EReal) = ((x / y : ℝ) : EReal) := by
  rw [Ideal.div_coe h, ← EReal.coe_mul, mul_one_div]

/-- The tangent inside the gate's activation. -/
def th (x : ℝ) : ℝ := Real.tanh (cT * x * (1 + 8943 / 200000 * (x * x)))

/-- The activation. -/
def act (x : ℝ) : ℝ := x * (1 / 2 * (1 + th x))

/-- The activation's derivative. -/
def dact (x : ℝ) : ℝ :=
  1 / 2 * (1 + th x) + 1 / 2 * x * (1 - th x * th x) * cT * (1 + 26829 / 200000 * (x * x))

/-- The causal mask between the chunks of a block. -/
def msk (i j : ℕ) (x : ℝ) : ℝ := if j / 64 ≤ i / 64 then x else 0

section

variable (Z D : ℕ → ℕ → ℝ) (g : ℕ → ℝ) (W : ℕ → ℕ → ℕ → ℝ) (b : ℕ → ℕ → ℝ)

/-- The gate's multiplicand: the activated left half. -/
def u (r c : ℕ) : ℝ := act (Z r c)

/-- The activated right half. -/
def v (r c : ℕ) : ℝ := act (Z r (1024 + c))

/-- A row's mean square plus the small constant. -/
def ms (r : ℕ) : ℝ := (∑ c : Fin 1024, v Z r c * v Z r c) / 1024 + eps

/-- A row's reciprocal root mean square. -/
def rr (r : ℕ) : ℝ := (Real.sqrt (ms Z r))⁻¹

/-- The normalised right half. -/
def n (r c : ℕ) : ℝ := v Z r c * rr Z r

/-- The normalised right half, scaled by the norm's gain. -/
def vn (r c : ℕ) : ℝ := n Z r c * g c

/-- The masked mixing weights of group `q`. -/
def w (q i j : ℕ) : ℝ := msk i j (W q i j)

/-- The mixed values: each block of 128 positions through its group's weights, plus the bias. -/
def s (r c : ℕ) : ℝ := ∑ j : Fin 128, w W (c / 128) (r % 128) j * vn Z g (128 * (r / 128) + j) c + b (c / 128) (r % 128)

/-- The gradient arriving at the mixed values. -/
def ds (r c : ℕ) : ℝ := D r c * u Z r c

/-- The gradient of the scaled normalised half. -/
def dvn (r c : ℕ) : ℝ := ∑ i : Fin 128, w W (c / 128) i (r % 128) * ds Z D (128 * (r / 128) + i) c

/-- The same, times the gain. -/
def tt (r c : ℕ) : ℝ := dvn Z D W r c * g c

/-- The gradient of the activated right half. -/
def dv (r c : ℕ) : ℝ := rr Z r * (tt Z D g W r c - n Z r c * ((∑ k : Fin 1024, tt Z D g W r k * n Z r k) / 1024))

/-- The gradient of the call's input. -/
def dz (r c : ℕ) : ℝ :=
  (if c < 1024 then D r c * s Z g W b r c else dv Z D g W r (c - 1024)) * dact (Z r c)

/-- One block's part of the weights' gradient. -/
def dwB (p q i j : ℕ) : ℝ := ∑ c : Fin 128, ds Z D (128 * p + i) (128 * q + c) * vn Z g (128 * p + j) (128 * q + c)

theorem ms_pos (r : ℕ) : 0 < ms Z r := by
  unfold ms eps
  have : 0 ≤ ∑ c : Fin 1024, v Z r c * v Z r c := Finset.sum_nonneg fun c _ => mul_self_nonneg _
  positivity

theorem rr_sq (r : ℕ) : rr Z r * rr Z r * ms Z r = 1 := by
  have h := ms_pos Z r
  unfold rr
  rw [← mul_inv, Real.mul_self_sqrt h.le, inv_mul_cancel₀ h.ne']

theorem rsqrt_ms (r : ℕ) : Ideal.rsqrt ((ms Z r : ℝ) : EReal) = ((rr Z r : ℝ) : EReal) := by
  rw [Ideal.rsqrt_coe, if_neg (not_lt.mpr (ms_pos Z r).le), if_neg (ms_pos Z r).ne']
  rfl

end

end Cert.GateMath

end

end
-- ==== Proof.AttnMath.lean ====
module

public import proofs.«01_k».proof.Proof.GateMath

/-! The mathematics of the chunked attention over the real numbers. A query looks at the keys of its own block of 256
    positions and of the two blocks before it; the first two blocks have fewer keys. Both programs shift the scores by
    their row's largest one before the exponential; the shift cancels in the quotient. -/

@[expose] public section

noncomputable section

namespace Cert.AttnMath

open Idealize.ShloMosaic Cert.GateMath

/-- The average of `v` with weights the exponentials of the first `J` scores. -/
def soft (J : ℕ) (s v : ℕ → ℝ) : ℝ := (∑ j ∈ Finset.range J, Real.exp (s j) * v j) / ∑ j ∈ Finset.range J, Real.exp (s j)

/-- How many of a query's 768 key places lie before the sequence's start, in query block `n`. -/
def off (n : ℕ) : ℕ := 512 - 256 * n

/-- How many keys a query of block `n` has. -/
def cnt (n : ℕ) : ℕ := 768 - off n

/-- The score of row `r` of query block `n` against its `j`-th key, in head `h` of batch entry `bt`. -/
def score (Q : ℕ → ℕ → ℕ → ℝ) (KV : ℕ → ℕ → ℕ → ℕ → ℝ) (B : ℕ → ℕ → ℕ → ℝ) (bt n r h j : ℕ) : ℝ :=
  ∑ e : Fin 64, Q bt (256 * n + r) (64 * h + e.val) * KV 0 bt (256 * n - 512 + j) (64 * h + e.val) + B h r (off n + j)

/-- The attention's output at row `r` of block `n`, channel `d` of head `h`. -/
def att (Q : ℕ → ℕ → ℕ → ℝ) (KV : ℕ → ℕ → ℕ → ℕ → ℝ) (B : ℕ → ℕ → ℕ → ℝ) (bt n r h d : ℕ) : ℝ :=
  soft (cnt n) (score Q KV B bt n r h) fun j => KV 1 bt (256 * n - 512 + j) (64 * h + d)

theorem ninf_eq : Ideal.ofBits .f32 0xFF800000#32 = ⊥ := by simp [Ideal.ofBits, Ideal.ieee]

theorem soft_pos (J : ℕ) (hJ : 0 < J) (s : ℕ → ℝ) : 0 < ∑ j ∈ Finset.range J, Real.exp (s j) :=
  Finset.sum_pos (fun j _ => Real.exp_pos _) ⟨0, Finset.mem_range.2 hJ⟩

/-- Subtracting one number from all the scores changes nothing. -/
theorem soft_shift (J : ℕ) (s v : ℕ → ℝ) (μ : ℝ) : soft J (fun j => s j - μ) v = soft J s v := by
  unfold soft
  simp only [Real.exp_sub, div_mul_eq_mul_div, ← Finset.sum_div]
  exact div_div_div_cancel_right₀ (Real.exp_pos μ).ne' _ _

/-- The largest of finitely many scores, none infinite and not all minus infinite, is a real number. -/
theorem max_real {n : ℕ} (x : Fin n → EReal) (h : ∀ j, x j ≠ ⊤) (k : Fin n) (hk : x k ≠ ⊥) :
    ∃ μ : ℝ, Finset.univ.fold max ⊥ x = (μ : EReal) := by
  have h1 : Finset.univ.fold max ⊥ x < ⊤ := Finset.fold_max_lt _ |>.2 ⟨bot_lt_top, fun j _ => lt_top_iff_ne_top.2 (h j)⟩
  have h2 : ⊥ < Finset.univ.fold max ⊥ x := Finset.lt_fold_max _ |>.2 (.inr ⟨k, Finset.mem_univ _, bot_lt_iff_ne_bot.2 hk⟩)
  exact ⟨_, (EReal.coe_toReal h1.ne h2.ne').symm⟩

theorem exp_real (x : ℝ) : Ideal.exp (x : EReal) = ((Real.exp x : ℝ) : EReal) := rfl

/-- The call's row: the weighted sum of values, then the factor one over the weights' sum. -/
theorem kernel_row (J : ℕ) (hJ : 0 < J) (s v : ℕ → ℝ) (x w : Fin J → EReal) (hx : ∀ j, x j = (s j.val : EReal))
    (hw : ∀ j, w j = (v j.val : EReal)) :
    (∑ j, Ideal.exp (x j - Finset.univ.fold max ⊥ x) * w j) * Ideal.div 1 (∑ j, Ideal.exp (x j - Finset.univ.fold max ⊥ x))
      = ((soft J s v : ℝ) : EReal) := by
  obtain ⟨μ, hμ⟩ := max_real x (fun j => by rw [hx]; exact EReal.coe_ne_top _) ⟨0, hJ⟩ (by rw [hx]; exact EReal.coe_ne_bot _)
  rw [hμ]
  simp only [hx, hw, ← EReal.coe_sub, exp_real, ← EReal.coe_mul, coe_sum]
  rw [Fin.sum_univ_eq_sum_range (fun j => Real.exp (s j - μ) * v j), Fin.sum_univ_eq_sum_range (fun j => Real.exp (s j - μ)),
    ← EReal.coe_one, div_real _ _ (soft_pos J hJ fun j => s j - μ).ne', ← EReal.coe_mul, mul_one_div]
  exact congrArg _ (soft_shift J s v μ)

/-- A sum over all key places of a term that is zero before the sequence's start. -/
theorem sum_valid (o J : ℕ) (f : ℕ → ℝ) :
    ∑ j : Fin (o + J), (if o ≤ j.val then f (j.val - o) else 0) = ∑ j ∈ Finset.range J, f j := by
  rw [Fin.sum_univ_eq_sum_range (fun j => if o ≤ j then f (j - o) else 0), Finset.sum_range_add,
    Finset.sum_eq_zero (fun j hj => if_neg (not_le.2 (Finset.mem_range.1 hj))), zero_add]
  exact Finset.sum_congr rfl fun j _ => by rw [if_pos (Nat.le_add_right _ _), Nat.add_sub_cancel_left]

/-- The reference's row: the scores before the start are minus infinity, each weight is divided by the weights' sum. -/
theorem reference_row (o J N : ℕ) (hN : N = o + J) (hJ : 0 < J) (s v : ℕ → ℝ) (x w : Fin N → EReal)
    (hx : ∀ j, x j = if o ≤ j.val then (s (j.val - o) : EReal) else ⊥)
    (hw : ∀ j, w j = if o ≤ j.val then (v (j.val - o) : EReal) else 0) :
    ∑ j, w j * Ideal.div (Ideal.exp (x j - max ⊥ (Finset.univ.fold max ⊥ x)))
        (∑ k, Ideal.exp (x k - max ⊥ (Finset.univ.fold max ⊥ x)))
      = ((soft J s v : ℝ) : EReal) := by
  subst hN
  obtain ⟨μ, hμ⟩ := max_real x (fun j => by rw [hx]; split <;> simp) ⟨o, by omega⟩ (by rw [hx, if_pos le_rfl]; exact EReal.coe_ne_bot _)
  rw [max_eq_right bot_le, hμ]
  have he : ∀ j, Ideal.exp (x j - (μ : EReal)) = (((if o ≤ j.val then Real.exp (s (j.val - o) - μ) else 0 : ℝ)) : EReal) := by
    intro j
    rw [hx]
    split
    · rw [← EReal.coe_sub, exp_real]
    · rfl
  have hs : ∑ k, Ideal.exp (x k - (μ : EReal)) = ((∑ j ∈ Finset.range J, Real.exp (s j - μ) : ℝ) : EReal) := by
    simp only [he, coe_sum]
    exact congrArg _ (sum_valid o J fun j => Real.exp (s j - μ))
  have hp := soft_pos J hJ fun j => s j - μ
  have ht : ∀ j, w j * Ideal.div (Ideal.exp (x j - (μ : EReal))) (∑ k, Ideal.exp (x k - (μ : EReal)))
      = (((if o ≤ j.val then Real.exp (s (j.val - o) - μ) * v (j.val - o) / ∑ j ∈ Finset.range J, Real.exp (s j - μ) else 0 : ℝ)) : EReal) := by
    intro j
    rw [hs, he, div_real _ _ hp.ne', hw]
    split
    · rw [← EReal.coe_mul]; congr 1; ring
    · rw [zero_mul]; rfl
  simp only [ht, coe_sum]
  rw [sum_valid o J fun j => Real.exp (s j - μ) * v j / ∑ j ∈ Finset.range J, Real.exp (s j - μ), ← Finset.sum_div]
  exact congrArg _ (soft_shift J s v μ)

end Cert.AttnMath

end

end
-- ==== Proof.AttnTile.lean ====
module

public import proofs.«01_k».proof.Proof.Gen.AttnIdeal.Value
public import proofs.«01_k».proof.Proof.AttnMath
public import Idealize.ShloMosaic.Lib.Pipeline.ValueKit
public import Idealize.ShloMosaic.Lib.Pointwise
public import Idealize.ShloMosaic.Lib.Pipeline.ReadBack

/-! One head's tile of the attention call, for the three key counts, and the eight tiles side by side. -/

@[expose] public section

set_option maxRecDepth 16384

noncomputable section

namespace Cert.AttnIdeal.AttnTile

open Cert.AttnIdeal Cert.AttnIdeal.Gen Cert.AttnMath Cert.GateMath Idealize.ShloMosaic Idealize.ShloMosaic.TcCoe
  Idealize.SL.Sem Idealize.ShloMosaic.StableHlo

variable (s w : ℕ → ℝ)

/-- A head's tile with 256 keys. -/
theorem tile1 (k : Vec Ideal S1x1x256x64 .bf16) (q : Vec Ideal S1x256x64 .bf16) (b : Vec Ideal S1x256x256 .f32) (v : Vec Ideal S1x1x256x64 .bf16)
    (i : S256x64.Idx) (hs : ∀ j : Fin 256, ∑ e : Fin 64, q (ix3 0 (i 0) e) * k (ix4 0 0 j e) + b (ix3 0 (i 0) j) = ((s j.val : ℝ) : EReal))
    (hw : ∀ j : Fin 256, v (ix4 0 0 j (i 1)) = ((w j.val : ℝ) : EReal)) : k0_pay4 k q b v i = ((soft 256 s w : ℝ) : EReal) := by
  pointwise [k0_pay4]
  rw [ninf_eq]
  exact kernel_row 256 (by norm_num) s w _ _ hs hw

/-- A head's tile with 512 keys. -/
theorem tile2 (k : Vec Ideal S1x1x512x64 .bf16) (q : Vec Ideal S1x256x64 .bf16) (b : Vec Ideal S1x256x512 .f32) (v : Vec Ideal S1x1x512x64 .bf16)
    (i : S256x64.Idx) (hs : ∀ j : Fin 512, ∑ e : Fin 64, q (ix3 0 (i 0) e) * k (ix4 0 0 j e) + b (ix3 0 (i 0) j) = ((s j.val : ℝ) : EReal))
    (hw : ∀ j : Fin 512, v (ix4 0 0 j (i 1)) = ((w j.val : ℝ) : EReal)) : k0_pay22 k q b v i = ((soft 512 s w : ℝ) : EReal) := by
  pointwise [k0_pay22]
  rw [ninf_eq]
  exact kernel_row 512 (by norm_num) s w _ _ hs hw

/-- A head's tile with 768 keys. -/
theorem tile3 (k : Vec Ideal S1x1x768x64 .bf16) (q : Vec Ideal S1x256x64 .bf16) (b : Vec Ideal S1x256x768 .f32) (v : Vec Ideal S1x1x768x64 .bf16)
    (i : S256x64.Idx) (hs : ∀ j : Fin 768, ∑ e : Fin 64, q (ix3 0 (i 0) e) * k (ix4 0 0 j e) + b (ix3 0 (i 0) j) = ((s j.val : ℝ) : EReal))
    (hw : ∀ j : Fin 768, v (ix4 0 0 j (i 1)) = ((w j.val : ℝ) : EReal)) : k0_pay40 k q b v i = ((soft 768 s w : ℝ) : EReal) := by
  pointwise [k0_pay40]
  rw [ninf_eq]
  exact kernel_row 768 (by norm_num) s w _ _ hs hw

/-- The eight heads' tiles side by side: a column of the block belongs to the head of its group of 64. -/
theorem heads (F : ℕ → ℕ → ℕ → ℝ) (t0 t1 t2 t3 t4 t5 t6 t7 : FVec Ideal S256x64 .f32)
    (h0 : ∀ i, t0 i = ((F 0 (i 0).val (i 1).val : ℝ) : EReal)) (h1 : ∀ i, t1 i = ((F 1 (i 0).val (i 1).val : ℝ) : EReal))
    (h2 : ∀ i, t2 i = ((F 2 (i 0).val (i 1).val : ℝ) : EReal)) (h3 : ∀ i, t3 i = ((F 3 (i 0).val (i 1).val : ℝ) : EReal))
    (h4 : ∀ i, t4 i = ((F 4 (i 0).val (i 1).val : ℝ) : EReal)) (h5 : ∀ i, t5 i = ((F 5 (i 0).val (i 1).val : ℝ) : EReal))
    (h6 : ∀ i, t6 i = ((F 6 (i 0).val (i 1).val : ℝ) : EReal)) (h7 : ∀ i, t7 i = ((F 7 (i 0).val (i 1).val : ℝ) : EReal))
    (y : S1x256x512.Idx) :
    shapeCast S1x256x512 (truncf .bf16 (concatenate S256x512 1 [⟨S256x64, t0⟩, ⟨S256x64, t1⟩, ⟨S256x64, t2⟩, ⟨S256x64, t3⟩, ⟨S256x64, t4⟩,
        ⟨S256x64, t5⟩, ⟨S256x64, t6⟩, ⟨S256x64, t7⟩]
        concatenates_S256x64_S256x64_S256x64_S256x64_S256x64_S256x64_S256x64_S256x64_S256x512_d1) bitsLt_bf16_f32 : FVec Ideal S256x512 .bf16)
      shapeCasts_S256x512_S1x256x512 y = ((F ((y 2).val / 64) (y 1).val ((y 2).val % 64) : ℝ) : EReal) := by
  have hy : (y 2).val < 512 := (y 2).isLt
  have aux : ∀ (a b : ℕ) (d d' : ℕ), a = b → d = d' → ((F a (y 1).val d : ℝ) : EReal) = ((F b (y 1).val d' : ℝ) : EReal) := by
    rintro _ _ _ _ rfl rfl; rfl
  pointwise
  repeat' split
  · exact (h0 _).trans (aux _ _ _ _ (by omega) (show (y 2).val = _ by omega))
  · exact (h1 _).trans (aux _ _ _ _ (by omega) (show (y 2).val - 64 = _ by omega))
  · exact (h2 _).trans (aux _ _ _ _ (by omega) (show (y 2).val - 64 - 64 = _ by omega))
  · exact (h3 _).trans (aux _ _ _ _ (by omega) (show (y 2).val - 64 - 64 - 64 = _ by omega))
  · exact (h4 _).trans (aux _ _ _ _ (by omega) (show (y 2).val - 64 - 64 - 64 - 64 = _ by omega))
  · exact (h5 _).trans (aux _ _ _ _ (by omega) (show (y 2).val - 64 - 64 - 64 - 64 - 64 = _ by omega))
  · exact (h6 _).trans (aux _ _ _ _ (by omega) (show (y 2).val - 64 - 64 - 64 - 64 - 64 - 64 = _ by omega))
  · exact (h7 _).trans (aux _ _ _ _ (by omega) (show (y 2).val - 64 - 64 - 64 - 64 - 64 - 64 - 64 = _ by omega))

variable (Q : ℕ → ℕ → ℕ → ℝ) (KV : ℕ → ℕ → ℕ → ℕ → ℝ) (B : ℕ → ℕ → ℕ → ℝ) (bt n g : ℕ)
  (q : S1x256x512.Idx → EReal) (k v : S1x1x2048x512.Idx → EReal) (b : S8x256x768.Idx → EReal)
  (Hq : ∀ y, q y = ((Q bt (256 * n + (y 1).val) (512 * g + (y 2).val) : ℝ) : EReal))
  (Hk : ∀ y, k y = ((KV 0 bt (y 2).val (512 * g + (y 3).val) : ℝ) : EReal))
  (Hv : ∀ y, v y = ((KV 1 bt (y 2).val (512 * g + (y 3).val) : ℝ) : EReal))
  (Hb : ∀ y, b y = ((B (8 * g + (y 0).val) (y 1).val (y 2).val : ℝ) : EReal))

/-- A score from its entries' places. -/
theorem score_eq (r h j b0 b1 b2 : ℕ) (qr qc kr kc : Fin 64 → ℕ) (e1 : ∀ e, qr e = 256 * n + r) (e2 : ∀ e, qc e = 64 * h + e.val)
    (e3 : ∀ e, kr e = 256 * n - 512 + j) (e4 : ∀ e, kc e = 64 * h + e.val) (e5 : b0 = h) (e6 : b1 = r) (e7 : b2 = off n + j) :
    ∑ e : Fin 64, Q bt (qr e) (qc e) * KV 0 bt (kr e) (kc e) + B b0 b1 b2 = score Q KV B bt n r h j := by
  subst e5 e6 e7
  unfold score
  simp only [e1, e2, e3, e4]

include Hq Hk Hv Hb

/-- A head's tile of the first query block, from the blocks the windows hold. -/
theorem head1 (hn : n = 0) (h : ℕ) (ok oq ob) (ek : ok = ![0, 0, 0, 64 * h]) (eq : oq = ![0, 0, 64 * h]) (eb : ob = ![h, 0, 512]) (i1 i2 i3)
    (i : S256x64.Idx) :
    k0_pay4 (F := Ideal) (View.ld (Val := Elt Ideal) (e' := .bf16) k (Rect.unit ok ![1, 1, 256, 64] i1))
      (View.ld (Val := Elt Ideal) (e' := .bf16) q (Rect.unit oq ![1, 256, 64] i2))
      (View.ld (Val := Elt Ideal) (e' := .f32) b (Rect.unit ob ![1, 256, 256] i3))
      (View.ld (Val := Elt Ideal) (e' := .bf16) v (Rect.unit ok ![1, 1, 256, 64] i1)) i
      = ((att Q KV B bt n (i 0).val (8 * g + h) (i 1).val : ℝ) : EReal) := by
  subst ek eq eb
  have hc : cnt n = 256 := by subst hn; rfl
  have ho : off n = 512 := by subst hn; rfl
  unfold att
  rw [hc]
  refine tile1 _ _ _ _ _ _ i (fun j => ?_) fun j => ?_
  · simp only [View.ld_apply, Hq, Hk, Hb, Rect.idx_unit_val, ← EReal.coe_mul, coe_sum, ← EReal.coe_add]
    refine congrArg _ (score_eq Q KV B bt n (i 0).val (8 * g + h) j.val _ _ _ _ _ _ _ (fun e => ?_) (fun e => ?_) (fun e => ?_) (fun e => ?_) ?_ ?_ ?_)
    · show 256 * n + (0 + (i 0).val) = _; omega
    · show 512 * g + (64 * h + e.val) = _; omega
    · show 0 + j.val = _; omega
    · show 512 * g + (64 * h + e.val) = _; omega
    · show 8 * g + (h + 0) = _; omega
    · show 0 + (i 0).val = _; omega
    · show 512 + j.val = _; omega
  · simp only [View.ld_apply, Hv, Rect.idx_unit_val]
    refine congrArg _ (congrArg₂ (KV 1 bt) (show 0 + j.val = _ by omega) (show 512 * g + (64 * h + (i 1).val) = _ by omega))

/-- A head's tile of the second query block. -/
theorem head2 (hn : n = 1) (h : ℕ) (ok oq ob) (ek : ok = ![0, 0, 0, 64 * h]) (eq : oq = ![0, 0, 64 * h]) (eb : ob = ![h, 0, 256]) (i1 i2 i3)
    (i : S256x64.Idx) :
    k0_pay22 (F := Ideal) (View.ld (Val := Elt Ideal) (e' := .bf16) k (Rect.unit ok ![1, 1, 512, 64] i1))
      (View.ld (Val := Elt Ideal) (e' := .bf16) q (Rect.unit oq ![1, 256, 64] i2))
      (View.ld (Val := Elt Ideal) (e' := .f32) b (Rect.unit ob ![1, 256, 512] i3))
      (View.ld (Val := Elt Ideal) (e' := .bf16) v (Rect.unit ok ![1, 1, 512, 64] i1)) i
      = ((att Q KV B bt n (i 0).val (8 * g + h) (i 1).val : ℝ) : EReal) := by
  subst ek eq eb
  have hc : cnt n = 512 := by subst hn; rfl
  have ho : off n = 256 := by subst hn; rfl
  unfold att
  rw [hc]
  refine tile2 _ _ _ _ _ _ i (fun j => ?_) fun j => ?_
  · simp only [View.ld_apply, Hq, Hk, Hb, Rect.idx_unit_val, ← EReal.coe_mul, coe_sum, ← EReal.coe_add]
    refine congrArg _ (score_eq Q KV B bt n (i 0).val (8 * g + h) j.val _ _ _ _ _ _ _ (fun e => ?_) (fun e => ?_) (fun e => ?_) (fun e => ?_) ?_ ?_ ?_)
    · show 256 * n + (0 + (i 0).val) = _; omega
    · show 512 * g + (64 * h + e.val) = _; omega
    · show 0 + j.val = _; omega
    · show 512 * g + (64 * h + e.val) = _; omega
    · show 8 * g + (h + 0) = _; omega
    · show 0 + (i 0).val = _; omega
    · show 256 + j.val = _; omega
  · simp only [View.ld_apply, Hv, Rect.idx_unit_val]
    refine congrArg _ (congrArg₂ (KV 1 bt) (show 0 + j.val = _ by omega) (show 512 * g + (64 * h + (i 1).val) = _ by omega))

/-- A head's tile of a later query block. -/
theorem head3 (hn : 2 ≤ n) (h : ℕ) (ok oq ob) (ek : ok = ![0, 0, 256 * n - 512, 64 * h]) (eq : oq = ![0, 0, 64 * h]) (eb : ob = ![h, 0, 0])
    (i1 i2 i3) (i : S256x64.Idx) :
    k0_pay40 (F := Ideal) (View.ld (Val := Elt Ideal) (e' := .bf16) k (Rect.unit ok ![1, 1, 768, 64] i1))
      (View.ld (Val := Elt Ideal) (e' := .bf16) q (Rect.unit oq ![1, 256, 64] i2))
      (View.ld (Val := Elt Ideal) (e' := .f32) b (Rect.unit ob ![1, 256, 768] i3))
      (View.ld (Val := Elt Ideal) (e' := .bf16) v (Rect.unit ok ![1, 1, 768, 64] i1)) i
      = ((att Q KV B bt n (i 0).val (8 * g + h) (i 1).val : ℝ) : EReal) := by
  subst ek eq eb
  have ho : off n = 0 := by unfold off; omega
  have hc : cnt n = 768 := by unfold cnt; omega
  unfold att
  rw [hc]
  refine tile3 _ _ _ _ _ _ i (fun j => ?_) fun j => ?_
  · simp only [View.ld_apply, Hq, Hk, Hb, Rect.idx_unit_val, ← EReal.coe_mul, coe_sum, ← EReal.coe_add]
    refine congrArg _ (score_eq Q KV B bt n (i 0).val (8 * g + h) j.val _ _ _ _ _ _ _ (fun e => ?_) (fun e => ?_) (fun e => ?_) (fun e => ?_) ?_ ?_ ?_)
    · show 256 * n + (0 + (i 0).val) = _; omega
    · show 512 * g + (64 * h + e.val) = _; omega
    · rfl
    · show 512 * g + (64 * h + e.val) = _; omega
    · show 8 * g + (h + 0) = _; omega
    · show 0 + (i 0).val = _; omega
    · show 0 + j.val = _; omega
  · simp only [View.ld_apply, Hv, Rect.idx_unit_val]
    refine congrArg _ (congrArg₂ (KV 1 bt) rfl (show 512 * g + (64 * h + (i 1).val) = _ by omega))

end Cert.AttnIdeal.AttnTile

end

end
-- ==== Proof.AttnValue.lean ====
module

public import proofs.«01_k».proof.Proof.Gen.AttnIdeal.Value
public import proofs.«01_k».proof.Proof.AttnTile
public import Idealize.ShloMosaic.Lib.Pipeline.ValueKit
public import Idealize.ShloMosaic.Lib.Pointwise
public import Idealize.ShloMosaic.Lib.Pipeline.ReadBack
public import Idealize.ShloMosaic.Lib.Claim

/-! What the attention call leaves in its result array, from the arguments' real values. -/

@[expose] public section

set_option maxRecDepth 16384

noncomputable section

namespace Cert.AttnIdeal.AttnValue

open Cert.AttnIdeal Cert.AttnIdeal.Gen Cert.AttnMath Cert.GateMath Cert.AttnIdeal.AttnTile Idealize.ShloMosaic Idealize.ShloMosaic.TcCoe
  Idealize.SL.Sem Idealize.ShloMosaic.StableHlo

/-- Where each window's block lies at a point. -/
theorem idx : ∀ t : Fin cfg0.N, win0_0.index t = ![t.val / 8 % 2, t.val % 8, t.val / 16] ∧ win0_1.index t = ![0, t.val / 8 % 2, 0, t.val / 16]
    ∧ win0_2.index t = ![1, t.val / 8 % 2, 0, t.val / 16] ∧ win0_3.index t = ![t.val / 16, 0, 0]
    ∧ win0_4.index t = ![t.val / 8 % 2, t.val % 8, t.val / 16] :=
  (by decide +kernel : ∀ t : Fin grid0.N, _)

/-- Where a later query block's keys begin, for each head. -/
theorem starts : ∀ t : Fin cfg0.N, 2 ≤ t.val % 8 →
    k0_off1 (grid0.coords t) = ![0, 0, 256 * (t.val % 8) - 512, 64 * 0] ∧ k0_off2 (grid0.coords t) = ![0, 0, 256 * (t.val % 8) - 512, 64 * 1]
    ∧ k0_off3 (grid0.coords t) = ![0, 0, 256 * (t.val % 8) - 512, 64 * 2] ∧ k0_off4 (grid0.coords t) = ![0, 0, 256 * (t.val % 8) - 512, 64 * 3]
    ∧ k0_off5 (grid0.coords t) = ![0, 0, 256 * (t.val % 8) - 512, 64 * 4] ∧ k0_off6 (grid0.coords t) = ![0, 0, 256 * (t.val % 8) - 512, 64 * 5]
    ∧ k0_off7 (grid0.coords t) = ![0, 0, 256 * (t.val % 8) - 512, 64 * 6] ∧ k0_off8 (grid0.coords t) = ![0, 0, 256 * (t.val % 8) - 512, 64 * 7] :=
  (by decide +kernel : ∀ t : Fin grid0.N, _)

variable (m : (ℓ : Loc nD τ sig) → Buf (Elt Ideal) ℓ) (c : Dev nD)
variable (Q : ℕ → ℕ → ℕ → ℝ) (KV : ℕ → ℕ → ℕ → ℕ → ℝ) (B : ℕ → ℕ → ℕ → ℝ)
  (E0 : ∀ i : S2x2048x1024.Idx, m ((c : Thread nD τ).loc main_arg0) i = ((Q (i 0).val (i 1).val (i 2).val : ℝ) : EReal))
  (E1 : ∀ i : S2x2x2048x1024.Idx, m ((c : Thread nD τ).loc main_arg1) i = ((KV (i 0).val (i 1).val (i 2).val (i 3).val : ℝ) : EReal))
  (E2 : ∀ i : S16x256x768.Idx, m ((c : Thread nD τ).loc main_arg2) i = ((B (i 0).val (i 1).val (i 2).val : ℝ) : EReal))

theorem at3 (F : ℕ → ℕ → ℕ → ℝ) (a b d a' b' d' : ℕ) (ha : a = a') (hb : b = b') (hd : d = d') :
    ((F a b d : ℝ) : EReal) = ((F a' b' d' : ℝ) : EReal) := by
  subst ha hb hd; rfl

theorem at4 (F : ℕ → ℕ → ℕ → ℕ → ℝ) (a b d e a' b' d' e' : ℕ) (ha : a = a') (hb : b = b') (hd : d = d') (he : e = e') :
    ((F a b d e : ℝ) : EReal) = ((F a' b' d' e' : ℝ) : EReal) := by
  subst ha hb hd he; rfl

include E0 in
/-- The queries' block at a point. -/
theorem blk0 (t : Fin cfg0.N) (y) : iblk m c 0 t y
    = ((Q (t.val / 8 % 2) (256 * (t.val % 8) + (y 1).val) (512 * (t.val / 16) + (y 2).val) : ℝ) : EReal) := by
  have hy : (y 0).val = 0 := Nat.lt_one_iff.mp (y 0).isLt
  blk_simp [iblk, V]
  refine (E0 _).trans (at3 Q _ _ _ _ _ _ ?_ ?_ ?_)
  all_goals
    blk_simp [idx t]
    try omega

include E1 in
/-- The keys' block at a point. -/
theorem blk1 (t : Fin cfg0.N) (y) : iblk m c 1 t y
    = ((KV 0 (t.val / 8 % 2) (y 2).val (512 * (t.val / 16) + (y 3).val) : ℝ) : EReal) := by
  have hy : (y 0).val = 0 := Nat.lt_one_iff.mp (y 0).isLt
  have hy1 : (y 1).val = 0 := Nat.lt_one_iff.mp (y 1).isLt
  blk_simp [iblk, V]
  refine (E1 _).trans (at4 KV _ _ _ _ _ _ _ _ ?_ ?_ ?_ ?_)
  all_goals
    blk_simp [idx t]
    try omega

include E1 in
/-- The values' block at a point. -/
theorem blk2 (t : Fin cfg0.N) (y) : iblk m c 2 t y
    = ((KV 1 (t.val / 8 % 2) (y 2).val (512 * (t.val / 16) + (y 3).val) : ℝ) : EReal) := by
  have hy : (y 0).val = 0 := Nat.lt_one_iff.mp (y 0).isLt
  have hy1 : (y 1).val = 0 := Nat.lt_one_iff.mp (y 1).isLt
  blk_simp [iblk, V]
  refine (E1 _).trans (at4 KV _ _ _ _ _ _ _ _ ?_ ?_ ?_ ?_)
  all_goals
    blk_simp [idx t]
    try omega

include E2 in
/-- The bias's block at a point. -/
theorem blk3 (t : Fin cfg0.N) (y) : iblk m c 3 t y
    = ((B (8 * (t.val / 16) + (y 0).val) (y 1).val (y 2).val : ℝ) : EReal) := by
  blk_simp [iblk, V]
  refine (E2 _).trans (at3 B _ _ _ _ _ _ ?_ ?_ ?_)
  all_goals
    blk_simp [idx t]
    try omega

include E0 E1 E2 in
/-- The output block at a point. -/
theorem out (t : Fin cfg0.N) (y : S1x256x512.Idx) : outsAt0 m c t.val t.isLt y
    = ((att Q KV B (t.val / 8 % 2) (t.val % 8) (y 1).val (8 * (t.val / 16) + (y 2).val / 64) ((y 2).val % 64) : ℝ) : EReal) := by
  have b0 := blk0 m c Q E0 t
  have b1 := blk1 m c KV E1 t
  have b2 := blk2 m c KV E1 t
  have b3 := blk3 m c B E2 t
  obtain h | h | h : t.val % 8 = 0 ∨ t.val % 8 = 1 ∨ 2 ≤ t.val % 8 := by omega
  · rw [outsAt0_A m c t h (by omega) (by omega)]
    frame_out
    generalize iblk m c 0 t = q at b0 ⊢
    generalize iblk m c 1 t = k at b1 ⊢
    generalize iblk m c 2 t = v at b2 ⊢
    generalize iblk m c 3 t = b at b3 ⊢
    exact heads (fun j r d => att Q KV B (t.val / 8 % 2) (t.val % 8) r (8 * (t.val / 16) + j) d) _ _ _ _ _ _ _ _
      (fun i => head1 Q KV B _ _ _ q k v b b0 b1 b2 b3 h 0 _ _ _ rfl rfl rfl _ _ _ i)
      (fun i => head1 Q KV B _ _ _ q k v b b0 b1 b2 b3 h 1 _ _ _ rfl rfl rfl _ _ _ i)
      (fun i => head1 Q KV B _ _ _ q k v b b0 b1 b2 b3 h 2 _ _ _ rfl rfl rfl _ _ _ i)
      (fun i => head1 Q KV B _ _ _ q k v b b0 b1 b2 b3 h 3 _ _ _ rfl rfl rfl _ _ _ i)
      (fun i => head1 Q KV B _ _ _ q k v b b0 b1 b2 b3 h 4 _ _ _ rfl rfl rfl _ _ _ i)
      (fun i => head1 Q KV B _ _ _ q k v b b0 b1 b2 b3 h 5 _ _ _ rfl rfl rfl _ _ _ i)
      (fun i => head1 Q KV B _ _ _ q k v b b0 b1 b2 b3 h 6 _ _ _ rfl rfl rfl _ _ _ i)
      (fun i => head1 Q KV B _ _ _ q k v b b0 b1 b2 b3 h 7 _ _ _ rfl rfl rfl _ _ _ i) y
  · rw [outsAt0_B m c t (by omega) h (by omega)]
    frame_out
    generalize iblk m c 0 t = q at b0 ⊢
    generalize iblk m c 1 t = k at b1 ⊢
    generalize iblk m c 2 t = v at b2 ⊢
    generalize iblk m c 3 t = b at b3 ⊢
    exact heads (fun j r d => att Q KV B (t.val / 8 % 2) (t.val % 8) r (8 * (t.val / 16) + j) d) _ _ _ _ _ _ _ _
      (fun i => head2 Q KV B _ _ _ q k v b b0 b1 b2 b3 h 0 _ _ _ rfl rfl rfl _ _ _ i)
      (fun i => head2 Q KV B _ _ _ q k v b b0 b1 b2 b3 h 1 _ _ _ rfl rfl rfl _ _ _ i)
      (fun i => head2 Q KV B _ _ _ q k v b b0 b1 b2 b3 h 2 _ _ _ rfl rfl rfl _ _ _ i)
      (fun i => head2 Q KV B _ _ _ q k v b b0 b1 b2 b3 h 3 _ _ _ rfl rfl rfl _ _ _ i)
      (fun i => head2 Q KV B _ _ _ q k v b b0 b1 b2 b3 h 4 _ _ _ rfl rfl rfl _ _ _ i)
      (fun i => head2 Q KV B _ _ _ q k v b b0 b1 b2 b3 h 5 _ _ _ rfl rfl rfl _ _ _ i)
      (fun i => head2 Q KV B _ _ _ q k v b b0 b1 b2 b3 h 6 _ _ _ rfl rfl rfl _ _ _ i)
      (fun i => head2 Q KV B _ _ _ q k v b b0 b1 b2 b3 h 7 _ _ _ rfl rfl rfl _ _ _ i) y
  · rw [outsAt0_C m c t (by omega) (by omega) h]
    frame_out
    generalize iblk m c 0 t = q at b0 ⊢
    generalize iblk m c 1 t = k at b1 ⊢
    generalize iblk m c 2 t = v at b2 ⊢
    generalize iblk m c 3 t = b at b3 ⊢
    obtain ⟨s0, s1, s2, s3, s4, s5, s6, s7⟩ := starts t h
    exact heads (fun j r d => att Q KV B (t.val / 8 % 2) (t.val % 8) r (8 * (t.val / 16) + j) d) _ _ _ _ _ _ _ _
      (fun i => head3 Q KV B _ _ _ q k v b b0 b1 b2 b3 h 0 _ _ _ s0 rfl rfl _ _ _ i)
      (fun i => head3 Q KV B _ _ _ q k v b b0 b1 b2 b3 h 1 _ _ _ s1 rfl rfl _ _ _ i)
      (fun i => head3 Q KV B _ _ _ q k v b b0 b1 b2 b3 h 2 _ _ _ s2 rfl rfl _ _ _ i)
      (fun i => head3 Q KV B _ _ _ q k v b b0 b1 b2 b3 h 3 _ _ _ s3 rfl rfl _ _ _ i)
      (fun i => head3 Q KV B _ _ _ q k v b b0 b1 b2 b3 h 4 _ _ _ s4 rfl rfl _ _ _ i)
      (fun i => head3 Q KV B _ _ _ q k v b b0 b1 b2 b3 h 5 _ _ _ s5 rfl rfl _ _ _ i)
      (fun i => head3 Q KV B _ _ _ q k v b b0 b1 b2 b3 h 6 _ _ _ s6 rfl rfl _ _ _ i)
      (fun i => head3 Q KV B _ _ _ q k v b b0 b1 b2 b3 h 7 _ _ _ s7 rfl rfl _ _ _ i) y

include E0 E1 E2 in
/-- The result array after the run. -/
theorem final : (dats m 0 c).arrAt 4 cfg0.N = fun i : S2x2048x1024.Idx =>
    ((att Q KV B (i 0).val ((i 1).val / 256) ((i 1).val % 256) ((i 2).val / 64) ((i 2).val % 64) : ℝ) : EReal) := by
  refine (dats m 0 c).arrAt_eq_of_covers 4 _ (by decide +kernel) fun t _ y => ?_
  have hy : (y 0).val = 0 := Nat.lt_one_iff.mp (y 0).isLt
  have hy1 : (y 1).val < 256 := (y 1).isLt
  have hy2 : (y 2).val < 512 := (y 2).isLt
  blk_simp
  rw [after0_4, out m c Q KV B E0 E1 E2 t]
  blk_simp [idx t]
  rw [show (t.val % 8 * 256 + (y 1).val) / 256 = t.val % 8 by omega, show (t.val % 8 * 256 + (y 1).val) % 256 = (y 1).val by omega,
    show (t.val / 16 * 512 + (y 2).val) / 64 = 8 * (t.val / 16) + (y 2).val / 64 by omega,
    show (t.val / 16 * 512 + (y 2).val) % 64 = (y 2).val % 64 by omega]

end Cert.AttnIdeal.AttnValue

end

end
-- ==== Proof.AttnRefRead.lean ====
module

public import proofs.«01_k».proof.Proof.Gen.AttnRefIdeal.Read
public import proofs.«01_k».proof.Proof.AttnMath
public import Idealize.ShloMosaic.Lib.WordCmp
public import Idealize.ShloMosaic.Lib.Pointwise

/-! The attention's reference, read at real arguments: its result is the real function of `AttnMath`. -/

@[expose] public section

set_option maxRecDepth 16384

noncomputable section

namespace Cert.AttnRefIdeal.RefValue

open Cert.AttnRefIdeal Cert.AttnRefIdeal.Gen Cert.AttnRefIdeal.Read Cert.AttnMath Cert.GateMath Idealize.ShloMosaic
  Idealize.ShloMosaic.TcCoe Idealize.SL.Sem Idealize.ShloMosaic.StableHlo

variable (Q : ℕ → ℕ → ℕ → ℝ) (KV : ℕ → ℕ → ℕ → ℕ → ℝ) (B : ℕ → ℕ → ℕ → ℝ)

/-- The queries, from real numbers. -/
abbrev X0 : (⟨S2x2048x1024, .bf16⟩ : BufTy).Contents (Elt Ideal) := fun i => ((Q (i 0).val (i 1).val (i 2).val : ℝ) : EReal)
/-- The keys and the values, from real numbers. -/
abbrev X1 : (⟨S2x2x2048x1024, .bf16⟩ : BufTy).Contents (Elt Ideal) :=
  fun i => ((KV (i 0).val (i 1).val (i 2).val (i 3).val : ℝ) : EReal)
/-- The bias, from real numbers. -/
abbrev X2 : (⟨S16x256x768, .f32⟩ : BufTy).Contents (Elt Ideal) := fun i => ((B (i 0).val (i 1).val (i 2).val : ℝ) : EReal)

/-- The keys with 512 rows of zeros before them. -/
theorem pad_k (i : S2x2560x1024.Idx) : val_main_v5 (F := Ideal) (X1 KV) i
    = if 512 ≤ (i 1).val then ((KV 0 (i 0).val ((i 1).val - 512) (i 2).val : ℝ) : EReal) else 0 := by
  have h1 : (i 1).val < 2560 := (i 1).isLt
  pointwise [val_main_v5, val_main_v4, val_main_v3, val_main_v2, val_main_call0_v0, val_main_c]
  by_cases h : 512 ≤ (i 1).val
  · rw [dif_pos ⟨h, by omega⟩, if_pos h]; rfl
  · rw [dif_neg fun hh => h hh.1, if_neg h]
    show (((0#32 : BitVec 32).toInt : ℝ) : EReal) = 0
    simp

/-- The values with 512 rows of zeros before them. -/
theorem pad_v (i : S2x2560x1024.Idx) : val_main_v14 (F := Ideal) (X1 KV) i
    = if 512 ≤ (i 1).val then ((KV 1 (i 0).val ((i 1).val - 512) (i 2).val : ℝ) : EReal) else 0 := by
  have h1 : (i 1).val < 2560 := (i 1).isLt
  pointwise [val_main_v14, val_main_v13, val_main_v12, val_main_v11, val_main_call1_v0, val_main_c_0]
  by_cases h : 512 ≤ (i 1).val
  · rw [dif_pos ⟨h, by omega⟩, if_pos h]; rfl
  · rw [dif_neg fun hh => h hh.1, if_neg h]
    show (((0#32 : BitVec 32).toInt : ℝ) : EReal) = 0
    simp

/-- An entry of one kind, in row `p` of the padded rows, or zero. -/
def padded (u bt p k : ℕ) : EReal := if 512 ≤ p then ((KV u bt (p - 512) k : ℝ) : EReal) else 0

theorem split_k (i : S2x10x256x16x64.Idx) : val_main_v6 (F := Ideal) (X1 KV) i
    = padded KV 0 (i 0).val (256 * (i 1).val + (i 2).val) (64 * (i 3).val + (i 4).val) := by
  have h0 : (i 0).val < 2 := (i 0).isLt
  have h1 : (i 1).val < 10 := (i 1).isLt
  have h2 : (i 2).val < 256 := (i 2).isLt
  have h3 : (i 3).val < 16 := (i 3).isLt
  have h4 : (i 4).val < 64 := (i 4).isLt
  rw [val_main_v6_apply, pad_k]
  change padded KV 0 ((((((i 0).val * 10 + (i 1).val) * 256 + (i 2).val) * 16 + (i 3).val) * 64 + (i 4).val) / 2621440)
    ((((((i 0).val * 10 + (i 1).val) * 256 + (i 2).val) * 16 + (i 3).val) * 64 + (i 4).val) / 1024 % 2560)
    ((((((i 0).val * 10 + (i 1).val) * 256 + (i 2).val) * 16 + (i 3).val) * 64 + (i 4).val) % 1024) = _
  congr 1 <;> omega

theorem split_v (i : S2x10x256x16x64.Idx) : val_main_v15 (F := Ideal) (X1 KV) i
    = padded KV 1 (i 0).val (256 * (i 1).val + (i 2).val) (64 * (i 3).val + (i 4).val) := by
  have h0 : (i 0).val < 2 := (i 0).isLt
  have h1 : (i 1).val < 10 := (i 1).isLt
  have h2 : (i 2).val < 256 := (i 2).isLt
  have h3 : (i 3).val < 16 := (i 3).isLt
  have h4 : (i 4).val < 64 := (i 4).isLt
  rw [val_main_v15_apply, pad_v]
  change padded KV 1 ((((((i 0).val * 10 + (i 1).val) * 256 + (i 2).val) * 16 + (i 3).val) * 64 + (i 4).val) / 2621440)
    ((((((i 0).val * 10 + (i 1).val) * 256 + (i 2).val) * 16 + (i 3).val) * 64 + (i 4).val) / 1024 % 2560)
    ((((((i 0).val * 10 + (i 1).val) * 256 + (i 2).val) * 16 + (i 3).val) * 64 + (i 4).val) % 1024) = _
  congr 1 <;> omega

/-- The keys a query block may look at. -/
theorem span_k (i : S2x8x768x16x64.Idx) : val_main_v10 (F := Ideal) (X1 KV) i
    = padded KV 0 (i 0).val (256 * (i 1).val + (i 2).val) (64 * (i 3).val + (i 4).val) := by
  pointwise [val_main_v10]
  repeat' split
  · rw [val_main_v7_apply, split_k]
    exact congrArg₂ (padded KV 0 _) rfl rfl
  · rw [val_main_v8_apply, split_k]
    exact congrArg₂ (padded KV 0 _) (show 256 * (1 + (i 1).val) + ((i 2).val - 256) = _ by omega) rfl
  · rw [val_main_v9_apply, split_k]
    exact congrArg₂ (padded KV 0 _) (show 256 * (2 + (i 1).val) + ((i 2).val - 256 - 256) = _ by omega) rfl

/-- The values a query block may look at. -/
theorem span_v (i : S2x8x768x16x64.Idx) : val_main_v19 (F := Ideal) (X1 KV) i
    = padded KV 1 (i 0).val (256 * (i 1).val + (i 2).val) (64 * (i 3).val + (i 4).val) := by
  pointwise [val_main_v19]
  repeat' split
  · rw [val_main_v16_apply, split_v]
    exact congrArg₂ (padded KV 1 _) rfl rfl
  · rw [val_main_v17_apply, split_v]
    exact congrArg₂ (padded KV 1 _) (show 256 * (1 + (i 1).val) + ((i 2).val - 256) = _ by omega) rfl
  · rw [val_main_v18_apply, split_v]
    exact congrArg₂ (padded KV 1 _) (show 256 * (2 + (i 1).val) + ((i 2).val - 256 - 256) = _ by omega) rfl

/-- The mask holds where the key is not before the sequence's start. -/
theorem valid_read (i : S2x8x16x256x768.Idx) :
    val_main_call2_v1 (F := Ideal) i = 1#1 ↔ off (i 1).val ≤ (i 4).val := by
  have h1 : (i 1).val < 8 := (i 1).isLt
  have h4 : (i 4).val < 768 := (i 4).isLt
  pointwise [val_main_call2_v1, val_main_v35, val_main_v34, val_main_v33, val_main_v32, val_main_v31, val_main_v30, val_main_v29,
    val_main_v28, val_main_v27, val_main_v26, val_main_v25, val_main_v24, val_main_c_1, val_main_c_2]
  generalize (i 1).val = a at h1 ⊢
  generalize (i 4).val = b at h4 ⊢
  have e : IntOp.addi (IntOp.muli (256#32) (BitVec.ofNat 32 a)) (BitVec.ofNat 32 b) = BitVec.ofNat 32 (256 * a + b) := by
    apply BitVec.eq_of_toNat_eq
    simp [IntOp.addi, IntOp.muli]
  rw [e]
  rw [WordCmp.cmpi_sge_ofNat (by norm_num; omega) (by norm_num), WordCmp.ofBool_decide_eq_one_iff]
  unfold off
  omega

theorem split_q (i : S2x8x256x16x64.Idx) : val_main_v1 (F := Ideal) (X0 Q) i
    = ((Q (i 0).val (256 * (i 1).val + (i 2).val) (64 * (i 3).val + (i 4).val) : ℝ) : EReal) := by
  have h0 : (i 0).val < 2 := (i 0).isLt
  have h1 : (i 1).val < 8 := (i 1).isLt
  have h2 : (i 2).val < 256 := (i 2).isLt
  have h3 : (i 3).val < 16 := (i 3).isLt
  have h4 : (i 4).val < 64 := (i 4).isLt
  rw [val_main_v1_apply]
  change ((Q ((((((i 0).val * 8 + (i 1).val) * 256 + (i 2).val) * 16 + (i 3).val) * 64 + (i 4).val) / 2097152)
    ((((((i 0).val * 8 + (i 1).val) * 256 + (i 2).val) * 16 + (i 3).val) * 64 + (i 4).val) / 1024 % 2048)
    ((((((i 0).val * 8 + (i 1).val) * 256 + (i 2).val) * 16 + (i 3).val) * 64 + (i 4).val) % 1024) : ℝ) : EReal) = _
  congr 2 <;> omega

/-- The scores: minus infinity before the sequence's start. -/
theorem score_read (i : S2x8x16x256x768.Idx) : val_main_v36 (F := Ideal) (X0 Q) (X1 KV) (X2 B) i
    = if off (i 1).val ≤ (i 4).val then ((score Q KV B (i 0).val (i 1).val (i 3).val (i 2).val ((i 4).val - off (i 1).val) : ℝ) : EReal) else ⊥ := by
  rw [val_main_v36_apply]
  by_cases h : off (i 1).val ≤ (i 4).val
  · rw [(valid_read i).2 h, if_pos h]
    change val_main_v23 (F := Ideal) (X0 Q) (X1 KV) (X2 B) i = _
    have hp : 512 ≤ 256 * (i 1).val + (i 4).val := by unfold off at h; omega
    have hb : val_main_v22 (F := Ideal) (X2 B) i = ((B (i 2).val (i 3).val (i 4).val : ℝ) : EReal) := by
      pointwise [val_main_v22, val_main_v21]
      rfl
    rw [val_main_v23_apply, Ideal.addf_def, val_main_v20_apply, hb]
    simp only [split_q, span_k]
    change ∑ e : Fin 64, ((Q (i 0).val (256 * (i 1).val + (i 3).val) (64 * (i 2).val + e.val) : ℝ) : EReal)
      * padded KV 0 (i 0).val (256 * (i 1).val + (i 4).val) (64 * (i 2).val + e.val) + _ = _
    unfold padded
    simp only [if_pos hp, ← EReal.coe_mul, coe_sum, ← EReal.coe_add]
    unfold score
    rw [show 256 * (i 1).val + (i 4).val - 512 = 256 * (i 1).val - 512 + ((i 4).val - off (i 1).val) by unfold off at h ⊢; omega,
      show off (i 1).val + ((i 4).val - off (i 1).val) = (i 4).val by omega]
  · have hv : val_main_call2_v1 (F := Ideal) i ≠ 1#1 := fun hh => h ((valid_read i).1 hh)
    rw [if_neg h]
    unfold Scalar.select
    rw [if_neg (show ¬ val_main_call2_v1 (F := Ideal) i = 1 from hv)]
    pointwise [val_main_call2_v2, val_main_cst]
    exact ninf_eq

theorem max_gen (v : FVec Ideal S2x8x16x256x768 .f32) (c : FVec Ideal S_ .f32) (h : S2x8x16x256x768.ReducesTo [4] S2x8x16x256) (hu)
    (i : S2x8x16x256.Idx) : Host.reduce FloatOps.maximumf v c h hu i
      = Finset.univ.fold max (c (Shape.Idx.first (by decide))) fun k : Fin 768 => v (ix5 (i 0) (i 1) (i 2) (i 3) k) := by
  simp only [pointwise]

/-- A row's largest score. -/
theorem max_read (x0 x1 x2) (i : S2x8x16x256.Idx) : val_main_v39 (F := Ideal) x0 x1 x2 i
    = max ⊥ (Finset.univ.fold max ⊥ fun k : Fin 768 => val_main_v36 (F := Ideal) x0 x1 x2 (ix5 (i 0) (i 1) (i 2) (i 3) k)) := by
  rw [val_main_v39_apply]
  unfold val_main_v37
  generalize val_main_v36 (F := Ideal) x0 x1 x2 = v
  rw [max_gen, val_main_v38_apply, val_main_cst_4_apply, val_main_cst_3_apply, Ideal.ofBits_def, ninf_eq]
  rfl

/-- The exponential of a score less its row's largest. -/
theorem exp_read (x0 x1 x2) (a : Fin 2) (b : Fin 8) (h : Fin 16) (r : Fin 256) (j : Fin 768) :
    val_main_v43 (F := Ideal) x0 x1 x2 (ix5 a b h r j)
    = Ideal.exp (val_main_v36 (F := Ideal) x0 x1 x2 (ix5 a b h r j)
        - max ⊥ (Finset.univ.fold max ⊥ fun k : Fin 768 => val_main_v36 (F := Ideal) x0 x1 x2 (ix5 a b h r k))) := by
  rw [val_main_v43_apply, val_main_v42_apply, val_main_v41_apply, val_main_v40_apply, max_read]
  rfl

/-- A weight: the exponential over its row's sum. -/
theorem weight_read (x0 x1 x2) (a : Fin 2) (b : Fin 8) (h : Fin 16) (r : Fin 256) (j : Fin 768) :
    val_main_v47 (F := Ideal) x0 x1 x2 (ix5 a b h r j)
    = Ideal.div (val_main_v43 (F := Ideal) x0 x1 x2 (ix5 a b h r j)) (∑ k : Fin 768, val_main_v43 (F := Ideal) x0 x1 x2 (ix5 a b h r k)) := by
  rw [val_main_v47_apply, val_main_v46_apply, val_main_v45_apply, val_main_v44_apply, val_main_cst_5_apply, Ideal.ofBits_def,
    Ideal.ofBits_zero_f32, zero_add]
  have e : ∀ k : Fin 768, idx_main_v44 (idx_main_v45 (idx_main_v46 (ix5 a b h r j))) k = ix5 a b h r k := fun k =>
    funext fun d => match d with
      | ⟨0, _⟩ => rfl
      | ⟨1, _⟩ => rfl
      | ⟨2, _⟩ => rfl
      | ⟨3, _⟩ => rfl
      | ⟨4, _⟩ => rfl
  simp only [e]
  rfl

theorem at_eq (a b n m r s h k d e : ℕ) (e1 : a = b) (e2 : n = m) (e3 : r = s) (e4 : h = k) (e5 : d = e) :
    ((att Q KV B a n r h d : ℝ) : EReal) = ((att Q KV B b m s k e : ℝ) : EReal) := by
  subst e1 e2 e3 e4 e5; rfl

/-- The weighted sum of the values. -/
theorem sum_read (a : Fin 2) (b : Fin 8) (h : Fin 16) (d : Fin 64) (r : Fin 256) :
    val_main_v48 (F := Ideal) (X0 Q) (X1 KV) (X2 B) (ix5 a b h d r) = ((att Q KV B a.val b.val r.val h.val d.val : ℝ) : EReal) := by
  rw [val_main_v48_apply]
  have el : ∀ k : Fin 768, lidx_main_v48 (ix5 a b h d r) k = ix5 a b k h d := fun k =>
    funext fun q => match q with
      | ⟨0, _⟩ => rfl
      | ⟨1, _⟩ => rfl
      | ⟨2, _⟩ => rfl
      | ⟨3, _⟩ => rfl
      | ⟨4, _⟩ => rfl
  have er : ∀ k : Fin 768, ridx_main_v48 (ix5 a b h d r) k = ix5 a b h r k := fun k =>
    funext fun q => match q with
      | ⟨0, _⟩ => rfl
      | ⟨1, _⟩ => rfl
      | ⟨2, _⟩ => rfl
      | ⟨3, _⟩ => rfl
      | ⟨4, _⟩ => rfl
  simp only [el, er, weight_read, exp_read]
  have ho : off b.val ≤ 512 := Nat.sub_le _ _
  refine reference_row (off b.val) (cnt b.val) 768 (by unfold cnt; omega) (by unfold cnt; omega)
    (score Q KV B a.val b.val r.val h.val) (fun j => KV 1 a.val (256 * b.val - 512 + j) (64 * h.val + d.val))
    (fun k => val_main_v36 (F := Ideal) (X0 Q) (X1 KV) (X2 B) (ix5 a b h r k)) (fun k => val_main_v19 (F := Ideal) (X1 KV) (ix5 a b k h d))
    (fun j => score_read Q KV B _) fun j => ?_
  rw [span_v]
  change padded KV 1 a.val (256 * b.val + j.val) (64 * h.val + d.val) = _
  unfold padded
  by_cases hj : off b.val ≤ j.val
  · rw [if_pos hj, if_pos (by unfold off at hj; omega),
      show 256 * b.val + j.val - 512 = 256 * b.val - 512 + (j.val - off b.val) by unfold off at hj ⊢; omega]
  · rw [if_neg hj, if_neg (by unfold off at hj; omega)]

/-- The reference's result. -/
theorem att_read (i : S2x2048x1024.Idx) : val_main_v51 (F := Ideal) (X0 Q) (X1 KV) (X2 B) i
    = ((att Q KV B (i 0).val ((i 1).val / 256) ((i 1).val % 256) ((i 2).val / 64) ((i 2).val % 64) : ℝ) : EReal) := by
  have h0 : (i 0).val < 2 := (i 0).isLt
  have h1 : (i 1).val < 2048 := (i 1).isLt
  have h2 : (i 2).val < 1024 := (i 2).isLt
  rw [val_main_v51_apply, Ideal.truncf_def, val_main_v50_apply, val_main_v49_apply]
  refine ((congrArg _ (eq_ix5 (idx_main_v49 (idx_main_v50 i)))).trans (sum_read Q KV B _ _ _ _ _)).trans ?_
  refine at_eq Q KV B _ _ _ _ _ _ _ _ _ _ ?_ ?_ ?_ ?_ ?_
  · show (((i 0).val * 2048 + (i 1).val) * 1024 + (i 2).val) / 2097152 = _; omega
  · show (((i 0).val * 2048 + (i 1).val) * 1024 + (i 2).val) / 262144 % 8 = _; omega
  · show (((i 0).val * 2048 + (i 1).val) * 1024 + (i 2).val) / 1024 % 256 = _; omega
  · show (((i 0).val * 2048 + (i 1).val) * 1024 + (i 2).val) / 64 % 16 = _; omega
  · show (((i 0).val * 2048 + (i 1).val) * 1024 + (i 2).val) % 64 = _; omega

end Cert.AttnRefIdeal.RefValue

end

end
-- ==== Proof.BiasMath.lean ====
module

public import Idealize.ShloMosaic.PureOps
public import Idealize.ShloMosaic.Lib.ValueIdxCore
public import Idealize.ShloMosaic.Lib.KernelVsHost
public import Idealize.ShloMosaic.Lib.WordCmp
public import Idealize.ShloMosaic.Lib.Pointwise

/-! The relative position bias in closed form, a read of the learned table at an index array, and one step of a rotation
by the bits of the row number. -/

@[expose] public section

set_option maxRecDepth 16384

noncomputable section

namespace Cert.BiasMath

open Idealize.ShloMosaic

/-- The learned table. -/
abbrev Learned : Type := (⟨2, ![16, 257]⟩ : Shape).Idx → EReal

/-- The table at a head and a clipped distance. -/
def tab (x : Learned) (h n : ℕ) : EReal :=
  x (fun a => match a with | ⟨0, _⟩ => ⟨min h 15, show min h 15 < 16 by omega⟩ | ⟨1, _⟩ => ⟨min n 256, show min n 256 < 257 by omega⟩)

/-- Two distances clipped to the same column read the same entry. -/
theorem tab_congr (x : Learned) (h a b : ℕ) (e : min a 256 = min b 256) : tab x h a = tab x h b := by
  unfold tab
  simp only [e]

/-- The number both sides write outside the band. -/
def outside : EReal := FloatOps.ofBits (F := Ideal) .f32 0xF149F2CA#32

/-- The bias of a head at a query and a key. -/
def bias (x : Learned) (h r k : ℕ) : EReal :=
  if 64 * (r / 64) ≤ k ∧ k < 64 * (r / 64) + 576 then tab x h (r + 640 - k) else outside

/-- A gather of the table's columns at one row of index words, at an entry. -/
theorem gather1 (wf : GatherDims.WF ⟨2, ![16, 257]⟩ ⟨2, ![1024, 1]⟩ ⟨2, ![16, 1024]⟩ [0] [1] [] [1] [] 1 ![16, 1])
    (x : Learned) (idx : IVec ⟨2, ![1024, 1]⟩ 32) (y : (⟨2, ![16, 1024]⟩ : Shape).Idx) (n : ℕ) (hn : n ≤ 256)
    (e : ∀ i : (⟨2, ![1024, 1]⟩ : Shape).Idx, (i 0).val = (y 1).val → idx i = BitVec.ofNat 32 n) :
    Host.gather (⟨[0], [1], [], [], [1], 1, ![16, 1], wf⟩ : GatherDims ⟨2, ![16, 257]⟩ ⟨2, ![1024, 1]⟩ ⟨2, ![16, 1024]⟩) x idx y
      = tab x (y 0).val n := by
  have h0 : (y 0).val < 16 := (y 0).isLt
  have hw : (BitVec.ofNat 32 n).toInt.toNat = n := by
    rw [WordCmp.toInt_eq_toNat_of_lt_half (by rw [BitVec.toNat_ofNat]; omega), BitVec.toNat_ofNat]; omega
  unfold Host.gather tab
  congr 1
  funext a
  refine Fin.ext ?_
  match a with
  | ⟨0, _⟩ =>
    show _ = min (y 0).val 15
    rw [Nat.min_eq_left (by omega)]
    show GatherDims.start _ y idx 0 + GatherDims.batchCoord _ y 0 + GatherDims.offCoord _ y 0 = _
    rw [GatherDims.batchCoord_eq_zero _ _ _ List.not_mem_nil]
    unfold GatherDims.start
    rw [dif_neg (fun h => absurd (congrArg Fin.val (List.mem_singleton.mp h)) Nat.zero_ne_one), Nat.zero_add]
    rfl
  | ⟨1, _⟩ =>
    show _ = min n 256
    show GatherDims.start _ y idx 1 + GatherDims.batchCoord _ y 1 + GatherDims.offCoord _ y 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl), e _ rfl, hw]
    rfl

/-- A gather of the table's columns at a square of index words, at an entry. -/
theorem gather2 (wf : GatherDims.WF ⟨2, ![16, 257]⟩ ⟨3, ![256, 768, 1]⟩ ⟨3, ![16, 256, 768]⟩ [0] [1] [] [1] [] 2 ![16, 1])
    (x : Learned) (idx : IVec ⟨3, ![256, 768, 1]⟩ 32) (y : (⟨3, ![16, 256, 768]⟩ : Shape).Idx) (n : ℕ) (hn : n ≤ 256)
    (e : ∀ i : (⟨3, ![256, 768, 1]⟩ : Shape).Idx, (i 0).val = (y 1).val → (i 1).val = (y 2).val → idx i = BitVec.ofNat 32 n) :
    Host.gather (⟨[0], [1], [], [], [1], 2, ![16, 1], wf⟩ : GatherDims ⟨2, ![16, 257]⟩ ⟨3, ![256, 768, 1]⟩ ⟨3, ![16, 256, 768]⟩) x idx y
      = tab x (y 0).val n := by
  have h0 : (y 0).val < 16 := (y 0).isLt
  have hw : (BitVec.ofNat 32 n).toInt.toNat = n := by
    rw [WordCmp.toInt_eq_toNat_of_lt_half (by rw [BitVec.toNat_ofNat]; omega), BitVec.toNat_ofNat]; omega
  unfold Host.gather tab
  congr 1
  funext a
  refine Fin.ext ?_
  match a with
  | ⟨0, _⟩ =>
    show _ = min (y 0).val 15
    rw [Nat.min_eq_left (by omega)]
    show GatherDims.start _ y idx 0 + GatherDims.batchCoord _ y 0 + GatherDims.offCoord _ y 0 = _
    rw [GatherDims.batchCoord_eq_zero _ _ _ List.not_mem_nil]
    unfold GatherDims.start
    rw [dif_neg (fun h => absurd (congrArg Fin.val (List.mem_singleton.mp h)) Nat.zero_ne_one), Nat.zero_add]
    rfl
  | ⟨1, _⟩ =>
    show _ = min n 256
    show GatherDims.start _ y idx 1 + GatherDims.batchCoord _ y 1 + GatherDims.offCoord _ y 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl), e _ rfl rfl, hw]
    rfl

/-- The left shift a step gives a row: the full row less the step where the row number has the bit. -/
def turn (st sh : BitVec 32) (r : ℕ) : ℕ :=
  if IntOp.cmpi .ne (IntOp.andi (BitVec.ofNat 32 r) st) 0#32 = 1#1 then 1024 - sh.toNat else 0

/-- One step: rows whose number has the bit are rotated, the others stay. -/
theorem step {R : ℕ} (h : (⟨2, ![R, 1024]⟩ : Shape).Rotates 1 none) (st sh : BitVec 32) (hsh : sh.toNat < 1024)
    (iv : IVec ⟨2, ![R, 1024]⟩ 32) (hiv : ∀ i, iv i = BitVec.ofNat 32 (i 0).val)
    (x : (⟨2, ![R, 1024]⟩ : Shape).Idx → EReal) (g : ℕ → ℕ → EReal) (c : ℕ → ℕ)
    (H : ∀ i, x i = g (i 0).val (((i 1).val + c (i 0).val) % 1024)) (i : (⟨2, ![R, 1024]⟩ : Shape).Idx) :
    select (cmpi .ne (andi iv (broadcast ⟨2, ![R, 1024]⟩ st)) (broadcast ⟨2, ![R, 1024]⟩ 0#32)) (dynamicRotate 1 sh none x h) x i
      = g (i 0).val (((i 1).val + (c (i 0).val + turn st sh (i 0).val)) % 1024) := by
  have hi : (i 1).val < 1024 := (i 1).isLt
  show (if IntOp.cmpi .ne (IntOp.andi (iv i) st) 0#32 = 1#1 then dynamicRotate 1 sh none x h i else x i) = _
  rw [hiv i]
  unfold turn
  by_cases hb : IntOp.cmpi .ne (IntOp.andi (BitVec.ofNat 32 (i 0).val) st) 0#32 = 1#1
  · rw [if_pos hb, if_pos hb, dynamicRotate_apply 1 sh x h i
      (fun a => match a with | ⟨0, _⟩ => i 0 | ⟨1, _⟩ => ⟨((i 1).val + 1024 - sh.toNat % 1024) % 1024, Nat.mod_lt _ (by decide)⟩)
      (by intro b; match b with | ⟨0, _⟩ => rfl | ⟨1, _⟩ => rfl), H]
    show g (i 0).val ((((i 1).val + 1024 - sh.toNat % 1024) % 1024 + c (i 0).val) % 1024) = _
    congr 1
    omega
  · rw [if_neg hb, if_neg hb]
    exact H i

/-- The four coarse steps together bring row `a` back by sixteen times its number. -/
theorem coarse : ∀ a : Fin 16, (0 + turn 1#32 16#32 a.val + turn 2#32 32#32 a.val + turn 4#32 64#32 a.val + turn 8#32 128#32 a.val) % 1024
    = (1024 - 16 * a.val) % 1024 := by decide +kernel

/-- The four fine steps together bring row `r` back by its number modulo sixteen. -/
theorem fine : ∀ r : Fin 256, (0 + turn 1#32 1#32 r.val + turn 2#32 2#32 r.val + turn 4#32 4#32 r.val + turn 8#32 8#32 r.val) % 1024
    = (1024 - r.val % 16) % 1024 := by decide +kernel

/-- A choice by two comparisons at once. -/
theorem choose (p q : Prop) [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

end Cert.BiasMath
-- ==== Proof.BiasTile.lean ====
module

public import proofs.«01_k».proof.Proof.Gen.BiasIdeal.Value
public import proofs.«01_k».proof.Proof.BiasMath
public import Idealize.ShloMosaic.Lib.Pipeline.ValueKit
public import Idealize.ShloMosaic.Lib.Pointwise

/-! The body's rotations of one head's row of the table, its tile of sixteen groups of rows, and the band. -/

@[expose] public section

set_option maxRecDepth 16384

noncomputable section

namespace Cert.BiasIdeal.BiasTile

open Cert.BiasIdeal Cert.BiasIdeal.Gen Cert.BiasMath Idealize.ShloMosaic Idealize.ShloMosaic.TcCoe

variable (g : ℕ → EReal)

/-- One head's row after the coarse rotations: row `a` is brought back by sixteen times its number. -/
theorem coarse_rows (v : S1x1x1024.Idx → EReal) (hv : ∀ i, v i = g (i 2).val) (i : S16x1024.Idx) :
    k0_pay2 (F := Ideal) v i = g (((i 1).val + (1024 - 16 * (i 0).val) % 1024) % 1024) := by
  have hi : (i 0).val < 16 := (i 0).isLt
  have iv : ∀ j : S16x1024.Idx, iota .tc S16x1024 32 [0] iota_S16x1024_d0_w32 j = BitVec.ofNat 32 (j 0).val := fun j => by
    pointwise
  have h0 : ∀ j : S16x1024.Idx, broadcastTo S16x1024 (shapeCast S1x1024 (shapeCast S1x1024 v shapeCasts_S1x1x1024_S1x1024)
      shapeCasts_S1x1024_S1x1024) broadcasts_S1x1024_S16x1024 j = (fun (_ n : ℕ) => g n) (j 0).val (((j 1).val + 0) % 1024) := fun j => by
    have hj : (j 1).val < 1024 := (j 1).isLt
    pointwise
    refine (hv _).trans (congrArg g ?_)
    show (j 1).val = _
    omega
  have s1 := step rotates_S16x1024_d1 1#32 16#32 (by decide) _ iv _ (fun _ n => g n) (fun _ => 0) h0
  have s2 := step rotates_S16x1024_d1 2#32 32#32 (by decide) _ iv _ (fun _ n => g n) (fun r => 0 + turn 1#32 16#32 r) s1
  have s3 := step rotates_S16x1024_d1 4#32 64#32 (by decide) _ iv _ (fun _ n => g n) (fun r => 0 + turn 1#32 16#32 r + turn 2#32 32#32 r) s2
  have s4 := step rotates_S16x1024_d1 8#32 128#32 (by decide) _ iv _ (fun _ n => g n)
    (fun r => 0 + turn 1#32 16#32 r + turn 2#32 32#32 r + turn 4#32 64#32 r) s3
  refine (s4 i).trans ?_
  show g _ = g _
  have := coarse ⟨(i 0).val, hi⟩
  refine congrArg g ?_
  dsimp only at this ⊢
  omega

/-- One row spread over sixteen. -/
theorem row (o : Fin 2 → ℕ) (a : ℕ) (ho : o = ![a, 0]) (ha : a < 16) (hs : S16x1024.Slices o S1x1024) (v : S16x1024.Idx → EReal)
    (hv : ∀ i, v i = g (((i 1).val + (1024 - 16 * (i 0).val) % 1024) % 1024)) (i : S16x1024.Idx) :
    broadcastTo S16x1024 (shapeCast S1x1024 (extractStridedSlice S1x1024 o v hs) shapeCasts_S1x1024_S1x1024) broadcasts_S1x1024_S16x1024 i
      = g (((i 1).val + (1024 - 16 * a) % 1024) % 1024) := by
  subst ho
  pointwise
  refine (hv _).trans (congrArg g ?_)
  rfl

/-- Sixteen groups of sixteen rows, one under another. -/
theorem groups (t0 t1 t2 t3 t4 t5 t6 t7 t8 t9 t10 t11 t12 t13 t14 t15 : S16x1024.Idx → EReal) (F : ℕ → ℕ → EReal)
    (h0 : ∀ i, t0 i = F 0 (i 1).val) (h1 : ∀ i, t1 i = F 1 (i 1).val) (h2 : ∀ i, t2 i = F 2 (i 1).val) (h3 : ∀ i, t3 i = F 3 (i 1).val)
    (h4 : ∀ i, t4 i = F 4 (i 1).val) (h5 : ∀ i, t5 i = F 5 (i 1).val) (h6 : ∀ i, t6 i = F 6 (i 1).val) (h7 : ∀ i, t7 i = F 7 (i 1).val)
    (h8 : ∀ i, t8 i = F 8 (i 1).val) (h9 : ∀ i, t9 i = F 9 (i 1).val) (h10 : ∀ i, t10 i = F 10 (i 1).val)
    (h11 : ∀ i, t11 i = F 11 (i 1).val) (h12 : ∀ i, t12 i = F 12 (i 1).val) (h13 : ∀ i, t13 i = F 13 (i 1).val)
    (h14 : ∀ i, t14 i = F 14 (i 1).val) (h15 : ∀ i, t15 i = F 15 (i 1).val)
    (hc : Shape.Concatenates ([⟨S16x1024, t0⟩, ⟨S16x1024, t1⟩, ⟨S16x1024, t2⟩, ⟨S16x1024, t3⟩, ⟨S16x1024, t4⟩, ⟨S16x1024, t5⟩,
      ⟨S16x1024, t6⟩, ⟨S16x1024, t7⟩, ⟨S16x1024, t8⟩, ⟨S16x1024, t9⟩, ⟨S16x1024, t10⟩, ⟨S16x1024, t11⟩, ⟨S16x1024, t12⟩, ⟨S16x1024, t13⟩,
      ⟨S16x1024, t14⟩, ⟨S16x1024, t15⟩].map (fun p : (s : Shape) × (s.Idx → EReal) => p.1)) S256x1024 0) (i : S256x1024.Idx) :
    concatenate S256x1024 0 [⟨S16x1024, t0⟩, ⟨S16x1024, t1⟩, ⟨S16x1024, t2⟩, ⟨S16x1024, t3⟩, ⟨S16x1024, t4⟩, ⟨S16x1024, t5⟩,
      ⟨S16x1024, t6⟩, ⟨S16x1024, t7⟩, ⟨S16x1024, t8⟩, ⟨S16x1024, t9⟩, ⟨S16x1024, t10⟩, ⟨S16x1024, t11⟩, ⟨S16x1024, t12⟩, ⟨S16x1024, t13⟩,
      ⟨S16x1024, t14⟩, ⟨S16x1024, t15⟩] hc i = F ((i 0).val / 16) (i 1).val := by
  have hi : (i 0).val < 256 := (i 0).isLt
  have key : ∀ (n : Fin 16) (j : S16x1024.Idx),
      (![t0, t1, t2, t3, t4, t5, t6, t7, t8, t9, t10, t11, t12, t13, t14, t15] : Fin 16 → S16x1024.Idx → EReal) n j = F n.val (j 1).val := by
    intro n j
    fin_cases n
    exacts [h0 j, h1 j, h2 j, h3 j, h4 j, h5 j, h6 j, h7 j, h8 j, h9 j, h10 j, h11 j, h12 j, h13 j, h14 j, h15 j]
  exact (concatenate_ofFn_apply (t := S256x1024) (s₁ := S16x1024) 0
    ![t0, t1, t2, t3, t4, t5, t6, t7, t8, t9, t10, t11, t12, t13, t14, t15] hc rfl 16 rfl i ⟨(i 0).val / 16, by omega⟩ rfl
    (fun a => match a with | ⟨0, _⟩ => ⟨(i 0).val % 16, Nat.mod_lt _ (by decide)⟩ | ⟨1, _⟩ => i 1) rfl
    (fun b hb => match b with | ⟨0, _⟩ => absurd rfl hb | ⟨1, _⟩ => rfl)).trans (key _ _)

/-- The tile before the fine rotations: a group of rows is one coarse row. -/
def G (r n : ℕ) : EReal := g ((n + (1024 - 16 * (r / 16)) % 1024) % 1024)

theorem row_words (j : S256x1024.Idx) : iota .tc S256x1024 32 [0] iota_S256x1024_d0_w32 j = BitVec.ofNat 32 (j 0).val := by
  pointwise

/-- The tile after the first two fine rotations. -/
theorem fine2 (v : S1x1x1024.Idx → EReal) (hv : ∀ i, v i = g (i 2).val) (i : S256x1024.Idx) :
    k0_pay8 (F := Ideal) (k0_pay2 v) (k0_pay3 v) (k0_pay4 v) (k0_pay5 v) (k0_pay6 v) (k0_pay7 v) i
      = G g (i 0).val (((i 1).val + (0 + turn 1#32 1#32 (i 0).val + turn 2#32 2#32 (i 0).val)) % 1024) := by
  have hr := coarse_rows g v hv
  generalize hw : k0_pay2 (F := Ideal) v = w at hr
  have hg := groups _ _ _ _ _ _ _ _ _ _ _ _ _ _ _ _ (fun a n => g ((n + (1024 - 16 * a) % 1024) % 1024))
    (row g _ 0 rfl (by decide) slices_S16x1024_o0_0_S1x1024 w hr) (row g _ 1 rfl (by decide) slices_S16x1024_o1_0_S1x1024 w hr)
    (row g _ 2 rfl (by decide) slices_S16x1024_o2_0_S1x1024 w hr) (row g _ 3 rfl (by decide) slices_S16x1024_o3_0_S1x1024 w hr)
    (row g _ 4 rfl (by decide) slices_S16x1024_o4_0_S1x1024 w hr) (row g _ 5 rfl (by decide) slices_S16x1024_o5_0_S1x1024 w hr)
    (row g _ 6 rfl (by decide) slices_S16x1024_o6_0_S1x1024 w hr) (row g _ 7 rfl (by decide) slices_S16x1024_o7_0_S1x1024 w hr)
    (row g _ 8 rfl (by decide) slices_S16x1024_o8_0_S1x1024 w hr) (row g _ 9 rfl (by decide) slices_S16x1024_o9_0_S1x1024 w hr)
    (row g _ 10 rfl (by decide) slices_S16x1024_o10_0_S1x1024 w hr) (row g _ 11 rfl (by decide) slices_S16x1024_o11_0_S1x1024 w hr)
    (row g _ 12 rfl (by decide) slices_S16x1024_o12_0_S1x1024 w hr) (row g _ 13 rfl (by decide) slices_S16x1024_o13_0_S1x1024 w hr)
    (row g _ 14 rfl (by decide) slices_S16x1024_o14_0_S1x1024 w hr) (row g _ 15 rfl (by decide) slices_S16x1024_o15_0_S1x1024 w hr)
    concatenates_S16x1024_S16x1024_S16x1024_S16x1024_S16x1024_S16x1024_S16x1024_S16x1024_S16x1024_S16x1024_S16x1024_S16x1024_S16x1024_S16x1024_S16x1024_S16x1024_S256x1024_d0
  have h0 := fun j : S256x1024.Idx => (hg j).trans (show _ = G g (j 0).val (((j 1).val + 0) % 1024) by
    have hj : (j 1).val < 1024 := (j 1).isLt
    unfold G
    rw [Nat.add_zero, Nat.mod_eq_of_lt hj])
  have s1 := step rotates_S256x1024_d1 1#32 1#32 (by decide) _ row_words _ (G g) (fun _ => 0) h0
  have s2 := step rotates_S256x1024_d1 2#32 2#32 (by decide) _ row_words _ (G g) (fun r => 0 + turn 1#32 1#32 r) s1
  subst hw
  exact s2 i

/-- The first key of a query's band, as the body computes it. -/
theorem band_word : ∀ r : Fin 256,
    IntOp.muli (Scalar.select (IntOp.andi (IntOp.cmpi .ne
        (IntOp.subi (BitVec.setWidth 32 (IntOp.cmpi .sgt (BitVec.ofNat 32 r.val) 0#32)) (BitVec.setWidth 32 (IntOp.cmpi .slt (BitVec.ofNat 32 r.val) 0#32)))
        (Scalar.subi (Scalar.extui (Scalar.cmpi .sgt 64#32 0#32)) (Scalar.extui (Scalar.cmpi .slt 64#32 0#32))))
        (IntOp.cmpi .ne (IntOp.remsi .vector (BitVec.ofNat 32 r.val) 64#32) 0#32))
      (IntOp.subi (IntOp.divsi .vector (BitVec.ofNat 32 r.val) 64#32) 1#32) (IntOp.divsi .vector (BitVec.ofNat 32 r.val) 64#32)) 64#32
      = BitVec.ofNat 32 (64 * (r.val / 64)) := by decide +kernel

/-- The body's tile: the rotated row inside a query's band, the fixed number outside it. -/
theorem banded (x : S256x1024.Idx → EReal)
    (hx : ∀ i, x i = G g (i 0).val (((i 1).val + (0 + turn 1#32 1#32 (i 0).val + turn 2#32 2#32 (i 0).val)) % 1024)) (i : S256x768.Idx) :
    k0_pay10 (F := Ideal) (iota .tc S256x1024 32 [0] iota_S256x1024_d0_w32) x k0_pay9 4#32 i
      = if 64 * ((i 0).val / 64) ≤ (i 1).val ∧ (i 1).val < 64 * ((i 0).val / 64) + 576
        then g (((i 1).val + (1024 - (i 0).val)) % 1024) else outside := by
  have hi0 : (i 0).val < 256 := (i 0).isLt
  have hi1 : (i 1).val < 768 := (i 1).isLt
  have s3 := step rotates_S256x1024_d1 4#32 4#32 (by decide) _ row_words _ (G g) (fun r => 0 + turn 1#32 1#32 r + turn 2#32 2#32 r) hx
  have s4 := step rotates_S256x1024_d1 8#32 8#32 (by decide) _ row_words _ (G g)
    (fun r => 0 + turn 1#32 1#32 r + turn 2#32 2#32 r + turn 4#32 4#32 r) s3
  unfold k0_pay10 k0_pay9
  dsimp only at s4 ⊢
  generalize (select (cmpi .ne (andi (iota .tc S256x1024 32 [0] iota_S256x1024_d0_w32) (broadcast S256x1024 4#32)) (broadcast S256x1024 0#32))
    (dynamicRotate 1 4#32 none x rotates_S256x1024_d1) x : S256x1024.Idx → EReal) = u at s4 ⊢
  generalize (select (cmpi .ne (andi (iota .tc S256x1024 32 [0] iota_S256x1024_d0_w32) (broadcast S256x1024 8#32)) (broadcast S256x1024 0#32))
    (dynamicRotate 1 8#32 none u rotates_S256x1024_d1) u : S256x1024.Idx → EReal) = w at s4 ⊢
  pointwise
  have hb := band_word ⟨(i 0).val, hi0⟩
  dsimp only at hb
  rw [hb, WordCmp.addi_ofNat, WordCmp.addi_ofNat, WordCmp.cmpi_sge_ofNat (by omega) (by omega),
    WordCmp.cmpi_slt_ofNat (by omega) (by omega), choose]
  refine if_congr (and_congr Iff.rfl (by omega)) ((s4 _).trans ?_) rfl
  show g _ = g _
  refine congrArg g ?_
  have hf := fine ⟨(i 0).val, hi0⟩
  dsimp only at hf
  show ((((i 1).val + (0 + turn 1#32 1#32 (i 0).val + turn 2#32 2#32 (i 0).val + turn 4#32 4#32 (i 0).val + turn 8#32 8#32 (i 0).val)) % 1024)
    + (1024 - 16 * ((i 0).val / 16)) % 1024) % 1024 = _
  generalize 0 + turn 1#32 1#32 (i 0).val + turn 2#32 2#32 (i 0).val + turn 4#32 4#32 (i 0).val + turn 8#32 8#32 (i 0).val = z at hf ⊢
  omega

/-- The whole body on one head's row. -/
theorem tile (v : S1x1x1024.Idx → EReal) (hv : ∀ i, v i = g (i 2).val) (i : S1x256x768.Idx) :
    k0_pay1 (F := Ideal) (k0_pay10 (iota .tc S256x1024 32 [0] iota_S256x1024_d0_w32)
      (k0_pay8 (k0_pay2 v) (k0_pay3 v) (k0_pay4 v) (k0_pay5 v) (k0_pay6 v) (k0_pay7 v)) k0_pay9 4#32) i
      = if 64 * ((i 1).val / 64) ≤ (i 2).val ∧ (i 2).val < 64 * ((i 1).val / 64) + 576
        then g (((i 2).val + (1024 - (i 1).val)) % 1024) else outside := by
  have hb := banded g _ (fine2 g v hv)
  generalize k0_pay10 (F := Ideal) _ _ _ _ = w at hb ⊢
  unfold k0_pay1
  pointwise
  exact hb _

end Cert.BiasIdeal.BiasTile
-- ==== Proof.BiasValue.lean ====
module

public import proofs.«01_k».proof.Proof.BiasTile
public import Idealize.ShloMosaic.Lib.Pipeline.ReadBack
public import Idealize.ShloMosaic.Lib.Claim

/-! What the relative position bias's call leaves in its result array, from the learned table. -/

@[expose] public section

set_option maxRecDepth 16384

noncomputable section

namespace Cert.BiasIdeal.BiasValue

open Cert.BiasIdeal Cert.BiasIdeal.Gen Cert.BiasMath Cert.BiasIdeal.BiasTile Idealize.ShloMosaic Idealize.ShloMosaic.TcCoe
  Idealize.SL.Sem Idealize.ShloMosaic.StableHlo

/-- Where each window's block lies at a point. -/
theorem idx : ∀ t : Fin cfg0.N, win0_0.index t = ![t.val, 0, 0] ∧ win0_1.index t = ![t.val, 0, 0] :=
  (by decide +kernel : ∀ t : Fin grid0.N, _)

/-- The clipped distances, in the order the host lists them. -/
theorem distances : ∀ j : Fin 1024, lit0 j = BitVec.ofNat 32 (min 256 (if j.val < 768 then 640 - j.val else 1664 - j.val)) := by
  decide +kernel

variable (m : (l : Loc nD τ sig) → Buf (Elt Ideal) l) (c : Dev nD)

/-- The learned table, as the call finds it. -/
abbrev X : Learned := m ((c.tc : Thread nD τ).loc main_arg0)

/-- The clipped distance at a place of the row. -/
abbrev dist (n : ℕ) : ℕ := min 256 (if n < 768 then 640 - n else 1664 - n)

/-- The host's index words are the clipped distances. -/
theorem words (i : S1024x1.Idx) :
    broadcastInDim S1024x1 ![0] bcast_S1024_S1024x1_0
        (select (constantI S1024 1 0#1)
          (addi (fun i => lit0 (S1024.rowMajor i)) (broadcastInDim S1024 ![] bcast_S_S1024 (constantI S_ 32 257#32)))
          fun i => lit0 (S1024.rowMajor i)) i = BitVec.ofNat 32 (dist (i 0).val) := by
  pointwise
  refine Eq.trans ?_ (distances (i 0))
  exact congrArg lit0 (Fin.ext (Shape.rowMajor_val_one _))

/-- One head's row of the table, spread along its clipped distances. -/
theorem blk (t : Fin cfg0.N) (y : S1x1x1024.Idx) : iblk m c 0 t y = tab (X m c) t.val (dist (y 2).val) := by
  blk_simp [iblk]
  entry_read
  generalize hz : ((View.whole main_v5).slice (win0_0.rect t)).emb y = z
  have h0 : (z 0).val = t.val := by
    have hy : (y 0).val = 0 := Nat.lt_one_iff.mp (y 0).isLt
    rw [← hz]; blk_simp [idx t]
  have h2 : (z 2).val = (y 2).val := by rw [← hz]; blk_simp [idx t]
  rw [← h0, ← h2]
  have hg : ∀ j : S16x1024.Idx, Host.gather gather_S16x257_S1024x1_S16x1024_0_1_n_n_1_1_161 (X m c)
      (broadcastInDim S1024x1 ![0] bcast_S1024_S1024x1_0
        (select (constantI S1024 1 0#1)
          (addi (fun i => lit0 (S1024.rowMajor i)) (broadcastInDim S1024 ![] bcast_S_S1024 (constantI S_ 32 257#32)))
          fun i => lit0 (S1024.rowMajor i))) j = tab (X m c) (j 0).val (dist (j 1).val) := fun j =>
    gather1 _ _ _ j _ (Nat.min_le_left _ _) fun i hi => by rw [← hi]; exact words i
  clear hz h0 h2
  revert hg
  generalize Host.gather gather_S16x257_S1024x1_S16x1024_0_1_n_n_1_1_161 (X m c) _ = w
  intro hg
  show shapeCast S16x1x1024 w shapeCasts_S16x1024_S16x1x1024 z = _
  pointwise
  exact hg _

/-- The result block of a head. -/
theorem out (t : Fin cfg0.N) (y : S1x256x768.Idx) : out0_1 (F := Ideal) (iblk m c 0 t) y = bias (X m c) t.val (y 1).val (y 2).val := by
  have hy1 : (y 1).val < 256 := (y 1).isLt
  have hy2 : (y 2).val < 768 := (y 2).isLt
  have hb := blk m c t
  generalize iblk m c 0 t = b at hb ⊢
  frame_out
  refine (tile (fun n => tab (X m c) t.val (dist n)) _ (fun i => ?_) _).trans ?_
  · exact hb i
  · unfold bias
    refine if_congr Iff.rfl (tab_congr _ _ _ _ ?_) rfl
    unfold dist
    split <;> omega

/-- The result array after the run. -/
theorem final : (dats m 0 c).arrAt 1 cfg0.N = fun i : S16x256x768.Idx => bias (X m c) (i 0).val (i 1).val (i 2).val := by
  refine (dats m 0 c).arrAt_eq_of_covers 1 _ (by decide +kernel) fun t _ y => ?_
  have hy : (y 0).val = 0 := Nat.lt_one_iff.mp (y 0).isLt
  blk_simp
  rw [after0_1, out m c t]
  blk_simp [idx t]

end Cert.BiasIdeal.BiasValue
-- ==== Proof.BiasRefRead.lean ====
module

public import proofs.«01_k».proof.Proof.Gen.BiasRefIdeal.Read
public import proofs.«01_k».proof.Proof.BiasMath
public import Idealize.ShloMosaic.Lib.Pipeline.ValueKit

/-! The reference's relative position bias, at an entry. -/

@[expose] public section

set_option maxRecDepth 16384

noncomputable section

namespace Cert.BiasRefIdeal.BiasRead

open Cert.BiasRefIdeal Cert.BiasRefIdeal.Gen Cert.BiasRefIdeal.Read Cert.BiasMath Idealize.ShloMosaic Idealize.ShloMosaic.TcCoe

/-- The clip, at each distance a query and a key can have. -/
theorem clip : ∀ d : Fin 1024, IntOp.addi (IntOp.minsi 128#32 (IntOp.maxsi 4294967168#32 (BitVec.ofNat 32 (d.val + 4294967040)))) 128#32
    = BitVec.ofNat 32 (min 256 (d.val - 128)) := by decide +kernel

/-- The index word of a query and a key. -/
theorem clip_word (r k : ℕ) (hr : r < 256) (hk : k < 768) :
    IntOp.addi (IntOp.minsi 128#32 (IntOp.maxsi 4294967168#32
      (IntOp.addi (IntOp.subi (BitVec.ofNat 32 r) (BitVec.ofNat 32 k)) 512#32))) 128#32 = BitVec.ofNat 32 (min 256 (r + 640 - k)) := by
  have e : IntOp.addi (IntOp.subi (BitVec.ofNat 32 r) (BitVec.ofNat 32 k)) 512#32 = BitVec.ofNat 32 (r + 768 - k + 4294967040) := by
    refine BitVec.eq_of_toNat_eq ?_
    show (BitVec.ofNat 32 r - BitVec.ofNat 32 k + 512#32).toNat = _
    rw [BitVec.toNat_add, BitVec.toNat_sub, BitVec.toNat_ofNat, BitVec.toNat_ofNat, BitVec.toNat_ofNat, BitVec.toNat_ofNat]
    omega
  have h := clip ⟨r + 768 - k, by omega⟩
  dsimp only at h
  rw [e, h, show r + 768 - k - 128 = r + 640 - k by omega]

/-- The reference's index word. -/
theorem index (i : S256x768.Idx) : val_main_v16 (F := Ideal) i = BitVec.ofNat 32 (min 256 ((i 0).val + 640 - (i 1).val)) := by
  have hw := clip_word (i 0).val (i 1).val (i 0).isLt (i 1).isLt
  have h11 : val_main_v11 (F := Ideal) i = BitVec.ofNat 32 (min 256 ((i 0).val + 640 - (i 1).val)) := by
    rw [val_main_v11_apply, val_main_v9_apply, val_main_call0_v4_apply, val_main_call0_v3_apply, val_main_c_1_apply,
      val_main_call0_v2_apply, val_main_call0_v1_apply, val_main_call0_v0_apply, val_main_c_0_apply, val_main_v8_apply,
      val_main_v6_apply, val_main_v4_apply, val_main_v1_apply, val_main_v0_apply, val_main_v5_apply, val_main_v3_apply,
      val_main_v2_apply, val_main_v7_apply, val_main_c_apply, val_main_v10_apply, val_main_c_2_apply]
    exact hw
  rw [val_main_v16_apply, val_main_v13_apply, h11, val_main_v12_apply, val_main_c_3_apply,
    show IntOp.cmpi .slt (BitVec.ofNat 32 (min 256 ((i 0).val + 640 - (i 1).val))) 0#32 = 0#1 from
      (WordCmp.cmpi_slt_ofNat_eq_zero_iff (by omega) (by decide)).mpr (Nat.not_lt_zero _)]
  rfl

/-- A quotient of a small number by the group's width. -/
theorem quotient : ∀ n : Fin 768, IntOp.divsi .host (BitVec.ofNat 32 n.val) 64#32 = BitVec.ofNat 32 (n.val / 64) := by decide +kernel

/-- The reference's result is the bias. -/
theorem ref (x : S16x257.Idx → EReal) :
    val_main_v37 (F := Ideal) x = fun i : S16x256x768.Idx => bias x (i 0).val (i 1).val (i 2).val := by
  funext i
  have h1 : (i 1).val < 256 := (i 1).isLt
  have h2 : (i 2).val < 768 := (i 2).isLt
  have hg : val_main_v18 (F := Ideal) x i = tab x (i 0).val (min 256 ((i 1).val + 640 - (i 2).val)) :=
    gather2 _ x _ i _ (Nat.min_le_left _ _) fun j e1 e2 => by
      rw [val_main_v17_apply, index]
      show BitVec.ofNat 32 (min 256 ((j 0).val + 640 - (j 1).val)) = _
      rw [e1, e2]
  have hk := quotient ⟨(i 2).val, h2⟩
  have hr := quotient ⟨(i 1).val, by omega⟩
  dsimp only at hk hr
  have hb : val_main_call1_v1 (F := Ideal) i
      = IntOp.andi (IntOp.cmpi .sge (IntOp.divsi .host (BitVec.ofNat 32 (i 2).val) 64#32) (IntOp.divsi .host (BitVec.ofNat 32 (i 1).val) 64#32))
        (IntOp.cmpi .sle (IntOp.divsi .host (BitVec.ofNat 32 (i 2).val) 64#32)
          (IntOp.addi (IntOp.divsi .host (BitVec.ofNat 32 (i 1).val) 64#32) 8#32)) := by
    rw [val_main_call1_v1_apply, val_main_v36_apply, val_main_v35_apply, val_main_v25_apply, val_main_v34_apply, val_main_v23_apply,
      val_main_v24_apply, val_main_v32_apply, val_main_v33_apply, val_main_v20_apply, val_main_v22_apply, val_main_v27_apply,
      val_main_v31_apply, val_main_v29_apply, val_main_v3_apply, val_main_v2_apply, val_main_v1_apply, val_main_v0_apply,
      val_main_v19_apply, val_main_c_5_apply, val_main_v21_apply, val_main_c_6_apply, val_main_v26_apply, val_main_c_7_apply,
      val_main_v28_apply, val_main_c_8_apply, val_main_v30_apply, val_main_c_9_apply]
  rw [val_main_v37_apply, hb, hk, hr, hg, WordCmp.addi_ofNat, WordCmp.cmpi_sge_ofNat (by omega) (by omega),
    WordCmp.cmpi_sle_ofNat (by omega) (by omega), choose]
  unfold bias
  refine if_congr (by omega) (tab_congr _ _ _ _ (by omega)) rfl

end Cert.BiasRefIdeal.BiasRead
-- ==== Proof.BiasReduceMath.lean ====
module

public import proofs.«01_k».proof.Proof.GateMath

/-! Real sums for the learned table's gradient: a place of the sum of the rotated rows
holds the sum over all queries and keys that are brought to that place. -/

@[expose] public section

set_option maxRecDepth 16384

noncomputable section

namespace Cert.BiasReduceMath

variable (D : ℕ → ℕ → ℝ)

/-- The tile's gradient with zeros after its last key. -/
def padded (r k : ℕ) : ℝ := if k < 768 then D r k else 0

/-- The sum of a group's sixteen rows, each rotated back by its number in the group. -/
def group (a n : ℕ) : ℝ := ∑ b : Fin 16, padded D (16 * a + b.val) ((n + b.val) % 1024)

/-- The sum of all rows, each rotated back by its number. -/
def row (n : ℕ) : ℝ := ∑ a : Fin 16, group D a.val ((n + 16 * a.val) % 1024)

/-- The place of the row that a query and a key are brought to. -/
abbrev place (r k : ℕ) : ℕ := if k < r then k + 1024 - r else k - r

/-- The sum over the queries and the keys at one place. -/
def total (n : ℕ) : ℝ := ∑ r : Fin 256, ∑ k : Fin 768, if place r.val k.val = n then D r.val k.val else 0

/-- The rows in one sum. -/
theorem row_eq (n : ℕ) : row D n = ∑ r : Fin 256, padded D r.val ((n + r.val) % 1024) := by
  unfold row group
  rw [← Fintype.sum_prod_type' (f := fun a b : Fin 16 => padded D (16 * a.val + b.val) (((n + 16 * a.val) % 1024 + b.val) % 1024))]
  refine Fintype.sum_equiv (finProdFinEquiv (m := 16) (n := 16)) _ (fun r : Fin 256 => padded D r.val ((n + r.val) % 1024)) fun x => ?_
  have hx : (finProdFinEquiv (m := 16) (n := 16) x).val = x.2.val + 16 * x.1.val := rfl
  rw [hx, show ((n + 16 * x.1.val) % 1024 + x.2.val) % 1024 = (n + (x.2.val + 16 * x.1.val)) % 1024 by omega,
    Nat.add_comm (16 * x.1.val)]

/-- One row's part: at most one key is brought to a place. -/
theorem one (r : Fin 256) (n : ℕ) (hn : n < 1024) : padded D r.val ((n + r.val) % 1024)
    = ∑ k : Fin 768, if place r.val k.val = n then D r.val k.val else 0 := by
  have hr : r.val < 256 := r.isLt
  have hp : ∀ k : Fin 768, place r.val k.val = n ↔ k.val = (n + r.val) % 1024 := fun k => by
    have hk : k.val < 768 := k.isLt
    unfold place
    split <;> omega
  unfold padded
  split
  · rename_i h
    rw [Finset.sum_eq_single (⟨(n + r.val) % 1024, h⟩ : Fin 768)
      (fun k _ hk => if_neg fun e => hk (Fin.ext ((hp k).mp e))) (fun h' => absurd (Finset.mem_univ _) h')]
    exact (if_pos ((hp ⟨_, h⟩).mpr rfl)).symm
  · rename_i h
    exact (Finset.sum_eq_zero fun k _ => if_neg fun e => h ((hp k).mp e ▸ k.isLt)).symm

/-- The row holds the sums over the places. -/
theorem row_total (n : ℕ) (hn : n < 1024) : row D n = total D n := by
  rw [row_eq]
  exact Finset.sum_congr rfl fun r _ => one D r n hn

end Cert.BiasReduceMath

end

end
-- ==== Proof.BiasReduceTile.lean ====
module

public import proofs.«01_k».proof.Proof.Gen.BiasReduceIdeal.Value
public import proofs.«01_k».proof.Proof.BiasMath
public import proofs.«01_k».proof.Proof.BiasReduceMath
public import Idealize.ShloMosaic.Lib.Pipeline.ValueKit
public import Idealize.ShloMosaic.Lib.Pointwise

/-! The body that brings the tile's gradient back to the learned table: the rows are rotated back and added, and the sum
is multiplied, in three pieces, by the matrix that is given. -/

@[expose] public section

set_option maxRecDepth 16384

noncomputable section

namespace Cert.BiasReduceIdeal.Tile

open Cert.BiasReduceIdeal Cert.BiasReduceIdeal.Gen Cert.BiasMath Cert.BiasReduceMath Idealize.ShloMosaic Idealize.ShloMosaic.TcCoe
open Cert.GateMath (coe_sum)

variable (D : ℕ → ℕ → ℝ)

/-- The steps to the left, added up, over rows of sixteen. -/
theorem fine_back : ∀ r : Fin 256, (0 + turn 1#32 1023#32 r.val + turn 2#32 1022#32 r.val + turn 4#32 1020#32 r.val + turn 8#32 1016#32 r.val) % 1024
    = r.val % 16 := by decide +kernel

theorem coarse_back : ∀ a : Fin 16, (0 + turn 1#32 1008#32 a.val + turn 2#32 992#32 a.val + turn 4#32 960#32 a.val + turn 8#32 896#32 a.val) % 1024
    = 16 * a.val := by decide +kernel

theorem words256 (j : S256x1024.Idx) : iota .tc S256x1024 32 [0] iota_S256x1024_d0_w32 j = BitVec.ofNat 32 (j 0).val := by
  pointwise

theorem words16 (j : S16x1024.Idx) : iota .tc S16x1024 32 [0] iota_S16x1024_d0_w32 j = BitVec.ofNat 32 (j 0).val := by
  pointwise

/-- After the fine rotations, the sum over each group, and the first coarse rotation. -/
theorem first (v : S1x256x768.Idx → EReal) (hv : ∀ i, v i = ((D (i 1).val (i 2).val : ℝ) : EReal)) (i : S16x1024.Idx) :
    k0_pay2 (F := Ideal) v i = ((group D (i 0).val (((i 1).val + (0 + turn 1#32 1008#32 (i 0).val)) % 1024) : ℝ) : EReal) := by
  have h0 : ∀ j : S256x1024.Idx, concatenate S256x1024 1 [⟨S256x768, shapeCast S256x768 v shapeCasts_S1x256x768_S256x768⟩,
      ⟨S256x256, broadcast S256x256 (Scalar.ofBits (F := Ideal) .f32 0x00000000#32)⟩] concatenates_S256x768_S256x256_S256x1024_d1 j
      = (fun r n => ((padded D r n : ℝ) : EReal)) (j 0).val (((j 1).val + 0) % 1024) := fun j => by
    have hj : (j 1).val < 1024 := (j 1).isLt
    dsimp only
    rw [Nat.add_zero, Nat.mod_eq_of_lt hj]
    unfold padded
    pointwise
    split
    · exact hv _
    · rfl
  have s1 := step rotates_S256x1024_d1 1#32 1023#32 (by decide) _ words256 _ (fun r n => ((padded D r n : ℝ) : EReal)) (fun _ => 0) h0
  have s2 := step rotates_S256x1024_d1 2#32 1022#32 (by decide) _ words256 _ (fun r n => ((padded D r n : ℝ) : EReal)) (fun r => 0 + turn 1#32 1023#32 r) s1
  have s3 := step rotates_S256x1024_d1 4#32 1020#32 (by decide) _ words256 _ (fun r n => ((padded D r n : ℝ) : EReal)) (fun r => 0 + turn 1#32 1023#32 r + turn 2#32 1022#32 r) s2
  have s4 := step rotates_S256x1024_d1 8#32 1016#32 (by decide) _ words256 _ (fun r n => ((padded D r n : ℝ) : EReal))
    (fun r => 0 + turn 1#32 1023#32 r + turn 2#32 1022#32 r + turn 4#32 1020#32 r) s3
  have key : ∀ w : S256x1024.Idx → EReal, (∀ j : S256x1024.Idx, w j = ((padded D (j 0).val (((j 1).val + (j 0).val % 16) % 1024) : ℝ) : EReal)) →
      ∀ j : S16x1024.Idx, multiReduction (F := Ideal) (φ := .f32) .add [1] S16x1024 (shapeCast S16x16x1024 w shapeCasts_S256x1024_S16x16x1024) 0x00000000#32
        reduces_S16x16x1024_S16x1024 (.inl rfl) rfl j = (fun r n => ((group D r n : ℝ) : EReal)) (j 0).val (((j 1).val + 0) % 1024) := by
    intro w hw j
    have hj : (j 1).val < 1024 := (j 1).isLt
    dsimp only
    rw [Nat.add_zero, Nat.mod_eq_of_lt hj]
    pointwise
    unfold group
    rw [← coe_sum]
    refine Finset.sum_congr rfl fun b _ => (hw _).trans ?_
    refine congrArg₂ (fun r n => ((padded D r n : ℝ) : EReal)) ?_ ?_
    · show (j 0).val * 16 + b.val = _
      omega
    · have hb : b.val < 16 := b.isLt
      show ((j 1).val + ((j 0).val * 16 + b.val) % 16) % 1024 = _
      omega
  have g0 := key _ fun j => (s4 j).trans (by
    have hf := fine_back (j 0)
    dsimp only at hf ⊢
    refine congrArg (fun n => ((padded D (j 0).val n : ℝ) : EReal)) ?_
    generalize 0 + turn 1#32 1023#32 (j 0).val + turn 2#32 1022#32 (j 0).val + turn 4#32 1020#32 (j 0).val + turn 8#32 1016#32 (j 0).val = z at hf ⊢
    omega)
  exact step rotates_S16x1024_d1 1#32 1008#32 (by decide) _ words16 _ (fun r n => ((group D r n : ℝ) : EReal)) (fun _ => 0) g0 i

/-- After the other coarse rotations, the sum over the groups, and the three products: the row itself, and twice the difference
of the row and itself. -/
theorem second (v : S16x1024.Idx → EReal)
    (hv : ∀ i, v i = ((group D (i 0).val (((i 1).val + (0 + turn 1#32 1008#32 (i 0).val)) % 1024) : ℝ) : EReal))
    (o : S1024x257.Idx → EReal) (i : S1x1x257.Idx) :
    k0_pay1 (F := Ideal) (k0_pay3 (iota .tc S16x1024 32 [0] iota_S16x1024_d0_w32) v 2#32 o o o) i
      = ∑ j : Fin 1024, ((row D j.val : ℝ) : EReal) * o (ix2 j (i 2)) := by
  have s2 := step rotates_S16x1024_d1 2#32 992#32 (by decide) _ words16 _ (fun r n => ((group D r n : ℝ) : EReal)) (fun r => 0 + turn 1#32 1008#32 r) hv
  have s3 := step rotates_S16x1024_d1 4#32 960#32 (by decide) _ words16 _ (fun r n => ((group D r n : ℝ) : EReal)) (fun r => 0 + turn 1#32 1008#32 r + turn 2#32 992#32 r) s2
  have s4 := step rotates_S16x1024_d1 8#32 896#32 (by decide) _ words16 _ (fun r n => ((group D r n : ℝ) : EReal))
    (fun r => 0 + turn 1#32 1008#32 r + turn 2#32 992#32 r + turn 4#32 960#32 r) s3
  have key : ∀ w : S16x1024.Idx → EReal, (∀ j : S16x1024.Idx, w j = ((group D (j 0).val (((j 1).val + 16 * (j 0).val) % 1024) : ℝ) : EReal)) →
      ∀ j : S8x1024.Idx, broadcastTo S8x1024 (shapeCast S1x1024 (shapeCast S1x1024
        (multiReduction (F := Ideal) (φ := .f32) .add [0] S1024 w 0x00000000#32 reduces_S16x1024_S1024 (.inl rfl) rfl) shapeCasts_S1024_S1x1024)
        shapeCasts_S1x1024_S1x1024) broadcasts_S1x1024_S8x1024 j = ((row D (j 1).val : ℝ) : EReal) := by
    intro w hw j
    pointwise
    unfold row
    rw [← coe_sum]
    exact Finset.sum_congr rfl fun a _ => hw _
  have s5 := key _ (fun j => (s4 j).trans (by
    have hf := coarse_back (j 0)
    dsimp only at hf ⊢
    refine congrArg (fun n => ((group D (j 0).val n : ℝ) : EReal)) ?_
    generalize 0 + turn 1#32 1008#32 (j 0).val + turn 2#32 992#32 (j 0).val + turn 4#32 960#32 (j 0).val + turn 8#32 896#32 (j 0).val = z at hf ⊢
    omega))
  clear s2 s3 s4 key
  unfold k0_pay1 k0_pay3
  dsimp only
  generalize hE : broadcastTo S8x1024 (shapeCast S1x1024 (shapeCast S1x1024 _ _) _) _ = w
  have h : ∀ i, w i = ((row D (i 1).val : ℝ) : EReal) := fun i => (congrFun hE.symm i).trans (s5 i)
  clear hE s5
  pointwise
  have e1 : ∀ x : Fin 1024, w (ix2 0 x) * o (ix2 x (i 2)) = ((row D x.val : ℝ) : EReal) * o (ix2 x (i 2)) := fun x => by
    rw [h]
    rfl
  have e2 : ∀ x : Fin 1024, w (ix2 0 x) - w (ix2 0 x) = 0 := fun x => by
    rw [h, ← EReal.coe_sub, sub_self, EReal.coe_zero]
  rw [Finset.sum_congr rfl fun x _ => e1 x]
  have e3 : ∀ x : Fin 1024, (w (ix2 0 x) - w (ix2 0 x)) * o (ix2 x (i 2)) = 0 := fun x => by rw [e2, zero_mul]
  have e4 : ∀ x : Fin 1024, (w (ix2 0 x) - w (ix2 0 x) - (w (ix2 0 x) - w (ix2 0 x))) * o (ix2 x (i 2)) = 0 := fun x => by
    rw [e2, sub_zero, zero_mul]
  rw [Finset.sum_congr rfl fun x _ => e3 x, Finset.sum_congr rfl fun x _ => e4 x, Finset.sum_const_zero, add_zero, add_zero]

end Cert.BiasReduceIdeal.Tile

end

end
-- ==== Proof.BiasReduceValue.lean ====
module

public import proofs.«01_k».proof.Proof.BiasReduceTile
public import Idealize.ShloMosaic.Lib.Pipeline.ReadBack
public import Idealize.ShloMosaic.Lib.Claim

/-! What the call that makes the learned table's gradient leaves in its result array, from the tile's gradient. -/

@[expose] public section

set_option maxRecDepth 16384

noncomputable section

namespace Cert.BiasReduceIdeal.ReduceValue

open Cert.BiasReduceIdeal Cert.BiasReduceIdeal.Gen Cert.BiasReduceMath Idealize.ShloMosaic Idealize.ShloMosaic.TcCoe
  Idealize.SL.Sem Idealize.ShloMosaic.StableHlo

/-- Where each window's block lies at a point. -/
theorem idx : ∀ t : Fin cfg0.N, win0_0.index t = ![t.val, 0, 0] ∧ win0_1.index t = ![0, 0] ∧ win0_2.index t = ![t.val, 0, 0] :=
  (by decide +kernel : ∀ t : Fin grid0.N, _)

variable (m : (l : Loc nD τ sig) → Buf (Elt Ideal) l) (c : Dev nD)

/-- The matrix, as the call finds it. -/
abbrev O : S1024x257.Idx → EReal := m ((c.tc : Thread nD τ).loc main_arg1)

/-- Every point reads the whole matrix. -/
theorem blk1 (t : Fin cfg0.N) (y : S1024x257.Idx) : iblk m c 1 t y = O m c y := by
  blk_simp [iblk]
  entry_read
  refine congrArg (O m c) (funext fun a => Fin.ext ?_)
  match a with
  | ⟨0, _⟩ => blk_simp [idx t]
  | ⟨1, _⟩ => blk_simp [idx t]

variable (D : ℕ → ℕ → ℕ → ℝ)
  (hD : ∀ i : S16x256x768.Idx, m ((c.tc : Thread nD τ).loc main_arg0) i = ((D (i 0).val (i 1).val (i 2).val : ℝ) : EReal))

include hD in
/-- One head of the tile's gradient. -/
theorem blk0 (t : Fin cfg0.N) (y : S1x256x768.Idx) : iblk m c 0 t y = ((D t.val (y 1).val (y 2).val : ℝ) : EReal) := by
  blk_simp [iblk]
  entry_read
  rw [hD]
  have hy : (y 0).val = 0 := Nat.lt_one_iff.mp (y 0).isLt
  blk_simp [idx t]

include hD in
/-- The result block of a head. -/
theorem out (t : Fin cfg0.N) (y : S1x1x257.Idx) : out0_2 (F := Ideal) (iblk m c 0 t) (iblk m c 1 t) y
    = ∑ j : Fin 1024, ((total (D t.val) j.val : ℝ) : EReal) * O m c (ix2 j (y 2)) := by
  have hb := blk0 m c D hD t
  have ho := blk1 m c t
  generalize iblk m c 0 t = b at hb ⊢
  generalize iblk m c 1 t = o at ho ⊢
  obtain rfl : o = O m c := funext ho
  frame_out
  have hg := Tile.first (D t.val) b hb
  generalize k0_pay2 (F := Ideal) b = g at hg ⊢
  refine (Tile.second (D t.val) g hg (O m c) y).trans ?_
  exact Finset.sum_congr rfl fun j _ => by rw [row_total (D t.val) j.val j.isLt]

include hD in
/-- The result array after the run. -/
theorem final : (dats m 0 c).arrAt 2 cfg0.N
    = fun i : S16x1x257.Idx => ∑ j : Fin 1024, ((total (D (i 0).val) j.val : ℝ) : EReal) * O m c (ix2 j (i 2)) := by
  refine (dats m 0 c).arrAt_eq_of_covers 2 _ (by decide +kernel) fun t _ y => ?_
  have h2 : ((cfg0.win 2).blk t).view.emb y 2 = y 2 := Fin.ext (by blk_simp [idx t])
  blk_simp
  rw [after0_2, out m c D hD t]
  rw [show win0_2.index t 0 = t.val from congrFun (idx t).2.2 0]
  exact Finset.sum_congr (M := EReal) rfl fun j _ => congrArg (fun q => ((total (D t.val) j.val : ℝ) : EReal) * O m c (ix2 j q)) h2.symm

end Cert.BiasReduceIdeal.ReduceValue

end

end
-- ==== Proof.BiasReduceRefRead.lean ====
module

public import proofs.«01_k».proof.Proof.Gen.BiasReduceRefIdeal.Read
public import proofs.«01_k».proof.Proof.BiasMath
public import Idealize.ShloMosaic.Lib.Pipeline.ValueKit
public import proofs.«01_k».proof.Proof.BiasReduceMath

/-! The reference's gradient of the learned table, at an entry. -/

@[expose] public section

set_option maxRecDepth 16384

noncomputable section

namespace Cert.BiasReduceRefIdeal.RefRead

open Cert.BiasReduceRefIdeal Cert.BiasReduceRefIdeal.Gen Cert.BiasReduceRefIdeal.Read Cert.BiasReduceMath Idealize.ShloMosaic Idealize.ShloMosaic.TcCoe
open Cert.GateMath (coe_sum)

/-- The word of a place, when the key lies before the query. -/
theorem before (r k : ℕ) (hr : r < 256) (hk : k < r) :
    IntOp.addi (IntOp.subi (BitVec.ofNat 32 k) (BitVec.ofNat 32 r)) 1024#32 = BitVec.ofNat 32 (k + 1024 - r) := by
  refine BitVec.eq_of_toNat_eq ?_
  show (BitVec.ofNat 32 k - BitVec.ofNat 32 r + 1024#32).toNat = _
  rw [BitVec.toNat_add, BitVec.toNat_sub, BitVec.toNat_ofNat, BitVec.toNat_ofNat, BitVec.toNat_ofNat, BitVec.toNat_ofNat]
  omega

/-- The word of a place, when it does not. -/
theorem after (r k : ℕ) (hk : k < 768) (h : r ≤ k) :
    IntOp.subi (BitVec.ofNat 32 k) (BitVec.ofNat 32 r) = BitVec.ofNat 32 (k - r) := by
  refine BitVec.eq_of_toNat_eq ?_
  show (BitVec.ofNat 32 k - BitVec.ofNat 32 r).toNat = _
  rw [BitVec.toNat_sub, BitVec.toNat_ofNat, BitVec.toNat_ofNat, BitVec.toNat_ofNat]
  omega

/-- The reference's index word. -/
theorem index (i : S256x768.Idx) : val_main_v15 (F := Ideal) i = BitVec.ofNat 32 (place (i 0).val (i 1).val) := by
  have h0 : (i 0).val < 256 := (i 0).isLt
  have h1 : (i 1).val < 768 := (i 1).isLt
  have e : val_main_v15 (F := Ideal) i = Scalar.select (IntOp.cmpi .slt (BitVec.ofNat 32 (i 1).val) (BitVec.ofNat 32 (i 0).val))
      (IntOp.addi (IntOp.subi (BitVec.ofNat 32 (i 1).val) (BitVec.ofNat 32 (i 0).val)) 1024#32)
      (IntOp.subi (BitVec.ofNat 32 (i 1).val) (BitVec.ofNat 32 (i 0).val)) := by
    rw [val_main_v15_apply, val_main_v6_apply, val_main_v4_apply, val_main_v5_apply, val_main_v11_apply, val_main_v9_apply,
      val_main_v7_apply, val_main_v8_apply, val_main_v10_apply, val_main_c_apply, val_main_v14_apply, val_main_v12_apply,
      val_main_v13_apply, val_main_v3_apply, val_main_v2_apply, val_main_v1_apply, val_main_v0_apply]
  rw [e, WordCmp.cmpi_slt_ofNat (by omega) (by omega), Scalar.select_ofBool]
  unfold place
  by_cases h : (i 1).val < (i 0).val
  · rw [if_pos (decide_eq_true h), if_pos h, before _ _ h0 h]
  · rw [if_neg (fun e => h (of_decide_eq_true e)), if_neg h, after _ _ h1 (Nat.not_lt.mp h)]

variable (D : ℕ → ℕ → ℕ → ℝ)

/-- The tile's gradient as an array. -/
abbrev X : S16x256x768.Idx → EReal := fun i => ((D (i 0).val (i 1).val (i 2).val : ℝ) : EReal)

/-- What the reference adds up. -/
theorem term (i : S16x256x768x1024.Idx) : val_main_v24 (F := Ideal) (X D) i
    = ((if place (i 1).val (i 2).val = (i 3).val then D (i 0).val (i 1).val (i 2).val else 0 : ℝ) : EReal) := by
  have h1 : (i 1).val < 256 := (i 1).isLt
  have h2 : (i 2).val < 768 := (i 2).isLt
  have h3 : (i 3).val < 1024 := (i 3).isLt
  have hp : place (i 1).val (i 2).val < 1024 := by unfold place; split <;> omega
  have hb : val_main_call1_v1 (F := Ideal) i
      = IntOp.cmpi .eq (BitVec.ofNat 32 (place (i 1).val (i 2).val)) (BitVec.ofNat 32 (i 3).val) := by
    rw [val_main_call1_v1_apply, val_main_v22_apply, val_main_v21_apply, val_main_v19_apply, val_main_v16_apply, index,
      val_main_v20_apply, val_main_v18_apply, val_main_v17_apply]
  rw [val_main_v24_apply, hb, val_main_call1_v2_apply, val_main_v23_apply, val_main_call1_v3_apply, val_main_call1_v0_apply,
    val_main_cst_apply, WordCmp.cmpi_eq_ofNat (by omega) (by omega), Scalar.select_ofBool]
  by_cases h : place (i 1).val (i 2).val = (i 3).val
  · rw [if_pos h, if_pos (decide_eq_true h)]
  · rw [if_neg h, if_neg (fun e => h (of_decide_eq_true e))]
    exact Ideal.ofBits_zero _

/-- The reference's row. -/
theorem rows (i : S16x1024.Idx) : val_main_v26 (F := Ideal) (X D) i = ((total (D (i 0).val) (i 1).val : ℝ) : EReal) := by
  have z : (FloatOps.ofBits (F := Ideal) .f32 0x00000000#32 : EReal) = 0 := Ideal.ofBits_zero _
  rw [val_main_v26_apply, val_main_cst_1_apply, z, zero_add]
  unfold total
  rw [← coe_sum]
  refine Finset.sum_congr rfl fun r _ => ?_
  rw [val_main_v25_apply, val_main_cst_0_apply, z, zero_add, ← coe_sum]
  exact Finset.sum_congr rfl fun k _ => term D _

/-- The reference's result. -/
theorem ref (o : S1024x257.Idx → EReal) (i : S16x1x257.Idx) : val_main_v29 (F := Ideal) (X D) o i
    = ∑ j : Fin 1024, ((total (D (i 0).val) j.val : ℝ) : EReal) * o (ix2 j (i 2)) := by
  rw [val_main_v29_apply, val_main_v28_apply]
  refine Finset.sum_congr rfl fun j _ => ?_
  rw [rows, val_main_v27_apply]
  refine congrArg (_ * ·) (congrArg o (funext fun a => ?_))
  match a with
  | ⟨0, _⟩ => rfl
  | ⟨1, _⟩ => rfl

end Cert.BiasReduceRefIdeal.RefRead

end

end
-- ==== Proof.BiasReducePre.lean ====
module

public import proofs.«01_k».proof.Pre_bias_reduce_finite
public import proofs.«01_k».proof.Proof.NormPre

/-! The precondition on the bias tile's gradient says that every entry is a real number. -/

@[expose] public section

noncomputable section

namespace Cert.BiasReducePre

open Idealize.ShloMosaic

variable [Cert.Pre_bias_reduce_finite.Facts]

/-- The tile's gradient holds real numbers. -/
theorem real (x o) (h : Cert.Pre_bias_reduce_finite.fn (F := Ideal) x o = fun _ => 1#1) (i) : ∃ r : ℝ, (x i : EReal) = r := by
  have h := congrFun h fun a => a.elim0
  unfold Cert.Pre_bias_reduce_finite.fn at h
  dsimp only at h
  exact Cert.GatePre.real_of_all _ _ _ _ _ _ h i

end Cert.BiasReducePre

end

end
-- ==== Proof.GateTile.lean ====
module

public import proofs.«01_k».proof.Proof.Gen.GateIdeal.Skeleton
public import proofs.«01_k».proof.Proof.GateMath
public import Idealize.ShloMosaic.Lib.Pointwise
public import Idealize.ShloMosaic.Lib.WordCmp
public import Idealize.ShloMosaic.Lib.Pipeline.ValueKit

/-! What one grid point of the gate's backward kernel computes, read over the real numbers: the stored payloads at
    blocks that hold real numbers. -/

@[expose] public section

set_option maxRecDepth 16384

noncomputable section

namespace Cert.GateIdeal.GateTile

open Cert.GateIdeal Cert.GateIdeal.Gen Cert.GateMath Idealize.ShloMosaic Idealize.ShloMosaic.TcCoe
  Idealize.SL.Sem Idealize.ShloMosaic.StableHlo

variable (Z D : ℕ → ℕ → ℝ) (g : ℕ → ℝ) (W : ℕ → ℕ → ℕ → ℝ) (b : ℕ → ℕ → ℝ)

abbrev B0 : Vec Ideal S256x2048 .bf16 := fun i => ((Z (i 0).val (i 1).val : ℝ) : EReal)
abbrev B1 : Vec Ideal S256x1024 .bf16 := fun i => ((D (i 0).val (i 1).val : ℝ) : EReal)
abbrev B2 : Vec Ideal S1x1024 .f32 := fun i => ((g (i 1).val : ℝ) : EReal)

abbrev B3 : Vec Ideal S8x128x128 .f32 := fun i => ((W (i 0).val (i 1).val (i 2).val : ℝ) : EReal)
abbrev B4 : Vec Ideal S128x1024 .f32 := fun i => ((b ((i 1).val / 128) (i 0).val : ℝ) : EReal)

/-- The chunk number of a position, as the kernel computes it: a floor division of words. -/
def flo (x : BitVec 32) : BitVec 32 :=
  Scalar.select (Scalar.andi (Scalar.cmpi .ne (Scalar.subi (Scalar.extui (Scalar.cmpi .sgt x 0#32)) (Scalar.extui (Scalar.cmpi .slt x 0#32))) 1#32)
    (Scalar.cmpi .ne (Scalar.remsi x 64#32) 0#32)) (Scalar.subi (Scalar.divsi x 64#32) 1#32) (Scalar.divsi x 64#32)

theorem flo_eq : ∀ a : Fin 128, flo (BitVec.ofNat 32 a.val) = BitVec.ofNat 32 (a.val / 64) := by decide +kernel

theorem named_cubic : (Named.named κ "gelu_cubic" (1027024659#32 : BitVec (FTy.bits .f32)) : Ideal .f32) = ((8943 / 200000 : ℝ) : EReal) := by rfl

theorem named_cubic3 : (Named.named κ "gelu_cubic3" (1040801103#32 : BitVec (FTy.bits .f32)) : Ideal .f32) = ((26829 / 200000 : ℝ) : EReal) := by rfl

theorem pay8_at (i : S256x2048.Idx) : k0_pay8 (F := Ideal) (B0 Z) i = ((th (Z (i 0).val (i 1).val) : ℝ) : EReal) := by
  pointwise [k0_pay8, k0_pay7, k0_pay6]
  rw [named_cubic, cT_eq]
  change Ideal.tanh (_ * ((_ : ℝ) : EReal) * (((1 : ℝ) : EReal) + _ * (((_ : ℝ) : EReal) * ((_ : ℝ) : EReal)))) = _
  simp only [← EReal.coe_mul, ← EReal.coe_add, Ideal.tanh_coe]
  rfl

theorem pay10_at (i : S256x2048.Idx) : k0_pay10 (F := Ideal) (B0 Z) i = ((act (Z (i 0).val (i 1).val) : ℝ) : EReal) := by
  pointwise [k0_pay10, k0_pay9, k0_pay6]
  rw [pay8_at, half_eq]
  change ((_ : ℝ) : EReal) * (_ * (((1 : ℝ) : EReal) + _)) = _
  simp only [← EReal.coe_mul, ← EReal.coe_add]
  rfl

theorem pay11_eq : k0_pay11 (F := Ideal) (B0 Z) = fun i => ((dact (Z (i 0).val (i 1).val) : ℝ) : EReal) := by
  funext i
  pointwise [k0_pay11, k0_pay9, k0_pay7, k0_pay6]
  rw [pay8_at, half_eq, named_cubic3, cT_eq]
  change _ + _ * ((_ : ℝ) : EReal) * (((1 : ℝ) : EReal) - _) * _ * (((1 : ℝ) : EReal) + _ * (((_ : ℝ) : EReal) * ((_ : ℝ) : EReal))) = _
  rw [show (1 : EReal) = ((1 : ℝ) : EReal) from rfl]
  simp only [← EReal.coe_mul, ← EReal.coe_sub, ← EReal.coe_add]
  rfl

theorem pay12_eq : k0_pay12 (F := Ideal) (B0 Z) = fun i => ((u Z (i 0).val (i 1).val : ℝ) : EReal) := by
  funext i
  pointwise [k0_pay12, pay10_at]
  rfl

theorem pay13_eq : k0_pay13 (F := Ideal) (B0 Z) = fun i => ((v Z (i 0).val (i 1).val : ℝ) : EReal) := by
  funext i
  pointwise [k0_pay13, pay10_at]
  rfl

theorem rr_eq : rsqrt (addf (k0_pay14 (F := Ideal) (B0 Z)) k0_pay15) = fun i => ((rr Z (i 0).val : ℝ) : EReal) := by
  funext i
  pointwise [k0_pay14, k0_pay15, pay13_eq]
  simp only [← EReal.coe_mul, coe_sum, eps_eq, width_eq]
  rw [div_real _ _ (by norm_num), ← EReal.coe_add]
  exact rsqrt_ms Z _

theorem mask_read (a c : Fin 128) (x y : EReal) :
    Scalar.select (Scalar.cmpi .sge (flo (BitVec.ofNat 32 a.val)) (flo (BitVec.ofNat 32 c.val))) x y
      = if c.val / 64 ≤ a.val / 64 then x else y := by
  rw [flo_eq, flo_eq]
  have h : ∀ p q : Fin 2, Scalar.cmpi .sge (BitVec.ofNat 32 p.val) (BitVec.ofNat 32 q.val) = BitVec.ofBool (decide (q.val ≤ p.val)) := by
    decide +kernel
  have ha : a.val / 64 < 2 := by omega
  have hc : c.val / 64 < 2 := by omega
  rw [h ⟨_, ha⟩ ⟨_, hc⟩, WordCmp.select_ofBool]
  simp

/-- The kernel's chunk numbers of the row or column numbers. -/
abbrev floV (I : IVec S128x128 32) (h : 1 < 32) : IVec S128x128 32 :=
  select (andi (cmpi .ne (subi (extui 32 (cmpi .sgt I (broadcast S128x128 0#32)) h)
    (extui 32 (cmpi .slt I (broadcast S128x128 0#32)) h)) (broadcast S128x128 1#32))
    (cmpi .ne (remsi I (broadcast S128x128 64#32)) (broadcast S128x128 0#32)))
    (subi (divsi I (broadcast S128x128 64#32)) (broadcast S128x128 1#32))
    (divsi I (broadcast S128x128 64#32))

/-- A select under the kernel's mask keeps the causal chunks. -/
theorem mask_of (h0 h1 h) {M : IVec S128x128 1}
    (hk : cmpi .sge (floV (iota .tc S128x128 32 [0] h0) h) (floV (iota .tc S128x128 32 [1] h1) h) = M)
    (a c : Fin 128) (x y : EReal) :
    Scalar.select (M (ix2 a c)) x y = if c.val / 64 ≤ a.val / 64 then x else y := by
  have q := mask_read a c x y
  unfold flo at q
  rw [← hk]
  unfold floV
  pointwise
  exact q

/-- The kernel's normalised and scaled right half. -/
theorem vn_of (h h') {V : FVec Ideal S256x1024 .f32} (hv : mulf (F := Ideal) (mulf (F := Ideal) (fun i : S256x1024.Idx => ((v Z (i 0).val (i 1).val : ℝ) : EReal))
      (broadcastTo S256x1024 (fun i : S256x1.Idx => ((rr Z (i 0).val : ℝ) : EReal)) h)) (broadcastTo S256x1024 (B2 g) h') = V) :
    V = fun i => ((vn Z g (i 0).val (i 1).val : ℝ) : EReal) := by
  rw [← hv]
  funext y
  pointwise
  simp only [← EReal.coe_mul]
  rfl

/-- A masked real number. -/
theorem ite_real (p : Prop) [Decidable p] (x : ℝ) : (if p then (x : EReal) else 0) = (((if p then x else 0 : ℝ)) : EReal) := by
  split <;> rfl

/-- Earlier stores do not show where later ones cover. -/
theorem canon_drop {s : Shape} {e : EltTy} (L L' : List (View.Piece (Elt Ideal) s e)) (y : s.Idx) (hc : ∃ p ∈ L, y ∈ p.1.set) :
    View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      rw [List.cons_append]
      exact (View.canon_cons_emb p.1 p.2 _ x).trans (View.canon_cons_emb p.1 p.2 _ x).symm
    · rw [List.cons_append, View.canon_cons_of_not_mem _ _ hm, View.canon_cons_of_not_mem _ _ hm]
      obtain ⟨q, hq, hy⟩ := hc
      rcases List.mem_cons.mp hq with rfl | hq
      · exact absurd hy hm
      · exact ih ⟨q, hq, hy⟩

/-- A store does not show under a later store through the same box. -/
theorem canon_shadow {s : Shape} {e : EltTy} (r : Rect s) (w w' : r.shape.Idx → Elt Ideal e) (L : List (View.Piece (Elt Ideal) s e)) :
    View.canon ((⟨r, w⟩ : View.Piece (Elt Ideal) s e) :: ⟨r, w'⟩ :: L) = View.canon ((⟨r, w⟩ : View.Piece (Elt Ideal) s e) :: L) := by
  funext y
  by_cases hm : y ∈ r.set
  · obtain ⟨x, rfl⟩ := r.exists_idx_of_mem hm
    exact (View.canon_cons_emb r w _ x).trans (View.canon_cons_emb r w _ x).symm
  · rw [View.canon_cons_of_not_mem _ _ hm, View.canon_cons_of_not_mem _ _ hm, View.canon_cons_of_not_mem _ _ hm]

/-- A store under a store does not depend on what the later store hides. -/
theorem canon_cons_congr {s : Shape} {e : EltTy} (p : View.Piece (Elt Ideal) s e) (L L' : List (View.Piece (Elt Ideal) s e))
    (h : View.canon L = View.canon L') : View.canon (p :: L) = View.canon (p :: L') := by
  rw [View.canon_cons, View.canon_cons, h]

/-- The box of a whole buffer does not move an index. -/
theorem whole_idx (h) (y : S256x1024.Idx) : (Rect.unit (s := S256x1024) ![0, 0] ![256, 1024] h).idx y = y := by
  funext a
  apply Fin.ext
  match a with
  | ⟨0, _⟩ => simp [LoadRect.idx]
  | ⟨1, _⟩ => simp [LoadRect.idx]

section

variable (M : IVec S128x128 1)
    (hM : ∀ (a c : Fin 128) (x y : EReal), Scalar.select (M (ix2 a c)) x y = if c.val / 64 ≤ a.val / 64 then x else y)
    (r0 c0 : ℕ) (hr : r0 % 128 = 0) (hc : c0 % 128 = 0) (X3 : Vec Ideal S1x128x128 .f32)
    (hW : ∀ a c, X3 (ix3 0 a c) = ((W (c0 / 128) a.val c.val : ℝ) : EReal))
    (E U V : FVec Ideal S256x1024 .f32) (hE : E = fun i => ((D (i 0).val (i 1).val : ℝ) : EReal))
    (hU : U = fun i => ((u Z (i 0).val (i 1).val : ℝ) : EReal)) (hV : V = fun i => ((vn Z g (i 0).val (i 1).val : ℝ) : EReal))
include hM hr hc hW hE

include hU in

/-- One block's product with the transposed masked weights. -/
theorem dvn_piece (h1 h2 h4 h5 h6 h7) (x : S128x128.Idx) :
    (shapeCast S128x128 (matmul (F := Ideal) dot_S128x128_S128x128_S128x128_0_0_1_1_n_n none
      (truncf .bf16 (select M (shapeCast S128x128 X3 h1) (broadcast S128x128 (FloatOps.ofBits .f32 0#32))) h2)
      (truncf .bf16 (mulf (extractStridedSlice S128x128 ![r0, c0] E h4) (extractStridedSlice S128x128 ![r0, c0] U h5)) h6)
      (constant S128x128 .f32 0#32)) h7) x = ((dvn Z D W (r0 + (x 0).val) (c0 + (x 1).val) : ℝ) : EReal) := by
  subst hE hU
  idx_vars x
  pointwise [hM, hW]
  simp only [ite_real, ← EReal.coe_mul, coe_sum]
  unfold dvn w msk ds
  rw [show (c0 + x1.val) / 128 = c0 / 128 by omega, show (r0 + x0.val) % 128 = x0.val by omega,
    show 128 * ((r0 + x0.val) / 128) = r0 by omega]

include hV in
/-- One block's mixed values times the arriving gradient. -/
theorem du_piece (X4 : Vec Ideal S128x128 .f32) (hb : ∀ a c, X4 (ix2 a c) = ((b (c0 / 128) a.val : ℝ) : EReal)) (h1 h2 h3 h4 h5 h6 h7)
    (x : S128x128.Idx) :
    (shapeCast S128x128 (mulf (F := Ideal) (extractStridedSlice S128x128 ![r0, c0] E h1)
      (addf (matmul (F := Ideal) dot_S128x128_S128x128_S128x128_1_0_0_1_n_n none
        (truncf .bf16 (select M (shapeCast S128x128 X3 h2) (broadcast S128x128 (FloatOps.ofBits .f32 0#32))) h3)
        (truncf .bf16 (extractStridedSlice S128x128 ![r0, c0] V h4) h5)
        (constant S128x128 .f32 0#32)) (shapeCast S128x128 X4 h6))) h7) x
      = ((D (r0 + (x 0).val) (c0 + (x 1).val) * s Z g W b (r0 + (x 0).val) (c0 + (x 1).val) : ℝ) : EReal) := by
  subst hE hV
  idx_vars x
  pointwise [hM, hW, hb]
  simp only [ite_real, ← EReal.coe_mul, coe_sum, ← EReal.coe_add]
  unfold s w msk
  rw [show (c0 + x1.val) / 128 = c0 / 128 by omega, show (r0 + x0.val) % 128 = x0.val by omega,
    show 128 * ((r0 + x0.val) / 128) = r0 by omega]

omit hr hW in
include hU hV in
/-- One group's share of the weights' gradient at one point: the two blocks' products, masked and added to what is there. -/
theorem dw_piece (q : ℕ) (hq : c0 = 128 * q) (h1 h2 h3 h4 h5 h6 h7 h8 h9 h10 h11 h12) (x : S1x128x128.Idx) :
    (shapeCast S1x128x128 (addf (F := Ideal) (shapeCast S128x128 X3 h1) (select M
      (addf (addf (broadcast S128x128 (FloatOps.ofBits .f32 0#32))
        (matmul (F := Ideal) dot_S128x128_S128x128_S128x128_1_1_0_0_n_n none
          (truncf .bf16 (mulf (extractStridedSlice S128x128 ![0, c0] E h2) (extractStridedSlice S128x128 ![0, c0] U h3)) h4)
          (truncf .bf16 (extractStridedSlice S128x128 ![0, c0] V h5) h6) (constant S128x128 .f32 0#32)))
        (matmul (F := Ideal) dot_S128x128_S128x128_S128x128_1_1_0_0_n_n none
          (truncf .bf16 (mulf (extractStridedSlice S128x128 ![128, c0] E h7) (extractStridedSlice S128x128 ![128, c0] U h8)) h9)
          (truncf .bf16 (extractStridedSlice S128x128 ![128, c0] V h10) h11) (constant S128x128 .f32 0#32)))
      (broadcast S128x128 (FloatOps.ofBits .f32 0#32)))) h12) x
      = X3 (ix3 0 (x 1) (x 2)) + ((msk (x 1).val (x 2).val (dwB Z D g 0 q (x 1).val (x 2).val + dwB Z D g 1 q (x 1).val (x 2).val) : ℝ) : EReal) := by
  subst hE hU hV hq
  idx_vars x
  pointwise [hM]
  simp only [← EReal.coe_mul, coe_sum, ← EReal.coe_add, ite_real]
  unfold dwB msk ds
  simp only [mul_zero, zero_add, mul_one]

end

end Cert.GateIdeal.GateTile
end
end
-- ==== Proof.GateOut.lean ====
module

public import proofs.«01_k».proof.Proof.Gen.GateIdeal.Value
public import proofs.«01_k».proof.Proof.GateTile
public import Idealize.ShloMosaic.Lib.Pipeline.ValueKit
public import Idealize.ShloMosaic.Lib.Pointwise
public import Idealize.ShloMosaic.Lib.Pipeline.ReadBack

@[expose] public section

set_option maxRecDepth 16384

set_option maxHeartbeats 1600000

noncomputable section

namespace Cert.GateIdeal.GateOut

open Cert.GateIdeal Cert.GateIdeal.Gen Cert.GateMath Cert.GateIdeal.GateTile Idealize.ShloMosaic Idealize.ShloMosaic.TcCoe
  Idealize.SL.Sem Idealize.ShloMosaic.StableHlo

/-- The three kinds of points: the first, the middle ones, the last. -/
theorem cases3 (t : Fin cfg0.N) :
    (t.val % 16 = 0 ∧ ¬ t.val % 16 = 15) ∨ (¬ t.val % 16 = 0 ∧ ¬ t.val % 16 = 15) ∨ (¬ t.val % 16 = 0 ∧ t.val % 16 = 15) := by
  omega

theorem B4_at (b : ℕ → ℕ → ℝ) (a : Fin 128) (k : ℕ) (hk : k < 1024) : B4 b (ix2 a ⟨k, hk⟩) = ((b (k / 128) a.val : ℝ) : EReal) := rfl

theorem B2_at (g : ℕ → ℝ) (a : Fin 1) (k : Fin 1024) : B2 g (ix2 a k) = ((g k : ℝ) : EReal) := rfl

variable (m : (ℓ : Loc nD τ sig) → Buf (Elt Ideal) ℓ) (c : Dev nD)

variable (Z D : ℕ → ℕ → ℝ) (g : ℕ → ℝ) (W : ℕ → ℕ → ℕ → ℝ) (b : ℕ → ℕ → ℝ) (t : Fin cfg0.N)
  (H0 : iblk m c 0 t = B0 Z) (H1 : iblk m c 1 t = B1 D) (H2 : iblk m c 2 t = B2 g) (H3 : iblk m c 3 t = B3 W) (H4 : iblk m c 4 t = B4 b)

/-- The point before a point. -/
abbrev prev := outsAt0 m c (t.val - 1) (Nat.lt_of_le_of_lt (Nat.sub_le _ _) t.isLt)

include H0 H1 H2 in
/-- The weights' gradient after a point. -/
theorem dws_step (i) : (outsAt0 m c t.val t.isLt).2.1 i = (if t.val % 16 = 0 then 0 else (prev m c t).2.1 i)
      + ((msk (i 1).val (i 2).val (dwB Z D g 0 (i 0).val (i 1).val (i 2).val + dwB Z D g 1 (i 0).val (i 1).val (i 2).val) : ℝ) : EReal) := by
  obtain h | h | h := cases3 t
  all_goals
    first | rw [outsAt0_A m c t h.1 h.2, if_pos h.1] | rw [outsAt0_B m c t h.1 h.2, if_neg h.1] | rw [outsAt0_C m c t h.1 h.2, if_neg h.1]
    frame_out
    try simp (disch := decide) only [↓ View.readCov_skip, ↓ View.readCov_fill]
    rw [H0, H1, H2, rr_eq, pay12_eq, pay13_eq]
    generalize hk : cmpi (s := S128x128) .sge _ _ = M
    have hM := mask_of _ _ _ hk
    clear hk
    generalize hv : mulf (F := Ideal) (s := S256x1024) _ (broadcastTo S256x1024 (B2 g) _) = V
    have hV := vn_of Z g _ _ hv
    clear hv H0 H1 H2
    subst hV
  on_goal 1 => refine (canon_drop [_, _, _, _, _, _, _, _] [_] _ (View.cover_of_tiled_head _ _ _ (by rfl) _)).trans ?_
  all_goals
    canon_tiles x q
    all_goals
      try unfold k0_pay156
      refine (dw_piece Z D g M hM _ (by decide) _ _ _ _ rfl rfl rfl (i 0).val (by omega) _ _ _ _ _ _ _ _ _ _ _ _ x).trans ?_
      rw [q1, q2]
      congr 1
      pointwise [k0_pay3]
      try blk_ext

include H0 H1 H2 H3 H4 in
/-- The input's gradient, and the gain's gradient after a point. -/
theorem dz_dgv_step :
    (∀ i, (outsAt0 m c t.val t.isLt).1 i = ((dz Z D g W b (i 0).val (i 1).val : ℝ) : EReal))
    ∧ ∀ i, (outsAt0 m c t.val t.isLt).2.2.2.1 i = (if t.val % 16 = 0 then 0 else (prev m c t).2.2.2.1 i)
      + ((∑ r : Fin 256, dvn Z D W r (i 1).val * n Z r (i 1).val : ℝ) : EReal) := by
  refine ⟨fun i => ?_, fun i => ?_⟩
  all_goals
    obtain h | h | h := cases3 t
    all_goals
      first | rw [outsAt0_A m c t h.1 h.2] | rw [outsAt0_B m c t h.1 h.2] | rw [outsAt0_C m c t h.1 h.2]
      try first | rw [if_pos h.1] | rw [if_neg h.1]
      frame_out
      rw [H0, H1, H3, rr_eq, pay12_eq, pay13_eq]
      generalize hk : cmpi (s := S128x128) .sge _ _ = M
      have hM := mask_of _ _ _ hk
      clear hk
      generalize hS : View.readCov (Val := Elt Ideal) (View.whole cc0_scratch1) _ _ = S
      have hR : S = fun i => ((dvn Z D W (i 0).val (i 1).val : ℝ) : EReal) := by
        rw [← hS]
        funext y
        rw [View.readCov_eq_canon']
        refine Eq.trans (b := ((dvn Z D W ((Rect.unit (s := S256x1024) ![0, 0] ![256, 1024] inb_S256x1024_S256x1024_0_0).idx y 0).val
          ((Rect.unit (s := S256x1024) ![0, 0] ![256, 1024] inb_S256x1024_S256x1024_0_0).idx y 1).val : ℝ) : EReal)) ?_ (by rw [whole_idx])
        clear hS S H0 H1 H2 H3 H4 h
        canon_tiles x h
        all_goals
          refine (dvn_piece Z D W M hM _ _ (by decide) (by decide) _ (fun a e => by pointwise; rfl) _ _ rfl rfl _ _ _ _ _ _ x).trans ?_
          simp only [h0, h1, zero_add]
      clear hS
      subst hR
  iterate 3
    rw [H2, H4, pay11_eq]
    generalize hv : mulf (F := Ideal) (s := S256x1024) _ (broadcastTo S256x1024 (B2 g) _) = V
    have hV := vn_of Z g _ _ hv
    clear hv
    subst hV
    generalize hS : View.readCov (Val := Elt Ideal) (View.whole cc0_scratch0) _ _ = S
    have hR : S = fun i => ((D (i 0).val (i 1).val * s Z g W b (i 0).val (i 1).val : ℝ) : EReal) := by
      rw [← hS]
      funext y
      rw [View.readCov_eq_canon']
      refine Eq.trans (b := ((D ((Rect.unit (s := S256x1024) ![0, 0] ![256, 1024] inb_S256x1024_S256x1024_0_0).idx y 0).val
        ((Rect.unit (s := S256x1024) ![0, 0] ![256, 1024] inb_S256x1024_S256x1024_0_0).idx y 1).val *
        s Z g W b ((Rect.unit (s := S256x1024) ![0, 0] ![256, 1024] inb_S256x1024_S256x1024_0_0).idx y 0).val
        ((Rect.unit (s := S256x1024) ![0, 0] ![256, 1024] inb_S256x1024_S256x1024_0_0).idx y 1).val : ℝ) : EReal)) ?_ (by rw [whole_idx])
      clear hS S H0 H1 H2 H3 H4 h
      canon_tiles x h
      all_goals
        refine (du_piece Z D g W b M hM _ _ (by decide) (by decide) _ (fun a e => by pointwise; rfl) _ _ rfl rfl _
          (fun a e => ?_) _ _ _ _ _ _ _ x).trans ?_
        · pointwise
          exact (B4_at b a _ _).trans (congrArg (fun q => ((b q a.val : ℝ) : EReal)) (by omega))
        simp only [h0, h1, zero_add]
    clear hS H0 H1 H2 H3 H4 h
    subst hR
    canon_tiles x h
    · pointwise [k0_pay1, k0_pay158]
      simp only [width_eq, B2_at, ← EReal.coe_mul, coe_sum]
      rw [div_real _ _ (by norm_num)]
      simp only [← EReal.coe_mul, ← EReal.coe_sub]
      rw [h0, h1]
      unfold dz
      rw [if_neg (by omega), Nat.add_sub_cancel_left]
      rfl
    · pointwise [k0_pay159]
      simp only [← EReal.coe_mul]
      rw [h0, h1]
      unfold dz
      rw [if_pos (by omega)]
  all_goals
    pointwise [k0_pay157, k0_pay4]
    simp only [← EReal.coe_mul, coe_sum]
    rfl

end Cert.GateIdeal.GateOut
end
end
-- ==== Proof.GateBias.lean ====
module

public import proofs.«01_k».proof.Proof.Gen.GateIdeal.Value
public import proofs.«01_k».proof.Proof.GateOut
public import proofs.«01_k».proof.Proof.GateTile
public import Idealize.ShloMosaic.Lib.Pipeline.ValueKit
public import Idealize.ShloMosaic.Lib.Pointwise
public import Idealize.ShloMosaic.Lib.Pipeline.ReadBack

@[expose] public section

set_option maxRecDepth 16384

set_option maxHeartbeats 1600000

noncomputable section

namespace Cert.GateIdeal.GateBias

open Cert.GateIdeal Cert.GateIdeal.Gen Cert.GateMath Cert.GateIdeal.GateTile Idealize.ShloMosaic Idealize.ShloMosaic.TcCoe
  Idealize.SL.Sem Idealize.ShloMosaic.StableHlo

variable (m : (ℓ : Loc nD τ sig) → Buf (Elt Ideal) ℓ) (c : Dev nD)

variable (Z D : ℕ → ℕ → ℝ) (g : ℕ → ℝ) (W : ℕ → ℕ → ℕ → ℝ) (b : ℕ → ℕ → ℝ) (t : Fin cfg0.N)
  (H0 : iblk m c 0 t = B0 Z) (H1 : iblk m c 1 t = B1 D) (H2 : iblk m c 2 t = B2 g) (H3 : iblk m c 3 t = B3 W) (H4 : iblk m c 4 t = B4 b)

open Cert.GateIdeal.GateOut

/-- The incoming gradient's block at its coordinates. -/
theorem B1_at (D : ℕ → ℕ → ℝ) (a : Fin 256) (k : Fin 1024) : B1 D (ix2 a k) = ((D a.val k.val : ℝ) : EReal) := rfl

/-- The box of the whole scratch does not move an index. -/
theorem whole_idx2 (h) (y : S128x1024.Idx) : (Rect.unit (s := S128x1024) ![0, 0] ![128, 1024] h).idx y = y := by
  funext a
  apply Fin.ext
  match a with
  | ⟨0, _⟩ => simp [LoadRect.idx]
  | ⟨1, _⟩ => simp [LoadRect.idx]

/-- A store that a later store through the same box hides is dropped, with what is known of the rest. -/
theorem canon_pair {s : Shape} {e : EltTy} {r : Rect s} {w w' : r.shape.Idx → Elt Ideal e} {L L' : List (View.Piece (Elt Ideal) s e)}
    (h : View.canon L = View.canon L') :
    View.canon ((⟨r, w⟩ : View.Piece (Elt Ideal) s e) :: ⟨r, w'⟩ :: L) = View.canon ((⟨r, w⟩ : View.Piece (Elt Ideal) s e) :: L') :=
  (canon_shadow r w w' L).trans (canon_cons_congr _ _ _ h)

include H0 H1 in
/-- The column sums kept in scratch after a point. -/
theorem dsum_step (i) : (outsAt0 m c t.val t.isLt).2.2.2.2 i = (if t.val % 16 = 0 then 0 else (prev m c t).2.2.2.2 i)
      + ((ds Z D (i 0).val (i 1).val + ds Z D (128 + (i 0).val) (i 1).val : ℝ) : EReal) := by
  obtain h | h | h := cases3 t
  all_goals
    first | rw [outsAt0_A m c t h.1 h.2, if_pos h.1] | rw [outsAt0_B m c t h.1 h.2, if_neg h.1] | rw [outsAt0_C m c t h.1 h.2, if_neg h.1]
    frame_out
    simp (disch := decide) only [↓ View.readCov_skip, ↓ View.readCov_cons_toLoadRect, ↓ View.readCov_fill]
    rw [H0, H1, pay12_eq]
    clear H0 H1
    refine (congrFun (canon_pair (canon_pair (canon_pair (canon_pair (canon_pair (canon_pair (canon_pair (canon_pair rfl)))))))) i).trans ?_
  on_goal 1 => refine (canon_drop [_, _, _, _, _, _, _, _] [_] _ (View.cover_of_tiled_head _ _ _ (by rfl) _)).trans ?_
  all_goals
    canon_tiles x q
    all_goals
      pointwise [k0_pay5]
      simp only [read_unread_whole, B1_at, ← EReal.coe_mul]
      rw [q0, q1, EReal.coe_add]
      first
        | rfl
        | rw [← add_assoc]
          exact congrArg₂ (· + ·) (congrArg₂ (· + ·) (congrArg _ (by blk_ext)) rfl) rfl

/-- The last point writes the biases' gradient from the column sums. -/
theorem dbs_last (h : ¬ t.val % 16 = 0 ∧ t.val % 16 = 15) : (outsAt0 m c t.val t.isLt).2.2.1 = k0_pay2 (outsAt0 m c t.val t.isLt).2.2.2.2 := by
  rw [outsAt0_C m c t h.1 h.2]
  frame_out
  refine congrArg k0_pay2 (funext fun y => ?_)
  rw [View.readCov_eq_canon']
  exact congrArg _ (whole_idx2 _ y)

/-- The group number of a column, as the kernel computes it. -/
def flo2 (x : BitVec 32) : BitVec 32 :=
  Scalar.select (Scalar.andi (Scalar.cmpi .ne (Scalar.subi (Scalar.extui (Scalar.cmpi .sgt x 0#32)) (Scalar.extui (Scalar.cmpi .slt x 0#32)))
    (Scalar.subi (Scalar.extui (Scalar.cmpi .sgt 128#32 0#32)) (Scalar.extui (Scalar.cmpi .slt 128#32 0#32))))
    (Scalar.cmpi .ne (Scalar.remsi x 128#32) 0#32)) (Scalar.subi (Scalar.divsi x 128#32) 1#32) (Scalar.divsi x 128#32)

theorem flo2_eq : ∀ a : Fin 1024, ∀ q : Fin 8, (Scalar.cmpi .eq (flo2 (BitVec.ofNat 32 a.val)) (BitVec.ofNat 32 q.val) : BitVec 1) = if a.val / 128 = q.val then 1#1 else 0#1 := by decide +kernel

/-- The kernel's indicator of a column's group. -/
theorem hot_eq (k : Fin 1024) (q : Fin 8) :
    (FloatOps.sitofp .f32 (BitVec.setWidth 32 (Scalar.cmpi .eq (flo2 (BitVec.ofNat 32 k.val)) (BitVec.ofNat 32 q.val) : BitVec 1)) : Ideal .f32)
      = (((if k.val / 128 = q.val then 1 else 0 : ℝ)) : EReal) := by
  rw [flo2_eq]
  split
  · change (((_ : ℤ) : ℝ) : EReal) = _
    simp
  · change (((_ : ℤ) : ℝ) : EReal) = _
    simp

/-- The product with the indicator adds the columns of a group. -/
theorem pay2_at (f : ℕ → ℕ → ℝ) (i) : k0_pay2 (F := Ideal) (fun i => ((f (i 0).val (i 1).val : ℝ) : EReal)) i
    = ((∑ k : Fin 1024, if k.val / 128 = (i 0).val then f (i 1).val k.val else 0 : ℝ) : EReal) := by
  pointwise [k0_pay2]
  rw [← coe_sum]
  refine Finset.sum_congr rfl fun k _ => ?_
  have h := hot_eq k (i 0)
  unfold flo2 at h
  refine (congrArg (· * ((f (i 1).val k.val : ℝ) : EReal)) h).trans ?_
  simp only [← EReal.coe_mul]
  congr 1
  split <;> simp

end Cert.GateIdeal.GateBias
end
end
-- ==== Proof.GateSum.lean ====
module

public import proofs.«01_k».proof.Proof.GateMath
public import Idealize.ShloMosaic.Lib.Pipeline.ValueKit

/-! The gate's mathematics on a stretch of rows is the mathematics of the whole array at shifted row numbers, and the sums
    over the stretches are the sums over the whole array. -/

@[expose] public section

noncomputable section

namespace Cert.GateMath

open Idealize.ShloMosaic

variable (Z D : ℕ → ℕ → ℝ) (g : ℕ → ℝ) (W : ℕ → ℕ → ℕ → ℝ) (b : ℕ → ℕ → ℝ) (t : ℕ)

/-- The rows from the first row of stretch `t` on. -/
def sh (X : ℕ → ℕ → ℝ) (r c : ℕ) : ℝ := X (256 * t + r) c

theorem s_sh (r c : ℕ) : s (sh t Z) g W b r c = s Z g W b (256 * t + r) c := by
  unfold s
  rw [show (256 * t + r) % 128 = r % 128 by omega, show 128 * ((256 * t + r) / 128) = 256 * t + 128 * (r / 128) by omega]
  simp only [add_assoc (256 * t)]
  rfl

theorem dvn_sh (r c : ℕ) : dvn (sh t Z) (sh t D) W r c = dvn Z D W (256 * t + r) c := by
  unfold dvn
  rw [show (256 * t + r) % 128 = r % 128 by omega, show 128 * ((256 * t + r) / 128) = 256 * t + 128 * (r / 128) by omega]
  simp only [add_assoc (256 * t)]
  rfl

theorem n_sh (r c : ℕ) : n (sh t Z) r c = n Z (256 * t + r) c := rfl

theorem ds_sh (r c : ℕ) : ds (sh t Z) (sh t D) r c = ds Z D (256 * t + r) c := rfl

theorem dz_sh (r c : ℕ) : dz (sh t Z) (sh t D) g W b r c = dz Z D g W b (256 * t + r) c := by
  unfold dz dv tt
  simp only [s_sh, dvn_sh]
  rfl

theorem dwB_sh (p a i j : ℕ) : dwB (sh t Z) (sh t D) g p a i j = dwB Z D g (2 * t + p) a i j := by
  unfold dwB
  rw [show 128 * (2 * t + p) = 256 * t + 128 * p by omega]
  simp only [add_assoc (256 * t)]
  rfl

/-- Thirty-two blocks are sixteen pairs of blocks. -/
theorem sum_pairs (f : ℕ → ℝ) : ∑ t : Fin 16, (f (2 * t.val) + f (2 * t.val + 1)) = ∑ p : Fin 32, f p.val := by
  refine Eq.trans ?_ (Fin.sum_mul_add_congr (S := 16) (n := 2) (F := fun t k => f (2 * t.val + k.val)) (f := fun p : Fin 32 => f p.val)
    (fun t k _ => by rw [mul_comm]))
  refine Finset.sum_congr rfl fun t _ => ?_
  rw [Fin.sum_univ_two]
  rfl

/-- The rows of the whole array, stretch by stretch. -/
theorem sum_rows (f : ℕ → ℝ) : ∑ t : Fin 16, ∑ r : Fin 256, f (256 * t.val + r.val) = ∑ r : Fin 4096, f r.val :=
  Fin.sum_mul_add_congr (f := fun r : Fin 4096 => f r.val) fun t k _ => by rw [mul_comm]

/-- The mask goes through a sum. -/
theorem msk_sum {ι : Type} (S : Finset ι) (i j : ℕ) (f : ι → ℝ) : ∑ t ∈ S, msk i j (f t) = msk i j (∑ t ∈ S, f t) := by
  unfold msk
  split
  · rfl
  · simp

/-- The columns of one group, picked among all columns. -/
theorem sum_group (f : ℕ → ℝ) (a : ℕ) (ha : a < 8) :
    (∑ k : Fin 1024, if k.val / 128 = a then f k.val else 0) = ∑ c : Fin 128, f (128 * a + c.val) := by
  rw [← Fin.sum_mul_add_congr (S := 8) (n := 128) (F := fun p c => if p.val = a then f (128 * p.val + c.val) else 0)
    (f := fun k : Fin 1024 => if k.val / 128 = a then f k.val else 0)
    (fun p c _ => by
      have h : (p.val * 128 + c.val) / 128 = p.val := by omega
      rw [h, mul_comm])]
  rw [Finset.sum_comm]
  refine Finset.sum_congr rfl fun c _ => ?_
  rw [Finset.sum_eq_single (⟨a, ha⟩ : Fin 8)]
  · simp
  · intro p _ hp
    exact if_neg fun h => hp (Fin.ext h)
  · simp

end Cert.GateMath

end

end
-- ==== Proof.GateValue.lean ====
module

public import proofs.«01_k».proof.Proof.Gen.GateIdeal.Value
public import proofs.«01_k».proof.Proof.GateBias
public import proofs.«01_k».proof.Proof.GateSum
public import Idealize.ShloMosaic.Lib.Pipeline.ValueKit
public import Idealize.ShloMosaic.Lib.Pointwise
public import Idealize.ShloMosaic.Lib.Claim

/-! What the gate's backward call leaves in its four result arrays, from the arguments' real values. -/

@[expose] public section

set_option maxRecDepth 16384

noncomputable section

namespace Cert.GateIdeal.GateValue

open Cert.GateIdeal Cert.GateIdeal.Gen Cert.GateMath Cert.GateIdeal.GateTile Cert.GateIdeal.GateOut Cert.GateIdeal.GateBias
  Idealize.ShloMosaic Idealize.ShloMosaic.TcCoe Idealize.SL.Sem Idealize.ShloMosaic.StableHlo

/-- Where each window's block lies at a point. -/
theorem idx : ∀ t : Fin cfg0.N, win0_0.index t = ![t.val, 0] ∧ win0_1.index t = ![t.val, 0] ∧ win0_2.index t = ![0, 0]
    ∧ win0_3.index t = ![0, 0, 0] ∧ win0_4.index t = ![0, 0] ∧ win0_5.index t = ![t.val, 0] :=
  (by decide +kernel : ∀ t : Fin grid0.N, _)

variable (m : (ℓ : Loc nD τ sig) → Buf (Elt Ideal) ℓ) (c : Dev nD)
variable (Z D : ℕ → ℕ → ℝ) (g : ℕ → ℝ) (W : ℕ → ℕ → ℕ → ℝ) (b : ℕ → ℕ → ℝ)
  (E0 : ∀ i : S4096x2048.Idx, m ((c : Thread nD τ).loc main_arg0) i = ((Z (i 0).val (i 1).val : ℝ) : EReal))
  (E1 : ∀ i : S4096x1024.Idx, m ((c : Thread nD τ).loc main_arg1) i = ((D (i 0).val (i 1).val : ℝ) : EReal))
  (E2 : ∀ i : S1x1024.Idx, m ((c : Thread nD τ).loc main_arg2) i = ((g (i 1).val : ℝ) : EReal))
  (E3 : ∀ i : S8x128x128.Idx, m ((c : Thread nD τ).loc main_arg3) i = ((W (i 0).val (i 1).val (i 2).val : ℝ) : EReal))
  (E4 : ∀ i : S8x128.Idx, m ((c : Thread nD τ).loc main_arg4) i = ((b (i 0).val (i 1).val : ℝ) : EReal))

include E0 in
/-- The input's block at a point. -/
theorem blk0 (t : Fin cfg0.N) : iblk m c 0 t = B0 (sh t.val Z) := by
  funext y
  blk_simp [iblk, V]
  refine (E0 _).trans ?_
  unfold B0 sh
  blk_simp [idx t]
  rw [mul_comm]

include E1 in
/-- The incoming gradient's block at a point. -/
theorem blk1 (t : Fin cfg0.N) : iblk m c 1 t = B1 (sh t.val D) := by
  funext y
  blk_simp [iblk, V]
  refine (E1 _).trans ?_
  unfold B1 sh
  blk_simp [idx t]
  rw [mul_comm]

include E2 in
/-- The gain's block at a point. -/
theorem blk2 (t : Fin cfg0.N) : iblk m c 2 t = B2 g := by
  funext y
  blk_simp [iblk, V]
  refine (E2 _).trans ?_
  unfold B2
  blk_simp [idx t]

include E3 in
/-- The weights' block at a point. -/
theorem blk3 (t : Fin cfg0.N) : iblk m c 3 t = B3 W := by
  funext y
  blk_simp [iblk, V]
  refine (E3 _).trans ?_
  unfold B3
  blk_simp [idx t]

include E4 in
/-- The biases' block at a point. -/
theorem blk4 (t : Fin cfg0.N) : iblk m c 4 t = B4 b := by
  funext y
  blk_simp [iblk]
  entry_read
  generalize hy : ((View.whole main_v2).slice (win0_4.rect t)).emb y = z
  have h0 : (z 0).val = (y 0).val := by rw [← hy]; blk_simp [idx t]
  have h1 : (z 1).val = (y 1).val := by rw [← hy]; blk_simp [idx t]
  unfold B4
  rw [← h0, ← h1]
  clear hy h0 h1
  pointwise
  exact E4 _

/-- A sum over the grid's points. -/
theorem points (f : ℕ → ℝ) : ∑ p : Fin cfg0.N, f p.val = ∑ p : Fin 16, f p.val :=
  Fintype.sum_equiv (finCongr N_0) _ _ fun _ => rfl

include E0 E1 E2 E3 E4 in
/-- The input's gradient after the run. -/
theorem final5 : (dats m 0 c).arrAt 5 cfg0.N = fun i : S4096x2048.Idx => ((dz Z D g W b (i 0).val (i 1).val : ℝ) : EReal) := by
  refine (dats m 0 c).arrAt_eq_of_covers 5 _ (by decide +kernel) fun t hf y => ?_
  blk_simp
  rw [after0_5, (dz_dgv_step m c _ _ g W b t (blk0 m c Z E0 t) (blk1 m c D E1 t) (blk2 m c g E2 t) (blk3 m c W E3 t) (blk4 m c b E4 t)).1, dz_sh]
  blk_simp [idx t]
  rw [mul_comm]

include E0 E1 E2 in
/-- The weights' gradient after the run. -/
theorem final6 : (dats m 0 c).arrAt 6 cfg0.N
    = fun i : S8x128x128.Idx => ((msk (i 1).val (i 2).val (∑ p : Fin 32, dwB Z D g p.val (i 0).val (i 1).val (i 2).val) : ℝ) : EReal) := by
  refine (dats m 0 c).arrAt_eq_of_after_last 6 t0_15 (by decide +kernel) _ fun j => ?_
  blk_simp
  have hs := fun t : Fin cfg0.N => dws_step m c _ _ g t (blk0 m c Z E0 t) (blk1 m c D E1 t) (blk2 m c g E2 t)
  rw [after0_6, Pipeline.eq_sum_fin_of_reset_step_apply_last (fun n h => (outsAt0 m c n h).2.1) 16 (fun _ => 0) _
    (fun t h i => by rw [hs t i, if_pos h]) (fun t h i => by rw [hs t i, if_neg h]) (le_of_eq N_0) t0_15 rfl j, zero_add]
  simp only [dwB_sh, Nat.add_zero]
  rw [coe_sum, msk_sum]
  exact congrArg (fun x => ((msk _ _ x : ℝ) : EReal)) ((points fun t => dwB Z D g (2 * t) _ _ _ + dwB Z D g (2 * t + 1) _ _ _).trans
    (sum_pairs fun p => dwB Z D g p _ _ _))

include E0 E1 E2 E3 E4 in
/-- The gain's gradient after the run. -/
theorem final8 : (dats m 0 c).arrAt 8 cfg0.N
    = fun i : S1x1024.Idx => ((∑ r : Fin 4096, dvn Z D W r.val (i 1).val * n Z r.val (i 1).val : ℝ) : EReal) := by
  refine (dats m 0 c).arrAt_eq_of_after_last 8 t0_15 (by decide +kernel) _ fun j => ?_
  blk_simp
  have hs := fun t : Fin cfg0.N => (dz_dgv_step m c _ _ g W b t (blk0 m c Z E0 t) (blk1 m c D E1 t) (blk2 m c g E2 t) (blk3 m c W E3 t) (blk4 m c b E4 t)).2
  rw [after0_8, Pipeline.eq_sum_fin_of_reset_step_apply_last (fun n h => (outsAt0 m c n h).2.2.2.1) 16 (fun _ => 0) _
    (fun t h i => by rw [hs t i, if_pos h]) (fun t h i => by rw [hs t i, if_neg h]) (le_of_eq N_0) t0_15 rfl j, zero_add]
  simp only [dvn_sh, n_sh]
  rw [coe_sum]
  exact congrArg (fun x : ℝ => (x : EReal)) ((points fun t => ∑ r : Fin 256, dvn Z D W (256 * t + r.val) _ * n Z (256 * t + r.val) _).trans
    (sum_rows fun r => dvn Z D W r _ * n Z r _))

include E0 E1 in
/-- The biases' gradient after the run. -/
theorem final7 : (dats m 0 c).arrAt 7 cfg0.N
    = fun i : S8x128.Idx => ((∑ p : Fin 32 × Fin 128, ds Z D (128 * p.1.val + (i 1).val) (128 * (i 0).val + p.2.val) : ℝ) : EReal) := by
  refine (dats m 0 c).arrAt_eq_of_after_last 7 t0_15 (by decide +kernel) _ fun j => ?_
  blk_simp
  have hs := fun t : Fin cfg0.N => dsum_step m c _ _ t (blk0 m c Z E0 t) (blk1 m c D E1 t)
  have hd : (outsAt0 m c t0_15.val t0_15.isLt).2.2.2.2
      = fun i : S128x1024.Idx => ((∑ p : Fin 32, ds Z D (128 * p.val + (i 0).val) (i 1).val : ℝ) : EReal) := by
    funext i
    rw [Pipeline.eq_sum_fin_of_reset_step_apply_last (fun n h => (outsAt0 m c n h).2.2.2.2) 16 (fun _ => 0) _
      (fun t h i => by rw [hs t i, if_pos h]) (fun t h i => by rw [hs t i, if_neg h]) (le_of_eq N_0) t0_15 rfl i, zero_add]
    simp only [ds_sh]
    rw [coe_sum]
    refine congrArg (fun x : ℝ => (x : EReal)) ((points fun t => ds Z D (256 * t + (i 0).val) (i 1).val + ds Z D (256 * t + (128 + (i 0).val)) (i 1).val).trans
      (Eq.trans ?_ (sum_pairs fun p => ds Z D (128 * p + (i 0).val) (i 1).val)))
    refine Finset.sum_congr rfl fun t _ => ?_
    rw [show 256 * t.val + (i 0).val = 128 * (2 * t.val) + (i 0).val by omega,
      show 256 * t.val + (128 + (i 0).val) = 128 * (2 * t.val + 1) + (i 0).val by omega]
  rw [after0_7, dbs_last m c t0_15 (by decide +kernel), hd,
    pay2_at (fun r k => ∑ p : Fin 32, ds Z D (128 * p.val + r) k) j,
    sum_group (fun k => ∑ p : Fin 32, ds Z D (128 * p.val + (j 1).val) k) (j 0).val (j 0).isLt, Finset.sum_comm,
    ← Fintype.sum_prod_type']

end Cert.GateIdeal.GateValue

end

end
-- ==== Proof.GateRefRead.lean ====
module

public import proofs.«01_k».proof.Proof.Gen.GateRefIdeal.Read
public import proofs.«01_k».proof.Proof.GateMath
public import Idealize.ShloMosaic.Lib.WordCmp
public import Idealize.ShloMosaic.Lib.Pointwise

/-! The gate's reference, read at real arguments: each of its four results is the real function of `GateMath`. -/

@[expose] public section

set_option maxRecDepth 16384

noncomputable section

namespace Cert.GateRefIdeal.RefValue

open Cert.GateRefIdeal Cert.GateRefIdeal.Gen Cert.GateRefIdeal.Read Cert.GateMath Idealize.ShloMosaic Idealize.ShloMosaic.TcCoe
  Idealize.SL.Sem Idealize.ShloMosaic.StableHlo

variable (Z D : ℕ → ℕ → ℝ) (g : ℕ → ℝ) (W : ℕ → ℕ → ℕ → ℝ) (b : ℕ → ℕ → ℝ)

/-- The input, from real numbers. -/
abbrev X0 : (⟨S4096x2048, .bf16⟩ : BufTy).Contents (Elt Ideal) := fun i => ((Z (i 0).val (i 1).val : ℝ) : EReal)
/-- The arriving gradient, from real numbers. -/
abbrev X1 : (⟨S4096x1024, .bf16⟩ : BufTy).Contents (Elt Ideal) := fun i => ((D (i 0).val (i 1).val : ℝ) : EReal)
/-- The norm's gain, from real numbers. -/
abbrev X2 : (⟨S1x1024, .f32⟩ : BufTy).Contents (Elt Ideal) := fun i => ((g (i 1).val : ℝ) : EReal)
/-- The mixing weights, from real numbers. -/
abbrev X3 : (⟨S8x128x128, .f32⟩ : BufTy).Contents (Elt Ideal) := fun i => ((W (i 0).val (i 1).val (i 2).val : ℝ) : EReal)
/-- The mixing bias, from real numbers. -/
abbrev X4 : (⟨S8x128, .f32⟩ : BufTy).Contents (Elt Ideal) := fun i => ((b (i 0).val (i 1).val : ℝ) : EReal)

theorem cubic (i : S_.Idx) : val_main_v1 (F := Ideal) i = ((8943 / 200000 : ℝ) : EReal) := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [val_main_v1_apply, val_main_cst_apply, val_main_cst_0_apply, Ideal.hostDivf_def, Ideal.ofBits_def, Ideal.ofBits_def, h1, h2,
    div_real _ _ (by norm_num)]
  norm_num

theorem tanh_read (i : S4096x2048.Idx) : val_main_v14 (F := Ideal) (X0 Z) i = ((th (Z (i 0).val (i 1).val) : ℝ) : EReal) := by
  simp only [val_main_v14_apply, val_main_v13_apply, val_main_v12_apply, val_main_cst_3_apply, val_main_v11_apply, val_main_v10_apply,
    val_main_v9_apply, val_main_v5_apply, val_main_v4_apply, val_main_v0_apply, cubic, Ideal.hostUnary_tanh_def, Ideal.mulf_def,
    Ideal.addf_def, Ideal.extf_def, Ideal.ofBits_def, cT_eq, ← EReal.coe_mul, ← EReal.coe_add, Ideal.tanh_coe]
  unfold th
  congr 2; ring

theorem act_read (i : S4096x2048.Idx) : val_main_v22 (F := Ideal) (X0 Z) i = ((act (Z (i 0).val (i 1).val) : ℝ) : EReal) := by
  simp only [val_main_v22_apply, val_main_v21_apply, val_main_v3_apply, val_main_v2_apply, val_main_cst_1_apply, val_main_v20_apply,
    val_main_cst_6_apply, tanh_read, val_main_v0_apply, Ideal.mulf_def,
    Ideal.addf_def, Ideal.extf_def, Ideal.ofBits_def, half_eq, one_eq, ← EReal.coe_mul, ← EReal.coe_add]
  unfold act
  congr 1; ring

theorem v_read (i : S4096x1024.Idx) : val_main_v24 (F := Ideal) (X0 Z) i = ((v Z (i 0).val (i 1).val : ℝ) : EReal) := by
  rw [val_main_v24_apply, act_read]
  unfold v
  congr 3 <;> simp [idx_main_v24] <;> omega

theorem u_read (i : S4096x1024.Idx) : val_main_v23 (F := Ideal) (X0 Z) i = ((u Z (i 0).val (i 1).val : ℝ) : EReal) := by
  rw [val_main_v23_apply, act_read]
  unfold u
  congr 3 <;> simp [idx_main_v23]

theorem ms_read (i : S4096x1.Idx) : val_main_v31 (F := Ideal) (X0 Z) i = ((ms Z (i 0).val : ℝ) : EReal) := by
  simp only [val_main_v31_apply, val_main_v30_apply, val_main_cst_9_apply, val_main_v29_apply, val_main_v28_apply, val_main_cst_8_apply,
    val_main_v27_apply, val_main_v26_apply, val_main_cst_7_apply, val_main_v25_apply, v_read, Ideal.mulf_def, Ideal.hostDivf_def,
    Ideal.addf_def, Ideal.ofBits_def, width_eq, eps_eq, zero_eq, ← EReal.coe_mul, coe_sum, ← EReal.coe_add, div_real _ _ (show (1024 : ℝ) ≠ 0 by norm_num), zero_add]
  rfl

theorem rr_read (i : S4096x1.Idx) : val_main_v32 (F := Ideal) (X0 Z) i = ((rr Z (i 0).val : ℝ) : EReal) := by
  rw [val_main_v32_apply, ms_read, Ideal.hostUnary_rsqrt_def, rsqrt_ms]

theorem n_read (i : S4096x1024.Idx) : val_main_v37 (F := Ideal) (X0 Z) i = ((n Z (i 0).val (i 1).val : ℝ) : EReal) := by
  simp only [val_main_v37_apply, val_main_v36_apply, rr_read, v_read, Ideal.mulf_def, ← EReal.coe_mul]
  rfl

theorem vn_read (i : S4096x1024.Idx) : val_main_v39 (F := Ideal) (X0 Z) (X2 g) i = ((vn Z g (i 0).val (i 1).val : ℝ) : EReal) := by
  simp only [val_main_v39_apply, val_main_v38_apply, n_read, Ideal.mulf_def, ← EReal.coe_mul]
  rfl

/-- The chunk numbers of the positions of a block. -/
theorem chunk_read : ∀ k : Fin 128, val_main_v41 (F := Ideal) (fun a => match a with | ⟨0, _⟩ => k) = BitVec.ofNat 32 (k.val / 64) := by
  decide +kernel

theorem mask_read (i : S8x128x128.Idx) :
    val_main_v48_1 (F := Ideal) i = BitVec.ofBool (decide ((i 2).val / 64 ≤ (i 1).val / 64)) := by
  have e : ∀ (j : S128.Idx), val_main_v41 (F := Ideal) j = BitVec.ofNat 32 ((j 0).val / 64) := fun j => by
    rw [← chunk_read (j 0)]
    exact congrArg _ (funext fun a => match a with | ⟨0, _⟩ => rfl)
  have h : ∀ p q : Fin 2, IntOp.cmpi .sge (BitVec.ofNat 32 p.val) (BitVec.ofNat 32 q.val) = BitVec.ofBool (decide (q.val ≤ p.val)) := by
    decide
  have h1 : (i 1).val < 128 := (i 1).isLt
  have h2 : (i 2).val < 128 := (i 2).isLt
  simp only [val_main_v48_1_apply, val_main_v47_apply, val_main_v46_apply, val_main_v45_apply, val_main_v44_apply, val_main_v43_apply,
    val_main_v42_apply, e]
  exact h ⟨(i 1).val / 64, by omega⟩ ⟨(i 2).val / 64, by omega⟩

theorem w_read (i : S8x128x128.Idx) :
    val_main_v48_0 (F := Ideal) (X3 W) i = ((w W (i 0).val (i 1).val (i 2).val : ℝ) : EReal) := by
  have h0 : FloatOps.sitofp (F := Ideal) .f32 0#32 = ((0 : ℝ) : EReal) := by
    show (((0#32 : BitVec 32).toInt : ℝ) : EReal) = _
    simp
  rw [val_main_v48_0_apply, mask_read, WordCmp.select_ofBool, val_main_call1_v2_apply, val_main_call1_v0_apply]
  unfold w msk
  by_cases h : (i 2).val / 64 ≤ (i 1).val / 64
  · rw [if_pos (decide_eq_true h), if_pos h]
  · rw [if_neg (by simpa using h), if_neg h]; exact h0

theorem s_read (i : S4096x1024.Idx) :
    val_main_v56 (F := Ideal) (X0 Z) (X2 g) (X3 W) (X4 b) i = ((s Z g W b (i 0).val (i 1).val : ℝ) : EReal) := by
  have h0 : (i 0).val < 4096 := (i 0).isLt
  have h1 : (i 1).val < 1024 := (i 1).isLt
  simp only [val_main_v56_apply, val_main_v55_apply, val_main_v54_apply, val_main_v53_apply, val_main_v52_apply, val_main_v51_apply,
    val_main_v50_apply, val_main_v49_apply, vn_read, w_read, Ideal.addf_def, ← EReal.coe_mul, coe_sum, ← EReal.coe_add]
  unfold s
  congr 1
  congr 1
  · refine Finset.sum_congr rfl fun k _ => ?_
    have hk := k.isLt
    rw [mul_comm]
    congr 2 <;> simp <;> omega
  · congr 1 <;> simp <;> omega

theorem ds_read (i : S4096x1024.Idx) :
    val_main_v59 (F := Ideal) (X0 Z) (X1 D) i = ((ds Z D (i 0).val (i 1).val : ℝ) : EReal) := by
  simp only [val_main_v59_apply, val_main_v58_apply, u_read, Ideal.mulf_def, Ideal.extf_def, ← EReal.coe_mul]
  unfold ds
  rw [mul_comm]

theorem dvn_read (i : S4096x1024.Idx) :
    val_main_v70 (F := Ideal) (X0 Z) (X1 D) (X3 W) i = ((dvn Z D W (i 0).val (i 1).val : ℝ) : EReal) := by
  have h0 : (i 0).val < 4096 := (i 0).isLt
  have h1 : (i 1).val < 1024 := (i 1).isLt
  simp only [val_main_v70_apply, val_main_v69_apply, val_main_v68_apply, val_main_v66_apply, val_main_v61_apply, ds_read, w_read,
    ← EReal.coe_mul, coe_sum]
  unfold dvn
  congr 1
  refine Finset.sum_congr rfl fun k _ => ?_
  have hk := k.isLt
  rw [mul_comm]
  congr 2 <;> simp <;> omega

/-- The gain's gradient. -/
theorem dgv_read (i : S1x1024.Idx) : val_main_v74 (F := Ideal) (X0 Z) (X1 D) (X3 W) i
    = ((∑ r : Fin 4096, dvn Z D W r.val (i 1).val * n Z r.val (i 1).val : ℝ) : EReal) := by
  have h0 : (i 0).val < 1 := (i 0).isLt
  simp only [val_main_v74_apply, val_main_v73_apply, val_main_cst_14_apply, val_main_v72_apply, dvn_read, n_read, Ideal.mulf_def, Ideal.ofBits_def,
    zero_eq, ← EReal.coe_mul, coe_sum, ← EReal.coe_add, zero_add]
  congr 1
  refine Finset.sum_congr rfl fun k _ => ?_
  rw [mul_comm]
  congr 2 <;> simp <;> omega

theorem tt_read (i : S4096x1024.Idx) :
    val_main_v76 (F := Ideal) (X0 Z) (X1 D) (X2 g) (X3 W) i = ((tt Z D g W (i 0).val (i 1).val : ℝ) : EReal) := by
  simp only [val_main_v76_apply, val_main_v75_apply, dvn_read, Ideal.mulf_def, ← EReal.coe_mul]
  rfl

/-- The derivative of the reciprocal root, as jax writes it. -/
theorem slope_read (i : S4096x1.Idx) : val_main_v35 (F := Ideal) (X0 Z) i = ((-1 / 2 * (rr Z (i 0).val / ms Z (i 0).val) : ℝ) : EReal) := by
  simp only [val_main_v35_apply, val_main_v34_apply, val_main_cst_10_apply, val_main_v33_apply, rr_read, ms_read, Ideal.hostDivf_def,
    div_real _ _ (ms_pos Z _).ne', Ideal.mulf_def, Ideal.ofBits_def, neg_half_eq, ← EReal.coe_mul]

theorem pull_read (i : S4096.Idx) : val_main_v85 (F := Ideal) (X0 Z) (X1 D) (X2 g) (X3 W) i
    = (((∑ k : Fin 1024, v Z (i 0).val k.val * tt Z D g W (i 0).val k.val) * (-1 / 2 * (rr Z (i 0).val / ms Z (i 0).val)) / 1024 : ℝ) : EReal) := by
  simp only [val_main_v85_apply, val_main_cst_17_apply, val_main_v84_apply, val_main_v83_apply, val_main_cst_16_apply, val_main_v82_apply,
    val_main_v79_apply, val_main_v78_apply, val_main_cst_15_apply, val_main_v77_apply, v_read, tt_read, slope_read, Ideal.hostDivf_def,
    Ideal.mulf_def, Ideal.ofBits_def, zero_eq, width_eq, ← EReal.coe_mul, coe_sum, ← EReal.coe_add, zero_add,
    div_real _ _ (show (1024 : ℝ) ≠ 0 by norm_num)]
  simp

theorem dv_read (i : S4096x1024.Idx) :
    val_main_v90 (F := Ideal) (X0 Z) (X1 D) (X2 g) (X3 W) i = ((dv Z D g W (i 0).val (i 1).val : ℝ) : EReal) := by
  simp only [val_main_v90_apply, val_main_v89_apply, val_main_v88_apply, val_main_v87_apply, val_main_v86_apply, val_main_v81_apply,
    val_main_v80_apply, pull_read, v_read, tt_read, rr_read, Ideal.mulf_def, Ideal.addf_def, ← EReal.coe_mul, ← EReal.coe_add]
  congr 1
  have hm := (ms_pos Z (i 0).val).ne'
  have hr := rr_sq Z (i 0).val
  have hs : ∑ k : Fin 1024, tt Z D g W (i 0).val k.val * n Z (i 0).val k.val
      = (∑ k : Fin 1024, v Z (i 0).val k.val * tt Z D g W (i 0).val k.val) * rr Z (i 0).val := by
    rw [Finset.sum_mul]
    exact Finset.sum_congr rfl fun k _ => by unfold n; ring
  have hq : rr Z (i 0).val / ms Z (i 0).val = rr Z (i 0).val ^ 3 := by
    rw [div_eq_iff hm]; linear_combination (-rr Z (i 0).val) * hr
  unfold dv
  rw [hs, hq]
  unfold n
  simp only [idx_main_v86, idx_main_v80]
  ring

theorem cat_read (i : S4096x2048.Idx) : val_main_v91 (F := Ideal) (X0 Z) (X1 D) (X2 g) (X3 W) (X4 b) i
    = (((if (i 1).val < 1024 then D (i 0).val (i 1).val * s Z g W b (i 0).val (i 1).val
        else dv Z D g W (i 0).val ((i 1).val - 1024) : ℝ)) : EReal) := by
  have h0 : (i 0).val < 4096 := (i 0).isLt
  have h1 : (i 1).val < 2048 := (i 1).isLt
  unfold val_main_v91
  by_cases h : (i 1).val < 1024
  · rw [if_pos h]
    refine (concatenate_pair_apply_left (s₁ := S4096x1024) (s₂ := S4096x1024) (1 : Fin S4096x2048.rank) _ _ _ i rfl
      (fun a => match a with | ⟨0, _⟩ => ⟨(i 0).val, h0⟩ | ⟨1, _⟩ => ⟨(i 1).val, h⟩)
      (fun a => match a with | ⟨0, _⟩ => rfl | ⟨1, _⟩ => rfl)).trans ?_
    rw [val_main_v60_apply, s_read, val_main_v58_apply, Ideal.mulf_def, Ideal.extf_def, ← EReal.coe_mul]
  · rw [if_neg h]
    refine (concatenate_pair_apply_right (s₁ := S4096x1024) (s₂ := S4096x1024) (1 : Fin S4096x2048.rank) _ _ _ i rfl rfl
      (fun a => match a with | ⟨0, _⟩ => ⟨(i 0).val, h0⟩ | ⟨1, _⟩ => ⟨(i 1).val - 1024, by show (i 1).val - 1024 < 1024; omega⟩)
      (fun a ha => match a, ha with | ⟨0, _⟩, _ => rfl | ⟨1, _⟩, ha => absurd rfl ha) ?_).trans ?_
    · show (i 1).val - 1024 + 1024 = (i 1).val
      omega
    · rw [dv_read]

theorem dz_read (i : S4096x2048.Idx) : val_main_v104 (F := Ideal) (X0 Z) (X1 D) (X2 g) (X3 W) (X4 b) i
    = ((dz Z D g W b (i 0).val (i 1).val : ℝ) : EReal) := by
  simp only [val_main_v104_apply, val_main_v103_apply, val_main_v102_apply, val_main_v101_apply, val_main_cst_19_apply,
    val_main_v100_apply, val_main_v99_apply, val_main_v98_apply, val_main_v97_apply, val_main_v96_apply, val_main_v95_apply,
    val_main_cst_18_apply, val_main_v94_apply, val_main_v93_apply, val_main_v92_apply, val_main_v21_apply, val_main_v20_apply,
    val_main_cst_6_apply, val_main_v19_apply, val_main_v18_apply, val_main_cst_5_apply, val_main_v17_apply, val_main_v16_apply, val_main_v15_apply, val_main_cst_4_apply,
    val_main_v8_apply, val_main_v7_apply, val_main_cst_2_apply, val_main_v6_apply, val_main_v3_apply, val_main_v2_apply, val_main_cst_1_apply,
    val_main_v0_apply, cat_read, cubic, tanh_read, Ideal.truncf_def, Ideal.extf_def, Ideal.mulf_def, Ideal.addf_def, Ideal.subf_def,
    Ideal.ofBits_def, half_eq, one_eq, three_eq, cT_eq, ← EReal.coe_mul, ← EReal.coe_add, ← EReal.coe_sub]
  unfold dz dact
  congr 1; ring

/-- A sum over the elements of a [32, 128, 8, 128] array lying over a position and a group. -/
theorem sum_over (h : S32x128x8x128.ReducesTo [0, 3] S128x8) (F : S32x128x8x128.Idx → EReal) (i : S128x8.Idx) :
    ∑ q ∈ Finset.univ.filter (fun q => h.drop q = i), F q
      = ∑ p : Fin 32 × Fin 128, F (fun a => match a with | ⟨0, _⟩ => p.1 | ⟨1, _⟩ => i 0 | ⟨2, _⟩ => i 1 | ⟨3, _⟩ => p.2) := by
  symm
  refine Finset.sum_nbij' (fun p => fun a => match a with | ⟨0, _⟩ => p.1 | ⟨1, _⟩ => i 0 | ⟨2, _⟩ => i 1 | ⟨3, _⟩ => p.2)
    (fun q => (q 0, q 3)) ?_ ?_ ?_ ?_ ?_
  · intro p _
    refine Finset.mem_filter.mpr ⟨Finset.mem_univ _, funext fun a => match a with | ⟨0, _⟩ => rfl | ⟨1, _⟩ => rfl⟩
  · exact fun _ _ => Finset.mem_univ _
  · exact fun _ _ => rfl
  · intro q hq
    have e := (Finset.mem_filter.mp hq).2
    subst e
    exact funext fun a => match a with | ⟨0, _⟩ => rfl | ⟨1, _⟩ => rfl | ⟨2, _⟩ => rfl | ⟨3, _⟩ => rfl
  · exact fun _ _ => rfl

/-- The same over a [1, 128, 8, 1] array, where a single element lies over each position and group. -/
theorem sum_over_unit (h : S1x128x8x1.ReducesTo [0, 3] S128x8) (F : S1x128x8x1.Idx → EReal) (i : S128x8.Idx) :
    ∑ q ∈ Finset.univ.filter (fun q => h.drop q = i), F q
      = F (fun a => match a with | ⟨0, _⟩ => ⟨0, Nat.one_pos⟩ | ⟨1, _⟩ => i 0 | ⟨2, _⟩ => i 1 | ⟨3, _⟩ => ⟨0, Nat.one_pos⟩) := by
  refine Finset.sum_eq_single_of_mem _ ?_ ?_
  · exact Finset.mem_filter.mpr ⟨Finset.mem_univ _, funext fun a => match a with | ⟨0, _⟩ => rfl | ⟨1, _⟩ => rfl⟩
  · intro q hq hne
    refine absurd ?_ hne
    have e := (Finset.mem_filter.mp hq).2
    subst e
    exact funext fun a => match a with
      | ⟨0, _⟩ => Fin.ext (by have := (q 0).isLt; show (q 0).val = 0; change (q 0).val < 1 at this; omega)
      | ⟨1, _⟩ => rfl
      | ⟨2, _⟩ => rfl
      | ⟨3, _⟩ => Fin.ext (by have := (q 3).isLt; show (q 3).val = 0; change (q 3).val < 1 at this; omega)

/-- The bias's gradient. -/
theorem dbs_read (i : S8x128.Idx) : val_main_v65 (F := Ideal) (X0 Z) (X1 D) i
    = ((∑ p : Fin 32 × Fin 128, ds Z D (128 * p.1.val + (i 1).val) (128 * (i 0).val + p.2.val) : ℝ) : EReal) := by
  have h0 : (i 0).val < 8 := (i 0).isLt
  have h1 : (i 1).val < 128 := (i 1).isLt
  have e62 : ∀ j, val_main_v62 (F := Ideal) (X0 Z) (X1 D) j
      = ((∑ p : Fin 32 × Fin 128, ds Z D (128 * p.1.val + (j 0).val) (128 * (j 1).val + p.2.val) : ℝ) : EReal) := fun j => by
    have j0 : (j 0).val < 128 := (j 0).isLt
    have j1 : (j 1).val < 8 := (j 1).isLt
    refine (congrArg₂ (· + ·) (zero_eq.trans rfl) (sum_over _ _ j)).trans ?_
    simp only [val_main_v61_apply, ds_read, coe_sum, ← EReal.coe_add, zero_add]
    congr 1
    refine Finset.sum_congr rfl fun p _ => ?_
    have := p.1.isLt; have := p.2.isLt
    congr 1 <;> simp <;> omega
  have e64 : ∀ j, val_main_v64 (F := Ideal) (X0 Z) (X1 D) j = val_main_v62 (F := Ideal) (X0 Z) (X1 D) j := fun j => by
    have j0 : (j 0).val < 128 := (j 0).isLt
    have j1 : (j 1).val < 8 := (j 1).isLt
    refine (congrArg₂ (· + ·) Ideal.ofBits_zero_f32 (sum_over_unit _ _ j)).trans ?_
    rw [zero_add, val_main_v63_apply]
    refine congrArg _ (funext fun a => Fin.ext ?_)
    match a with
    | ⟨0, _⟩ => show _ = (j 0).val; simp [idx_main_v63]; omega
    | ⟨1, _⟩ => show _ = (j 1).val; simp [idx_main_v63]; omega
  rw [val_main_v65_apply, e64, e62]

/-- One product of the weights' gradient, over the blocks and the group's columns. -/
theorem dw_read (i : S8x128x128.Idx) : val_main_v67 (F := Ideal) (X0 Z) (X1 D) (X2 g) i
    = ((∑ p : Fin 32, dwB Z D g p.val (i 0).val (i 1).val (i 2).val : ℝ) : EReal) := by
  have h0 : (i 0).val < 8 := (i 0).isLt
  have h1 : (i 1).val < 128 := (i 1).isLt
  have h2 : (i 2).val < 128 := (i 2).isLt
  have hl : ∀ j, val_main_v66 (F := Ideal) (X0 Z) (X1 D) j
      = ((ds Z D (128 * (j 1).val + (j 3).val) (128 * (j 0).val + (j 2).val) : ℝ) : EReal) := fun j => by
    have := (j 0).isLt; have := (j 1).isLt; have := (j 2).isLt; have := (j 3).isLt
    rw [val_main_v66_apply, val_main_v61_apply, ds_read]
    congr 2 <;> simp at * <;> omega
  have hr : ∀ j, val_main_v49 (F := Ideal) (X0 Z) (X2 g) j
      = ((vn Z g (128 * (j 0).val + (j 1).val) (128 * (j 2).val + (j 3).val) : ℝ) : EReal) := fun j => by
    have := (j 0).isLt; have := (j 1).isLt; have := (j 2).isLt; have := (j 3).isLt
    rw [val_main_v49_apply, vn_read]
    congr 2 <;> simp at * <;> omega
  unfold val_main_v67
  simp only [Host.dotGeneral]
  rw [Ideal.dotGeneral_apply, DotDims.sum_contr₂ _ (a := 1) (b := 2) rfl (K₁ := 32) (K₂ := 128) rfl rfl]
  simp only [hl, hr, ← EReal.coe_mul, coe_sum]
  rfl

/-- The weights' gradient. -/
theorem dws_read (i : S8x128x128.Idx) : val_main_v71 (F := Ideal) (X0 Z) (X1 D) (X2 g) i
    = ((msk (i 1).val (i 2).val (∑ p : Fin 32, dwB Z D g p.val (i 0).val (i 1).val (i 2).val) : ℝ) : EReal) := by
  rw [val_main_v71_apply, mask_read, WordCmp.select_ofBool, val_main_call2_v0_apply, val_main_call2_cst_apply, dw_read]
  unfold msk
  by_cases h : (i 2).val / 64 ≤ (i 1).val / 64
  · rw [if_pos (decide_eq_true h), if_pos h]
  · rw [if_neg (by simpa using h), if_neg h]; exact zero_eq

end Cert.GateRefIdeal.RefValue

end

end
-- ==== Proof.InDwValue.lean ====
module

public import proofs.«01_k».proof.Proof.Gen.InDwIdeal.Value
public import proofs.«01_k».proof.Proof.Gen.InDwRefIdeal.Run
public import proofs.«01_k».proof.Proof.Gen.InDwRefIdeal.Read
public import Idealize.ShloMosaic.Lib.Pipeline.ValueKit
public import Idealize.ShloMosaic.Lib.Pipeline.ReadBack
public import Idealize.ShloMosaic.Lib.Pointwise
public import Idealize.ShloMosaic.Lib.Claim

/-! The gradient of the ConvFFN's up projection: the products of blocks of 1024 rows, added up in the scratch, are the
    reference's product over all rows. -/

@[expose] public section

set_option maxRecDepth 16384

noncomputable section

namespace Cert.InDwIdeal.InDwValue

open Cert.InDwIdeal Cert.InDwIdeal.Gen Idealize.ShloMosaic Idealize.ShloMosaic.TcCoe Idealize.SL.Sem

/-- Where each window's block lies at a point. -/
theorem idx : ∀ t : Fin cfg0.N, win0_0.index t = ![0, 0] ∧ win0_1.index t = ![t.val / 4, t.val % 4, 0] ∧ win0_2.index t = ![0, t.val / 4, 0, 0] :=
  (by decide +kernel : ∀ t : Fin grid0.N, _)

theorem off : ∀ t : Fin cfg0.N, k0_off1 (grid0.coords t) = ![1024 * (t.val % 4), 0] :=
  (by decide +kernel : ∀ t : Fin grid0.N, _)

theorem zero_at (j) : k0_pay1 (F := Ideal) j = 0 := by pointwise [k0_pay1]

theorem add_at (x : Vec Ideal S1024x1024 .bf16) (acc : Vec Ideal S1024x2816 .f32) (y : Vec Ideal S1x1024x2816 .bf16) (j) :
    k0_pay2 x acc y j = acc j + ∑ k : Fin 1024, x (ix2 k (j 0)) * y (ix3 0 k (j 1)) := by
  pointwise [k0_pay2]

variable (m : (ℓ : Loc nD τ sig) → Buf (Elt Ideal) ℓ) (c : Dev nD)

variable (X : FVec Ideal S4096x1024 .bf16) (Y : FVec Ideal S2x4096x2816 .bf16)

/-- The rows of one point: their part of the weight's gradient. -/
abbrev part (t : Fin cfg0.N) (j : S1024x2816.Idx) : EReal :=
  ∑ k : Fin 1024, X (ix2 ⟨t.val % 4 * 1024 + k.val, by have := Nat.mod_lt t.val (show 0 < 4 by decide); omega⟩ (j 0))
    * Y (ix3 ⟨t.val / 4, by have := lt_of_lt_of_eq t.isLt N_0; omega⟩
        ⟨t.val % 4 * 1024 + k.val, by have := Nat.mod_lt t.val (show 0 < 4 by decide); omega⟩ (j 1))

/-- A point adds its part into the scratch. -/
theorem add_point (t : Fin cfg0.N) (acc : Vec Ideal S1024x2816 .f32) (h) (j : S1024x2816.Idx) :
    k0_pay2 (View.ld (iblk m c 0 t) (Rect.unit (k0_off1 (grid0.coords t)) ![1024, 1024] h)) acc (iblk m c 1 t) j
      = acc j + part (m ((c : Thread nD τ).loc main_arg0)) (m ((c : Thread nD τ).loc main_arg1)) t j := by
  have hN := lt_of_lt_of_eq t.isLt N_0
  rw [add_at]
  refine congrArg (acc j + ·) (Finset.sum_congr rfl fun k _ => ?_)
  blk_point [iblk, V, idx t, off t]

theorem step0 (t : Fin cfg0.N) (h0 : t.val % 4 = 0) (j : S1024x2816.Idx) : (outsAt0 m c t.val t.isLt).2 j
    = 0 + part (m ((c : Thread nD τ).loc main_arg0)) (m ((c : Thread nD τ).loc main_arg1)) t j := by
  rw [outsAt0_A m c t h0 (by omega)]
  frame_out
  rw [add_point, zero_at]

theorem step1 (t : Fin cfg0.N) (h0 : ¬ t.val % 4 = 0) (j : S1024x2816.Idx) : (outsAt0 m c t.val t.isLt).2 j
    = (outsAt0 m c (t.val - 1) (Nat.lt_of_le_of_lt (Nat.sub_le _ _) t.isLt)).2 j
      + part (m ((c : Thread nD τ).loc main_arg0)) (m ((c : Thread nD τ).loc main_arg1)) t j := by
  by_cases h1 : t.val % 4 = 3
  · rw [outsAt0_C m c t h0 h1]
    frame_out
    simp only [add_point, read_unread_whole]
  · rw [outsAt0_B m c t h0 h1]
    frame_out
    simp only [add_point, read_unread_whole]

/-- The scratch at the last point of a column block: the whole sum over the rows. -/
theorem total (t : Fin cfg0.N) (h1 : t.val % 4 = 3) (j : S1024x2816.Idx) : (outsAt0 m c t.val t.isLt).2 j
    = ∑ k : Fin 4096, (show FVec Ideal S4096x1024 .bf16 from m ((c : Thread nD τ).loc main_arg0)) (ix2 k (j 0))
        * (show FVec Ideal S2x4096x2816 .bf16 from m ((c : Thread nD τ).loc main_arg1)) (ix3 ⟨t.val / 4, by have := lt_of_lt_of_eq t.isLt N_0; omega⟩ k (j 1)) := by
  rw [Pipeline.eq_sum_fin_of_reset_step_apply_of_flush (fun n h => (outsAt0 m c n h).2) 4 (fun _ => 0) _
    (fun t h j => step0 m c t h j) (fun t h j => step1 m c t h j) t h1 j, zero_add]
  refine Fin.sum_mul_add_congr fun s k hl => ?_
  have hs := s.isLt
  have hm : (4 * (t.val / 4) + s.val) % 4 = s.val := by omega
  have hd : (4 * (t.val / 4) + s.val) / 4 = t.val / 4 := by omega
  simp only [hm, hd]

/-- The result block at the last point of a column block: the scratch, its columns cut in two halves and its rows in two. -/
theorem out (t : Fin cfg0.N) (h1 : t.val % 4 = 3) (y : S2x2x512x1408.Idx) : (outsAt0 m c t.val t.isLt).1 y
    = (outsAt0 m c t.val t.isLt).2 (ix2 ⟨(y 0).val * 512 + (y 2).val, by have := (y 0).isLt; have := (y 2).isLt; simp at *; omega⟩
        ⟨(y 1).val * 1408 + (y 3).val, by have := (y 1).isLt; have := (y 3).isLt; simp at *; omega⟩) := by
  rw [outsAt0_C m c t (by omega) h1]
  frame_out
  rw [View.readCov_eq_canon', View.readCov_eq_canon']
  generalize k0_pay2 (F := Ideal) _ _ _ = S
  rw [View.canon_unit_zero (funext fun a => by fin_cases a <;> rfl)]
  canon_tiles x q
  all_goals
    pointwise [k0_pay3, k0_pay4]
    blk_ext

/-- The gradient of the up projection's weight: the product over the rows, its rows cut in two and its columns in four. -/
abbrev term : FVec Ideal S2x4x512x1408 .bf16 := fun i =>
  ∑ k : Fin 4096, X (ix2 k ⟨(i 0).val * 512 + (i 2).val, by have := (i 0).isLt; have := (i 2).isLt; simp at *; omega⟩)
    * Y (ix3 ⟨(i 1).val / 2, by have := (i 1).isLt; simp at *; omega⟩ k
        ⟨(i 1).val % 2 * 1408 + (i 3).val, by have := (i 1).isLt; have := (i 3).isLt; simp at *; omega⟩)

/-- The result array after the run. -/
theorem final : (dats m 0 c).arrAt 2 cfg0.N = term (m ((c : Thread nD τ).loc main_arg0)) (m ((c : Thread nD τ).loc main_arg1)) := by
  refine (dats m 0 c).arrAt_eq_of_covers 2 _ (by decide +kernel) fun t hf y => ?_
  have h1 := (flush0_2 t).mp hf
  have hN := lt_of_lt_of_eq t.isLt N_0
  blk_simp
  rw [after0_2, out m c t h1, total m c t h1]
  refine Fin.sum_fin_congr fun k => ?_
  blk_point [idx t]

/-- The reference's term read at an index. -/
theorem ref : Cert.InDwRefIdeal.Read.val_main_v13 (F := Ideal) X Y = term X Y := by
  funext i
  pointwise [Cert.InDwRefIdeal.Read.val_main_v13, Cert.InDwRefIdeal.Read.val_main_v12, Cert.InDwRefIdeal.Read.val_main_v11,
    Cert.InDwRefIdeal.Read.val_main_v10, Cert.InDwRefIdeal.Read.val_main_v9, Cert.InDwRefIdeal.Read.val_main_v7, Cert.InDwRefIdeal.Read.val_main_v5,
    Cert.InDwRefIdeal.Read.val_main_v4, Cert.InDwRefIdeal.Read.val_main_v3, Cert.InDwRefIdeal.Read.val_main_v2, Cert.InDwRefIdeal.Read.val_main_v1,
    Cert.InDwRefIdeal.Read.val_main_v0, term]
  refine Finset.sum_congr rfl fun k _ => ?_
  rw [mul_comm]
  blk_point []

end Cert.InDwIdeal.InDwValue

end
-- ==== Proof.DownDwValue.lean ====
module

public import proofs.«01_k».proof.Proof.Gen.DownDwIdeal.Value
public import proofs.«01_k».proof.Proof.Gen.DownDwRefIdeal.Run
public import proofs.«01_k».proof.Proof.Gen.DownDwRefIdeal.Read
public import Idealize.ShloMosaic.Lib.Pipeline.ValueKit
public import Idealize.ShloMosaic.Lib.Pipeline.ReadBack
public import Idealize.ShloMosaic.Lib.Pointwise
public import Idealize.ShloMosaic.Lib.Claim

/-! The gradient of the ConvFFN's down projection: the products of blocks of 1024 rows, added up in the scratch, are the
    reference's product over all rows. -/

@[expose] public section

set_option maxRecDepth 16384

noncomputable section

namespace Cert.DownDwIdeal.DownDwValue

open Cert.DownDwIdeal Cert.DownDwIdeal.Gen Idealize.ShloMosaic Idealize.ShloMosaic.TcCoe Idealize.SL.Sem

/-- Where each window's block lies at a point. -/
theorem idx : ∀ t : Fin cfg0.N, win0_0.index t = ![t.val, 0] ∧ win0_1.index t = ![t.val, 0] ∧ win0_2.index t = ![0, 0, 0, 0] :=
  (by decide +kernel : ∀ t : Fin grid0.N, _)

theorem zero_at (j) : k0_pay1 (F := Ideal) j = 0 := by pointwise [k0_pay1]

theorem add_at (x : Vec Ideal S1024x2816 .bf16) (acc : Vec Ideal S2816x1024 .f32) (y : Vec Ideal S1024x1024 .f32) (j) :
    k0_pay2 x acc y j = acc j + ∑ k : Fin 1024, x (ix2 k (j 0)) * y (ix2 k (j 1)) := by
  pointwise [k0_pay2]

variable (m : (ℓ : Loc nD τ sig) → Buf (Elt Ideal) ℓ) (c : Dev nD)

variable (X : FVec Ideal S4096x2816 .bf16) (Y : FVec Ideal S4096x1024 .f32)

/-- The rows of one point: their part of the weight's gradient. -/
abbrev part (t : Fin cfg0.N) (j : S2816x1024.Idx) : EReal :=
  ∑ k : Fin 1024, X (ix2 ⟨t.val * 1024 + k.val, by have := lt_of_lt_of_eq t.isLt N_0; omega⟩ (j 0))
    * Y (ix2 ⟨t.val * 1024 + k.val, by have := lt_of_lt_of_eq t.isLt N_0; omega⟩ (j 1))

/-- A point adds its part into the scratch. -/
theorem add_point (t : Fin cfg0.N) (acc : Vec Ideal S2816x1024 .f32) (j : S2816x1024.Idx) :
    k0_pay2 (iblk m c 0 t) acc (iblk m c 1 t) j
      = acc j + part (m ((c : Thread nD τ).loc main_arg0)) (m ((c : Thread nD τ).loc main_arg1)) t j := by
  have hN := lt_of_lt_of_eq t.isLt N_0
  rw [add_at]
  refine congrArg (acc j + ·) (Finset.sum_congr rfl fun k _ => ?_)
  blk_point [iblk, V, idx t]

theorem step0 (t : Fin cfg0.N) (h0 : t.val % 4 = 0) (j : S2816x1024.Idx) : (outsAt0 m c t.val t.isLt).2 j
    = 0 + part (m ((c : Thread nD τ).loc main_arg0)) (m ((c : Thread nD τ).loc main_arg1)) t j := by
  rw [outsAt0_A m c t h0 (by omega)]
  frame_out
  rw [add_point, zero_at]

theorem step1 (t : Fin cfg0.N) (h0 : ¬ t.val % 4 = 0) (j : S2816x1024.Idx) : (outsAt0 m c t.val t.isLt).2 j
    = (outsAt0 m c (t.val - 1) (Nat.lt_of_le_of_lt (Nat.sub_le _ _) t.isLt)).2 j
      + part (m ((c : Thread nD τ).loc main_arg0)) (m ((c : Thread nD τ).loc main_arg1)) t j := by
  by_cases h1 : t.val % 4 = 3
  · rw [outsAt0_C m c t h0 h1]
    frame_out
    simp only [add_point, read_unread_whole]
  · rw [outsAt0_B m c t h0 h1]
    frame_out
    simp only [add_point, read_unread_whole]

/-- The scratch at the last point: the whole sum over the rows. -/
theorem total (t : Fin cfg0.N) (h1 : t.val % 4 = 3) (j : S2816x1024.Idx) : (outsAt0 m c t.val t.isLt).2 j
    = ∑ k : Fin 4096, (show FVec Ideal S4096x2816 .bf16 from m ((c : Thread nD τ).loc main_arg0)) (ix2 k (j 0))
        * (show FVec Ideal S4096x1024 .f32 from m ((c : Thread nD τ).loc main_arg1)) (ix2 k (j 1)) := by
  have hN := lt_of_lt_of_eq t.isLt N_0
  rw [Pipeline.eq_sum_fin_of_reset_step_apply_of_flush (fun n h => (outsAt0 m c n h).2) 4 (fun _ => 0) _
    (fun t h j => step0 m c t h j) (fun t h j => step1 m c t h j) t h1 j, zero_add]
  refine Fin.sum_mul_add_congr fun s k hl => ?_
  have hd : 4 * (t.val / 4) + s.val = s.val := by omega
  simp only [hd]

/-- The result block at the last point: the scratch, its rows cut in four and its columns in two. -/
theorem out (t : Fin cfg0.N) (h1 : t.val % 4 = 3) (y : S2x4x704x512.Idx) : (outsAt0 m c t.val t.isLt).1 y
    = (outsAt0 m c t.val t.isLt).2 (ix2 ⟨(y 1).val * 704 + (y 2).val, by have := (y 1).isLt; have := (y 2).isLt; simp at *; omega⟩
        ⟨(y 0).val * 512 + (y 3).val, by have := (y 0).isLt; have := (y 3).isLt; simp at *; omega⟩) := by
  rw [outsAt0_C m c t (by omega) h1]
  frame_out
  rw [View.readCov_eq_canon', View.readCov_eq_canon']
  generalize k0_pay2 (F := Ideal) _ _ _ = S
  rw [View.canon_unit_zero (funext fun a => by fin_cases a <;> rfl)]
  canon_tiles x q
  all_goals
    pointwise [k0_pay3, k0_pay4]
    blk_ext

/-- The gradient of the down projection's weight: the product over the rows, its rows cut in four and its columns in two. -/
abbrev term : FVec Ideal S2x4x704x512 .bf16 := fun i =>
  ∑ k : Fin 4096, X (ix2 k ⟨(i 1).val * 704 + (i 2).val, by have := (i 1).isLt; have := (i 2).isLt; simp at *; omega⟩)
    * Y (ix2 k ⟨(i 0).val * 512 + (i 3).val, by have := (i 0).isLt; have := (i 3).isLt; simp at *; omega⟩)

/-- The result array after the run. -/
theorem final : (dats m 0 c).arrAt 2 cfg0.N = term (m ((c : Thread nD τ).loc main_arg0)) (m ((c : Thread nD τ).loc main_arg1)) := by
  refine (dats m 0 c).arrAt_eq_of_covers 2 _ (by decide +kernel) fun t hf y => ?_
  have h1 := (flush0_2 t).mp hf
  have hN := lt_of_lt_of_eq t.isLt N_0
  blk_simp
  rw [after0_2, out m c t h1, total m c t h1]
  refine Fin.sum_fin_congr fun k => ?_
  blk_point [idx t]

/-- The reference's term read at an index. -/
theorem ref : Cert.DownDwRefIdeal.Read.val_main_v7 (F := Ideal) X Y = term X Y := by
  funext i
  pointwise [Cert.DownDwRefIdeal.Read.val_main_v7, Cert.DownDwRefIdeal.Read.val_main_v6, Cert.DownDwRefIdeal.Read.val_main_v5,
    Cert.DownDwRefIdeal.Read.val_main_v4, Cert.DownDwRefIdeal.Read.val_main_v3, Cert.DownDwRefIdeal.Read.val_main_v1, term]
  refine Finset.sum_congr rfl fun k _ => ?_
  rw [mul_comm]

end Cert.DownDwIdeal.DownDwValue

end
-- ==== Proof.DownDxValue.lean ====
module

public import proofs.«01_k».proof.Proof.Gen.DownDxIdeal.Value
public import proofs.«01_k».proof.Proof.Gen.DownDxRefIdeal.Run
public import proofs.«01_k».proof.Proof.Gen.DownDxRefIdeal.Read
public import Idealize.ShloMosaic.Lib.Pipeline.ValueKit
public import Idealize.ShloMosaic.Lib.Pointwise
public import Idealize.ShloMosaic.Lib.Claim

/-! The gradient of the ConvFFN's gated product, by the product with the transposed down projection: what the call leaves
    in its result array is the reference's term. -/

@[expose] public section

set_option maxRecDepth 16384

noncomputable section

namespace Cert.DownDxIdeal.DownDxValue

open Cert.DownDxIdeal Cert.DownDxIdeal.Gen Idealize.ShloMosaic Idealize.ShloMosaic.TcCoe Idealize.SL.Sem

/-- Where each window's block lies at a point. -/
theorem idx : ∀ t : Fin cfg0.N, win0_0.index t = ![t.val, 0] ∧ win0_1.index t = ![0, 0, 0] ∧ win0_2.index t = ![t.val, 0] :=
  (by decide +kernel : ∀ t : Fin grid0.N, _)

/-- The product of the rows with the rows of the weight. -/
abbrev term (X : FVec Ideal S4096x1024 .f32) (Y : FVec Ideal S1x2816x1024 .bf16) : FVec Ideal S4096x2816 .bf16 :=
  fun i => ∑ k : Fin 1024, X (ix2 (i 0) k) * Y (ix3 0 (i 1) k)

variable (m : (ℓ : Loc nD τ sig) → Buf (Elt Ideal) ℓ) (c : Dev nD)

theorem point (t : Fin cfg0.N) (y) : k0_pay1 (iblk m c 0 t) (iblk m c 1 t) y
    = term (m ((c : Thread nD τ).loc main_arg0)) (m ((c : Thread nD τ).loc main_arg1)) (((cfg0.win 2).blk t).view.emb y) := by
  pointwise [k0_pay1, term]
  blk_point [iblk, V, idx t]

/-- The result array after the run. -/
theorem final : (dats m 0 c).arrAt 2 cfg0.N = term (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The reference's term read at an index. -/
theorem ref (X : FVec Ideal S4096x1024 .f32) (Y : FVec Ideal S1x2816x1024 .bf16) :
    Cert.DownDxRefIdeal.Read.val_main_v5 (F := Ideal) X Y = term X Y := by
  funext i
  pointwise [Cert.DownDxRefIdeal.Read.val_main_v5, Cert.DownDxRefIdeal.Read.val_main_v4, Cert.DownDxRefIdeal.Read.val_main_v2,
    Cert.DownDxRefIdeal.Read.val_main_v1, term]

end Cert.DownDxIdeal.DownDxValue

end
-- ==== Proof.NormMath.lean ====
module

public import proofs.«01_k».proof.Proof.GateMath
public import Idealize.ShloMosaic.Lib.Pipeline.ValueKit

/-! The mathematics of a norm's backward pass, over the real numbers: `H` are the rows that were normalised, `T` the gradient
    of the normalised rows, `D` the gradient that arrives beside the norm. -/

@[expose] public section

noncomputable section

namespace Cert.NormMath

open Idealize.ShloMosaic Cert.GateMath

variable (H T D : ℕ → ℕ → ℝ)

/-- The rows from row `b` on. -/
def rows (b : ℕ) (X : ℕ → ℕ → ℝ) (r c : ℕ) : ℝ := X (b + r) c

/-- A row's mean square plus the small constant. -/
def ms (r : ℕ) : ℝ := (∑ c : Fin 1024, H r c * H r c) / 1024 + eps

/-- A row's reciprocal root mean square. -/
def rr (r : ℕ) : ℝ := (Real.sqrt (ms H r))⁻¹

/-- The normalised rows. -/
def nn (r c : ℕ) : ℝ := H r c * rr H r

/-- The gradient of the rows. -/
def dx (r c : ℕ) : ℝ := D r c + rr H r * (T r c - nn H r c * ((∑ k : Fin 1024, T r k * nn H r k) / 1024))

theorem ms_pos (r : ℕ) : 0 < ms H r := by
  unfold ms eps
  have : 0 ≤ ∑ c : Fin 1024, H r c * H r c := Finset.sum_nonneg fun c _ => mul_self_nonneg _
  positivity

theorem rr_sq (r : ℕ) : rr H r * rr H r * ms H r = 1 := by
  have h := ms_pos H r
  unfold rr
  rw [← mul_inv, Real.mul_self_sqrt h.le, inv_mul_cancel₀ h.ne']

theorem rsqrt_ms (r : ℕ) : Ideal.rsqrt ((ms H r : ℝ) : EReal) = ((rr H r : ℝ) : EReal) := by
  rw [Ideal.rsqrt_coe, if_neg (not_lt.mpr (ms_pos H r).le), if_neg (ms_pos H r).ne']
  rfl

/-- The reciprocal root mean square, as both programs write it. -/
theorem rr_of_sum (r : ℕ) : Ideal.rsqrt (Ideal.div (∑ k : Fin 1024, ((H r k : ℝ) : EReal) * ((H r k : ℝ) : EReal)) (Ideal.ofBits .f32 0x44800000#32)
    + Ideal.ofBits .f32 0x358637BD#32) = ((rr H r : ℝ) : EReal) := by
  simp only [← EReal.coe_mul, coe_sum, eps_eq, width_eq]
  rw [div_real _ _ (by norm_num), ← EReal.coe_add]
  exact rsqrt_ms H r

/-- What the derivative of the reciprocal root adds to a row, as the reference writes it. -/
def pull (r : ℕ) : ℝ := (∑ k : Fin 1024, H r k * T r k) * (-1 / 2 * (rr H r / ms H r)) / 1024

/-- The gradient of the rows, as the reference writes it. -/
theorem dx_eq (r c : ℕ) : D r c + T r c * rr H r + H r c * pull H T r + pull H T r * H r c = dx H T D r c := by
  have hm := (ms_pos H r).ne'
  have hr := rr_sq H r
  have hs : ∑ k : Fin 1024, T r k * nn H r k = (∑ k : Fin 1024, H r k * T r k) * rr H r := by
    rw [Finset.sum_mul]
    exact Finset.sum_congr rfl fun k _ => by unfold nn; ring
  have hq : rr H r / ms H r = rr H r ^ 3 := by
    rw [div_eq_iff hm]; linear_combination (-rr H r) * hr
  unfold dx pull
  rw [hs, hq]
  unfold nn
  ring

theorem dx_rows (b r c : ℕ) : dx (rows b H) (rows b T) (rows b D) r c = dx H T D (b + r) c := rfl

theorem nn_rows (b r c : ℕ) : nn (rows b H) r c = nn H (b + r) c := rfl

/-- A sum over all rows, stretch by stretch. -/
theorem sum_rows (S n : ℕ) (f : ℕ → ℝ) : ∑ t : Fin S, ∑ r : Fin n, f (n * t.val + r.val) = ∑ r : Fin (S * n), f r.val :=
  Fin.sum_mul_add_congr (f := fun r : Fin (S * n) => f r.val) fun t k _ => by rw [mul_comm]

end Cert.NormMath

end

end
-- ==== Proof.InDxRefRead.lean ====
module

public import proofs.«01_k».proof.Proof.Gen.InDxRefIdeal.Read
public import proofs.«01_k».proof.Proof.NormMath
public import Idealize.ShloMosaic.Lib.Pointwise

/-! The reference of the gradient through the ConvFFN's up projection and norm, read at real arguments. -/

@[expose] public section

set_option maxRecDepth 16384

noncomputable section

namespace Cert.InDx

open Cert.NormMath

variable (A W : ℕ → ℕ → ℕ → ℝ)

/-- The gradient of the normalised rows' products with the gain: the two halves' gradients through the two halves of the weight. -/
def U (r c : ℕ) : ℝ := (∑ k : Fin 2816, A 0 r k * W 0 c k) + ∑ k : Fin 2816, A 1 r k * W 0 c (2816 + k)

/-- The two halves side by side. -/
def cat (r k : ℕ) : ℝ := if k < 2816 then A 0 r k else A 1 r (k - 2816)

theorem sum_cat (r c : ℕ) : ∑ k : Fin 5632, cat A r k * W 0 c k = U A W r c := by
  refine (Fin.sum_univ_add (a := 2816) (b := 2816) fun k => cat A r k.val * W 0 c k.val).trans ?_
  unfold U
  refine congrArg₂ (· + ·) (Finset.sum_congr rfl fun k _ => ?_) (Finset.sum_congr rfl fun k _ => ?_)
  · unfold cat
    rw [Fin.val_castAdd, if_pos k.isLt]
  · unfold cat
    rw [Fin.val_natAdd, if_neg (by omega), Nat.add_sub_cancel_left]

end Cert.InDx

namespace Cert.InDxRefIdeal.RefValue

open Cert.InDxRefIdeal Cert.InDxRefIdeal.Gen Cert.InDxRefIdeal.Read Cert.NormMath Cert.InDx Idealize.ShloMosaic Idealize.ShloMosaic.TcCoe
  Idealize.SL.Sem Idealize.ShloMosaic.StableHlo
open Cert.GateMath (coe_sum div_real width_eq eps_eq zero_eq neg_half_eq)

variable (A W : ℕ → ℕ → ℕ → ℝ) (H : ℕ → ℕ → ℝ) (g : ℕ → ℝ) (D : ℕ → ℕ → ℝ)

/-- The arriving gradient of the two halves, from real numbers. -/
abbrev X0 : (⟨S2x4096x2816, .bf16⟩ : BufTy).Contents (Elt Ideal) := fun i => ((A (i 0).val (i 1).val (i 2).val : ℝ) : EReal)
/-- The projection's weight, from real numbers. -/
abbrev X1 : (⟨S1x1024x5632, .bf16⟩ : BufTy).Contents (Elt Ideal) := fun i => ((W (i 0).val (i 1).val (i 2).val : ℝ) : EReal)
/-- The norm's input, from real numbers. -/
abbrev X2 : (⟨S4096x1024, .f32⟩ : BufTy).Contents (Elt Ideal) := fun i => ((H (i 0).val (i 1).val : ℝ) : EReal)
/-- The norm's gain, from real numbers. -/
abbrev X3 : (⟨S1024, .f32⟩ : BufTy).Contents (Elt Ideal) := fun i => ((g (i 0).val : ℝ) : EReal)
/-- The gradient arriving beside the norm, from real numbers. -/
abbrev X4 : (⟨S4096x1024, .f32⟩ : BufTy).Contents (Elt Ideal) := fun i => ((D (i 0).val (i 1).val : ℝ) : EReal)

theorem ms_read (i : S4096x1.Idx) : val_main_v12 (F := Ideal) (X2 H) i = ((ms H (i 0).val : ℝ) : EReal) := by
  simp only [val_main_v12_apply, val_main_v11_apply, val_main_cst_1_apply, val_main_v10_apply, val_main_v9_apply, val_main_cst_0_apply,
    val_main_v8_apply, val_main_v7_apply, val_main_cst_apply, val_main_v6_apply, Ideal.mulf_def, Ideal.hostDivf_def,
    Ideal.addf_def, Ideal.ofBits_def, width_eq, eps_eq, zero_eq, ← EReal.coe_mul, coe_sum, ← EReal.coe_add, div_real _ _ (show (1024 : ℝ) ≠ 0 by norm_num), zero_add]
  rfl

theorem rr_read (i : S4096x1.Idx) : val_main_v13 (F := Ideal) (X2 H) i = ((rr H (i 0).val : ℝ) : EReal) := by
  rw [val_main_v13_apply, ms_read, Ideal.hostUnary_rsqrt_def, NormMath.rsqrt_ms]

theorem slope_read (i : S4096x1.Idx) : val_main_v16 (F := Ideal) (X2 H) i = ((-1 / 2 * (rr H (i 0).val / ms H (i 0).val) : ℝ) : EReal) := by
  simp only [val_main_v16_apply, val_main_v15_apply, val_main_cst_2_apply, val_main_v14_apply, rr_read, ms_read, Ideal.hostDivf_def,
    div_real _ _ (NormMath.ms_pos H _).ne', Ideal.mulf_def, Ideal.ofBits_def, neg_half_eq, ← EReal.coe_mul]

theorem nn_read (i : S4096x1024.Idx) : val_main_v18 (F := Ideal) (X2 H) i = ((nn H (i 0).val (i 1).val : ℝ) : EReal) := by
  simp only [val_main_v18_apply, val_main_v17_apply, rr_read, Ideal.mulf_def, ← EReal.coe_mul]
  rfl

theorem cat_read (i : S4096x5632.Idx) : val_main_v4 (F := Ideal) (X0 A) i = ((cat A (i 0).val (i 1).val : ℝ) : EReal) := by
  have h0 : (i 0).val < 4096 := (i 0).isLt
  have h1 : (i 1).val < 5632 := (i 1).isLt
  unfold val_main_v4 cat
  by_cases h : (i 1).val < 2816
  · rw [if_pos h]
    refine (concatenate_pair_apply_left (s₁ := S4096x2816) (s₂ := S4096x2816) (1 : Fin S4096x5632.rank) _ _ _ i rfl
      (fun a => match a with | ⟨0, _⟩ => ⟨(i 0).val, h0⟩ | ⟨1, _⟩ => ⟨(i 1).val, h⟩)
      (fun a => match a with | ⟨0, _⟩ => rfl | ⟨1, _⟩ => rfl)).trans ?_
    rw [val_main_v1_apply, val_main_v0_apply]
    simp
    congr 1 <;> omega
  · rw [if_neg h]
    refine (concatenate_pair_apply_right (s₁ := S4096x2816) (s₂ := S4096x2816) (1 : Fin S4096x5632.rank) _ _ _ i rfl rfl
      (fun a => match a with | ⟨0, _⟩ => ⟨(i 0).val, h0⟩ | ⟨1, _⟩ => ⟨(i 1).val - 2816, by show (i 1).val - 2816 < 2816; omega⟩)
      (fun a ha => match a, ha with | ⟨0, _⟩, _ => rfl | ⟨1, _⟩, ha => absurd rfl ha) ?_).trans ?_
    · show (i 1).val - 2816 + 2816 = (i 1).val
      omega
    · rw [val_main_v3_apply, val_main_v2_apply]
      simp
      congr 1 <;> omega

theorem U_read (i : S4096x1024.Idx) : val_main_v25 (F := Ideal) (X0 A) (X1 W) i = ((U A W (i 0).val (i 1).val : ℝ) : EReal) := by
  have h1 : (i 1).val < 1024 := (i 1).isLt
  simp only [val_main_v25_apply, val_main_v23_apply, val_main_v22_apply, val_main_v5_apply, cat_read, Ideal.extf_def, ← EReal.coe_mul, coe_sum]
  rw [← sum_cat]
  congr 1
  refine Finset.sum_congr rfl fun k _ => ?_
  have hk := k.isLt
  congr 2 <;> simp <;> omega

theorem T_read (i : S4096x1024.Idx) : val_main_v30 (F := Ideal) (X0 A) (X1 W) (X3 g) i = ((U A W (i 0).val (i 1).val * g (i 1).val : ℝ) : EReal) := by
  simp only [val_main_v30_apply, val_main_v29_apply, val_main_v19_apply, U_read, Ideal.mulf_def, ← EReal.coe_mul]

/-- The gain's gradient. -/
theorem dg_read (i : S1x1024.Idx) : val_main_v47 (F := Ideal) (X0 A) (X1 W) (X2 H) i
    = ((∑ r : Fin 4096, U A W r.val (i 1).val * nn H r.val (i 1).val : ℝ) : EReal) := by
  have h0 : (i 0).val < 1 := (i 0).isLt
  simp only [val_main_v47_apply, val_main_v31_apply, val_main_cst_4_apply, val_main_v28_apply, val_main_v27_apply, val_main_cst_3_apply,
    val_main_v26_apply, U_read, nn_read, Ideal.mulf_def, Ideal.ofBits_def,
    zero_eq, ← EReal.coe_mul, coe_sum, ← EReal.coe_add, zero_add]
  simp [mul_comm]

theorem pull_read (i : S4096x1.Idx) : val_main_v40 (F := Ideal) (X0 A) (X1 W) (X2 H) (X3 g) i
    = ((pull H (fun r c => U A W r c * g c) (i 0).val : ℝ) : EReal) := by
  have h1 : (i 1).val = 0 := Nat.lt_one_iff.mp (i 1).isLt
  simp only [val_main_v40_apply, val_main_v39_apply, val_main_cst_6_apply, val_main_v38_apply, val_main_v34_apply, val_main_v33_apply,
    val_main_cst_5_apply, val_main_v32_apply, T_read, slope_read, Ideal.hostDivf_def,
    Ideal.mulf_def, Ideal.ofBits_def, zero_eq, width_eq, ← EReal.coe_mul, coe_sum, ← EReal.coe_add, zero_add,
    div_real _ _ (show (1024 : ℝ) ≠ 0 by norm_num),
    h1, Nat.mul_one, Nat.add_zero]
  rfl

/-- The rows' gradient. -/
theorem dx_read (i : S4096x1024.Idx) : val_main_v46 (F := Ideal) (X0 A) (X1 W) (X2 H) (X3 g) (X4 D) i
    = ((dx H (fun r c => U A W r c * g c) D (i 0).val (i 1).val : ℝ) : EReal) := by
  rw [← dx_eq]
  simp only [val_main_v46_apply, val_main_v45_apply, val_main_v44_apply, val_main_v43_apply, val_main_v42_apply, val_main_v41_apply,
    val_main_cst_7_apply, val_main_v37_apply, val_main_v36_apply, val_main_v35_apply, pull_read, T_read, rr_read,
    Ideal.ofBits_def, zero_eq, coe_sum, Ideal.mulf_def, Ideal.addf_def, ← EReal.coe_mul, ← EReal.coe_add, zero_add]
  simp

end Cert.InDxRefIdeal.RefValue

end

end
-- ==== Proof.InDxValue.lean ====
module

public import proofs.«01_k».proof.Proof.Gen.InDxIdeal.Value
public import proofs.«01_k».proof.Proof.InDxRefRead
public import Idealize.ShloMosaic.Lib.Pipeline.ValueKit
public import Idealize.ShloMosaic.Lib.Pipeline.ReadBack
public import Idealize.ShloMosaic.Lib.Pointwise
public import Idealize.ShloMosaic.Lib.Claim

/-! What the gradient through the ConvFFN's up projection and norm leaves in its two result arrays, from the arguments' real values. -/

@[expose] public section

set_option maxRecDepth 16384

noncomputable section

namespace Cert.InDxIdeal.InDxValue

open Cert.InDxIdeal Cert.InDxIdeal.Gen Cert.NormMath Cert.InDx Idealize.ShloMosaic Idealize.ShloMosaic.TcCoe Idealize.SL.Sem
  Idealize.ShloMosaic.StableHlo
open Cert.GateMath (coe_sum div_real width_eq)

/-- Where each window's block lies at a point. -/
theorem idx : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

variable (A W : ℕ → ℕ → ℕ → ℝ) (H : ℕ → ℕ → ℝ) (g : ℕ → ℝ) (D : ℕ → ℕ → ℝ)

/-- A block of the two halves' gradient. -/
abbrev B0 : Vec Ideal S2x512x2816 .bf16 := fun i => ((A (i 0).val (i 1).val (i 2).val : ℝ) : EReal)
/-- The weight's block. -/
abbrev B1 : Vec Ideal S1x1024x5632 .bf16 := fun i => ((W (i 0).val (i 1).val (i 2).val : ℝ) : EReal)
/-- A block of rows. -/
abbrev B2 : Vec Ideal S512x1024 .f32 := fun i => ((H (i 0).val (i 1).val : ℝ) : EReal)
/-- The gain's block. -/
abbrev B3 : Vec Ideal S1x1024 .f32 := fun i => ((g (i 1).val : ℝ) : EReal)

theorem pay2_eq (v0 v5 : Vec Ideal S1x512x2816 .bf16) (v2 v7 : Vec Ideal S1x1024x2816 .bf16)
    (e0 : ∀ i, v0 i = ((A 0 (i 1).val (i 2).val : ℝ) : EReal)) (e2 : ∀ i, v2 i = ((W 0 (i 1).val (i 2).val : ℝ) : EReal))
    (e5 : ∀ i, v5 i = ((A 1 (i 1).val (i 2).val : ℝ) : EReal)) (e7 : ∀ i, v7 i = ((W 0 (i 1).val (2816 + (i 2).val) : ℝ) : EReal)) :
    k0_pay2 (F := Ideal) v0 v2 v5 v7 = fun i => ((U A W (i 0).val (i 1).val : ℝ) : EReal) := by
  funext i
  pointwise [k0_pay2]
  simp only [e0, e2, e5, e7, ← EReal.coe_mul, coe_sum, ← EReal.coe_add]
  rfl

theorem pay3_eq : k0_pay3 (F := Ideal) (B2 H) = fun i => ((rr H (i 0).val : ℝ) : EReal) := by
  funext i
  pointwise [k0_pay3]
  exact rr_of_sum H _

theorem pay4_eq : k0_pay4 (F := Ideal) (B2 H) = fun i => ((nn H (i 0).val (i 1).val : ℝ) : EReal) := by
  funext i
  unfold k0_pay4
  rw [pay3_eq]
  pointwise
  rw [← EReal.coe_mul]
  rfl

theorem pay1_at (V : ℕ → ℕ → ℝ) (i : S512x1024.Idx) :
    k0_pay1 (F := Ideal) (fun i => ((V (i 0).val (i 1).val : ℝ) : EReal)) (fun i => ((rr H (i 0).val : ℝ) : EReal))
      (fun i => ((nn H (i 0).val (i 1).val : ℝ) : EReal)) (B3 g) (B2 D) i
      = ((dx H (fun r c => V r c * g c) D (i 0).val (i 1).val : ℝ) : EReal) := by
  pointwise [k0_pay1]
  simp only [width_eq, ← EReal.coe_mul, coe_sum]
  rw [div_real _ _ (by norm_num)]
  simp only [← EReal.coe_mul, ← EReal.coe_sub, ← EReal.coe_add]
  rfl

theorem pay5_at (i) : k0_pay5 (F := Ideal) i = 0 := by pointwise [k0_pay5]

variable (m : (ℓ : Loc nD τ sig) → Buf (Elt Ideal) ℓ) (c : Dev nD)

/-- A point's two results, from its blocks' real values. -/
theorem step (t : Fin cfg0.N) (h0 : iblk m c 0 t = B0 A) (h1 : iblk m c 1 t = B1 W) (h2 : iblk m c 2 t = B2 H) (h3 : iblk m c 3 t = B3 g)
    (h4 : iblk m c 4 t = B2 D) :
    (∀ i, (outsAt0 m c t.val t.isLt).1 i = ((dx H (fun r c => U A W r c * g c) D (i 0).val (i 1).val : ℝ) : EReal))
    ∧ ∀ i, (outsAt0 m c t.val t.isLt).2 i
      = (if t.val % 8 = 0 then 0 else (outsAt0 m c (t.val - 1) (Nat.lt_of_le_of_lt (Nat.sub_le _ _) t.isLt)).2 i)
        + ((∑ r : Fin 512, U A W r (i 1).val * nn H r (i 1).val : ℝ) : EReal) := by
  refine ⟨fun i => ?_, fun i => ?_⟩
  all_goals
    by_cases h : t.val % 8 = 0
    all_goals
      first | rw [outsAt0_A m c t h] | rw [outsAt0_B m c t h]
      try first | rw [if_pos h] | rw [if_neg h]
      frame_out
      try simp only [read_unread_whole]
      rw [h0, h1, h2]
      try unfold k0_pay6
      try rw [h3, h4]
      rw [pay2_eq A W, pay4_eq]
      try rw [pay3_eq, pay1_at]
  all_goals
    try
      pointwise
      try rw [pay5_at, zero_add]
      simp only [← EReal.coe_mul, coe_sum]
  all_goals
    intro y
    have hy : (y 0).val = 0 := Nat.lt_one_iff.mp (y 0).isLt
    simp [View.ld_apply, Rect.idx_unit_val, hy]

variable (E0 : ∀ i : S2x4096x2816.Idx, m ((c : Thread nD τ).loc main_arg0) i = ((A (i 0).val (i 1).val (i 2).val : ℝ) : EReal))
  (E1 : ∀ i : S1x1024x5632.Idx, m ((c : Thread nD τ).loc main_arg1) i = ((W (i 0).val (i 1).val (i 2).val : ℝ) : EReal))
  (E2 : ∀ i : S4096x1024.Idx, m ((c : Thread nD τ).loc main_arg2) i = ((H (i 0).val (i 1).val : ℝ) : EReal))
  (E3 : ∀ i : S1024.Idx, m ((c : Thread nD τ).loc main_arg3) i = ((g (i 0).val : ℝ) : EReal))
  (E4 : ∀ i : S4096x1024.Idx, m ((c : Thread nD τ).loc main_arg4) i = ((D (i 0).val (i 1).val : ℝ) : EReal))

/-- The rows of the two halves from row `b` on. -/
abbrev rows3 (b : ℕ) (X : ℕ → ℕ → ℕ → ℝ) (p r c : ℕ) : ℝ := X p (b + r) c

include E0 in
theorem blk0 (t : Fin cfg0.N) : iblk m c 0 t = B0 (rows3 (512 * t.val) A) := by
  funext y
  blk_simp [iblk, V]
  refine (E0 _).trans ?_
  blk_simp [idx t]
  rw [mul_comm]

include E1 in
theorem blk1 (t : Fin cfg0.N) : iblk m c 1 t = B1 W := by
  funext y
  blk_simp [iblk, V]
  refine (E1 _).trans ?_
  blk_simp [idx t]
  have h : (y 0).val = 0 := Nat.lt_one_iff.mp (y 0).isLt
  unfold B1
  rw [h]

include E2 in
theorem blk2 (t : Fin cfg0.N) : iblk m c 2 t = B2 (rows (512 * t.val) H) := by
  funext y
  blk_simp [iblk, V]
  refine (E2 _).trans ?_
  unfold rows
  blk_simp [idx t]
  rw [mul_comm]

include E3 in
theorem blk3 (t : Fin cfg0.N) : iblk m c 3 t = B3 g := by
  funext y
  blk_simp [iblk]
  entry_read
  generalize hy : ((View.whole main_v0).slice (win0_3.rect t)).emb y = z
  have h1 : (z 1).val = (y 1).val := by rw [← hy]; blk_simp [idx t]
  unfold B3
  rw [← h1]
  clear hy h1
  pointwise
  exact E3 _

include E4 in
theorem blk4 (t : Fin cfg0.N) : iblk m c 4 t = B2 (rows (512 * t.val) D) := by
  funext y
  blk_simp [iblk, V]
  refine (E4 _).trans ?_
  unfold rows
  blk_simp [idx t]
  rw [mul_comm]

include E0 E1 E2 E3 E4

/-- The rows' gradient after the run. -/
theorem final5 : (dats m 0 c).arrAt 5 cfg0.N
    = fun i : S4096x1024.Idx => ((dx H (fun r c => U A W r c * g c) D (i 0).val (i 1).val : ℝ) : EReal) := by
  refine (dats m 0 c).arrAt_eq_of_covers 5 _ (by decide +kernel) fun t hf y => ?_
  blk_simp
  rw [after0_5, (step _ W _ g _ m c t (blk0 A m c E0 t) (blk1 W m c E1 t) (blk2 H m c E2 t) (blk3 g m c E3 t) (blk4 D m c E4 t)).1]
  refine congrArg (fun x : ℝ => (x : EReal)) ((dx_rows H (fun r c => U A W r c * g c) D (512 * t.val) _ _).trans ?_)
  blk_simp [idx t]
  rw [mul_comm]

/-- The gain's gradient after the run. -/
theorem final6 : (dats m 0 c).arrAt 6 cfg0.N
    = fun i : S1x1024.Idx => ((∑ r : Fin 4096, U A W r.val (i 1).val * nn H r.val (i 1).val : ℝ) : EReal) := by
  refine (dats m 0 c).arrAt_eq_of_after_last 6 t0_7 (by decide +kernel) _ fun j => ?_
  blk_simp
  have hs := fun t : Fin cfg0.N => (step _ W _ g _ m c t (blk0 A m c E0 t) (blk1 W m c E1 t) (blk2 H m c E2 t) (blk3 g m c E3 t) (blk4 D m c E4 t)).2
  rw [after0_6, Pipeline.eq_sum_fin_of_reset_step_apply_last (fun n h => (outsAt0 m c n h).2) 8 (fun _ => 0) _
    (fun t h i => by rw [hs t i, if_pos h]) (fun t h i => by rw [hs t i, if_neg h]) (le_of_eq N_0) t0_7 rfl j, zero_add]
  rw [coe_sum]
  refine congrArg (fun x : ℝ => (x : EReal)) ((Fintype.sum_equiv (finCongr N_0) _
    (fun t : Fin 8 => ∑ r : Fin 512, U A W (512 * t.val + r.val) (j 1).val * nn H (512 * t.val + r.val) (j 1).val) fun _ => rfl).trans ?_)
  exact sum_rows 8 512 fun r => U A W r (j 1).val * nn H r (j 1).val

end Cert.InDxIdeal.InDxValue

end

end
-- ==== Proof.OutDwValue.lean ====
module

public import proofs.«01_k».proof.Proof.Gen.OutDwIdeal.Value
public import proofs.«01_k».proof.Proof.Gen.OutDwRefIdeal.Run
public import proofs.«01_k».proof.Proof.Gen.OutDwRefIdeal.Read
public import Idealize.ShloMosaic.Lib.Pipeline.ValueKit
public import Idealize.ShloMosaic.Lib.Pipeline.ReadBack
public import Idealize.ShloMosaic.Lib.Pointwise
public import Idealize.ShloMosaic.Lib.Claim

/-! The gradient of an output projection's weight: the products of blocks of 1024 rows, added up in the scratch, are the
    reference's product over all rows. -/

@[expose] public section

set_option maxRecDepth 16384

noncomputable section

namespace Cert.OutDwIdeal.OutDwValue

open Cert.OutDwIdeal Cert.OutDwIdeal.Gen Idealize.ShloMosaic Idealize.ShloMosaic.TcCoe Idealize.SL.Sem

/-- Where each window's block lies at a point. -/
theorem idx : ∀ t : Fin cfg0.N, win0_0.index t = ![t.val, 0] ∧ win0_1.index t = ![t.val, 0] ∧ win0_2.index t = ![0, 0, 0, 0] :=
  (by decide +kernel : ∀ t : Fin grid0.N, _)

theorem zero_at (j) : k0_pay1 (F := Ideal) j = 0 := by pointwise [k0_pay1]

theorem add_at (x : Vec Ideal S1024x1024 .bf16) (acc : Vec Ideal S1024x1024 .f32) (y : Vec Ideal S1024x1024 .f32) (j) :
    k0_pay2 x acc y j = acc j + ∑ k : Fin 1024, x (ix2 k (j 0)) * y (ix2 k (j 1)) := by
  pointwise [k0_pay2]

variable (m : (ℓ : Loc nD τ sig) → Buf (Elt Ideal) ℓ) (c : Dev nD)

variable (X : FVec Ideal S4096x1024 .bf16) (Y : FVec Ideal S4096x1024 .f32)

/-- The rows of one point: their part of the weight's gradient. -/
abbrev part (t : Fin cfg0.N) (j : S1024x1024.Idx) : EReal :=
  ∑ k : Fin 1024, X (ix2 ⟨t.val * 1024 + k.val, by have := lt_of_lt_of_eq t.isLt N_0; omega⟩ (j 0))
    * Y (ix2 ⟨t.val * 1024 + k.val, by have := lt_of_lt_of_eq t.isLt N_0; omega⟩ (j 1))

/-- A point adds its part into the scratch. -/
theorem add_point (t : Fin cfg0.N) (acc : Vec Ideal S1024x1024 .f32) (j : S1024x1024.Idx) :
    k0_pay2 (iblk m c 0 t) acc (iblk m c 1 t) j
      = acc j + part (m ((c : Thread nD τ).loc main_arg0)) (m ((c : Thread nD τ).loc main_arg1)) t j := by
  have hN := lt_of_lt_of_eq t.isLt N_0
  rw [add_at]
  refine congrArg (acc j + ·) (Finset.sum_congr rfl fun k _ => ?_)
  blk_point [iblk, V, idx t]

theorem step0 (t : Fin cfg0.N) (h0 : t.val % 4 = 0) (j : S1024x1024.Idx) : (outsAt0 m c t.val t.isLt).2 j
    = 0 + part (m ((c : Thread nD τ).loc main_arg0)) (m ((c : Thread nD τ).loc main_arg1)) t j := by
  rw [outsAt0_A m c t h0 (by omega)]
  frame_out
  rw [add_point, zero_at]

theorem step1 (t : Fin cfg0.N) (h0 : ¬ t.val % 4 = 0) (j : S1024x1024.Idx) : (outsAt0 m c t.val t.isLt).2 j
    = (outsAt0 m c (t.val - 1) (Nat.lt_of_le_of_lt (Nat.sub_le _ _) t.isLt)).2 j
      + part (m ((c : Thread nD τ).loc main_arg0)) (m ((c : Thread nD τ).loc main_arg1)) t j := by
  by_cases h1 : t.val % 4 = 3
  · rw [outsAt0_C m c t h0 h1]
    frame_out
    simp only [add_point, read_unread_whole]
  · rw [outsAt0_B m c t h0 h1]
    frame_out
    simp only [add_point, read_unread_whole]

/-- The scratch at the last point: the whole sum over the rows. -/
theorem total (t : Fin cfg0.N) (h1 : t.val % 4 = 3) (j : S1024x1024.Idx) : (outsAt0 m c t.val t.isLt).2 j
    = ∑ k : Fin 4096, (show FVec Ideal S4096x1024 .bf16 from m ((c : Thread nD τ).loc main_arg0)) (ix2 k (j 0))
        * (show FVec Ideal S4096x1024 .f32 from m ((c : Thread nD τ).loc main_arg1)) (ix2 k (j 1)) := by
  have hN := lt_of_lt_of_eq t.isLt N_0
  rw [Pipeline.eq_sum_fin_of_reset_step_apply_of_flush (fun n h => (outsAt0 m c n h).2) 4 (fun _ => 0) _
    (fun t h j => step0 m c t h j) (fun t h j => step1 m c t h j) t h1 j, zero_add]
  refine Fin.sum_mul_add_congr fun s k hl => ?_
  have hd : 4 * (t.val / 4) + s.val = s.val := by omega
  simp only [hd]

/-- The result block at the last point: the scratch, its rows cut in four and its columns in two. -/
theorem out (t : Fin cfg0.N) (h1 : t.val % 4 = 3) (y : S2x4x256x512.Idx) : (outsAt0 m c t.val t.isLt).1 y
    = (outsAt0 m c t.val t.isLt).2 (ix2 ⟨(y 1).val * 256 + (y 2).val, by have := (y 1).isLt; have := (y 2).isLt; simp at *; omega⟩
        ⟨(y 0).val * 512 + (y 3).val, by have := (y 0).isLt; have := (y 3).isLt; simp at *; omega⟩) := by
  rw [outsAt0_C m c t (by omega) h1]
  frame_out
  rw [View.readCov_eq_canon', View.readCov_eq_canon']
  generalize k0_pay2 (F := Ideal) _ _ _ = S
  rw [View.canon_unit_zero (funext fun a => by fin_cases a <;> rfl)]
  canon_tiles x q
  all_goals
    pointwise [k0_pay3, k0_pay4]
    blk_ext

/-- The gradient of the weight: the product over the rows, its rows cut in four and its columns in two. -/
abbrev term : FVec Ideal S2x4x256x512 .bf16 := fun i =>
  ∑ k : Fin 4096, X (ix2 k ⟨(i 1).val * 256 + (i 2).val, by have := (i 1).isLt; have := (i 2).isLt; simp at *; omega⟩)
    * Y (ix2 k ⟨(i 0).val * 512 + (i 3).val, by have := (i 0).isLt; have := (i 3).isLt; simp at *; omega⟩)

/-- The result array after the run. -/
theorem final : (dats m 0 c).arrAt 2 cfg0.N = term (m ((c : Thread nD τ).loc main_arg0)) (m ((c : Thread nD τ).loc main_arg1)) := by
  refine (dats m 0 c).arrAt_eq_of_covers 2 _ (by decide +kernel) fun t hf y => ?_
  have h1 := (flush0_2 t).mp hf
  have hN := lt_of_lt_of_eq t.isLt N_0
  blk_simp
  rw [after0_2, out m c t h1, total m c t h1]
  refine Fin.sum_fin_congr fun k => ?_
  blk_point [idx t]

/-- The reference's term read at an index. -/
theorem ref : Cert.OutDwRefIdeal.Read.val_main_v7 (F := Ideal) X Y = term X Y := by
  funext i
  pointwise [Cert.OutDwRefIdeal.Read.val_main_v7, Cert.OutDwRefIdeal.Read.val_main_v6, Cert.OutDwRefIdeal.Read.val_main_v5,
    Cert.OutDwRefIdeal.Read.val_main_v4, Cert.OutDwRefIdeal.Read.val_main_v3, Cert.OutDwRefIdeal.Read.val_main_v1, term]
  refine Finset.sum_congr rfl fun k _ => ?_
  rw [mul_comm]

end Cert.OutDwIdeal.OutDwValue

end
-- ==== Proof.QDwValue.lean ====
module

public import proofs.«01_k».proof.Proof.Gen.QDwIdeal.Value
public import proofs.«01_k».proof.Proof.Gen.QDwRefIdeal.Run
public import proofs.«01_k».proof.Proof.Gen.QDwRefIdeal.Read
public import Idealize.ShloMosaic.Lib.Pipeline.ValueKit
public import Idealize.ShloMosaic.Lib.Pipeline.ReadBack
public import Idealize.ShloMosaic.Lib.Pointwise
public import Idealize.ShloMosaic.Lib.Claim

/-! The gradient of the query projection's weight: the products of blocks of 1024 rows, added up in the scratch, are the
    reference's product over all rows. -/

@[expose] public section

set_option maxRecDepth 16384

noncomputable section

namespace Cert.QDwIdeal.QDwValue

open Cert.QDwIdeal Cert.QDwIdeal.Gen Idealize.ShloMosaic Idealize.ShloMosaic.TcCoe Idealize.SL.Sem

/-- Where each window's block lies at a point. -/
theorem idx : ∀ t : Fin cfg0.N, win0_0.index t = ![t.val, 0] ∧ win0_1.index t = ![t.val, 0] ∧ win0_2.index t = ![0, 0, 0, 0] :=
  (by decide +kernel : ∀ t : Fin grid0.N, _)

theorem zero_at (j) : k0_pay1 (F := Ideal) j = 0 := by pointwise [k0_pay1]

theorem add_at (x : Vec Ideal S1024x1024 .bf16) (acc : Vec Ideal S1024x1024 .f32) (y : Vec Ideal S1024x1024 .bf16) (j) :
    k0_pay2 x acc y j = acc j + ∑ k : Fin 1024, x (ix2 k (j 0)) * y (ix2 k (j 1)) := by
  pointwise [k0_pay2]

variable (m : (ℓ : Loc nD τ sig) → Buf (Elt Ideal) ℓ) (c : Dev nD)

variable (X : FVec Ideal S4096x1024 .bf16) (Y : FVec Ideal S4096x1024 .bf16)

/-- The rows of one point: their part of the weight's gradient. -/
abbrev part (t : Fin cfg0.N) (j : S1024x1024.Idx) : EReal :=
  ∑ k : Fin 1024, X (ix2 ⟨t.val * 1024 + k.val, by have := lt_of_lt_of_eq t.isLt N_0; omega⟩ (j 0))
    * Y (ix2 ⟨t.val * 1024 + k.val, by have := lt_of_lt_of_eq t.isLt N_0; omega⟩ (j 1))

/-- A point adds its part into the scratch. -/
theorem add_point (t : Fin cfg0.N) (acc : Vec Ideal S1024x1024 .f32) (j : S1024x1024.Idx) :
    k0_pay2 (iblk m c 0 t) acc (iblk m c 1 t) j
      = acc j + part (m ((c : Thread nD τ).loc main_arg0)) (m ((c : Thread nD τ).loc main_arg1)) t j := by
  have hN := lt_of_lt_of_eq t.isLt N_0
  rw [add_at]
  refine congrArg (acc j + ·) (Finset.sum_congr rfl fun k _ => ?_)
  blk_point [iblk, V, idx t]

theorem step0 (t : Fin cfg0.N) (h0 : t.val % 4 = 0) (j : S1024x1024.Idx) : (outsAt0 m c t.val t.isLt).2 j
    = 0 + part (m ((c : Thread nD τ).loc main_arg0)) (m ((c : Thread nD τ).loc main_arg1)) t j := by
  rw [outsAt0_A m c t h0 (by omega)]
  frame_out
  rw [add_point, zero_at]

theorem step1 (t : Fin cfg0.N) (h0 : ¬ t.val % 4 = 0) (j : S1024x1024.Idx) : (outsAt0 m c t.val t.isLt).2 j
    = (outsAt0 m c (t.val - 1) (Nat.lt_of_le_of_lt (Nat.sub_le _ _) t.isLt)).2 j
      + part (m ((c : Thread nD τ).loc main_arg0)) (m ((c : Thread nD τ).loc main_arg1)) t j := by
  by_cases h1 : t.val % 4 = 3
  · rw [outsAt0_C m c t h0 h1]
    frame_out
    simp only [add_point, read_unread_whole]
  · rw [outsAt0_B m c t h0 h1]
    frame_out
    simp only [add_point, read_unread_whole]

/-- The scratch at the last point: the whole sum over the rows. -/
theorem total (t : Fin cfg0.N) (h1 : t.val % 4 = 3) (j : S1024x1024.Idx) : (outsAt0 m c t.val t.isLt).2 j
    = ∑ k : Fin 4096, (show FVec Ideal S4096x1024 .bf16 from m ((c : Thread nD τ).loc main_arg0)) (ix2 k (j 0))
        * (show FVec Ideal S4096x1024 .bf16 from m ((c : Thread nD τ).loc main_arg1)) (ix2 k (j 1)) := by
  have hN := lt_of_lt_of_eq t.isLt N_0
  rw [Pipeline.eq_sum_fin_of_reset_step_apply_of_flush (fun n h => (outsAt0 m c n h).2) 4 (fun _ => 0) _
    (fun t h j => step0 m c t h j) (fun t h j => step1 m c t h j) t h1 j, zero_add]
  refine Fin.sum_mul_add_congr fun s k hl => ?_
  have hd : 4 * (t.val / 4) + s.val = s.val := by omega
  simp only [hd]

/-- The result block at the last point: the scratch, its rows cut in four and its columns in two. -/
theorem out (t : Fin cfg0.N) (h1 : t.val % 4 = 3) (y : S2x4x256x512.Idx) : (outsAt0 m c t.val t.isLt).1 y
    = (outsAt0 m c t.val t.isLt).2 (ix2 ⟨(y 1).val * 256 + (y 2).val, by have := (y 1).isLt; have := (y 2).isLt; simp at *; omega⟩
        ⟨(y 0).val * 512 + (y 3).val, by have := (y 0).isLt; have := (y 3).isLt; simp at *; omega⟩) := by
  rw [outsAt0_C m c t (by omega) h1]
  frame_out
  rw [View.readCov_eq_canon', View.readCov_eq_canon']
  generalize k0_pay2 (F := Ideal) _ _ _ = S
  rw [View.canon_unit_zero (funext fun a => by fin_cases a <;> rfl)]
  canon_tiles x q
  all_goals
    pointwise [k0_pay3, k0_pay4]
    blk_ext

/-- The gradient of the weight: the product over the rows, its rows cut in four and its columns in two. -/
abbrev term : FVec Ideal S2x4x256x512 .bf16 := fun i =>
  ∑ k : Fin 4096, X (ix2 k ⟨(i 1).val * 256 + (i 2).val, by have := (i 1).isLt; have := (i 2).isLt; simp at *; omega⟩)
    * Y (ix2 k ⟨(i 0).val * 512 + (i 3).val, by have := (i 0).isLt; have := (i 3).isLt; simp at *; omega⟩)

/-- The result array after the run. -/
theorem final : (dats m 0 c).arrAt 2 cfg0.N = term (m ((c : Thread nD τ).loc main_arg0)) (m ((c : Thread nD τ).loc main_arg1)) := by
  refine (dats m 0 c).arrAt_eq_of_covers 2 _ (by decide +kernel) fun t hf y => ?_
  have h1 := (flush0_2 t).mp hf
  have hN := lt_of_lt_of_eq t.isLt N_0
  blk_simp
  rw [after0_2, out m c t h1, total m c t h1]
  refine Fin.sum_fin_congr fun k => ?_
  blk_point [idx t]

/-- The reference's term read at an index. -/
theorem ref : Cert.QDwRefIdeal.Read.val_main_v8 (F := Ideal) X Y = term X Y := by
  funext i
  pointwise [Cert.QDwRefIdeal.Read.val_main_v8, Cert.QDwRefIdeal.Read.val_main_v7, Cert.QDwRefIdeal.Read.val_main_v6,
    Cert.QDwRefIdeal.Read.val_main_v5, Cert.QDwRefIdeal.Read.val_main_v4, Cert.QDwRefIdeal.Read.val_main_v3,
    Cert.QDwRefIdeal.Read.val_main_v1, term]
  refine Finset.sum_congr rfl fun k _ => ?_
  rw [mul_comm]

end Cert.QDwIdeal.QDwValue

end
-- ==== Proof.KvDwValue.lean ====
module

public import proofs.«01_k».proof.Proof.Gen.KvDwIdeal.Value
public import proofs.«01_k».proof.Proof.Gen.KvDwRefIdeal.Run
public import proofs.«01_k».proof.Proof.Gen.KvDwRefIdeal.Read
public import Idealize.ShloMosaic.Lib.Pipeline.ValueKit
public import Idealize.ShloMosaic.Lib.Pipeline.ReadBack
public import Idealize.ShloMosaic.Lib.Pointwise
public import Idealize.ShloMosaic.Lib.Claim

/-! The gradient of the key and value projection's weight: the products of blocks of 1024 rows, added up in the scratch, are the
    reference's product over all rows. -/

@[expose] public section

set_option maxRecDepth 16384

noncomputable section

namespace Cert.KvDwIdeal.KvDwValue

open Cert.KvDwIdeal Cert.KvDwIdeal.Gen Idealize.ShloMosaic Idealize.ShloMosaic.TcCoe Idealize.SL.Sem

/-- Where each window's block lies at a point. -/
theorem idx : ∀ t : Fin cfg0.N, win0_0.index t = ![0, 0] ∧ win0_1.index t = ![t.val / 4, t.val % 4, 0] ∧ win0_2.index t = ![0, t.val / 4, 0, 0] :=
  (by decide +kernel : ∀ t : Fin grid0.N, _)

theorem off : ∀ t : Fin cfg0.N, k0_off1 (grid0.coords t) = ![1024 * (t.val % 4), 0] :=
  (by decide +kernel : ∀ t : Fin grid0.N, _)

theorem zero_at (j) : k0_pay1 (F := Ideal) j = 0 := by pointwise [k0_pay1]

theorem add_at (x : Vec Ideal S1024x1024 .bf16) (acc : Vec Ideal S1024x1024 .f32) (y : Vec Ideal S1x1024x1024 .bf16) (j) :
    k0_pay2 x acc y j = acc j + ∑ k : Fin 1024, x (ix2 k (j 0)) * y (ix3 0 k (j 1)) := by
  pointwise [k0_pay2]

variable (m : (ℓ : Loc nD τ sig) → Buf (Elt Ideal) ℓ) (c : Dev nD)

variable (X : FVec Ideal S4096x1024 .bf16) (Y : FVec Ideal S2x4096x1024 .bf16)

/-- The rows of one point: their part of the weight's gradient. -/
abbrev part (t : Fin cfg0.N) (j : S1024x1024.Idx) : EReal :=
  ∑ k : Fin 1024, X (ix2 ⟨t.val % 4 * 1024 + k.val, by have := Nat.mod_lt t.val (show 0 < 4 by decide); omega⟩ (j 0))
    * Y (ix3 ⟨t.val / 4, by have := lt_of_lt_of_eq t.isLt N_0; omega⟩
        ⟨t.val % 4 * 1024 + k.val, by have := Nat.mod_lt t.val (show 0 < 4 by decide); omega⟩ (j 1))

/-- A point adds its part into the scratch. -/
theorem add_point (t : Fin cfg0.N) (acc : Vec Ideal S1024x1024 .f32) (h) (j : S1024x1024.Idx) :
    k0_pay2 (View.ld (iblk m c 0 t) (Rect.unit (k0_off1 (grid0.coords t)) ![1024, 1024] h)) acc (iblk m c 1 t) j
      = acc j + part (m ((c : Thread nD τ).loc main_arg0)) (m ((c : Thread nD τ).loc main_arg1)) t j := by
  have hN := lt_of_lt_of_eq t.isLt N_0
  rw [add_at]
  refine congrArg (acc j + ·) (Finset.sum_congr rfl fun k _ => ?_)
  blk_point [iblk, V, idx t, off t]

theorem step0 (t : Fin cfg0.N) (h0 : t.val % 4 = 0) (j : S1024x1024.Idx) : (outsAt0 m c t.val t.isLt).2 j
    = 0 + part (m ((c : Thread nD τ).loc main_arg0)) (m ((c : Thread nD τ).loc main_arg1)) t j := by
  rw [outsAt0_A m c t h0 (by omega)]
  frame_out
  rw [add_point, zero_at]

theorem step1 (t : Fin cfg0.N) (h0 : ¬ t.val % 4 = 0) (j : S1024x1024.Idx) : (outsAt0 m c t.val t.isLt).2 j
    = (outsAt0 m c (t.val - 1) (Nat.lt_of_le_of_lt (Nat.sub_le _ _) t.isLt)).2 j
      + part (m ((c : Thread nD τ).loc main_arg0)) (m ((c : Thread nD τ).loc main_arg1)) t j := by
  by_cases h1 : t.val % 4 = 3
  · rw [outsAt0_C m c t h0 h1]
    frame_out
    simp only [add_point, read_unread_whole]
  · rw [outsAt0_B m c t h0 h1]
    frame_out
    simp only [add_point, read_unread_whole]

/-- The scratch at the last point of a column block: the whole sum over the rows. -/
theorem total (t : Fin cfg0.N) (h1 : t.val % 4 = 3) (j : S1024x1024.Idx) : (outsAt0 m c t.val t.isLt).2 j
    = ∑ k : Fin 4096, (show FVec Ideal S4096x1024 .bf16 from m ((c : Thread nD τ).loc main_arg0)) (ix2 k (j 0))
        * (show FVec Ideal S2x4096x1024 .bf16 from m ((c : Thread nD τ).loc main_arg1)) (ix3 ⟨t.val / 4, by have := lt_of_lt_of_eq t.isLt N_0; omega⟩ k (j 1)) := by
  rw [Pipeline.eq_sum_fin_of_reset_step_apply_of_flush (fun n h => (outsAt0 m c n h).2) 4 (fun _ => 0) _
    (fun t h j => step0 m c t h j) (fun t h j => step1 m c t h j) t h1 j, zero_add]
  refine Fin.sum_mul_add_congr fun s k hl => ?_
  have hs := s.isLt
  have hm : (4 * (t.val / 4) + s.val) % 4 = s.val := by omega
  have hd : (4 * (t.val / 4) + s.val) / 4 = t.val / 4 := by omega
  simp only [hm, hd]

/-- The result block at the last point of a column block: the scratch, its columns cut in two halves and its rows in two. -/
theorem out (t : Fin cfg0.N) (h1 : t.val % 4 = 3) (y : S2x2x512x512.Idx) : (outsAt0 m c t.val t.isLt).1 y
    = (outsAt0 m c t.val t.isLt).2 (ix2 ⟨(y 0).val * 512 + (y 2).val, by have := (y 0).isLt; have := (y 2).isLt; simp at *; omega⟩
        ⟨(y 1).val * 512 + (y 3).val, by have := (y 1).isLt; have := (y 3).isLt; simp at *; omega⟩) := by
  rw [outsAt0_C m c t (by omega) h1]
  frame_out
  rw [View.readCov_eq_canon', View.readCov_eq_canon']
  generalize k0_pay2 (F := Ideal) _ _ _ = S
  rw [View.canon_unit_zero (funext fun a => by fin_cases a <;> rfl)]
  canon_tiles x q
  all_goals
    pointwise [k0_pay3, k0_pay4]
    blk_ext

/-- The gradient of the weight: the product over the rows, its rows cut in two and its columns in four. -/
abbrev term : FVec Ideal S2x4x512x512 .bf16 := fun i =>
  ∑ k : Fin 4096, X (ix2 k ⟨(i 0).val * 512 + (i 2).val, by have := (i 0).isLt; have := (i 2).isLt; simp at *; omega⟩)
    * Y (ix3 ⟨(i 1).val / 2, by have := (i 1).isLt; simp at *; omega⟩ k
        ⟨(i 1).val % 2 * 512 + (i 3).val, by have := (i 1).isLt; have := (i 3).isLt; simp at *; omega⟩)

/-- The result array after the run. -/
theorem final : (dats m 0 c).arrAt 2 cfg0.N = term (m ((c : Thread nD τ).loc main_arg0)) (m ((c : Thread nD τ).loc main_arg1)) := by
  refine (dats m 0 c).arrAt_eq_of_covers 2 _ (by decide +kernel) fun t hf y => ?_
  have h1 := (flush0_2 t).mp hf
  have hN := lt_of_lt_of_eq t.isLt N_0
  blk_simp
  rw [after0_2, out m c t h1, total m c t h1]
  refine Fin.sum_fin_congr fun k => ?_
  blk_point [idx t]

/-- The reference's term read at an index. -/
theorem ref : Cert.KvDwRefIdeal.Read.val_main_v13 (F := Ideal) X Y = term X Y := by
  funext i
  pointwise [Cert.KvDwRefIdeal.Read.val_main_v13, Cert.KvDwRefIdeal.Read.val_main_v12, Cert.KvDwRefIdeal.Read.val_main_v11,
    Cert.KvDwRefIdeal.Read.val_main_v10, Cert.KvDwRefIdeal.Read.val_main_v9, Cert.KvDwRefIdeal.Read.val_main_v7,
    Cert.KvDwRefIdeal.Read.val_main_v5, Cert.KvDwRefIdeal.Read.val_main_v4, Cert.KvDwRefIdeal.Read.val_main_v3,
    Cert.KvDwRefIdeal.Read.val_main_v2, Cert.KvDwRefIdeal.Read.val_main_v1, Cert.KvDwRefIdeal.Read.val_main_v0, term]
  refine Finset.sum_congr rfl fun k _ => ?_
  rw [mul_comm]
  blk_point []

end Cert.KvDwIdeal.KvDwValue

end
-- ==== Proof.MixerDwValue.lean ====
module

public import proofs.«01_k».proof.Proof.Gen.MixerDwIdeal.Value
public import proofs.«01_k».proof.Proof.Gen.MixerDwRefIdeal.Run
public import proofs.«01_k».proof.Proof.Gen.MixerDwRefIdeal.Read
public import Idealize.ShloMosaic.Lib.Pipeline.ValueKit
public import Idealize.ShloMosaic.Lib.Pipeline.ReadBack
public import Idealize.ShloMosaic.Lib.Pointwise
public import Idealize.ShloMosaic.Lib.Claim

/-! The gradient of the mixer's input projection: the products of blocks of 1024 rows, added up in the scratch, are the
    reference's product over all rows. -/

@[expose] public section

set_option maxRecDepth 16384

noncomputable section

namespace Cert.MixerDwIdeal.MixerDwValue

open Cert.MixerDwIdeal Cert.MixerDwIdeal.Gen Idealize.ShloMosaic Idealize.ShloMosaic.TcCoe Idealize.SL.Sem

/-- Where each window's block lies at a point. -/
theorem idx : ∀ t : Fin cfg0.N, win0_0.index t = ![t.val, 0] ∧ win0_1.index t = ![t.val, 0] ∧ win0_2.index t = ![0, 0, 0, 0] :=
  (by decide +kernel : ∀ t : Fin grid0.N, _)

theorem zero_at (j) : k0_pay1 (F := Ideal) j = 0 := by pointwise [k0_pay1]

theorem add_at (x : Vec Ideal S1024x1024 .bf16) (acc : Vec Ideal S1024x2048 .f32) (y : Vec Ideal S1024x2048 .bf16) (j) :
    k0_pay2 x acc y j = acc j + ∑ k : Fin 1024, x (ix2 k (j 0)) * y (ix2 k (j 1)) := by
  pointwise [k0_pay2]

variable (m : (ℓ : Loc nD τ sig) → Buf (Elt Ideal) ℓ) (c : Dev nD)

variable (X : FVec Ideal S4096x1024 .bf16) (Y : FVec Ideal S4096x2048 .bf16)

/-- The rows of one point: their part of the weight's gradient. -/
abbrev part (t : Fin cfg0.N) (j : S1024x2048.Idx) : EReal :=
  ∑ k : Fin 1024, X (ix2 ⟨t.val * 1024 + k.val, by have := lt_of_lt_of_eq t.isLt N_0; omega⟩ (j 0))
    * Y (ix2 ⟨t.val * 1024 + k.val, by have := lt_of_lt_of_eq t.isLt N_0; omega⟩ (j 1))

/-- A point adds its part into the scratch. -/
theorem add_point (t : Fin cfg0.N) (acc : Vec Ideal S1024x2048 .f32) (j : S1024x2048.Idx) :
    k0_pay2 (iblk m c 0 t) acc (iblk m c 1 t) j
      = acc j + part (m ((c : Thread nD τ).loc main_arg0)) (m ((c : Thread nD τ).loc main_arg1)) t j := by
  have hN := lt_of_lt_of_eq t.isLt N_0
  rw [add_at]
  refine congrArg (acc j + ·) (Finset.sum_congr rfl fun k _ => ?_)
  blk_point [iblk, V, idx t]

theorem step0 (t : Fin cfg0.N) (h0 : t.val % 4 = 0) (j : S1024x2048.Idx) : (outsAt0 m c t.val t.isLt).2 j
    = 0 + part (m ((c : Thread nD τ).loc main_arg0)) (m ((c : Thread nD τ).loc main_arg1)) t j := by
  rw [outsAt0_A m c t h0 (by omega)]
  frame_out
  rw [add_point, zero_at]

theorem step1 (t : Fin cfg0.N) (h0 : ¬ t.val % 4 = 0) (j : S1024x2048.Idx) : (outsAt0 m c t.val t.isLt).2 j
    = (outsAt0 m c (t.val - 1) (Nat.lt_of_le_of_lt (Nat.sub_le _ _) t.isLt)).2 j
      + part (m ((c : Thread nD τ).loc main_arg0)) (m ((c : Thread nD τ).loc main_arg1)) t j := by
  by_cases h1 : t.val % 4 = 3
  · rw [outsAt0_C m c t h0 h1]
    frame_out
    simp only [add_point, read_unread_whole]
  · rw [outsAt0_B m c t h0 h1]
    frame_out
    simp only [add_point, read_unread_whole]

/-- The scratch at the last point: the whole sum over the rows. -/
theorem total (t : Fin cfg0.N) (h1 : t.val % 4 = 3) (j : S1024x2048.Idx) : (outsAt0 m c t.val t.isLt).2 j
    = ∑ k : Fin 4096, (show FVec Ideal S4096x1024 .bf16 from m ((c : Thread nD τ).loc main_arg0)) (ix2 k (j 0))
        * (show FVec Ideal S4096x2048 .bf16 from m ((c : Thread nD τ).loc main_arg1)) (ix2 k (j 1)) := by
  have hN := lt_of_lt_of_eq t.isLt N_0
  rw [Pipeline.eq_sum_fin_of_reset_step_apply_of_flush (fun n h => (outsAt0 m c n h).2) 4 (fun _ => 0) _
    (fun t h j => step0 m c t h j) (fun t h j => step1 m c t h j) t h1 j, zero_add]
  refine Fin.sum_mul_add_congr fun s k hl => ?_
  have hd : 4 * (t.val / 4) + s.val = s.val := by omega
  simp only [hd]

/-- The result block at the last point: the scratch, its rows cut in two and its columns in four. -/
theorem out (t : Fin cfg0.N) (h1 : t.val % 4 = 3) (y : S2x4x512x512.Idx) : (outsAt0 m c t.val t.isLt).1 y
    = (outsAt0 m c t.val t.isLt).2 (ix2 ⟨(y 0).val * 512 + (y 2).val, by have := (y 0).isLt; have := (y 2).isLt; simp at *; omega⟩
        ⟨(y 1).val * 512 + (y 3).val, by have := (y 1).isLt; have := (y 3).isLt; simp at *; omega⟩) := by
  rw [outsAt0_C m c t (by omega) h1]
  frame_out
  rw [View.readCov_eq_canon', View.readCov_eq_canon', View.readCov_eq_canon', View.readCov_eq_canon']
  generalize k0_pay2 (F := Ideal) _ _ _ = S
  rw [View.canon_unit_zero (funext fun a => by fin_cases a <;> rfl)]
  canon_tiles x q
  all_goals
    pointwise [k0_pay3, k0_pay4, k0_pay5, k0_pay6]
    blk_ext

/-- The gradient of the weight: the product over the rows, its rows cut in two and its columns in four. -/
abbrev term : FVec Ideal S2x4x512x512 .bf16 := fun i =>
  ∑ k : Fin 4096, X (ix2 k ⟨(i 0).val * 512 + (i 2).val, by have := (i 0).isLt; have := (i 2).isLt; simp at *; omega⟩)
    * Y (ix2 k ⟨(i 1).val * 512 + (i 3).val, by have := (i 1).isLt; have := (i 3).isLt; simp at *; omega⟩)

/-- The result array after the run. -/
theorem final : (dats m 0 c).arrAt 2 cfg0.N = term (m ((c : Thread nD τ).loc main_arg0)) (m ((c : Thread nD τ).loc main_arg1)) := by
  refine (dats m 0 c).arrAt_eq_of_covers 2 _ (by decide +kernel) fun t hf y => ?_
  have h1 := (flush0_2 t).mp hf
  have hN := lt_of_lt_of_eq t.isLt N_0
  blk_simp
  rw [after0_2, out m c t h1, total m c t h1]
  refine Fin.sum_fin_congr fun k => ?_
  blk_point [idx t]

/-- The reference's term read at an index. -/
theorem ref : Cert.MixerDwRefIdeal.Read.val_main_v8 (F := Ideal) X Y = term X Y := by
  funext i
  pointwise [Cert.MixerDwRefIdeal.Read.val_main_v8, Cert.MixerDwRefIdeal.Read.val_main_v7, Cert.MixerDwRefIdeal.Read.val_main_v6,
    Cert.MixerDwRefIdeal.Read.val_main_v5, Cert.MixerDwRefIdeal.Read.val_main_v4, Cert.MixerDwRefIdeal.Read.val_main_v3,
    Cert.MixerDwRefIdeal.Read.val_main_v1, term]
  refine Finset.sum_congr rfl fun k _ => ?_
  rw [mul_comm]

end Cert.MixerDwIdeal.MixerDwValue

end
-- ==== Proof.OutDxValue.lean ====
module

public import proofs.«01_k».proof.Proof.Gen.OutDxIdeal.Value
public import proofs.«01_k».proof.Proof.Gen.OutDxRefIdeal.Run
public import proofs.«01_k».proof.Proof.Gen.OutDxRefIdeal.Read
public import Idealize.ShloMosaic.Lib.Pipeline.ValueKit
public import Idealize.ShloMosaic.Lib.Pointwise
public import Idealize.ShloMosaic.Lib.Claim

/-! The gradient through an output projection, by the product with the transposed weight: what the call leaves in its result
    array is the reference's term. -/

@[expose] public section

set_option maxRecDepth 16384

noncomputable section

namespace Cert.OutDxIdeal.OutDxValue

open Cert.OutDxIdeal Cert.OutDxIdeal.Gen Idealize.ShloMosaic Idealize.ShloMosaic.TcCoe Idealize.SL.Sem

/-- Where each window's block lies at a point. -/
theorem idx : ∀ t : Fin cfg0.N, win0_0.index t = ![t.val, 0] ∧ win0_1.index t = ![0, 0, 0] ∧ win0_2.index t = ![t.val, 0] :=
  (by decide +kernel : ∀ t : Fin grid0.N, _)

/-- The product of the rows with the rows of the weight. -/
abbrev term (X : FVec Ideal S4096x1024 .f32) (Y : FVec Ideal S1x1024x1024 .bf16) : FVec Ideal S4096x1024 .bf16 :=
  fun i => ∑ k : Fin 1024, X (ix2 (i 0) k) * Y (ix3 0 (i 1) k)

variable (m : (ℓ : Loc nD τ sig) → Buf (Elt Ideal) ℓ) (c : Dev nD)

theorem point (t : Fin cfg0.N) (y) : k0_pay1 (iblk m c 0 t) (iblk m c 1 t) y
    = term (m ((c : Thread nD τ).loc main_arg0)) (m ((c : Thread nD τ).loc main_arg1)) (((cfg0.win 2).blk t).view.emb y) := by
  pointwise [k0_pay1, term]
  blk_point [iblk, V, idx t]

/-- The result array after the run. -/
theorem final : (dats m 0 c).arrAt 2 cfg0.N = term (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- The reference's term read at an index. -/
theorem ref (X : FVec Ideal S4096x1024 .f32) (Y : FVec Ideal S1x1024x1024 .bf16) :
    Cert.OutDxRefIdeal.Read.val_main_v5 (F := Ideal) X Y = term X Y := by
  funext i
  pointwise [Cert.OutDxRefIdeal.Read.val_main_v5, Cert.OutDxRefIdeal.Read.val_main_v4, Cert.OutDxRefIdeal.Read.val_main_v2,
    Cert.OutDxRefIdeal.Read.val_main_v1, term]

end Cert.OutDxIdeal.OutDxValue

end
-- ==== Proof.DownValue.lean ====
module

public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pointwise
public import Idealize.ShloMosaic.Lib.Claim

/-! A product with a weight, added to the rows that came in: what the call leaves in its result array is the reference's
    term. -/

@[expose] public section

set_option maxRecDepth 16384

noncomputable section

namespace Cert.DownIdeal.DownValue

open Cert.DownIdeal Cert.DownIdeal.Gen Idealize.ShloMosaic Idealize.ShloMosaic.TcCoe Idealize.SL.Sem

/-- Where each window's block lies at a point. -/
theorem idx : ∀ t : Fin cfg0.N, win0_0.index t = ![t.val, 0] ∧ win0_1.index t = ![0, 0, 0] ∧ win0_2.index t = ![t.val, 0]
    ∧ win0_3.index t = ![t.val, 0] :=
  (by decide +kernel : ∀ t : Fin grid0.N, _)

/-- The rows that came in, and on them the product with the weight. -/
abbrev term (X : FVec Ideal S4096x2816 .bf16) (Y : FVec Ideal S1x2816x1024 .bf16) (H : FVec Ideal S4096x1024 .f32) :
    FVec Ideal S4096x1024 .f32 :=
  fun i => H i + ∑ k : Fin 2816, X (ix2 (i 0) k) * Y (ix3 0 k (i 1))

variable (m : (ℓ : Loc nD τ sig) → Buf (Elt Ideal) ℓ) (c : Dev nD)

theorem point (t : Fin cfg0.N) (y) : k0_pay1 (iblk m c 0 t) (iblk m c 1 t) (iblk m c 2 t) y
    = term (m ((c : Thread nD τ).loc main_arg0)) (m ((c : Thread nD τ).loc main_arg1)) (m ((c : Thread nD τ).loc main_arg2))
        (((cfg0.win 3).blk t).view.emb y) := by
  pointwise [k0_pay1, term]
  rw [add_comm]
  blk_point [iblk, V, idx t]

/-- The result array after the run. -/
theorem final : (dats m 0 c).arrAt 3 cfg0.N
    = term (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

/-- The reference's term read at an index. -/
theorem ref (X : FVec Ideal S4096x2816 .bf16) (Y : FVec Ideal S1x2816x1024 .bf16) (H : FVec Ideal S4096x1024 .f32) :
    Cert.DownRefIdeal.Read.val_main_v4 (F := Ideal) X Y H = term X Y H := by
  funext i
  pointwise [Cert.DownRefIdeal.Read.val_main_v4, Cert.DownRefIdeal.Read.val_main_v3, Cert.DownRefIdeal.Read.val_main_v2,
    Cert.DownRefIdeal.Read.val_main_v1, Cert.DownRefIdeal.Read.val_main_v0, term]

end Cert.DownIdeal.DownValue

end
-- ==== Proof.AttnOutValue.lean ====
module

public import proofs.«01_k».proof.Proof.Gen.AttnOutIdeal.Value
public import proofs.«01_k».proof.Proof.Gen.AttnOutRefIdeal.Run
public import proofs.«01_k».proof.Proof.Gen.AttnOutRefIdeal.Read
public import Idealize.ShloMosaic.Lib.Pipeline.ValueKit
public import Idealize.ShloMosaic.Lib.Pointwise
public import Idealize.ShloMosaic.Lib.Claim

/-! A product with a weight, added to the rows that came in: what the call leaves in its result array is the reference's
    term. -/

@[expose] public section

set_option maxRecDepth 16384

noncomputable section

namespace Cert.AttnOutIdeal.AttnOutValue

open Cert.AttnOutIdeal Cert.AttnOutIdeal.Gen Idealize.ShloMosaic Idealize.ShloMosaic.TcCoe Idealize.SL.Sem

/-- Where each window's block lies at a point. -/
theorem idx : ∀ t : Fin cfg0.N, win0_0.index t = ![t.val, 0] ∧ win0_1.index t = ![0, 0, 0] ∧ win0_2.index t = ![t.val, 0]
    ∧ win0_3.index t = ![t.val, 0] :=
  (by decide +kernel : ∀ t : Fin grid0.N, _)

/-- The rows that came in, and on them the product with the weight. -/
abbrev term (X : FVec Ideal S4096x1024 .bf16) (Y : FVec Ideal S1x1024x1024 .bf16) (H : FVec Ideal S4096x1024 .f32) :
    FVec Ideal S4096x1024 .f32 :=
  fun i => H i + ∑ k : Fin 1024, X (ix2 (i 0) k) * Y (ix3 0 k (i 1))

variable (m : (ℓ : Loc nD τ sig) → Buf (Elt Ideal) ℓ) (c : Dev nD)

theorem point (t : Fin cfg0.N) (y) : k0_pay1 (iblk m c 0 t) (iblk m c 1 t) (iblk m c 2 t) y
    = term (m ((c : Thread nD τ).loc main_arg0)) (m ((c : Thread nD τ).loc main_arg1)) (m ((c : Thread nD τ).loc main_arg2))
        (((cfg0.win 3).blk t).view.emb y) := by
  pointwise [k0_pay1, term]
  rw [add_comm]
  blk_point [iblk, V, idx t]

/-- The result array after the run. -/
theorem final : (dats m 0 c).arrAt 3 cfg0.N
    = term (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

/-- The reference's term read at an index. -/
theorem ref (X : FVec Ideal S4096x1024 .bf16) (Y : FVec Ideal S1x1024x1024 .bf16) (H : FVec Ideal S4096x1024 .f32) :
    Cert.AttnOutRefIdeal.Read.val_main_v4 (F := Ideal) X Y H = term X Y H := by
  funext i
  pointwise [Cert.AttnOutRefIdeal.Read.val_main_v4, Cert.AttnOutRefIdeal.Read.val_main_v3, Cert.AttnOutRefIdeal.Read.val_main_v2,
    Cert.AttnOutRefIdeal.Read.val_main_v1, Cert.AttnOutRefIdeal.Read.val_main_v0, term]

end Cert.AttnOutIdeal.AttnOutValue

end
-- ==== Proof.MixerDxRefRead.lean ====
module

public import proofs.«01_k».proof.Proof.Gen.MixerDxRefIdeal.Read
public import proofs.«01_k».proof.Proof.NormMath
public import Idealize.ShloMosaic.Lib.Pointwise

/-! The reference of the gradient through the mixer's input projection and norm, read at real arguments. -/

@[expose] public section

set_option maxRecDepth 16384

noncomputable section

namespace Cert.MixerDx

open Cert.NormMath

variable (A : ℕ → ℕ → ℝ) (W : ℕ → ℕ → ℕ → ℝ)

/-- The gradient of the normalised rows' products with the gain: the arriving gradient through the weight. -/
def U (r c : ℕ) : ℝ := ∑ k : Fin 2048, A r k * W 0 c k

end Cert.MixerDx

namespace Cert.MixerDxRefIdeal.RefValue

open Cert.MixerDxRefIdeal Cert.MixerDxRefIdeal.Gen Cert.MixerDxRefIdeal.Read Cert.NormMath Cert.MixerDx Idealize.ShloMosaic Idealize.ShloMosaic.TcCoe
  Idealize.SL.Sem Idealize.ShloMosaic.StableHlo
open Cert.GateMath (coe_sum div_real width_eq eps_eq zero_eq neg_half_eq)

variable (A : ℕ → ℕ → ℝ) (W : ℕ → ℕ → ℕ → ℝ) (H : ℕ → ℕ → ℝ) (g : ℕ → ℝ) (D : ℕ → ℕ → ℝ)

/-- The arriving gradient, from real numbers. -/
abbrev X0 : (⟨S4096x2048, .bf16⟩ : BufTy).Contents (Elt Ideal) := fun i => ((A (i 0).val (i 1).val : ℝ) : EReal)
/-- The projection's weight, from real numbers. -/
abbrev X1 : (⟨S1x1024x2048, .bf16⟩ : BufTy).Contents (Elt Ideal) := fun i => ((W (i 0).val (i 1).val (i 2).val : ℝ) : EReal)
/-- The norm's input, from real numbers. -/
abbrev X2 : (⟨S4096x1024, .f32⟩ : BufTy).Contents (Elt Ideal) := fun i => ((H (i 0).val (i 1).val : ℝ) : EReal)
/-- The norm's gain, from real numbers. -/
abbrev X3 : (⟨S1024, .f32⟩ : BufTy).Contents (Elt Ideal) := fun i => ((g (i 0).val : ℝ) : EReal)
/-- The gradient arriving beside the norm, from real numbers. -/
abbrev X4 : (⟨S4096x1024, .f32⟩ : BufTy).Contents (Elt Ideal) := fun i => ((D (i 0).val (i 1).val : ℝ) : EReal)

theorem ms_read (i : S4096x1.Idx) : val_main_v6 (F := Ideal) (X2 H) i = ((ms H (i 0).val : ℝ) : EReal) := by
  simp only [val_main_v6_apply, val_main_v5_apply, val_main_cst_1_apply, val_main_v4_apply, val_main_v3_apply, val_main_cst_0_apply,
    val_main_v2_apply, val_main_v1_apply, val_main_cst_apply, val_main_v0_apply, Ideal.mulf_def, Ideal.hostDivf_def,
    Ideal.addf_def, Ideal.ofBits_def, width_eq, eps_eq, zero_eq, ← EReal.coe_mul, coe_sum, ← EReal.coe_add, div_real _ _ (show (1024 : ℝ) ≠ 0 by norm_num), zero_add]
  rfl

theorem rr_read (i : S4096x1.Idx) : val_main_v7 (F := Ideal) (X2 H) i = ((rr H (i 0).val : ℝ) : EReal) := by
  rw [val_main_v7_apply, ms_read, Ideal.hostUnary_rsqrt_def, NormMath.rsqrt_ms]

theorem slope_read (i : S4096x1.Idx) : val_main_v10 (F := Ideal) (X2 H) i = ((-1 / 2 * (rr H (i 0).val / ms H (i 0).val) : ℝ) : EReal) := by
  simp only [val_main_v10_apply, val_main_v9_apply, val_main_cst_2_apply, val_main_v8_apply, rr_read, ms_read, Ideal.hostDivf_def,
    div_real _ _ (NormMath.ms_pos H _).ne', Ideal.mulf_def, Ideal.ofBits_def, neg_half_eq, ← EReal.coe_mul]

theorem nn_read (i : S4096x1024.Idx) : val_main_v12 (F := Ideal) (X2 H) i = ((nn H (i 0).val (i 1).val : ℝ) : EReal) := by
  simp only [val_main_v12_apply, val_main_v11_apply, rr_read, Ideal.mulf_def, ← EReal.coe_mul]
  rfl

theorem U_read (i : S4096x1024.Idx) : val_main_v20 (F := Ideal) (X0 A) (X1 W) i = ((U A W (i 0).val (i 1).val : ℝ) : EReal) := by
  have h1 : (i 1).val < 1024 := (i 1).isLt
  simp only [val_main_v20_apply, val_main_v17_apply, val_main_v16_apply, val_main_v19_apply, Ideal.extf_def, ← EReal.coe_mul, coe_sum]
  unfold U
  congr 1
  refine Finset.sum_congr rfl fun k _ => ?_
  have hk := k.isLt
  congr 2 <;> simp <;> omega

theorem T_read (i : S4096x1024.Idx) : val_main_v25 (F := Ideal) (X0 A) (X1 W) (X3 g) i = ((U A W (i 0).val (i 1).val * g (i 1).val : ℝ) : EReal) := by
  simp only [val_main_v25_apply, val_main_v24_apply, val_main_v13_apply, U_read, Ideal.mulf_def, ← EReal.coe_mul]

/-- The gain's gradient. -/
theorem dg_read (i : S1x1024.Idx) : val_main_v42 (F := Ideal) (X0 A) (X1 W) (X2 H) i
    = ((∑ r : Fin 4096, U A W r.val (i 1).val * nn H r.val (i 1).val : ℝ) : EReal) := by
  have h0 : (i 0).val < 1 := (i 0).isLt
  simp only [val_main_v42_apply, val_main_v26_apply, val_main_cst_4_apply, val_main_v23_apply, val_main_v22_apply, val_main_cst_3_apply,
    val_main_v21_apply, U_read, nn_read, Ideal.mulf_def, Ideal.ofBits_def,
    zero_eq, ← EReal.coe_mul, coe_sum, ← EReal.coe_add, zero_add]
  simp [mul_comm]

theorem pull_read (i : S4096x1.Idx) : val_main_v35 (F := Ideal) (X0 A) (X1 W) (X2 H) (X3 g) i
    = ((pull H (fun r c => U A W r c * g c) (i 0).val : ℝ) : EReal) := by
  have h1 : (i 1).val = 0 := Nat.lt_one_iff.mp (i 1).isLt
  simp only [val_main_v35_apply, val_main_v34_apply, val_main_cst_6_apply, val_main_v33_apply, val_main_v29_apply, val_main_v28_apply,
    val_main_cst_5_apply, val_main_v27_apply, T_read, slope_read, Ideal.hostDivf_def,
    Ideal.mulf_def, Ideal.ofBits_def, zero_eq, width_eq, ← EReal.coe_mul, coe_sum, ← EReal.coe_add, zero_add,
    div_real _ _ (show (1024 : ℝ) ≠ 0 by norm_num),
    h1, Nat.mul_one, Nat.add_zero]
  rfl

/-- The rows' gradient. -/
theorem dx_read (i : S4096x1024.Idx) : val_main_v41 (F := Ideal) (X0 A) (X1 W) (X2 H) (X3 g) (X4 D) i
    = ((dx H (fun r c => U A W r c * g c) D (i 0).val (i 1).val : ℝ) : EReal) := by
  rw [← dx_eq]
  simp only [val_main_v41_apply, val_main_v40_apply, val_main_v39_apply, val_main_v38_apply, val_main_v37_apply, val_main_v36_apply,
    val_main_cst_7_apply, val_main_v32_apply, val_main_v31_apply, val_main_v30_apply, pull_read, T_read, rr_read,
    Ideal.ofBits_def, zero_eq, coe_sum, Ideal.mulf_def, Ideal.addf_def, ← EReal.coe_mul, ← EReal.coe_add, zero_add]
  simp

end Cert.MixerDxRefIdeal.RefValue

end

end
-- ==== Proof.MixerDxValue.lean ====
module

public import proofs.«01_k».proof.Proof.Gen.MixerDxIdeal.Value
public import proofs.«01_k».proof.Proof.MixerDxRefRead
public import Idealize.ShloMosaic.Lib.Pipeline.ValueKit
public import Idealize.ShloMosaic.Lib.Pipeline.ReadBack
public import Idealize.ShloMosaic.Lib.Pointwise
public import Idealize.ShloMosaic.Lib.Claim

/-! What the gradient through the mixer's input projection and norm leaves in its two result arrays, from the arguments' real values. -/

@[expose] public section

set_option maxRecDepth 16384

noncomputable section

namespace Cert.MixerDxIdeal.MixerDxValue

open Cert.MixerDxIdeal Cert.MixerDxIdeal.Gen Cert.NormMath Cert.MixerDx Idealize.ShloMosaic Idealize.ShloMosaic.TcCoe Idealize.SL.Sem
  Idealize.ShloMosaic.StableHlo
open Cert.GateMath (coe_sum div_real width_eq)

/-- Where each window's block lies at a point. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

variable (A : ℕ → ℕ → ℝ) (W : ℕ → ℕ → ℕ → ℝ) (H : ℕ → ℕ → ℝ) (g : ℕ → ℝ) (D : ℕ → ℕ → ℝ)

/-- A block of the arriving gradient. -/
abbrev B0 : Vec Ideal S1024x2048 .bf16 := fun i => ((A (i 0).val (i 1).val : ℝ) : EReal)
/-- The weight's block. -/
abbrev B1 : Vec Ideal S1x1024x2048 .bf16 := fun i => ((W (i 0).val (i 1).val (i 2).val : ℝ) : EReal)
/-- A block of rows. -/
abbrev B2 : Vec Ideal S1024x1024 .f32 := fun i => ((H (i 0).val (i 1).val : ℝ) : EReal)
/-- The gain's block. -/
abbrev B3 : Vec Ideal S1x1024 .f32 := fun i => ((g (i 1).val : ℝ) : EReal)

theorem pay2_eq : k0_pay2 (F := Ideal) (B0 A) (B1 W) = fun i => ((U A W (i 0).val (i 1).val : ℝ) : EReal) := by
  funext i
  pointwise [k0_pay2]
  simp only [← EReal.coe_mul, coe_sum]
  rfl

theorem pay3_eq : k0_pay3 (F := Ideal) (B2 H) = fun i => ((rr H (i 0).val : ℝ) : EReal) := by
  funext i
  pointwise [k0_pay3]
  exact rr_of_sum H _

theorem pay4_eq : k0_pay4 (F := Ideal) (B2 H) = fun i => ((nn H (i 0).val (i 1).val : ℝ) : EReal) := by
  funext i
  unfold k0_pay4
  rw [pay3_eq]
  pointwise
  rw [← EReal.coe_mul]
  rfl

theorem pay7_eq : k0_pay7 (F := Ideal) (B0 A) (B1 W) (B3 g) = fun i => ((U A W (i 0).val (i 1).val * g (i 1).val : ℝ) : EReal) := by
  funext i
  unfold k0_pay7
  rw [pay2_eq]
  pointwise
  rw [← EReal.coe_mul]
  rfl

theorem pay8_eq : k0_pay8 (F := Ideal) (B0 A) (B1 W) (B2 H) (B3 g)
    = fun i => ((∑ k : Fin 1024, U A W (i 0).val k * g k * nn H (i 0).val k : ℝ) : EReal) := by
  funext i
  unfold k0_pay8
  rw [pay7_eq, pay4_eq]
  pointwise
  simp only [← EReal.coe_mul, coe_sum]

theorem pay1_at (i : S1024x1024.Idx) :
    k0_pay1 (F := Ideal) (k0_pay3 (B2 H)) (k0_pay4 (B2 H)) (k0_pay7 (B0 A) (B1 W) (B3 g)) (B2 D) (k0_pay8 (B0 A) (B1 W) (B2 H) (B3 g))
      (Scalar.ofBits .f32 0x44800000#32) i
      = ((dx H (fun r c => U A W r c * g c) D (i 0).val (i 1).val : ℝ) : EReal) := by
  rw [pay3_eq, pay4_eq, pay7_eq, pay8_eq]
  pointwise [k0_pay1]
  simp only [width_eq]
  rw [div_real _ _ (by norm_num)]
  simp only [← EReal.coe_mul, ← EReal.coe_sub, ← EReal.coe_add]
  rfl

theorem pay5_at (i) : k0_pay5 (F := Ideal) i = 0 := by pointwise [k0_pay5]

variable (m : (ℓ : Loc nD τ sig) → Buf (Elt Ideal) ℓ) (c : Dev nD)

/-- A point's two results, from its blocks' real values. -/
theorem step (t : Fin cfg0.N) (h0 : iblk m c 0 t = B0 A) (h1 : iblk m c 1 t = B1 W) (h2 : iblk m c 2 t = B2 H) (h3 : iblk m c 3 t = B3 g)
    (h4 : iblk m c 4 t = B2 D) :
    (∀ i, (outsAt0 m c t.val t.isLt).1 i = ((dx H (fun r c => U A W r c * g c) D (i 0).val (i 1).val : ℝ) : EReal))
    ∧ ∀ i, (outsAt0 m c t.val t.isLt).2 i
      = (if t.val % 4 = 0 then 0 else (outsAt0 m c (t.val - 1) (Nat.lt_of_le_of_lt (Nat.sub_le _ _) t.isLt)).2 i)
        + ((∑ r : Fin 1024, U A W r (i 1).val * nn H r (i 1).val : ℝ) : EReal) := by
  refine ⟨fun i => ?_, fun i => ?_⟩
  all_goals
    by_cases h : t.val % 4 = 0
    all_goals
      first | rw [outsAt0_A m c t h] | rw [outsAt0_B m c t h]
      try first | rw [if_pos h] | rw [if_neg h]
      frame_out
      try simp only [read_unread_whole]
      rw [h0, h1, h2]
      try rw [h3, h4, pay1_at]
      try
        unfold k0_pay6
        rw [pay2_eq, pay4_eq]
        pointwise
        try rw [pay5_at, zero_add]
        simp only [← EReal.coe_mul, coe_sum]

variable (E0 : ∀ i : S4096x2048.Idx, m ((c : Thread nD τ).loc main_arg0) i = ((A (i 0).val (i 1).val : ℝ) : EReal))
  (E1 : ∀ i : S1x1024x2048.Idx, m ((c : Thread nD τ).loc main_arg1) i = ((W (i 0).val (i 1).val (i 2).val : ℝ) : EReal))
  (E2 : ∀ i : S4096x1024.Idx, m ((c : Thread nD τ).loc main_arg2) i = ((H (i 0).val (i 1).val : ℝ) : EReal))
  (E3 : ∀ i : S1024.Idx, m ((c : Thread nD τ).loc main_arg3) i = ((g (i 0).val : ℝ) : EReal))
  (E4 : ∀ i : S4096x1024.Idx, m ((c : Thread nD τ).loc main_arg4) i = ((D (i 0).val (i 1).val : ℝ) : EReal))

include E0 in
theorem blk0 (t : Fin cfg0.N) : iblk m c 0 t = B0 (rows (1024 * t.val) A) := by
  funext y
  blk_simp [iblk, V]
  refine (E0 _).trans ?_
  unfold rows
  blk_simp [idx t]
  rw [mul_comm]

include E1 in
theorem blk1 (t : Fin cfg0.N) : iblk m c 1 t = B1 W := by
  funext y
  blk_simp [iblk, V]
  refine (E1 _).trans ?_
  blk_simp [idx t]
  have h : (y 0).val = 0 := Nat.lt_one_iff.mp (y 0).isLt
  unfold B1
  rw [h]

include E2 in
theorem blk2 (t : Fin cfg0.N) : iblk m c 2 t = B2 (rows (1024 * t.val) H) := by
  funext y
  blk_simp [iblk, V]
  refine (E2 _).trans ?_
  unfold rows
  blk_simp [idx t]
  rw [mul_comm]

include E3 in
theorem blk3 (t : Fin cfg0.N) : iblk m c 3 t = B3 g := by
  funext y
  blk_simp [iblk]
  entry_read
  generalize hy : ((View.whole main_v0).slice (win0_3.rect t)).emb y = z
  have h1 : (z 1).val = (y 1).val := by rw [← hy]; blk_simp [idx t]
  unfold B3
  rw [← h1]
  clear hy h1
  pointwise
  exact E3 _

include E4 in
theorem blk4 (t : Fin cfg0.N) : iblk m c 4 t = B2 (rows (1024 * t.val) D) := by
  funext y
  blk_simp [iblk, V]
  refine (E4 _).trans ?_
  unfold rows
  blk_simp [idx t]
  rw [mul_comm]

include E0 E1 E2 E3 E4

/-- The rows' gradient after the run. -/
theorem final5 : (dats m 0 c).arrAt 5 cfg0.N
    = fun i : S4096x1024.Idx => ((dx H (fun r c => U A W r c * g c) D (i 0).val (i 1).val : ℝ) : EReal) := by
  refine (dats m 0 c).arrAt_eq_of_covers 5 _ (by decide +kernel) fun t hf y => ?_
  blk_simp
  rw [after0_5, (step _ W _ g _ m c t (blk0 A m c E0 t) (blk1 W m c E1 t) (blk2 H m c E2 t) (blk3 g m c E3 t) (blk4 D m c E4 t)).1]
  refine congrArg (fun x : ℝ => (x : EReal)) ((dx_rows H (fun r c => U A W r c * g c) D (1024 * t.val) _ _).trans ?_)
  blk_simp [idx t]
  rw [mul_comm]

/-- The gain's gradient after the run. -/
theorem final6 : (dats m 0 c).arrAt 6 cfg0.N
    = fun i : S1x1024.Idx => ((∑ r : Fin 4096, U A W r.val (i 1).val * nn H r.val (i 1).val : ℝ) : EReal) := by
  refine (dats m 0 c).arrAt_eq_of_after_last 6 t0_3 (by decide +kernel) _ fun j => ?_
  blk_simp
  have hs := fun t : Fin cfg0.N => (step _ W _ g _ m c t (blk0 A m c E0 t) (blk1 W m c E1 t) (blk2 H m c E2 t) (blk3 g m c E3 t) (blk4 D m c E4 t)).2
  rw [after0_6, Pipeline.eq_sum_fin_of_reset_step_apply_last (fun n h => (outsAt0 m c n h).2) 4 (fun _ => 0) _
    (fun t h i => by rw [hs t i, if_pos h]) (fun t h i => by rw [hs t i, if_neg h]) (le_of_eq N_0) t0_3 rfl j, zero_add]
  rw [coe_sum]
  refine congrArg (fun x : ℝ => (x : EReal)) ((Fintype.sum_equiv (finCongr N_0) _
    (fun t : Fin 4 => ∑ r : Fin 1024, U A W (1024 * t.val + r.val) (j 1).val * nn H (1024 * t.val + r.val) (j 1).val) fun _ => rfl).trans ?_)
  exact sum_rows 4 1024 fun r => U A W r (j 1).val * nn H r (j 1).val

end Cert.MixerDxIdeal.MixerDxValue

end

end
-- ==== Proof.QkvDxRefRead.lean ====
module

public import proofs.«01_k».proof.Proof.Gen.QkvDxRefIdeal.Read
public import proofs.«01_k».proof.Proof.NormMath
public import Idealize.ShloMosaic.Lib.Pointwise

/-! The reference of the gradient through the attention's two input projections and norm, read at real arguments. -/

@[expose] public section

set_option maxRecDepth 16384

noncomputable section

namespace Cert.QkvDx

open Cert.NormMath

variable (A W V : ℕ → ℕ → ℕ → ℝ) (Q : ℕ → ℕ → ℝ) (f g : ℕ → ℝ)

/-- The gradient of the queries' normalised rows: the queries' gradient through the weight. -/
def Uq (r c : ℕ) : ℝ := ∑ k : Fin 1024, Q r k * V 0 c k

/-- The gradient of the keys' and values' normalised rows: the two gradients through the two halves of the weight. -/
def U (r c : ℕ) : ℝ := (∑ k : Fin 1024, A 0 r k * W 0 c k) + ∑ k : Fin 1024, A 1 r k * W 0 c (1024 + k)

/-- The two halves side by side. -/
def cat (r k : ℕ) : ℝ := if k < 1024 then A 0 r k else A 1 r (k - 1024)

theorem sum_cat (r c : ℕ) : ∑ k : Fin 2048, cat A r k * W 0 c k = U A W r c := by
  refine (Fin.sum_univ_add (a := 1024) (b := 1024) fun k => cat A r k.val * W 0 c k.val).trans ?_
  unfold U
  refine congrArg₂ (· + ·) (Finset.sum_congr rfl fun k _ => ?_) (Finset.sum_congr rfl fun k _ => ?_)
  · unfold cat
    rw [Fin.val_castAdd, if_pos k.isLt]
  · unfold cat
    rw [Fin.val_natAdd, if_neg (by omega), Nat.add_sub_cancel_left]

/-- The gradient of the normalised rows, from both. -/
def both (r c : ℕ) : ℝ := Uq V Q r c * f c + U A W r c * g c

end Cert.QkvDx

namespace Cert.QkvDxRefIdeal.RefValue

open Cert.QkvDxRefIdeal Cert.QkvDxRefIdeal.Gen Cert.QkvDxRefIdeal.Read Cert.NormMath Cert.QkvDx Idealize.ShloMosaic Idealize.ShloMosaic.TcCoe
  Idealize.SL.Sem Idealize.ShloMosaic.StableHlo
open Cert.GateMath (coe_sum div_real width_eq eps_eq zero_eq neg_half_eq)

variable (A W V : ℕ → ℕ → ℕ → ℝ) (Q H D : ℕ → ℕ → ℝ) (f g : ℕ → ℝ)

/-- The queries' arriving gradient, from real numbers. -/
abbrev X0 : (⟨S4096x1024, .bf16⟩ : BufTy).Contents (Elt Ideal) := fun i => ((Q (i 0).val (i 1).val : ℝ) : EReal)
/-- The queries' weight, from real numbers. -/
abbrev X1 : (⟨S1x1024x1024, .bf16⟩ : BufTy).Contents (Elt Ideal) := fun i => ((V (i 0).val (i 1).val (i 2).val : ℝ) : EReal)
/-- A norm's gain, from real numbers. -/
abbrev X2 : (⟨S1024, .f32⟩ : BufTy).Contents (Elt Ideal) := fun i => ((f (i 0).val : ℝ) : EReal)
/-- The keys' and values' arriving gradient, from real numbers. -/
abbrev X3 : (⟨S2x4096x1024, .bf16⟩ : BufTy).Contents (Elt Ideal) := fun i => ((A (i 0).val (i 1).val (i 2).val : ℝ) : EReal)
/-- The keys' and values' weight, from real numbers. -/
abbrev X4 : (⟨S1x1024x2048, .bf16⟩ : BufTy).Contents (Elt Ideal) := fun i => ((W (i 0).val (i 1).val (i 2).val : ℝ) : EReal)
/-- Rows, from real numbers. -/
abbrev X6 : (⟨S4096x1024, .f32⟩ : BufTy).Contents (Elt Ideal) := fun i => ((H (i 0).val (i 1).val : ℝ) : EReal)

theorem ms_read (i : S4096x1.Idx) : val_main_v12 (F := Ideal) (X6 H) i = ((ms H (i 0).val : ℝ) : EReal) := by
  simp only [val_main_v12_apply, val_main_v11_apply, val_main_cst_1_apply, val_main_v10_apply, val_main_v9_apply, val_main_cst_0_apply,
    val_main_v8_apply, val_main_v7_apply, val_main_cst_apply, val_main_v6_apply, Ideal.mulf_def, Ideal.hostDivf_def,
    Ideal.addf_def, Ideal.ofBits_def, width_eq, eps_eq, zero_eq, ← EReal.coe_mul, coe_sum, ← EReal.coe_add, div_real _ _ (show (1024 : ℝ) ≠ 0 by norm_num), zero_add]
  rfl

theorem rr_read (i : S4096x1.Idx) : val_main_v13 (F := Ideal) (X6 H) i = ((rr H (i 0).val : ℝ) : EReal) := by
  rw [val_main_v13_apply, ms_read, Ideal.hostUnary_rsqrt_def, NormMath.rsqrt_ms]

theorem slope_read (i : S4096x1.Idx) : val_main_v16 (F := Ideal) (X6 H) i = ((-1 / 2 * (rr H (i 0).val / ms H (i 0).val) : ℝ) : EReal) := by
  simp only [val_main_v16_apply, val_main_v15_apply, val_main_cst_2_apply, val_main_v14_apply, rr_read, ms_read, Ideal.hostDivf_def,
    div_real _ _ (NormMath.ms_pos H _).ne', Ideal.mulf_def, Ideal.ofBits_def, neg_half_eq, ← EReal.coe_mul]

theorem nn_read (i : S4096x1024.Idx) : val_main_v18 (F := Ideal) (X6 H) i = ((nn H (i 0).val (i 1).val : ℝ) : EReal) := by
  simp only [val_main_v18_apply, val_main_v17_apply, rr_read, Ideal.mulf_def, ← EReal.coe_mul]
  rfl

theorem cat_read (i : S4096x2048.Idx) : val_main_v4 (F := Ideal) (X3 A) i = ((cat A (i 0).val (i 1).val : ℝ) : EReal) := by
  have h0 : (i 0).val < 4096 := (i 0).isLt
  have h1 : (i 1).val < 2048 := (i 1).isLt
  unfold val_main_v4 cat
  by_cases h : (i 1).val < 1024
  · rw [if_pos h]
    refine (concatenate_pair_apply_left (s₁ := S4096x1024) (s₂ := S4096x1024) (1 : Fin S4096x2048.rank) _ _ _ i rfl
      (fun a => match a with | ⟨0, _⟩ => ⟨(i 0).val, h0⟩ | ⟨1, _⟩ => ⟨(i 1).val, h⟩)
      (fun a => match a with | ⟨0, _⟩ => rfl | ⟨1, _⟩ => rfl)).trans ?_
    rw [val_main_v1_apply, val_main_v0_apply]
    simp
    congr 1 <;> omega
  · rw [if_neg h]
    refine (concatenate_pair_apply_right (s₁ := S4096x1024) (s₂ := S4096x1024) (1 : Fin S4096x2048.rank) _ _ _ i rfl rfl
      (fun a => match a with | ⟨0, _⟩ => ⟨(i 0).val, h0⟩ | ⟨1, _⟩ => ⟨(i 1).val - 1024, by show (i 1).val - 1024 < 1024; omega⟩)
      (fun a ha => match a, ha with | ⟨0, _⟩, _ => rfl | ⟨1, _⟩, ha => absurd rfl ha) ?_).trans ?_
    · show (i 1).val - 1024 + 1024 = (i 1).val
      omega
    · rw [val_main_v3_apply, val_main_v2_apply]
      simp
      congr 1 <;> omega

theorem U_read (i : S4096x1024.Idx) : val_main_v32 (F := Ideal) (X3 A) (X4 W) i = ((U A W (i 0).val (i 1).val : ℝ) : EReal) := by
  have h1 : (i 1).val < 1024 := (i 1).isLt
  simp only [val_main_v32_apply, val_main_v29_apply, val_main_v28_apply, val_main_v5_apply, cat_read, Ideal.extf_def, ← EReal.coe_mul, coe_sum]
  rw [← sum_cat]
  congr 1
  refine Finset.sum_congr rfl fun k _ => ?_
  have hk := k.isLt
  congr 2 <;> simp <;> omega

theorem Uq_read (i : S4096x1024.Idx) : val_main_v39 (F := Ideal) (X0 Q) (X1 V) i = ((Uq V Q (i 0).val (i 1).val : ℝ) : EReal) := by
  have h1 : (i 1).val < 1024 := (i 1).isLt
  simp only [val_main_v39_apply, val_main_v31_apply, val_main_v23_apply, val_main_v22_apply, Ideal.extf_def, ← EReal.coe_mul, coe_sum]
  unfold Uq
  congr 1
  refine Finset.sum_congr rfl fun k _ => ?_
  have hk := k.isLt
  congr 2 <;> simp <;> omega

theorem both_read (i : S4096x1024.Idx) : val_main_v45 (F := Ideal) (X0 Q) (X1 V) (X2 f) (X3 A) (X4 W) (X2 g) i
    = ((both A W V Q f g (i 0).val (i 1).val : ℝ) : EReal) := by
  simp only [val_main_v45_apply, val_main_v44_apply, val_main_v43_apply, val_main_v19_apply, val_main_v37_apply, val_main_v36_apply,
    val_main_v25_apply, U_read, Uq_read, Ideal.mulf_def, Ideal.addf_def, ← EReal.coe_mul, ← EReal.coe_add]
  unfold both
  rw [add_comm]

/-- The gradient of the queries' gain. -/
theorem dgq_read (i : S1x1024.Idx) : val_main_v62 (F := Ideal) (X0 Q) (X1 V) (X6 H) i
    = ((∑ r : Fin 4096, Uq V Q r.val (i 1).val * nn H r.val (i 1).val : ℝ) : EReal) := by
  have h0 : (i 0).val < 1 := (i 0).isLt
  simp only [val_main_v62_apply, val_main_v46_apply, val_main_cst_6_apply, val_main_v42_apply, val_main_v41_apply, val_main_cst_5_apply,
    val_main_v40_apply, Uq_read, nn_read, Ideal.mulf_def, Ideal.ofBits_def,
    zero_eq, ← EReal.coe_mul, coe_sum, ← EReal.coe_add, zero_add]
  simp [mul_comm]

/-- The gradient of the keys' and values' gain. -/
theorem dgkv_read (i : S1x1024.Idx) : val_main_v63 (F := Ideal) (X3 A) (X4 W) (X6 H) i
    = ((∑ r : Fin 4096, U A W r.val (i 1).val * nn H r.val (i 1).val : ℝ) : EReal) := by
  have h0 : (i 0).val < 1 := (i 0).isLt
  simp only [val_main_v63_apply, val_main_v38_apply, val_main_cst_4_apply, val_main_v35_apply, val_main_v34_apply, val_main_cst_3_apply,
    val_main_v33_apply, U_read, nn_read, Ideal.mulf_def, Ideal.ofBits_def,
    zero_eq, ← EReal.coe_mul, coe_sum, ← EReal.coe_add, zero_add]
  simp [mul_comm]

theorem pull_read (i : S4096x1.Idx) : val_main_v55 (F := Ideal) (X0 Q) (X1 V) (X2 f) (X3 A) (X4 W) (X2 g) (X6 H) i
    = ((pull H (both A W V Q f g) (i 0).val : ℝ) : EReal) := by
  have h1 : (i 1).val = 0 := Nat.lt_one_iff.mp (i 1).isLt
  simp only [val_main_v55_apply, val_main_v54_apply, val_main_cst_8_apply, val_main_v53_apply, val_main_v49_apply, val_main_v48_apply,
    val_main_cst_7_apply, val_main_v47_apply, both_read, slope_read, Ideal.hostDivf_def,
    Ideal.mulf_def, Ideal.ofBits_def, zero_eq, width_eq, ← EReal.coe_mul, coe_sum, ← EReal.coe_add, zero_add,
    div_real _ _ (show (1024 : ℝ) ≠ 0 by norm_num),
    h1, Nat.mul_one, Nat.add_zero]
  rfl

/-- The rows' gradient. -/
theorem dx_read (i : S4096x1024.Idx) : val_main_v61 (F := Ideal) (X0 Q) (X1 V) (X2 f) (X3 A) (X4 W) (X2 g) (X6 H) (X6 D) i
    = ((dx H (both A W V Q f g) D (i 0).val (i 1).val : ℝ) : EReal) := by
  rw [← dx_eq]
  simp only [val_main_v61_apply, val_main_v60_apply, val_main_v59_apply, val_main_v58_apply, val_main_v57_apply, val_main_v56_apply,
    val_main_cst_9_apply, val_main_v52_apply, val_main_v51_apply, val_main_v50_apply, pull_read, both_read, rr_read,
    Ideal.ofBits_def, zero_eq, coe_sum, Ideal.mulf_def, Ideal.addf_def, ← EReal.coe_mul, ← EReal.coe_add, zero_add]
  simp

end Cert.QkvDxRefIdeal.RefValue

end

end
-- ==== Proof.QkvDxValue.lean ====
module

public import proofs.«01_k».proof.Proof.Gen.QkvDxIdeal.Value
public import proofs.«01_k».proof.Proof.QkvDxRefRead
public import Idealize.ShloMosaic.Lib.Pipeline.ValueKit
public import Idealize.ShloMosaic.Lib.Pipeline.ReadBack
public import Idealize.ShloMosaic.Lib.Pointwise
public import Idealize.ShloMosaic.Lib.Claim

/-! What the gradient through the attention's projections and norms leaves in its three result arrays, from the arguments' real values. -/

@[expose] public section

set_option maxRecDepth 16384

noncomputable section

namespace Cert.QkvDxIdeal.QkvDxValue

open Cert.QkvDxIdeal Cert.QkvDxIdeal.Gen Cert.NormMath Cert.QkvDx Idealize.ShloMosaic Idealize.ShloMosaic.TcCoe Idealize.SL.Sem
  Idealize.ShloMosaic.StableHlo
open Cert.GateMath (coe_sum div_real width_eq)

/-- Where each window's block lies at a point. -/
theorem idx : ∀ t : Fin cfg0.N, win0_0.index t = ![t.val, 0] ∧ win0_1.index t = ![0, 0, 0] ∧ win0_2.index t = ![0, 0]
    ∧ win0_3.index t = ![0, t.val, 0] ∧ win0_4.index t = ![0, 0, 0] ∧ win0_5.index t = ![0, 0] ∧ win0_6.index t = ![t.val, 0]
    ∧ win0_7.index t = ![t.val, 0] ∧ win0_8.index t = ![t.val, 0] :=
  (by decide +kernel : ∀ t : Fin grid0.N, _)

variable (A W V : ℕ → ℕ → ℕ → ℝ) (Q H D : ℕ → ℕ → ℝ) (f g : ℕ → ℝ)

/-- A block of the queries' gradient. -/
abbrev B0 : Vec Ideal S512x1024 .bf16 := fun i => ((Q (i 0).val (i 1).val : ℝ) : EReal)
/-- The queries' weight's block. -/
abbrev B1 : Vec Ideal S1x1024x1024 .bf16 := fun i => ((V (i 0).val (i 1).val (i 2).val : ℝ) : EReal)
/-- A gain's block. -/
abbrev B2 : Vec Ideal S1x1024 .f32 := fun i => ((f (i 1).val : ℝ) : EReal)
/-- A block of the keys' and values' gradient. -/
abbrev B3 : Vec Ideal S2x512x1024 .bf16 := fun i => ((A (i 0).val (i 1).val (i 2).val : ℝ) : EReal)
/-- The keys' and values' weight's block. -/
abbrev B4 : Vec Ideal S1x1024x2048 .bf16 := fun i => ((W (i 0).val (i 1).val (i 2).val : ℝ) : EReal)
/-- A block of rows. -/
abbrev B6 : Vec Ideal S512x1024 .f32 := fun i => ((H (i 0).val (i 1).val : ℝ) : EReal)

theorem pay8_eq : k0_pay8 (F := Ideal) (B0 Q) (B1 V) = fun i => ((Uq V Q (i 0).val (i 1).val : ℝ) : EReal) := by
  funext i
  pointwise [k0_pay8]
  simp only [← EReal.coe_mul, coe_sum]
  rfl

theorem pay9_eq (v0 v5 : Vec Ideal S1x512x1024 .bf16) (v2 v7 : Vec Ideal S1x1024x1024 .bf16)
    (e0 : ∀ i, v0 i = ((A 0 (i 1).val (i 2).val : ℝ) : EReal)) (e2 : ∀ i, v2 i = ((W 0 (i 1).val (i 2).val : ℝ) : EReal))
    (e5 : ∀ i, v5 i = ((A 1 (i 1).val (i 2).val : ℝ) : EReal)) (e7 : ∀ i, v7 i = ((W 0 (i 1).val (1024 + (i 2).val) : ℝ) : EReal)) :
    k0_pay9 (F := Ideal) v0 v2 v5 v7 = fun i => ((U A W (i 0).val (i 1).val : ℝ) : EReal) := by
  funext i
  pointwise [k0_pay9]
  simp only [e0, e2, e5, e7, ← EReal.coe_mul, coe_sum, ← EReal.coe_add]
  rfl

theorem pay6_eq : k0_pay6 (F := Ideal) (B6 H) = fun i => ((rr H (i 0).val : ℝ) : EReal) := by
  funext i
  pointwise [k0_pay6]
  exact rr_of_sum H _

theorem pay7_eq : k0_pay7 (F := Ideal) (B6 H) = fun i => ((nn H (i 0).val (i 1).val : ℝ) : EReal) := by
  funext i
  unfold k0_pay7
  rw [pay6_eq]
  pointwise
  rw [← EReal.coe_mul]
  rfl

theorem pay3_at (i : S512x1024.Idx) :
    k0_pay3 (F := Ideal) (fun i => ((rr H (i 0).val : ℝ) : EReal)) (fun i => ((nn H (i 0).val (i 1).val : ℝ) : EReal))
      (fun i => ((Uq V Q (i 0).val (i 1).val : ℝ) : EReal)) (fun i => ((U A W (i 0).val (i 1).val : ℝ) : EReal)) (B2 f) (B2 g) (B6 D) i
      = ((dx H (both A W V Q f g) D (i 0).val (i 1).val : ℝ) : EReal) := by
  pointwise [k0_pay3]
  simp only [width_eq, ← EReal.coe_mul, ← EReal.coe_add, coe_sum]
  rw [div_real _ _ (by norm_num)]
  simp only [← EReal.coe_mul, ← EReal.coe_sub, ← EReal.coe_add]
  rfl

theorem pay4_at (i) : k0_pay4 (F := Ideal) i = 0 := by pointwise [k0_pay4]

theorem pay5_at (i) : k0_pay5 (F := Ideal) i = 0 := by pointwise [k0_pay5]

theorem pay1_at (u : ℕ → ℕ → ℝ) (v : Vec Ideal S1x1024 .f32) (i : S1x1024.Idx) :
    k0_pay1 (F := Ideal) (fun i => ((nn H (i 0).val (i 1).val : ℝ) : EReal)) (fun i => ((u (i 0).val (i 1).val : ℝ) : EReal)) v i
      = v i + ((∑ r : Fin 512, u r (i 1).val * nn H r (i 1).val : ℝ) : EReal) := by
  pointwise [k0_pay1]
  simp only [← EReal.coe_mul, coe_sum]

theorem pay2_at (u : ℕ → ℕ → ℝ) (v : Vec Ideal S1x1024 .f32) (i : S1x1024.Idx) :
    k0_pay2 (F := Ideal) (fun i => ((nn H (i 0).val (i 1).val : ℝ) : EReal)) (fun i => ((u (i 0).val (i 1).val : ℝ) : EReal)) v i
      = v i + ((∑ r : Fin 512, u r (i 1).val * nn H r (i 1).val : ℝ) : EReal) := by
  pointwise [k0_pay2]
  simp only [← EReal.coe_mul, coe_sum]

variable (m : (ℓ : Loc nD τ sig) → Buf (Elt Ideal) ℓ) (c : Dev nD)

/-- A point's three results, from its blocks' real values. -/
theorem step (t : Fin cfg0.N) (h0 : iblk m c 0 t = B0 Q) (h1 : iblk m c 1 t = B1 V) (h2 : iblk m c 2 t = B2 f) (h3 : iblk m c 3 t = B3 A)
    (h4 : iblk m c 4 t = B4 W) (h5 : iblk m c 5 t = B2 g) (h6 : iblk m c 6 t = B6 H) (h7 : iblk m c 7 t = B6 D) :
    (∀ i, (outsAt0 m c t.val t.isLt).1 i = ((dx H (both A W V Q f g) D (i 0).val (i 1).val : ℝ) : EReal))
    ∧ (∀ i, (outsAt0 m c t.val t.isLt).2.1 i
      = (if t.val % 8 = 0 then 0 else (outsAt0 m c (t.val - 1) (Nat.lt_of_le_of_lt (Nat.sub_le _ _) t.isLt)).2.1 i)
        + ((∑ r : Fin 512, Uq V Q r (i 1).val * nn H r (i 1).val : ℝ) : EReal))
    ∧ ∀ i, (outsAt0 m c t.val t.isLt).2.2 i
      = (if t.val % 8 = 0 then 0 else (outsAt0 m c (t.val - 1) (Nat.lt_of_le_of_lt (Nat.sub_le _ _) t.isLt)).2.2 i)
        + ((∑ r : Fin 512, U A W r (i 1).val * nn H r (i 1).val : ℝ) : EReal) := by
  refine ⟨fun i => ?_, fun i => ?_, fun i => ?_⟩
  all_goals
    by_cases h : t.val % 8 = 0
    all_goals
      first | rw [outsAt0_A m c t h] | rw [outsAt0_B m c t h]
      try first | rw [if_pos h] | rw [if_neg h]
      frame_out
      try simp only [read_unread_whole]
      try rw [h0, h1, pay8_eq]
      try rw [h3, h4, pay9_eq A W]
      rw [h6, pay7_eq]
      try rw [h2, h5, h7, pay6_eq, pay3_at]
      try rw [pay1_at]
      try rw [pay2_at]
      try rw [pay4_at]
      try rw [pay5_at]
  all_goals
    intro y
    have hy : (y 0).val = 0 := Nat.lt_one_iff.mp (y 0).isLt
    simp [View.ld_apply, Rect.idx_unit_val, hy]

variable (E0 : ∀ i : S4096x1024.Idx, m ((c : Thread nD τ).loc main_arg0) i = ((Q (i 0).val (i 1).val : ℝ) : EReal))
  (E1 : ∀ i : S1x1024x1024.Idx, m ((c : Thread nD τ).loc main_arg1) i = ((V (i 0).val (i 1).val (i 2).val : ℝ) : EReal))
  (E2 : ∀ i : S1024.Idx, m ((c : Thread nD τ).loc main_arg2) i = ((f (i 0).val : ℝ) : EReal))
  (E3 : ∀ i : S2x4096x1024.Idx, m ((c : Thread nD τ).loc main_arg3) i = ((A (i 0).val (i 1).val (i 2).val : ℝ) : EReal))
  (E4 : ∀ i : S1x1024x2048.Idx, m ((c : Thread nD τ).loc main_arg4) i = ((W (i 0).val (i 1).val (i 2).val : ℝ) : EReal))
  (E5 : ∀ i : S1024.Idx, m ((c : Thread nD τ).loc main_arg5) i = ((g (i 0).val : ℝ) : EReal))
  (E6 : ∀ i : S4096x1024.Idx, m ((c : Thread nD τ).loc main_arg6) i = ((H (i 0).val (i 1).val : ℝ) : EReal))
  (E7 : ∀ i : S4096x1024.Idx, m ((c : Thread nD τ).loc main_arg7) i = ((D (i 0).val (i 1).val : ℝ) : EReal))

/-- The rows of the two gradients from row `b` on. -/
abbrev rows3 (b : ℕ) (X : ℕ → ℕ → ℕ → ℝ) (p r c : ℕ) : ℝ := X p (b + r) c

include E0 in
theorem blk0 (t : Fin cfg0.N) : iblk m c 0 t = B0 (rows (512 * t.val) Q) := by
  funext y
  blk_simp [iblk, Gen.V]
  refine (E0 _).trans ?_
  unfold rows
  blk_simp [idx t]
  rw [mul_comm]

include E1 in
theorem blk1 (t : Fin cfg0.N) : iblk m c 1 t = B1 V := by
  funext y
  blk_simp [iblk, Gen.V]
  refine (E1 _).trans ?_
  blk_simp [idx t]
  have h : (y 0).val = 0 := Nat.lt_one_iff.mp (y 0).isLt
  unfold B1
  rw [h]

include E2 in
theorem blk2 (t : Fin cfg0.N) : iblk m c 2 t = B2 f := by
  funext y
  blk_simp [iblk]
  entry_read
  generalize hy : ((View.whole main_v0).slice (win0_2.rect t)).emb y = z
  have h1 : (z 1).val = (y 1).val := by rw [← hy]; blk_simp [idx t]
  unfold B2
  rw [← h1]
  clear hy h1
  pointwise
  exact E2 _

include E3 in
theorem blk3 (t : Fin cfg0.N) : iblk m c 3 t = B3 (rows3 (512 * t.val) A) := by
  funext y
  blk_simp [iblk, Gen.V]
  refine (E3 _).trans ?_
  blk_simp [idx t]
  rw [mul_comm]

include E4 in
theorem blk4 (t : Fin cfg0.N) : iblk m c 4 t = B4 W := by
  funext y
  blk_simp [iblk, Gen.V]
  refine (E4 _).trans ?_
  blk_simp [idx t]
  have h : (y 0).val = 0 := Nat.lt_one_iff.mp (y 0).isLt
  unfold B4
  rw [h]

include E5 in
theorem blk5 (t : Fin cfg0.N) : iblk m c 5 t = B2 g := by
  funext y
  blk_simp [iblk]
  entry_read
  generalize hy : ((View.whole main_v1).slice (win0_5.rect t)).emb y = z
  have h1 : (z 1).val = (y 1).val := by rw [← hy]; blk_simp [idx t]
  unfold B2
  rw [← h1]
  clear hy h1
  pointwise
  exact E5 _

include E6 in
theorem blk6 (t : Fin cfg0.N) : iblk m c 6 t = B6 (rows (512 * t.val) H) := by
  funext y
  blk_simp [iblk, Gen.V]
  refine (E6 _).trans ?_
  unfold rows
  blk_simp [idx t]
  rw [mul_comm]

include E7 in
theorem blk7 (t : Fin cfg0.N) : iblk m c 7 t = B6 (rows (512 * t.val) D) := by
  funext y
  blk_simp [iblk, Gen.V]
  refine (E7 _).trans ?_
  unfold rows
  blk_simp [idx t]
  rw [mul_comm]

include E0 E1 E2 E3 E4 E5 E6 E7

/-- A point's three results, from the arguments' real values. -/
theorem steps (t : Fin cfg0.N) :
    (∀ i, (outsAt0 m c t.val t.isLt).1 i = ((dx H (both A W V Q f g) D (512 * t.val + (i 0).val) (i 1).val : ℝ) : EReal))
    ∧ (∀ i, (outsAt0 m c t.val t.isLt).2.1 i
      = (if t.val % 8 = 0 then 0 else (outsAt0 m c (t.val - 1) (Nat.lt_of_le_of_lt (Nat.sub_le _ _) t.isLt)).2.1 i)
        + ((∑ r : Fin 512, Uq V Q (512 * t.val + r.val) (i 1).val * nn H (512 * t.val + r.val) (i 1).val : ℝ) : EReal))
    ∧ ∀ i, (outsAt0 m c t.val t.isLt).2.2 i
      = (if t.val % 8 = 0 then 0 else (outsAt0 m c (t.val - 1) (Nat.lt_of_le_of_lt (Nat.sub_le _ _) t.isLt)).2.2 i)
        + ((∑ r : Fin 512, U A W (512 * t.val + r.val) (i 1).val * nn H (512 * t.val + r.val) (i 1).val : ℝ) : EReal) :=
  step (rows3 (512 * t.val) A) W V (rows (512 * t.val) Q) (rows (512 * t.val) H) (rows (512 * t.val) D) f g m c t
  (blk0 Q m c E0 t) (blk1 V m c E1 t) (blk2 f m c E2 t) (blk3 A m c E3 t) (blk4 W m c E4 t) (blk5 g m c E5 t) (blk6 H m c E6 t) (blk7 D m c E7 t)

/-- The rows' gradient after the run. -/
theorem final8 : (dats m 0 c).arrAt 8 cfg0.N
    = fun i : S4096x1024.Idx => ((dx H (both A W V Q f g) D (i 0).val (i 1).val : ℝ) : EReal) := by
  refine (dats m 0 c).arrAt_eq_of_covers 8 _ (by decide +kernel) fun t hf y => ?_
  blk_simp
  rw [after0_8, (steps A W V Q H D f g m c E0 E1 E2 E3 E4 E5 E6 E7 t).1]
  refine congrArg (fun x : ℝ => (x : EReal)) ?_
  blk_simp [idx t]
  rw [mul_comm]

/-- The gradient of the queries' gain after the run. -/
theorem final9 : (dats m 0 c).arrAt 9 cfg0.N
    = fun i : S1x1024.Idx => ((∑ r : Fin 4096, Uq V Q r.val (i 1).val * nn H r.val (i 1).val : ℝ) : EReal) := by
  refine (dats m 0 c).arrAt_eq_of_after_last 9 t0_7 (by decide +kernel) _ fun j => ?_
  blk_simp
  have hs := fun t => (steps A W V Q H D f g m c E0 E1 E2 E3 E4 E5 E6 E7 t).2.1
  rw [after0_9, Pipeline.eq_sum_fin_of_reset_step_apply_last (fun n h => (outsAt0 m c n h).2.1) 8 (fun _ => 0) _
    (fun t h i => by rw [hs t i, if_pos h]) (fun t h i => by rw [hs t i, if_neg h]) (le_of_eq N_0) t0_7 rfl j, zero_add]
  rw [coe_sum]
  refine congrArg (fun x : ℝ => (x : EReal)) ((Fintype.sum_equiv (finCongr N_0) _
    (fun t : Fin 8 => ∑ r : Fin 512, Uq V Q (512 * t.val + r.val) (j 1).val * nn H (512 * t.val + r.val) (j 1).val) fun _ => rfl).trans ?_)
  exact sum_rows 8 512 fun r => Uq V Q r (j 1).val * nn H r (j 1).val

/-- The gradient of the keys' and values' gain after the run. -/
theorem final10 : (dats m 0 c).arrAt 10 cfg0.N
    = fun i : S1x1024.Idx => ((∑ r : Fin 4096, U A W r.val (i 1).val * nn H r.val (i 1).val : ℝ) : EReal) := by
  refine (dats m 0 c).arrAt_eq_of_after_last 10 t0_7 (by decide +kernel) _ fun j => ?_
  blk_simp
  have hs := fun t => (steps A W V Q H D f g m c E0 E1 E2 E3 E4 E5 E6 E7 t).2.2
  rw [after0_10, Pipeline.eq_sum_fin_of_reset_step_apply_last (fun n h => (outsAt0 m c n h).2.2) 8 (fun _ => 0) _
    (fun t h i => by rw [hs t i, if_pos h]) (fun t h i => by rw [hs t i, if_neg h]) (le_of_eq N_0) t0_7 rfl j, zero_add]
  rw [coe_sum]
  refine congrArg (fun x : ℝ => (x : EReal)) ((Fintype.sum_equiv (finCongr N_0) _
    (fun t : Fin 8 => ∑ r : Fin 512, U A W (512 * t.val + r.val) (j 1).val * nn H (512 * t.val + r.val) (j 1).val) fun _ => rfl).trans ?_)
  exact sum_rows 8 512 fun r => U A W r (j 1).val * nn H r (j 1).val

end Cert.QkvDxIdeal.QkvDxValue

end

end
-- ==== Proof.QkvValue.lean ====
module

public import proofs.«01_k».proof.Proof.Gen.QkvIdeal.Value
public import proofs.«01_k».proof.Proof.Gen.QkvRefIdeal.Run
public import proofs.«01_k».proof.Proof.Gen.QkvRefIdeal.Read
public import Idealize.ShloMosaic.Lib.Pipeline.ValueKit
public import Idealize.ShloMosaic.Lib.Pointwise
public import Idealize.ShloMosaic.Lib.Claim

/-! The attention's norm and its two projections: what the call leaves in its four result arrays is the reference's terms. -/

@[expose] public section

set_option maxRecDepth 16384

noncomputable section

namespace Cert.QkvIdeal.QkvValue

open Cert.QkvIdeal Cert.QkvIdeal.Gen Idealize.ShloMosaic Idealize.ShloMosaic.TcCoe Idealize.SL.Sem Idealize.ShloMosaic.StableHlo

/-- Where each window's block lies at a point. -/
theorem idx : ∀ t : Fin cfg0.N, win0_0.index t = ![t.val, 0] ∧ win0_1.index t = ![0, 0, 0] ∧ win0_2.index t = ![0, 0]
    ∧ win0_3.index t = ![0, 0, 0] ∧ win0_4.index t = ![0, 0] ∧ win0_5.index t = ![t.val, 0] ∧ win0_6.index t = ![0, t.val, 0]
    ∧ win0_7.index t = ![t.val, 0] ∧ win0_8.index t = ![t.val, 0] :=
  (by decide +kernel : ∀ t : Fin grid0.N, _)

/-- An entry of a row divided by the row's root mean square. -/
def nrm (x : Fin 1024 → EReal) (k : Fin 1024) : EReal :=
  x k * Ideal.rsqrt (Ideal.div (∑ j : Fin 1024, x j * x j) (Ideal.ofBits .f32 0x44800000#32) + Ideal.ofBits .f32 0x358637BD#32)

/-- The normalised rows by a gain. -/
abbrev gained (X : FVec Ideal S4096x1024 .f32) (G : FVec Ideal S1024 .f32) (r : Fin 4096) (k : Fin 1024) : EReal :=
  nrm (fun j => X (ix2 r j)) k * G (ix1 k)

/-- The normalised rows by a gain, as an array. -/
abbrev normed (X : FVec Ideal S4096x1024 .f32) (G : FVec Ideal S1024 .f32) : FVec Ideal S4096x1024 .bf16 := fun i => gained X G (i 0) (i 1)

/-- The queries. -/
abbrev queries (X : FVec Ideal S4096x1024 .f32) (Y : FVec Ideal S1x1024x1024 .bf16) (G : FVec Ideal S1024 .f32) : FVec Ideal S4096x1024 .bf16 :=
  fun i => (∑ k : Fin 1024, gained X G (i 0) k * Y (ix3 0 k (i 1))) * Ideal.ofBits .f32 0x3E000000#32

/-- The keys and the values. -/
abbrev keys (X : FVec Ideal S4096x1024 .f32) (Y : FVec Ideal S1x1024x2048 .bf16) (G : FVec Ideal S1024 .f32) : FVec Ideal S2x4096x1024 .bf16 :=
  fun i => ∑ k : Fin 1024, gained X G (i 1) k
    * Y (ix3 0 k ⟨(i 0).val * 1024 + (i 2).val, by have := (i 0).isLt; have := (i 2).isLt; simp at *; omega⟩)

theorem pay4_at (x : Vec Ideal S512x1024 .f32) (i) : k0_pay4 x i = nrm (fun j => x (ix2 (i 0) j)) (i 1) := by
  pointwise [k0_pay4, nrm]

theorem pay5_at (x : Vec Ideal S512x1024 .f32) (g : Vec Ideal S1x1024 .f32) (i) :
    k0_pay5 x g i = nrm (fun j => x (ix2 (i 0) j)) (i 1) * g (ix2 0 (i 1)) := by
  pointwise [k0_pay5, pay4_at]

theorem pay6_at (x : Vec Ideal S512x1024 .f32) (g : Vec Ideal S1x1024 .f32) (i) :
    k0_pay6 x g i = nrm (fun j => x (ix2 (i 0) j)) (i 1) * g (ix2 0 (i 1)) := by
  pointwise [k0_pay6, pay4_at]

theorem pay7_at (x : Vec Ideal S512x1024 .f32) (g : Vec Ideal S1x1024 .f32) (w : Vec Ideal S1x1024x1024 .bf16) (i) :
    k0_pay7 x g w i = (∑ k : Fin 1024, nrm (fun j => x (ix2 (i 0) j)) k * g (ix2 0 k) * w (ix3 0 k (i 1))) * Ideal.ofBits .f32 0x3E000000#32 := by
  pointwise [k0_pay7, pay5_at]

theorem pay1_at (x : Vec Ideal S512x1024 .f32) (g : Vec Ideal S1x1024 .f32) (w : Vec Ideal S1x1024x2048 .bf16) (i) :
    k0_pay1 (k0_pay6 x g) (k0_pay8 w) (constant (F := Ideal) S512x2048 .f32 0x00000000#32) i
      = ∑ k : Fin 1024, nrm (fun j => x (ix2 (i 0) j)) k * g (ix2 0 k) * w (ix3 0 k (i 1)) := by
  pointwise [k0_pay1, k0_pay8, pay6_at]

variable (m : (ℓ : Loc nD τ sig) → Buf (Elt Ideal) ℓ) (c : Dev nD)

theorem blk0 (t : Fin cfg0.N) : iblk m c 0 t = fun y : S512x1024.Idx => (show FVec Ideal S4096x1024 .f32 from m ((c : Thread nD τ).loc main_arg0))
    (ix2 ⟨512 * t.val + (y 0).val, by have := lt_of_lt_of_eq t.isLt N_0; have := (y 0).isLt; simp at *; omega⟩ (y 1)) := by
  funext y
  blk_point [iblk, V, idx t]

theorem blk1 (t : Fin cfg0.N) : iblk m c 1 t = (show FVec Ideal S1x1024x1024 .bf16 from m ((c : Thread nD τ).loc main_arg1)) := by
  funext y
  blk_point [iblk, V, idx t]

theorem blk2 (t : Fin cfg0.N) : iblk m c 2 t = fun y : S1x1024.Idx => (show FVec Ideal S1024 .f32 from m ((c : Thread nD τ).loc main_arg2)) (ix1 (y 1)) := by
  funext y
  blk_simp [iblk]
  entry_read
  generalize hy : ((View.whole main_v0).slice (win0_2.rect t)).emb y = z
  have h1 : z 1 = y 1 := Fin.ext (by rw [← hy]; blk_simp [idx t])
  rw [← h1]
  clear hy h1
  pointwise

theorem blk3 (t : Fin cfg0.N) : iblk m c 3 t = (show FVec Ideal S1x1024x2048 .bf16 from m ((c : Thread nD τ).loc main_arg3)) := by
  funext y
  blk_point [iblk, V, idx t]

theorem blk4 (t : Fin cfg0.N) : iblk m c 4 t = fun y : S1x1024.Idx => (show FVec Ideal S1024 .f32 from m ((c : Thread nD τ).loc main_arg4)) (ix1 (y 1)) := by
  funext y
  blk_simp [iblk]
  entry_read
  generalize hy : ((View.whole main_v1).slice (win0_4.rect t)).emb y = z
  have h1 : z 1 = y 1 := Fin.ext (by rw [← hy]; blk_simp [idx t])
  rw [← h1]
  clear hy h1
  pointwise

/-- The queries after the run. -/
theorem final5 : (dats m 0 c).arrAt 5 cfg0.N
    = queries (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  rw [blk0, blk1, blk2, pay7_at]
  simp only [queries, normed, gained]
  blk_point [idx t]

/-- The keys and the values after the run. -/
theorem final6 : (dats m 0 c).arrAt 6 cfg0.N
    = keys (m ((c : Thread nD τ).loc main_arg0)) (m ((c : Thread nD τ).loc main_arg3)) (m ((c : Thread nD τ).loc main_arg4)) := by
  refine (dats m 0 c).arrAt_eq_of_covers 6 _ (by decide +kernel) fun t _ y => ?_
  blk_simp
  rw [after0_6]
  frame_out
  unfold k0_pay9 k0_pay10 k0_pay11
  rw [blk0, blk3, blk4]
  simp only [keys, gained]
  canon_tiles x q
  all_goals
    pointwise [k0_pay2, k0_pay3, pay1_at]
    blk_point [idx t]

/-- The normalised rows by the queries' gain after the run. -/
theorem final7 : (dats m 0 c).arrAt 7 cfg0.N
    = normed (m ((c : Thread nD τ).loc main_arg0)) (m ((c : Thread nD τ).loc main_arg2)) := by
  refine (dats m 0 c).arrAt_eq_of_covers 7 _ (by decide +kernel) fun t _ y => ?_
  blk_simp
  rw [after0_7]
  frame_out
  rw [blk0, blk2, pay5_at]
  simp only [queries, normed, gained]
  blk_point [idx t]

/-- The normalised rows by the keys' and values' gain after the run. -/
theorem final8 : (dats m 0 c).arrAt 8 cfg0.N
    = normed (m ((c : Thread nD τ).loc main_arg0)) (m ((c : Thread nD τ).loc main_arg4)) := by
  refine (dats m 0 c).arrAt_eq_of_covers 8 _ (by decide +kernel) fun t _ y => ?_
  blk_simp
  rw [after0_8]
  frame_out
  rw [blk0, blk4, pay6_at]
  simp only [queries, normed, gained]
  blk_point [idx t]

section
open Cert.QkvRefIdeal.Read

variable (X : FVec Ideal S4096x1024 .f32) (Y : FVec Ideal S1x1024x1024 .bf16) (G : FVec Ideal S1024 .f32) (Z : FVec Ideal S1x1024x2048 .bf16)
  (K : FVec Ideal S1024 .f32)

theorem ref9 (i) : val_main_v9 (F := Ideal) X i = nrm (fun j => X (ix2 (i 0) j)) (i 1) := by
  pointwise [val_main_v9, val_main_v8, val_main_v7, val_main_v6, val_main_v5, val_main_v4, val_main_v3, val_main_v2, val_main_v1, val_main_v0, val_main_cst, val_main_cst_0, val_main_cst_1, nrm]

theorem ref12 (i) : val_main_v12 (F := Ideal) X G i = gained X G (i 0) (i 1) := by
  pointwise [val_main_v12, val_main_v11, val_main_v10, ref9]

theorem ref15 (i) : val_main_v15 (F := Ideal) X K i = gained X K (i 0) (i 1) := by
  pointwise [val_main_v15, val_main_v14, val_main_v13, ref9]

theorem ref_q : val_main_v29 (F := Ideal) X Y G = queries X Y G := by
  funext i
  pointwise [val_main_v29, val_main_v20, val_main_v19, val_main_v18, val_main_v17, val_main_v16, val_main_cst_2, ref12, queries]

theorem ref23 (i) : val_main_v23 (F := Ideal) X Z K i = ∑ k : Fin 1024, gained X K (i 0) k * Z (ix3 0 k (i 1)) := by
  pointwise [val_main_v23, val_main_v22, val_main_v21, ref15]

theorem ref_kv : val_main_v30 (F := Ideal) X Z K = keys X Z K := by
  funext i
  pointwise [val_main_v30, val_main_v28, val_main_v27, val_main_v26, val_main_v25, val_main_v24, ref23]
  unfold keys
  have h2 : (i 0).val < 2 := (i 0).isLt
  split
  all_goals
    refine Finset.sum_congr rfl fun k _ => congrArg (_ * Z ·) ?_
    refine congrArg (ix3 0 k ·) (Fin.ext ?_)
    simp at *
    omega

theorem ref_nq : val_main_v31 (F := Ideal) X G = normed X G := by
  funext i
  pointwise [val_main_v31, ref12]

theorem ref_nkv : val_main_v32 (F := Ideal) X K = normed X K := by
  funext i
  pointwise [val_main_v32, ref15]

end

end Cert.QkvIdeal.QkvValue

end

end
-- ==== Proof.MixerMath.lean ====
module

public import Idealize.ShloMosaic.Lib.Pointwise
public import proofs.«01_k».proof.Proof.GateMath

/-! The mathematics of the mixer's forward call, over the extended reals and with plain row and column numbers: the norm,
    the projection in, the activation, the gate over blocks of 128 positions, the projection out and the residual. -/

@[expose] public section

noncomputable section

namespace Cert.MixerMath

open Idealize.ShloMosaic
open Cert.GateMath (cT)

/-- An entry of a row divided by the row's root mean square. -/
def nrm (f : ℕ → EReal) (k : ℕ) : EReal :=
  f k * Ideal.rsqrt (Ideal.div (∑ j : Fin 1024, f j * f j) (Ideal.ofBits .f32 0x44800000#32) + Ideal.ofBits .f32 0x358637BD#32)

/-- The activation. -/
def gel (x : EReal) : EReal :=
  x * (((1 / 2 : ℝ) : EReal) * (1 + Ideal.tanh ((cT : EReal) * x * (1 + ((8943 / 200000 : ℝ) : EReal) * (x * x)))))

theorem cT_pos : 0 < cT := by
  unfold cT
  simp [Ideal.ofBits, Ideal.ieee, ← EReal.coe_mul]

/-- The activation written with the half in front and the cube inside is the same, at the infinities too. -/
theorem gel_eq (x : EReal) : ((1 / 2 : ℝ) : EReal) * x
    * (1 + Ideal.tanh ((cT : EReal) * (x + ((8943 / 200000 : ℝ) : EReal) * (x * x * x)))) = gel x := by
  have hc := cT_pos
  have hk : (0 : ℝ) < 8943 / 200000 := by norm_num
  have hh : (0 : ℝ) < 1 / 2 := by norm_num
  unfold gel
  induction x with
  | bot =>
    rw [EReal.bot_mul_bot, EReal.top_mul_bot, EReal.coe_mul_bot_of_pos hk, EReal.coe_mul_top_of_pos hk, EReal.coe_mul_bot_of_pos hh,
      EReal.bot_add, EReal.coe_mul_bot_of_pos hc, show (1 : EReal) + ⊤ = ⊤ from EReal.coe_add_top 1, EReal.bot_mul_top, Ideal.tanh_bot,
      show (1 : EReal) + -1 = 0 from by rw [show (-1 : EReal) = ((-1 : ℝ) : EReal) from rfl, show (1 : EReal) = ((1 : ℝ) : EReal) from rfl, ← EReal.coe_add]; norm_num]
    simp
  | top =>
    rw [EReal.top_mul_top, EReal.top_mul_top, EReal.coe_mul_top_of_pos hk, EReal.coe_mul_top_of_pos hh,
      EReal.top_add_top, EReal.coe_mul_top_of_pos hc, show (1 : EReal) + ⊤ = ⊤ from EReal.coe_add_top 1, EReal.top_mul_top, Ideal.tanh_top,
      show (1 : EReal) + 1 = ((2 : ℝ) : EReal) from by rw [show (1 : EReal) = ((1 : ℝ) : EReal) from rfl, ← EReal.coe_add]; norm_num,
      ← EReal.coe_mul, EReal.top_mul_coe_of_pos (by norm_num), EReal.top_mul_coe_of_pos (by norm_num)]
  | coe x =>
    simp only [show (1 : EReal) = ((1 : ℝ) : EReal) from rfl, ← EReal.coe_mul, ← EReal.coe_add, Ideal.tanh_coe]
    rw [show cT * (x + 8943 / 200000 * (x * x * x)) = cT * x * (1 + 8943 / 200000 * (x * x)) by ring]
    congr 1
    ring

section

variable (H : ℕ → ℕ → EReal) (A : ℕ → ℕ → EReal) (g gv : ℕ → EReal) (W : ℕ → ℕ → ℕ → EReal) (b : ℕ → ℕ → EReal) (O : ℕ → ℕ → EReal)

/-- The normalised input by the norm's gain. -/
def nn (r k : ℕ) : EReal := nrm (H r) k * g k

/-- The projection in. -/
def zz (r c : ℕ) : EReal := ∑ k : Fin 1024, nn H g r k * A k c

/-- The gate's multiplicand: the activated left half. -/
def uu (r c : ℕ) : EReal := gel (zz H A g r c)

/-- The activated right half, normalised and by the gate's gain. -/
def vn (r c : ℕ) : EReal := nrm (fun k => gel (zz H A g r (1024 + k))) c * gv c

/-- The mixed values: each block of 128 positions through its group's masked weights, plus the bias. -/
def ss (r c : ℕ) : EReal := (∑ j : Fin 128, (if j.val / 64 ≤ r % 128 / 64 then W (c / 128) (r % 128) j else 0) * vn H A g gv (128 * (r / 128) + j) c)
  + b (c / 128) (r % 128)

/-- The gated values. -/
def ga (r c : ℕ) : EReal := uu H A g r c * ss H A g gv W b r c

/-- The projection out, added to the input. -/
def oo (r c : ℕ) : EReal := H r c + ∑ k : Fin 1024, ga H A g gv W b r k * O k c

/-- The rows from a block's first row on. -/
def sh (p : ℕ) (H : ℕ → ℕ → EReal) (r k : ℕ) : EReal := H (256 * p + r) k

theorem nn_sh (p r k : ℕ) : nn (sh p H) g r k = nn H g (256 * p + r) k := rfl

theorem zz_sh (p r k : ℕ) : zz (sh p H) A g r k = zz H A g (256 * p + r) k := rfl

theorem ga_sh (p r k : ℕ) : ga (sh p H) A g gv W b r k = ga H A g gv W b (256 * p + r) k := by
  unfold ga ss
  rw [show (256 * p + r) % 128 = r % 128 by omega, show 128 * ((256 * p + r) / 128) = 256 * p + 128 * (r / 128) by omega]
  simp only [Nat.add_assoc]
  rfl

theorem oo_sh (p r k : ℕ) : oo (sh p H) A g gv W b O r k = oo H A g gv W b O (256 * p + r) k := by
  unfold oo
  simp only [ga_sh]
  rfl

end

/-- A vector's entries by plain numbers. -/
theorem nat1 {n : ℕ} (x : (⟨1, ![n]⟩ : Shape).Idx → EReal) : ∃ f : ℕ → EReal, ∀ i, x i = f (i 0).val :=
  ⟨fun a => if h : a < n then x (ix1 ⟨a, h⟩) else 0, fun i => by
    dsimp only
    rw [dif_pos (show (i 0).val < n from (i 0).isLt)]
    exact congrArg x (funext fun a => match a with | ⟨0, _⟩ => rfl)⟩

/-- A matrix's entries by plain numbers. -/
theorem nat2 {n k : ℕ} (x : (⟨2, ![n, k]⟩ : Shape).Idx → EReal) : ∃ f : ℕ → ℕ → EReal, ∀ i, x i = f (i 0).val (i 1).val :=
  ⟨fun a b => if h : a < n ∧ b < k then x (ix2 ⟨a, h.1⟩ ⟨b, h.2⟩) else 0, fun i => by
    dsimp only
    rw [dif_pos ⟨(i 0).isLt, (i 1).isLt⟩]
    exact congrArg x (eq_ix2 i)⟩

/-- A stack of matrices' entries by plain numbers. -/
theorem nat3 {n k l : ℕ} (x : (⟨3, ![n, k, l]⟩ : Shape).Idx → EReal) : ∃ f : ℕ → ℕ → ℕ → EReal, ∀ i, x i = f (i 0).val (i 1).val (i 2).val :=
  ⟨fun a b d => if h : a < n ∧ b < k ∧ d < l then x (ix3 ⟨a, h.1⟩ ⟨b, h.2.1⟩ ⟨d, h.2.2⟩) else 0, fun i => by
    dsimp only
    rw [dif_pos ⟨(i 0).isLt, (i 1).isLt, (i 2).isLt⟩]
    exact congrArg x (eq_ix3 i)⟩

/-- The entries of a matrix of one row. -/
theorem row1 {k : ℕ} (x : (⟨2, ![1, k]⟩ : Shape).Idx → EReal) : ∃ f : ℕ → EReal, ∀ i, x i = f (i 1).val := by
  obtain ⟨f, hf⟩ := nat2 x
  exact ⟨f 0, fun i => (hf i).trans (by rw [show (i 0).val = 0 from Nat.lt_one_iff.mp (i 0).isLt])⟩

/-- The entries of a stack of one matrix. -/
theorem row2 {k l : ℕ} (x : (⟨3, ![1, k, l]⟩ : Shape).Idx → EReal) : ∃ f : ℕ → ℕ → EReal, ∀ i, x i = f (i 1).val (i 2).val := by
  obtain ⟨f, hf⟩ := nat3 x
  exact ⟨f 0, fun i => (hf i).trans (by rw [show (i 0).val = 0 from Nat.lt_one_iff.mp (i 0).isLt])⟩

end Cert.MixerMath

end

end
-- ==== Proof.MixerTile.lean ====
module

public import proofs.«01_k».proof.Proof.Gen.MixerAIdeal.Skeleton
public import proofs.«01_k».proof.Proof.MixerMath
public import proofs.«01_k».proof.Proof.GateTile
public import Idealize.ShloMosaic.Lib.Pipeline.ValueKit
public import Idealize.ShloMosaic.Lib.Pipeline.ReadBack
public import Idealize.ShloMosaic.Lib.Pointwise

/-! What one grid point of the mixer's forward kernel computes: its values as the functions of `MixerMath`. -/

@[expose] public section

set_option maxRecDepth 16384
set_option maxHeartbeats 1600000

noncomputable section

namespace Cert.MixerAIdeal.MixerTile

open Cert.MixerAIdeal Cert.MixerAIdeal.Gen Cert.MixerMath Idealize.ShloMosaic Idealize.ShloMosaic.TcCoe Idealize.SL.Sem
open Cert.GateMath (cT_eq half_eq one_eq)
open Cert.GateIdeal.GateTile (mask_of whole_idx)

variable (H : ℕ → ℕ → EReal) (A : ℕ → ℕ → EReal) (g gv : ℕ → EReal) (W : ℕ → ℕ → ℕ → EReal) (b : ℕ → ℕ → EReal) (O : ℕ → ℕ → EReal)

abbrev B0 : Vec Ideal S256x1024 .f32 := fun i => H (i 0).val (i 1).val
abbrev B1 : Vec Ideal S1x1024x2048 .bf16 := fun i => A (i 1).val (i 2).val
abbrev B2 : Vec Ideal S1x1024 .f32 := fun i => g (i 1).val
abbrev B4 : Vec Ideal S8x128x128 .f32 := fun i => W (i 0).val (i 1).val (i 2).val
abbrev B5 : Vec Ideal S128x1024 .f32 := fun i => b ((i 1).val / 128) (i 0).val
abbrev B6 : Vec Ideal S1x1024x1024 .bf16 := fun i => O (i 1).val (i 2).val

theorem named_cubic : (Named.named κ "gelu_cubic" (1027024659#32 : BitVec (FTy.bits .f32)) : Ideal .f32) = ((8943 / 200000 : ℝ) : EReal) := by rfl

theorem pay2_eq : k0_pay2 (F := Ideal) (B0 H) (B2 g) = fun i => nn H g (i 0).val (i 1).val := by
  funext i
  pointwise [k0_pay2]
  rfl

theorem pay3_eq : k0_pay3 (F := Ideal) (B0 H) (B2 g) (B1 A) = fun i => zz H A g (i 0).val (i 1).val := by
  funext i
  pointwise [k0_pay3, pay2_eq]
  rfl

theorem pay4_eq : k0_pay4 (F := Ideal) (B0 H) (B2 g) (B1 A) = fun i => gel (zz H A g (i 0).val (i 1).val) := by
  funext i
  pointwise [k0_pay4, pay3_eq]
  rw [named_cubic, cT_eq, half_eq]
  rfl

theorem pay5_eq : k0_pay5 (F := Ideal) (fun i => gel (zz H A g (i 0).val (i 1).val)) = fun i => uu H A g (i 0).val (i 1).val := by
  funext i
  pointwise [k0_pay5]
  rfl

theorem pay6_eq : k0_pay6 (F := Ideal) (fun i => gel (zz H A g (i 0).val (i 1).val)) (B2 gv) = fun i => vn H A g gv (i 0).val (i 1).val := by
  funext i
  pointwise [k0_pay6]
  rfl

theorem B5_at (a : Fin 128) (k : ℕ) (hk : k < 1024) : B5 b (ix2 a ⟨k, hk⟩) = b (k / 128) a.val := rfl

/-- One block's gated values. -/
theorem ga_piece (M : IVec S128x128 1)
    (hM : ∀ (a c : Fin 128) (x y : EReal), Scalar.select (M (ix2 a c)) x y = if c.val / 64 ≤ a.val / 64 then x else y)
    (r0 c0 : ℕ) (hr : r0 % 128 = 0) (hc : c0 % 128 = 0) (X3 : Vec Ideal S1x128x128 .f32)
    (hW : ∀ a c, X3 (ix3 0 a c) = W (c0 / 128) a.val c.val)
    (X4 : Vec Ideal S128x128 .f32) (hb : ∀ a c, X4 (ix2 a c) = b (c0 / 128) a.val)
    (U V : FVec Ideal S256x1024 .f32) (hU : U = fun i => uu H A g (i 0).val (i 1).val) (hV : V = fun i => vn H A g gv (i 0).val (i 1).val)
    (h1 h2 h3 h4 h5 h6 h7) (x : S128x128.Idx) :
    (truncf .bf16 (mulf (F := Ideal) (extractStridedSlice S128x128 ![r0, c0] U h1)
      (addf (matmul (F := Ideal) dot_S128x128_S128x128_S128x128_1_0_0_1_n_n none
        (truncf .bf16 (select M (shapeCast S128x128 X3 h2) (broadcast S128x128 (Scalar.ofBits .f32 0#32))) h3)
        (truncf .bf16 (extractStridedSlice S128x128 ![r0, c0] V h4) h5)
        (constant S128x128 .f32 0#32)) (shapeCast S128x128 X4 h6))) h7) x
      = ga H A g gv W b (r0 + (x 0).val) (c0 + (x 1).val) := by
  subst hU hV
  idx_vars x
  pointwise [hM, hW, hb]
  unfold ga ss
  rw [show (c0 + x1.val) / 128 = c0 / 128 by omega, show (r0 + x0.val) % 128 = x0.val by omega,
    show 128 * ((r0 + x0.val) / 128) = r0 by omega]

/-- The kernel's mask. -/
abbrev mk : IVec S128x128 1 := k0_pay10 k0_pay7 (iota Kind.tc S128x128 32 [1] iota_S128x128_d1_w32) (64#32) k0_pay8 k0_pay9

theorem mk_at (a c : Fin 128) (x y : EReal) : Scalar.select (mk (ix2 a c)) x y = if c.val / 64 ≤ a.val / 64 then x else y :=
  mask_of iota_S128x128_d0_w32 iota_S128x128_d1_w32 natLt_1_32 rfl a c x y

end Cert.MixerAIdeal.MixerTile

end

end
-- ==== Proof.MixerOut.lean ====
module

public import proofs.«01_k».proof.Proof.Gen.MixerAIdeal.Value
public import proofs.«01_k».proof.Proof.MixerTile
public import Idealize.ShloMosaic.Lib.Pipeline.ValueKit
public import Idealize.ShloMosaic.Lib.Pipeline.ReadBack
public import Idealize.ShloMosaic.Lib.Pointwise

/-! What one grid point of the mixer's forward kernel stores: four blocks, each a function of `MixerMath`. -/

@[expose] public section

set_option maxRecDepth 16384
set_option maxHeartbeats 1600000

noncomputable section

namespace Cert.MixerAIdeal.MixerOut

open Cert.MixerAIdeal Cert.MixerAIdeal.Gen Cert.MixerMath Idealize.ShloMosaic Idealize.ShloMosaic.TcCoe Idealize.SL.Sem
open Cert.MixerAIdeal.MixerTile
open Cert.GateIdeal.GateTile (whole_idx)

variable (H : ℕ → ℕ → EReal) (A : ℕ → ℕ → EReal) (g gv : ℕ → EReal) (W : ℕ → ℕ → ℕ → EReal) (b : ℕ → ℕ → EReal) (O : ℕ → ℕ → EReal)

variable (m : (ℓ : Loc nD τ sig) → Buf (Elt Ideal) ℓ) (c : Dev nD) (t : Fin cfg0.N)
  (H0 : iblk m c 0 t = B0 H) (H1 : iblk m c 1 t = B1 A) (H2 : iblk m c 2 t = B2 g) (H3 : iblk m c 3 t = B2 gv) (H4 : iblk m c 4 t = B4 W)
  (H5 : iblk m c 5 t = B5 b) (H6 : iblk m c 6 t = B6 O)

include H0 H2 in
/-- The normalised rows a point stores. -/
theorem out10 (i) : (outsAt0 m c t).2.2.2 i = nn H g (i 0).val (i 1).val := by
  unfold outsAt0
  frame_out
  rw [H0, H2, pay2_eq]

include H0 H1 H2 in
/-- The projections in that a point stores. -/
theorem out8 (i) : (outsAt0 m c t).2.1 i = zz H A g (i 0).val (i 1).val := by
  unfold outsAt0
  frame_out
  rw [H0, H1, H2, pay3_eq]

include H0 H1 H2 H3 H4 H5 in
/-- The gated values a point stores. -/
theorem out9 (i) : (outsAt0 m c t).2.2.1 i = ga H A g gv W b (i 0).val (i 1).val := by
  unfold outsAt0
  frame_out
  rw [H0, H1, H2, H3, H4, H5, pay4_eq, pay5_eq, pay6_eq]
  clear H0 H1 H2 H3 H4 H5
  simp only [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
  generalize hk : k0_pay10 _ _ _ _ _ = M
  have hM : ∀ (a c : Fin 128) (x y : EReal), Scalar.select (M (ix2 a c)) x y = if c.val / 64 ≤ a.val / 64 then x else y :=
    fun a c x y => by rw [← hk]; exact mk_at a c x y
  clear hk
  generalize hU : (fun i : S256x1024.Idx => uu H A g (i 0).val (i 1).val) = U
  generalize hV : (fun i : S256x1024.Idx => vn H A g gv (i 0).val (i 1).val) = V
  canon_tiles x h
  all_goals
    refine (ga_piece H A g gv W b M hM _ _ (by decide) (by decide) _ (fun a e => ?_) _ (fun a e => ?_) U V hU.symm hV.symm _ _ _ _ _ _ _ x).trans ?_
    · pointwise
      rfl
    · pointwise
      exact (B5_at b a _ _).trans (congrArg (fun q => b q a.val) (by omega))
    simp only [h0, h1, zero_add]

include H0 H1 H2 H3 H4 H5 H6 in
/-- The result rows a point stores. -/
theorem out7 (i) : (outsAt0 m c t).1 i = oo H A g gv W b O (i 0).val (i 1).val := by
  have h9 := out9 H A g gv W b m c t H0 H1 H2 H3 H4 H5
  unfold outsAt0 at h9 ⊢
  frame_out at h9
  frame_out
  generalize hS : View.readCov (Val := Elt Ideal) _ _ _ = S
  have hR : S = fun i => ga H A g gv W b (i 0).val (i 1).val := by
    rw [← hS]
    funext y
    rw [View.readCov_eq_canon']
    exact (h9 _).trans (by rw [whole_idx])
  clear hS h9
  rw [H0, H6, hR]
  pointwise [k0_pay1, k0_pay41]
  rfl

end Cert.MixerAIdeal.MixerOut

end

end
-- ==== Proof.MixerAValue.lean ====
module

public import proofs.«01_k».proof.Proof.Gen.MixerAIdeal.Value
public import proofs.«01_k».proof.Proof.MixerOut
public import Idealize.ShloMosaic.Lib.Pipeline.ValueKit
public import Idealize.ShloMosaic.Lib.Pointwise
public import Idealize.ShloMosaic.Lib.Claim

/-! What the mixer's forward call leaves in its four result arrays: the functions of `MixerMath` of the arguments' entries. -/

@[expose] public section

set_option maxRecDepth 16384

noncomputable section

namespace Cert.MixerAIdeal.MixerAValue

open Cert.MixerAIdeal Cert.MixerAIdeal.Gen Cert.MixerMath Cert.MixerAIdeal.MixerTile Cert.MixerAIdeal.MixerOut
  Idealize.ShloMosaic Idealize.ShloMosaic.TcCoe Idealize.SL.Sem

/-- Where each window's block lies at a point. -/
theorem idx : ∀ t : Fin cfg0.N, win0_0.index t = ![t.val, 0] ∧ win0_1.index t = ![0, 0, 0] ∧ win0_2.index t = ![0, 0]
    ∧ win0_3.index t = ![0, 0] ∧ win0_4.index t = ![0, 0, 0] ∧ win0_5.index t = ![0, 0] ∧ win0_6.index t = ![0, 0, 0]
    ∧ win0_7.index t = ![t.val, 0] ∧ win0_8.index t = ![t.val, 0] ∧ win0_9.index t = ![t.val, 0] ∧ win0_10.index t = ![t.val, 0] :=
  (by decide +kernel : ∀ t : Fin grid0.N, _)

variable (m : (ℓ : Loc nD τ sig) → Buf (Elt Ideal) ℓ) (c : Dev nD)
variable (H : ℕ → ℕ → EReal) (A : ℕ → ℕ → EReal) (g gv : ℕ → EReal) (W : ℕ → ℕ → ℕ → EReal) (b : ℕ → ℕ → EReal) (O : ℕ → ℕ → EReal)
  (E0 : ∀ i : S4096x1024.Idx, m ((c : Thread nD τ).loc main_arg0) i = H (i 0).val (i 1).val)
  (E1 : ∀ i : S1x1024x2048.Idx, m ((c : Thread nD τ).loc main_arg1) i = A (i 1).val (i 2).val)
  (E2 : ∀ i : S1024.Idx, m ((c : Thread nD τ).loc main_arg2) i = g (i 0).val)
  (E3 : ∀ i : S1x1024.Idx, m ((c : Thread nD τ).loc main_arg3) i = gv (i 1).val)
  (E4 : ∀ i : S8x128x128.Idx, m ((c : Thread nD τ).loc main_arg4) i = W (i 0).val (i 1).val (i 2).val)
  (E5 : ∀ i : S8x128.Idx, m ((c : Thread nD τ).loc main_arg5) i = b (i 0).val (i 1).val)
  (E6 : ∀ i : S1x1024x1024.Idx, m ((c : Thread nD τ).loc main_arg6) i = O (i 1).val (i 2).val)

include E0 in
/-- The input's block at a point. -/
theorem blk0 (t : Fin cfg0.N) : iblk m c 0 t = B0 (sh t.val H) := by
  funext y
  blk_simp [iblk, V]
  refine (E0 _).trans ?_
  unfold B0 sh
  blk_simp [idx t]
  rw [mul_comm]

include E1 in
/-- The weights in at a point. -/
theorem blk1 (t : Fin cfg0.N) : iblk m c 1 t = B1 A := by
  funext y
  blk_simp [iblk, V]
  refine (E1 _).trans ?_
  unfold B1
  blk_simp [idx t]

include E2 in
/-- The norm's gain at a point. -/
theorem blk2 (t : Fin cfg0.N) : iblk m c 2 t = B2 g := by
  funext y
  blk_simp [iblk]
  entry_read
  generalize hy : ((View.whole main_v3).slice (win0_2.rect t)).emb y = z
  have h1 : (z 1).val = (y 1).val := by rw [← hy]; blk_simp [idx t]
  unfold B2
  rw [← h1]
  clear hy h1
  pointwise
  exact E2 _

include E3 in
/-- The gate's gain at a point. -/
theorem blk3 (t : Fin cfg0.N) : iblk m c 3 t = B2 gv := by
  funext y
  blk_simp [iblk, V]
  refine (E3 _).trans ?_
  unfold B2
  blk_simp [idx t]

include E4 in
/-- The mixing weights at a point. -/
theorem blk4 (t : Fin cfg0.N) : iblk m c 4 t = B4 W := by
  funext y
  blk_simp [iblk, V]
  refine (E4 _).trans ?_
  unfold B4
  blk_simp [idx t]

include E5 in
/-- The mixing biases at a point. -/
theorem blk5 (t : Fin cfg0.N) : iblk m c 5 t = B5 b := by
  funext y
  blk_simp [iblk]
  entry_read
  generalize hy : ((View.whole main_v2).slice (win0_5.rect t)).emb y = z
  have h0 : (z 0).val = (y 0).val := by rw [← hy]; blk_simp [idx t]
  have h1 : (z 1).val = (y 1).val := by rw [← hy]; blk_simp [idx t]
  unfold B5
  rw [← h0, ← h1]
  clear hy h0 h1
  pointwise
  exact E5 _

include E6 in
/-- The weights out at a point. -/
theorem blk6 (t : Fin cfg0.N) : iblk m c 6 t = B6 O := by
  funext y
  blk_simp [iblk, V]
  refine (E6 _).trans ?_
  unfold B6
  blk_simp [idx t]

include E0 E1 E2 E3 E4 E5 E6 in
/-- The result rows after the run. -/
theorem final7 : (dats m 0 c).arrAt 7 cfg0.N = fun i : S4096x1024.Idx => oo H A g gv W b O (i 0).val (i 1).val := by
  refine (dats m 0 c).arrAt_eq_of_covers 7 _ (by decide +kernel) fun t hf y => ?_
  blk_simp
  rw [after0_7, out7 (sh t.val H) A g gv W b O m c t (blk0 m c H E0 t) (blk1 m c A E1 t) (blk2 m c g E2 t) (blk3 m c gv E3 t) (blk4 m c W E4 t)
    (blk5 m c b E5 t) (blk6 m c O E6 t), oo_sh]
  blk_simp [idx t]
  rw [mul_comm]

include E0 E1 E2 in
/-- The projections in after the run. -/
theorem final8 : (dats m 0 c).arrAt 8 cfg0.N = fun i : S4096x2048.Idx => zz H A g (i 0).val (i 1).val := by
  refine (dats m 0 c).arrAt_eq_of_covers 8 _ (by decide +kernel) fun t hf y => ?_
  blk_simp
  rw [after0_8, out8 (sh t.val H) A g m c t (blk0 m c H E0 t) (blk1 m c A E1 t) (blk2 m c g E2 t), zz_sh]
  blk_simp [idx t]
  rw [mul_comm]

include E0 E1 E2 E3 E4 E5 in
/-- The gated values after the run. -/
theorem final9 : (dats m 0 c).arrAt 9 cfg0.N = fun i : S4096x1024.Idx => ga H A g gv W b (i 0).val (i 1).val := by
  refine (dats m 0 c).arrAt_eq_of_covers 9 _ (by decide +kernel) fun t hf y => ?_
  blk_simp
  rw [after0_9, out9 (sh t.val H) A g gv W b m c t (blk0 m c H E0 t) (blk1 m c A E1 t) (blk2 m c g E2 t) (blk3 m c gv E3 t) (blk4 m c W E4 t)
    (blk5 m c b E5 t), ga_sh]
  blk_simp [idx t]
  rw [mul_comm]

include E0 E2 in
/-- The normalised rows after the run. -/
theorem final10 : (dats m 0 c).arrAt 10 cfg0.N = fun i : S4096x1024.Idx => nn H g (i 0).val (i 1).val := by
  refine (dats m 0 c).arrAt_eq_of_covers 10 _ (by decide +kernel) fun t hf y => ?_
  blk_simp
  rw [after0_10, out10 (sh t.val H) g m c t (blk0 m c H E0 t) (blk2 m c g E2 t), nn_sh]
  blk_simp [idx t]
  rw [mul_comm]

end Cert.MixerAIdeal.MixerAValue

end

end
-- ==== Proof.AdamMath.lean ====
module

public import Idealize.ShloMosaic.Lib.Pipeline.ValueKit
public import Idealize.ShloMosaic.Lib.Pointwise

/-! One step of AdamW on one entry: the new first and second moment and the change of the weight, from the weight, its
    gradient and the two old moments. The factors are the float words of 0.9, 0.1, 0.999, 0.001, 1 - 0.9^10, 1 - 0.999^10,
    1e-8, 0.01 and -0.001. -/

@[expose] public section

noncomputable section

namespace Cert.AdamMath

open Idealize.ShloMosaic

/-- The value of a float word. -/
abbrev lit (w : BitVec 32) : Ideal .f32 := FloatOps.ofBits .f32 w

/-- The new first moment. -/
def mean (g m : Ideal .f32) : Ideal .f32 := lit 0x3F666666#32 * m + lit 0x3DCCCCCD#32 * g

/-- The new second moment. -/
def square (g v : Ideal .f32) : Ideal .f32 := lit 0x3F7FBE77#32 * v + lit 0x3A83126F#32 * (g * g)

/-- The change of the weight: the corrected first moment over the root of the corrected second one, and the decay. -/
def delta (w g m v : Ideal .f32) : Ideal .f32 :=
  lit 0xBA83126F#32 * (FloatOps.divf (FloatOps.divf (mean g m) (lit 0x3F26BD02#32))
      (FloatOps.sqrt (FloatOps.divf (square g v) (lit 0x3C231ACC#32)) + lit 0x322BCC77#32)
    + lit 0x3C23D70A#32 * w)

end Cert.AdamMath

end
-- ==== Proof.AdamWideValue.lean ====
module

public import proofs.«01_k».proof.Proof.Gen.AdamWideIdeal.Value
public import proofs.«01_k».proof.Proof.Gen.AdamWideRefIdeal.Run
public import proofs.«01_k».proof.Proof.Gen.AdamWideRefIdeal.Read
public import proofs.«01_k».proof.Proof.AdamMath
public import Idealize.ShloMosaic.Lib.Pipeline.ValueKit
public import Idealize.ShloMosaic.Lib.Pointwise
public import Idealize.ShloMosaic.Lib.Claim

/-! The optimiser's step on the ConvFFNs' input weights: what the call leaves in its three result arrays is the step of every entry, and so are
    the reference's terms. -/

@[expose] public section

set_option maxRecDepth 16384

noncomputable section

namespace Cert.AdamWideIdeal.Adam

open Cert.AdamWideIdeal Cert.AdamWideIdeal.Gen Cert.AdamMath Idealize.ShloMosaic Idealize.ShloMosaic.TcCoe Idealize.SL.Sem

/-- An array of the weights' shape. -/
abbrev Arr := FVec Ideal S2048x1408 .f32

/-- Every window's block at a point is the same block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The weights, their gradient and the old moments. -/
abbrev W : Arr := m ((c : Thread nD τ).loc main_arg0)
abbrev G : Arr := m ((c : Thread nD τ).loc main_arg1)
abbrev M : Arr := m ((c : Thread nD τ).loc main_arg2)
abbrev Q : Arr := m ((c : Thread nD τ).loc main_arg3)

/-- The three result arrays after the run. -/
theorem final4 : (dats m 0 c).arrAt 4 cfg0.N = (fun i => delta (W m c i) (G m c i) (M m c i) (Q m c i) : Arr) := by
  refine (dats m 0 c).arrAt_eq_of_covers 4 _ (by decide +kernel) fun t _ y => ?_
  blk_simp
  rw [after0_4]
  frame_out
  pointwise [k0_pay3, k0_pay1, k0_pay2, delta, mean, square, lit]
  blk_point [iblk, V, idx t]

theorem final5 : (dats m 0 c).arrAt 5 cfg0.N = (fun i => mean (G m c i) (M m c i) : Arr) := by
  refine (dats m 0 c).arrAt_eq_of_covers 5 _ (by decide +kernel) fun t _ y => ?_
  blk_simp
  rw [after0_5]
  frame_out
  pointwise [k0_pay1, mean, lit]
  blk_point [iblk, V, idx t]

theorem final6 : (dats m 0 c).arrAt 6 cfg0.N = (fun i => square (G m c i) (Q m c i) : Arr) := by
  refine (dats m 0 c).arrAt_eq_of_covers 6 _ (by decide +kernel) fun t _ y => ?_
  blk_simp
  rw [after0_6]
  frame_out
  pointwise [k0_pay2, square, lit]
  blk_point [iblk, V, idx t]

/-- The reference's terms, entry by entry. -/
theorem ref (w g m v : Arr) : Cert.AdamWideRefIdeal.Read.val_main_v23 (F := Ideal) w g m v = (fun i => delta (w i) (g i) (m i) (v i))
    ∧ Cert.AdamWideRefIdeal.Read.val_main_v4 (F := Ideal) g m = (fun i => mean (g i) (m i))
    ∧ Cert.AdamWideRefIdeal.Read.val_main_v10 (F := Ideal) g v = (fun i => square (g i) (v i)) := ⟨rfl, rfl, rfl⟩

end Cert.AdamWideIdeal.Adam

end
-- ==== Proof.AdamDownValue.lean ====
module

public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.AdamMath
public import Idealize.ShloMosaic.Lib.Pipeline.ValueKit
public import Idealize.ShloMosaic.Lib.Pointwise
public import Idealize.ShloMosaic.Lib.Claim

/-! The optimiser's step on the ConvFFNs' output weights: what the call leaves in its three result arrays is the step of every entry, and so are
    the reference's terms. -/

@[expose] public section

set_option maxRecDepth 16384

noncomputable section

namespace Cert.AdamDownIdeal.Adam

open Cert.AdamDownIdeal Cert.AdamDownIdeal.Gen Cert.AdamMath Idealize.ShloMosaic Idealize.ShloMosaic.TcCoe Idealize.SL.Sem

/-- An array of the weights' shape. -/
abbrev Arr := FVec Ideal S1408x1024 .f32

/-- Every window's block at a point is the same block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The weights, their gradient and the old moments. -/
abbrev W : Arr := m ((c : Thread nD τ).loc main_arg0)
abbrev G : Arr := m ((c : Thread nD τ).loc main_arg1)
abbrev M : Arr := m ((c : Thread nD τ).loc main_arg2)
abbrev Q : Arr := m ((c : Thread nD τ).loc main_arg3)

/-- The three result arrays after the run. -/
theorem final4 : (dats m 0 c).arrAt 4 cfg0.N = (fun i => delta (W m c i) (G m c i) (M m c i) (Q m c i) : Arr) := by
  refine (dats m 0 c).arrAt_eq_of_covers 4 _ (by decide +kernel) fun t _ y => ?_
  blk_simp
  rw [after0_4]
  frame_out
  pointwise [k0_pay3, k0_pay1, k0_pay2, delta, mean, square, lit]
  blk_point [iblk, V, idx t]

theorem final5 : (dats m 0 c).arrAt 5 cfg0.N = (fun i => mean (G m c i) (M m c i) : Arr) := by
  refine (dats m 0 c).arrAt_eq_of_covers 5 _ (by decide +kernel) fun t _ y => ?_
  blk_simp
  rw [after0_5]
  frame_out
  pointwise [k0_pay1, mean, lit]
  blk_point [iblk, V, idx t]

theorem final6 : (dats m 0 c).arrAt 6 cfg0.N = (fun i => square (G m c i) (Q m c i) : Arr) := by
  refine (dats m 0 c).arrAt_eq_of_covers 6 _ (by decide +kernel) fun t _ y => ?_
  blk_simp
  rw [after0_6]
  frame_out
  pointwise [k0_pay2, square, lit]
  blk_point [iblk, V, idx t]

/-- The reference's terms, entry by entry. -/
theorem ref (w g m v : Arr) : Cert.AdamDownRefIdeal.Read.val_main_v23 (F := Ideal) w g m v = (fun i => delta (w i) (g i) (m i) (v i))
    ∧ Cert.AdamDownRefIdeal.Read.val_main_v4 (F := Ideal) g m = (fun i => mean (g i) (m i))
    ∧ Cert.AdamDownRefIdeal.Read.val_main_v10 (F := Ideal) g v = (fun i => square (g i) (v i)) := ⟨rfl, rfl, rfl⟩

end Cert.AdamDownIdeal.Adam

end
-- ==== Proof.AdamInValue.lean ====
module

public import proofs.«01_k».proof.Proof.Gen.AdamInIdeal.Value
public import proofs.«01_k».proof.Proof.Gen.AdamInRefIdeal.Run
public import proofs.«01_k».proof.Proof.Gen.AdamInRefIdeal.Read
public import proofs.«01_k».proof.Proof.AdamMath
public import Idealize.ShloMosaic.Lib.Pipeline.ValueKit
public import Idealize.ShloMosaic.Lib.Pointwise
public import Idealize.ShloMosaic.Lib.Claim

/-! The optimiser's step on the first mixer's input weights, or the keys' and values': what the call leaves in its three result arrays is the step of every entry, and so are
    the reference's terms. -/

@[expose] public section

set_option maxRecDepth 16384

noncomputable section

namespace Cert.AdamInIdeal.Adam

open Cert.AdamInIdeal Cert.AdamInIdeal.Gen Cert.AdamMath Idealize.ShloMosaic Idealize.ShloMosaic.TcCoe Idealize.SL.Sem

/-- An array of the weights' shape. -/
abbrev Arr := FVec Ideal S1024x512 .f32

/-- Every window's block at a point is the same block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The weights, their gradient and the old moments. -/
abbrev W : Arr := m ((c : Thread nD τ).loc main_arg0)
abbrev G : Arr := m ((c : Thread nD τ).loc main_arg1)
abbrev M : Arr := m ((c : Thread nD τ).loc main_arg2)
abbrev Q : Arr := m ((c : Thread nD τ).loc main_arg3)

/-- The three result arrays after the run. -/
theorem final4 : (dats m 0 c).arrAt 4 cfg0.N = (fun i => delta (W m c i) (G m c i) (M m c i) (Q m c i) : Arr) := by
  refine (dats m 0 c).arrAt_eq_of_covers 4 _ (by decide +kernel) fun t _ y => ?_
  blk_simp
  rw [after0_4]
  frame_out
  pointwise [k0_pay3, k0_pay1, k0_pay2, delta, mean, square, lit]
  blk_point [iblk, V, idx t]

theorem final5 : (dats m 0 c).arrAt 5 cfg0.N = (fun i => mean (G m c i) (M m c i) : Arr) := by
  refine (dats m 0 c).arrAt_eq_of_covers 5 _ (by decide +kernel) fun t _ y => ?_
  blk_simp
  rw [after0_5]
  frame_out
  pointwise [k0_pay1, mean, lit]
  blk_point [iblk, V, idx t]

theorem final6 : (dats m 0 c).arrAt 6 cfg0.N = (fun i => square (G m c i) (Q m c i) : Arr) := by
  refine (dats m 0 c).arrAt_eq_of_covers 6 _ (by decide +kernel) fun t _ y => ?_
  blk_simp
  rw [after0_6]
  frame_out
  pointwise [k0_pay2, square, lit]
  blk_point [iblk, V, idx t]

/-- The reference's terms, entry by entry. -/
theorem ref (w g m v : Arr) : Cert.AdamInRefIdeal.Read.val_main_v23 (F := Ideal) w g m v = (fun i => delta (w i) (g i) (m i) (v i))
    ∧ Cert.AdamInRefIdeal.Read.val_main_v4 (F := Ideal) g m = (fun i => mean (g i) (m i))
    ∧ Cert.AdamInRefIdeal.Read.val_main_v10 (F := Ideal) g v = (fun i => square (g i) (v i)) := ⟨rfl, rfl, rfl⟩

end Cert.AdamInIdeal.Adam

end
-- ==== Proof.AdamOutValue.lean ====
module

public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.AdamMath
public import Idealize.ShloMosaic.Lib.Pipeline.ValueKit
public import Idealize.ShloMosaic.Lib.Pointwise
public import Idealize.ShloMosaic.Lib.Claim

/-! The optimiser's step on a mixer's output weights, or the queries': what the call leaves in its three result arrays is the step of every entry, and so are
    the reference's terms. -/

@[expose] public section

set_option maxRecDepth 16384

noncomputable section

namespace Cert.AdamOutIdeal.Adam

open Cert.AdamOutIdeal Cert.AdamOutIdeal.Gen Cert.AdamMath Idealize.ShloMosaic Idealize.ShloMosaic.TcCoe Idealize.SL.Sem

/-- An array of the weights' shape. -/
abbrev Arr := FVec Ideal S256x1024 .f32

/-- Every window's block at a point is the same block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The weights, their gradient and the old moments. -/
abbrev W : Arr := m ((c : Thread nD τ).loc main_arg0)
abbrev G : Arr := m ((c : Thread nD τ).loc main_arg1)
abbrev M : Arr := m ((c : Thread nD τ).loc main_arg2)
abbrev Q : Arr := m ((c : Thread nD τ).loc main_arg3)

/-- The three result arrays after the run. -/
theorem final4 : (dats m 0 c).arrAt 4 cfg0.N = (fun i => delta (W m c i) (G m c i) (M m c i) (Q m c i) : Arr) := by
  refine (dats m 0 c).arrAt_eq_of_covers 4 _ (by decide +kernel) fun t _ y => ?_
  blk_simp
  rw [after0_4]
  frame_out
  pointwise [k0_pay3, k0_pay1, k0_pay2, delta, mean, square, lit]
  blk_point [iblk, V, idx t]

theorem final5 : (dats m 0 c).arrAt 5 cfg0.N = (fun i => mean (G m c i) (M m c i) : Arr) := by
  refine (dats m 0 c).arrAt_eq_of_covers 5 _ (by decide +kernel) fun t _ y => ?_
  blk_simp
  rw [after0_5]
  frame_out
  pointwise [k0_pay1, mean, lit]
  blk_point [iblk, V, idx t]

theorem final6 : (dats m 0 c).arrAt 6 cfg0.N = (fun i => square (G m c i) (Q m c i) : Arr) := by
  refine (dats m 0 c).arrAt_eq_of_covers 6 _ (by decide +kernel) fun t _ y => ?_
  blk_simp
  rw [after0_6]
  frame_out
  pointwise [k0_pay2, square, lit]
  blk_point [iblk, V, idx t]

/-- The reference's terms, entry by entry. -/
theorem ref (w g m v : Arr) : Cert.AdamOutRefIdeal.Read.val_main_v23 (F := Ideal) w g m v = (fun i => delta (w i) (g i) (m i) (v i))
    ∧ Cert.AdamOutRefIdeal.Read.val_main_v4 (F := Ideal) g m = (fun i => mean (g i) (m i))
    ∧ Cert.AdamOutRefIdeal.Read.val_main_v10 (F := Ideal) g v = (fun i => square (g i) (v i)) := ⟨rfl, rfl, rfl⟩

end Cert.AdamOutIdeal.Adam

end
-- ==== Proof.AdamSmallValue.lean ====
module

public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.AdamMath
public import Idealize.ShloMosaic.Lib.Pipeline.ValueKit
public import Idealize.ShloMosaic.Lib.Pointwise
public import Idealize.ShloMosaic.Lib.Claim

/-! The optimiser's step on all the small weights, packed in rows of 128: what the call leaves in its three result arrays is the step of every entry, and so are
    the reference's terms. -/

@[expose] public section

set_option maxRecDepth 16384

noncomputable section

namespace Cert.AdamSmallIdeal.Adam

open Cert.AdamSmallIdeal Cert.AdamSmallIdeal.Gen Cert.AdamMath Idealize.ShloMosaic Idealize.ShloMosaic.TcCoe Idealize.SL.Sem

/-- An array of the weights' shape. -/
abbrev Arr := FVec Ideal S1280x128 .f32

/-- Every window's block at a point is the same block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The weights, their gradient and the old moments. -/
abbrev W : Arr := m ((c : Thread nD τ).loc main_arg0)
abbrev G : Arr := m ((c : Thread nD τ).loc main_arg1)
abbrev M : Arr := m ((c : Thread nD τ).loc main_arg2)
abbrev Q : Arr := m ((c : Thread nD τ).loc main_arg3)

/-- The three result arrays after the run. -/
theorem final4 : (dats m 0 c).arrAt 4 cfg0.N = (fun i => delta (W m c i) (G m c i) (M m c i) (Q m c i) : Arr) := by
  refine (dats m 0 c).arrAt_eq_of_covers 4 _ (by decide +kernel) fun t _ y => ?_
  blk_simp
  rw [after0_4]
  frame_out
  pointwise [k0_pay3, k0_pay1, k0_pay2, delta, mean, square, lit]
  blk_point [iblk, V, idx t]

theorem final5 : (dats m 0 c).arrAt 5 cfg0.N = (fun i => mean (G m c i) (M m c i) : Arr) := by
  refine (dats m 0 c).arrAt_eq_of_covers 5 _ (by decide +kernel) fun t _ y => ?_
  blk_simp
  rw [after0_5]
  frame_out
  pointwise [k0_pay1, mean, lit]
  blk_point [iblk, V, idx t]

theorem final6 : (dats m 0 c).arrAt 6 cfg0.N = (fun i => square (G m c i) (Q m c i) : Arr) := by
  refine (dats m 0 c).arrAt_eq_of_covers 6 _ (by decide +kernel) fun t _ y => ?_
  blk_simp
  rw [after0_6]
  frame_out
  pointwise [k0_pay2, square, lit]
  blk_point [iblk, V, idx t]

/-- The reference's terms, entry by entry. -/
theorem ref (w g m v : Arr) : Cert.AdamSmallRefIdeal.Read.val_main_v23 (F := Ideal) w g m v = (fun i => delta (w i) (g i) (m i) (v i))
    ∧ Cert.AdamSmallRefIdeal.Read.val_main_v4 (F := Ideal) g m = (fun i => mean (g i) (m i))
    ∧ Cert.AdamSmallRefIdeal.Read.val_main_v10 (F := Ideal) g v = (fun i => square (g i) (v i)) := ⟨rfl, rfl, rfl⟩

end Cert.AdamSmallIdeal.Adam

end
-- ==== Proof.MixerRefRead.lean ====
module

public import proofs.«01_k».proof.Proof.Gen.MixerARefIdeal.Read
public import proofs.«01_k».proof.Proof.MixerMath
public import Idealize.ShloMosaic.Lib.WordCmp
public import Idealize.ShloMosaic.Lib.Pointwise

/-! The mixer's forward reference: each of its four results is the function of `MixerMath`. -/

@[expose] public section

set_option maxRecDepth 16384

noncomputable section

namespace Cert.MixerARefIdeal.RefValue

open Cert.MixerARefIdeal Cert.MixerARefIdeal.Gen Cert.MixerARefIdeal.Read Cert.MixerMath Idealize.ShloMosaic Idealize.ShloMosaic.TcCoe
  Idealize.SL.Sem Idealize.ShloMosaic.StableHlo
open Cert.GateMath (div_real cT_eq half_eq one_eq)

variable (H : ℕ → ℕ → EReal) (A : ℕ → ℕ → EReal) (g gv : ℕ → EReal) (W : ℕ → ℕ → ℕ → EReal) (b : ℕ → ℕ → EReal) (O : ℕ → ℕ → EReal)

/-- The input. -/
abbrev X0 : (⟨S4096x1024, .f32⟩ : BufTy).Contents (Elt Ideal) := fun i => H (i 0).val (i 1).val
/-- The weights in. -/
abbrev X1 : (⟨S1x1024x2048, .bf16⟩ : BufTy).Contents (Elt Ideal) := fun i => A (i 1).val (i 2).val
/-- The norm's gain. -/
abbrev X2 : (⟨S1024, .f32⟩ : BufTy).Contents (Elt Ideal) := fun i => g (i 0).val
/-- The gate's gain. -/
abbrev X3 : (⟨S1x1024, .f32⟩ : BufTy).Contents (Elt Ideal) := fun i => gv (i 1).val
/-- The mixing weights. -/
abbrev X4 : (⟨S8x128x128, .f32⟩ : BufTy).Contents (Elt Ideal) := fun i => W (i 0).val (i 1).val (i 2).val
/-- The mixing bias. -/
abbrev X5 : (⟨S8x128, .f32⟩ : BufTy).Contents (Elt Ideal) := fun i => b (i 0).val (i 1).val
/-- The weights out. -/
abbrev X6 : (⟨S1x1024x1024, .bf16⟩ : BufTy).Contents (Elt Ideal) := fun i => O (i 1).val (i 2).val

theorem nn_read (i : S4096x1024.Idx) : val_main_v12 (F := Ideal) (X0 H) (X2 g) i = nn H g (i 0).val (i 1).val := by
  simp only [val_main_v12_apply, val_main_v11_apply, val_main_v10_apply, val_main_v9_apply, val_main_v8_apply, val_main_v7_apply, val_main_v6_apply,
    val_main_v5_apply, val_main_cst_1_apply, val_main_v4_apply, val_main_v3_apply, val_main_cst_0_apply, val_main_v2_apply, val_main_v1_apply,
    val_main_cst_apply, val_main_v0_apply, Ideal.mulf_def, Ideal.addf_def, Ideal.hostDivf_def, Ideal.hostUnary_rsqrt_def, Ideal.ofBits_def,
    Ideal.ofBits_zero_f32, zero_add]
  rfl

theorem zz_read (i : S4096x2048.Idx) : val_main_v15 (F := Ideal) (X0 H) (X1 A) (X2 g) i = zz H A g (i 0).val (i 1).val := by
  simp only [val_main_v15_apply, nn_read, val_main_v14_apply, val_main_v13_apply, Ideal.extf_def]
  have h1 : (i 1).val < 2048 := (i 1).isLt
  refine Finset.sum_congr rfl fun k _ => congrArg₂ (· * ·) rfl (congrArg₂ A ?_ ?_)
  · show (k.val * 2048 + (i 1).val) / 2048 % 1024 = k.val
    omega
  · show (k.val * 2048 + (i 1).val) % 2048 = (i 1).val
    omega

theorem cubic (i : S_.Idx) : val_main_v16 (F := Ideal) i = ((8943 / 200000 : ℝ) : EReal) := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [val_main_v16_apply, val_main_cst_2_apply, val_main_cst_3_apply, Ideal.hostDivf_def, Ideal.ofBits_def, Ideal.ofBits_def, h1, h2,
    div_real _ _ (by norm_num)]
  norm_num

theorem gel_read (i : S4096x2048.Idx) : val_main_v29 (F := Ideal) (X0 H) (X1 A) (X2 g) i = gel (zz H A g (i 0).val (i 1).val) := by
  simp only [val_main_v29_apply, val_main_v28_apply, val_main_v27_apply, val_main_cst_6_apply, val_main_v26_apply, val_main_v25_apply,
    val_main_v24_apply, val_main_cst_5_apply, val_main_v23_apply, val_main_v22_apply, val_main_v21_apply, val_main_v20_apply, val_main_v19_apply,
    val_main_v18_apply, val_main_v17_apply, val_main_cst_4_apply, cubic, zz_read, Ideal.hostUnary_tanh_def, Ideal.mulf_def, Ideal.addf_def,
    Ideal.ofBits_def, cT_eq, half_eq, Ideal.ofBits_one_f32]
  exact gel_eq _

theorem vn_read (i : S4096x1024.Idx) :
    val_main_v43 (F := Ideal) (X0 H) (X1 A) (X2 g) (X3 gv) i = vn H A g gv (i 0).val (i 1).val := by
  have e : ∀ j : S4096x1024.Idx, val_main_v31 (F := Ideal) (X0 H) (X1 A) (X2 g) j = gel (zz H A g (j 0).val (1024 + (j 1).val)) := fun j => by
    rw [val_main_v31_apply, gel_read]
  simp only [val_main_v43_apply, val_main_v42_apply, val_main_v41_apply, val_main_v40_apply, val_main_v39_apply, val_main_v38_apply,
    val_main_v37_apply, val_main_cst_9_apply, val_main_v36_apply, val_main_v35_apply, val_main_cst_8_apply, val_main_v34_apply, val_main_v33_apply,
    val_main_cst_7_apply, val_main_v32_apply, e, Ideal.mulf_def, Ideal.addf_def, Ideal.hostDivf_def, Ideal.hostUnary_rsqrt_def, Ideal.ofBits_def,
    Ideal.ofBits_zero_f32, zero_add]
  rfl

/-- The chunk numbers of the positions of a block. -/
theorem chunk_read : ∀ k : Fin 128, val_main_v45 (F := Ideal) (fun a => match a with | ⟨0, _⟩ => k) = BitVec.ofNat 32 (k.val / 64) := by
  decide +kernel

theorem mask_read (i : S8x128x128.Idx) :
    val_main_call1_v1 (F := Ideal) i = BitVec.ofBool (decide ((i 2).val / 64 ≤ (i 1).val / 64)) := by
  have e : ∀ (j : S128.Idx), val_main_v45 (F := Ideal) j = BitVec.ofNat 32 ((j 0).val / 64) := fun j => by
    rw [← chunk_read (j 0)]
    exact congrArg _ (funext fun a => match a with | ⟨0, _⟩ => rfl)
  have h : ∀ p q : Fin 2, IntOp.cmpi .sge (BitVec.ofNat 32 p.val) (BitVec.ofNat 32 q.val) = BitVec.ofBool (decide (q.val ≤ p.val)) := by
    decide
  have h1 : (i 1).val < 128 := (i 1).isLt
  have h2 : (i 2).val < 128 := (i 2).isLt
  simp only [val_main_call1_v1_apply, val_main_v51_apply, val_main_v50_apply, val_main_v49_apply, val_main_v48_apply, val_main_v47_apply,
    val_main_v46_apply, e]
  exact h ⟨(i 1).val / 64, by omega⟩ ⟨(i 2).val / 64, by omega⟩

theorem w_read (i : S8x128x128.Idx) :
    val_main_v52 (F := Ideal) (X4 W) i = if (i 2).val / 64 ≤ (i 1).val / 64 then W (i 0).val (i 1).val (i 2).val else 0 := by
  have h0 : FloatOps.sitofp (F := Ideal) .f32 0#32 = (0 : EReal) := by
    show (((0#32 : BitVec 32).toInt : ℝ) : EReal) = _
    simp
  rw [val_main_v52_apply, mask_read, WordCmp.select_ofBool, val_main_call1_v2_apply, val_main_call1_v0_apply]
  by_cases h : (i 2).val / 64 ≤ (i 1).val / 64
  · rw [if_pos (decide_eq_true h), if_pos h]
  · rw [if_neg (by simpa using h), if_neg h]; exact h0

theorem ss_read (i : S4096x1024.Idx) :
    val_main_v60 (F := Ideal) (X0 H) (X1 A) (X2 g) (X3 gv) (X4 W) (X5 b) i = ss H A g gv W b (i 0).val (i 1).val := by
  have h0 : (i 0).val < 4096 := (i 0).isLt
  have h1 : (i 1).val < 1024 := (i 1).isLt
  simp only [val_main_v60_apply, val_main_v59_apply, val_main_v58_apply, val_main_v57_apply, val_main_v56_apply, val_main_v55_apply,
    val_main_v54_apply, val_main_v53_apply, vn_read, w_read, Ideal.addf_def]
  unfold ss
  have e0 : ((i 0).val * 1024 + (i 1).val) / 1024 % 128 = (i 0).val % 128 := by omega
  have e1 : ((i 0).val * 1024 + (i 1).val) / 128 % 8 = (i 1).val / 128 := by omega
  refine congrArg₂ (· + ·) (Finset.sum_congr rfl fun k _ => (mul_comm _ _).trans (congrArg₂ (· * ·) ?_ (congrArg₂ (vn H A g gv) ?_ ?_)))
    (congrArg₂ b e1 e0)
  · rw [← e0, ← e1]
  · have hk := k.isLt
    show (((((i 0).val * 1024 + (i 1).val) / 131072 * 128 + k.val) * 8 + ((i 0).val * 1024 + (i 1).val) / 128 % 8) * 128
      + ((i 0).val * 1024 + (i 1).val) % 128) / 1024 = 128 * ((i 0).val / 128) + k.val
    omega
  · have hk := k.isLt
    show (((((i 0).val * 1024 + (i 1).val) / 131072 * 128 + k.val) * 8 + ((i 0).val * 1024 + (i 1).val) / 128 % 8) * 128
      + ((i 0).val * 1024 + (i 1).val) % 128) % 1024 = (i 1).val
    omega

theorem ga_read (i : S4096x1024.Idx) :
    val_main_v61 (F := Ideal) (X0 H) (X1 A) (X2 g) (X3 gv) (X4 W) (X5 b) i = ga H A g gv W b (i 0).val (i 1).val := by
  simp only [val_main_v61_apply, val_main_v30_apply, ss_read, gel_read, Ideal.mulf_def]
  unfold ga uu
  congr 3 <;> simp [idx_main_v30]

theorem oo_read (i : S4096x1024.Idx) :
    val_main_v65 (F := Ideal) (X0 H) (X1 A) (X2 g) (X3 gv) (X4 W) (X5 b) (X6 O) i = oo H A g gv W b O (i 0).val (i 1).val := by
  simp only [val_main_v65_apply, val_main_v64_apply, val_main_v63_apply, val_main_v62_apply, ga_read, Ideal.addf_def, Ideal.extf_def]
  have h1 : (i 1).val < 1024 := (i 1).isLt
  refine congrArg₂ (· + ·) rfl (Finset.sum_congr rfl fun k _ => congrArg₂ (· * ·) rfl (congrArg₂ O ?_ ?_))
  · show (k.val * 1024 + (i 1).val) / 1024 % 1024 = k.val
    omega
  · show (k.val * 1024 + (i 1).val) % 1024 = (i 1).val
    omega

end Cert.MixerARefIdeal.RefValue

end

end
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.QDw
public import proofs.«01_k».proof.Proof.Gen.QDw.Skeleton
public import proofs.«01_k».proof.Proof.Gen.QDw.Launch
public import proofs.«01_k».proof.Proof.Gen.QDw.Points
public import proofs.«01_k».proof.Proof.Gen.QDw.Frame
public import proofs.«01_k».proof.Proof.Gen.QDwIdeal
public import proofs.«01_k».proof.Proof.Gen.QDwIdeal.Skeleton
public import proofs.«01_k».proof.Proof.Gen.QDwIdeal.Launch
public import proofs.«01_k».proof.Proof.Gen.QDwIdeal.Points
public import proofs.«01_k».proof.Proof.Gen.QDwIdeal.Frame
public import proofs.«01_k».proof.Proof.Gen.QDwIdeal.Value
public import proofs.«01_k».proof.Proof.Gen.QDwRefIdeal
public import proofs.«01_k».proof.Proof.Gen.QDwRefIdeal.Run
public import proofs.«01_k».proof.Proof.Gen.QDwRefIdeal.Read
public import proofs.«01_k».proof.Proof.Gen.KvDw
public import proofs.«01_k».proof.Proof.Gen.KvDw.Skeleton
public import proofs.«01_k».proof.Proof.Gen.KvDw.Launch
public import proofs.«01_k».proof.Proof.Gen.KvDw.Points
public import proofs.«01_k».proof.Proof.Gen.KvDw.Frame
public import proofs.«01_k».proof.Proof.Gen.KvDwIdeal
public import proofs.«01_k».proof.Proof.Gen.KvDwIdeal.Skeleton
public import proofs.«01_k».proof.Proof.Gen.KvDwIdeal.Launch
public import proofs.«01_k».proof.Proof.Gen.KvDwIdeal.Points
public import proofs.«01_k».proof.Proof.Gen.KvDwIdeal.Frame
public import proofs.«01_k».proof.Proof.Gen.KvDwIdeal.Value
public import proofs.«01_k».proof.Proof.Gen.KvDwRefIdeal
public import proofs.«01_k».proof.Proof.Gen.KvDwRefIdeal.Run
public import proofs.«01_k».proof.Proof.Gen.KvDwRefIdeal.Read
public import proofs.«01_k».proof.Proof.Gen.MixerDw
public import proofs.«01_k».proof.Proof.Gen.MixerDw.Skeleton
public import proofs.«01_k».proof.Proof.Gen.MixerDw.Launch
public import proofs.«01_k».proof.Proof.Gen.MixerDw.Points
public import proofs.«01_k».proof.Proof.Gen.MixerDw.Frame
public import proofs.«01_k».proof.Proof.Gen.MixerDwIdeal
public import proofs.«01_k».proof.Proof.Gen.MixerDwIdeal.Skeleton
public import proofs.«01_k».proof.Proof.Gen.MixerDwIdeal.Launch
public import proofs.«01_k».proof.Proof.Gen.MixerDwIdeal.Points
public import proofs.«01_k».proof.Proof.Gen.MixerDwIdeal.Frame
public import proofs.«01_k».proof.Proof.Gen.MixerDwIdeal.Value
public import proofs.«01_k».proof.Proof.Gen.MixerDwRefIdeal
public import proofs.«01_k».proof.Proof.Gen.MixerDwRefIdeal.Run
public import proofs.«01_k».proof.Proof.Gen.MixerDwRefIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutIdeal.Value
public import proofs.«01_k».proof.Proof.Gen.AttnOutRefIdeal
public import proofs.«01_k».proof.Proof.Gen.AttnOutRefIdeal.Run
public import proofs.«01_k».proof.Proof.Gen.AttnOutRefIdeal.Read
public import proofs.«01_k».proof.Proof.Gen.MixerDx
public import proofs.«01_k».proof.Proof.Gen.MixerDx.Skeleton
public import proofs.«01_k».proof.Proof.Gen.MixerDx.Launch
public import proofs.«01_k».proof.Proof.Gen.MixerDx.Points
public import proofs.«01_k».proof.Proof.Gen.MixerDx.Frame
public import proofs.«01_k».proof.Proof.Gen.MixerDxIdeal
public import proofs.«01_k».proof.Proof.Gen.MixerDxIdeal.Skeleton
public import proofs.«01_k».proof.Proof.Gen.MixerDxIdeal.Launch
public import proofs.«01_k».proof.Proof.Gen.MixerDxIdeal.Points
public import proofs.«01_k».proof.Proof.Gen.MixerDxIdeal.Frame
public import proofs.«01_k».proof.Proof.Gen.MixerDxIdeal.Value
public import proofs.«01_k».proof.Proof.Gen.MixerDxRefIdeal
public import proofs.«01_k».proof.Proof.Gen.MixerDxRefIdeal.Run
public import proofs.«01_k».proof.Proof.Gen.MixerDxRefIdeal.Read
public import proofs.«01_k».proof.Proof.Gen.QkvDx
public import proofs.«01_k».proof.Proof.Gen.QkvDx.Skeleton
public import proofs.«01_k».proof.Proof.Gen.QkvDx.Launch
public import proofs.«01_k».proof.Proof.Gen.QkvDx.Points
public import proofs.«01_k».proof.Proof.Gen.QkvDx.Frame
public import proofs.«01_k».proof.Proof.Gen.QkvDxIdeal
public import proofs.«01_k».proof.Proof.Gen.QkvDxIdeal.Skeleton
public import proofs.«01_k».proof.Proof.Gen.QkvDxIdeal.Launch
public import proofs.«01_k».proof.Proof.Gen.QkvDxIdeal.Points
public import proofs.«01_k».proof.Proof.Gen.QkvDxIdeal.Frame
public import proofs.«01_k».proof.Proof.Gen.QkvDxIdeal.Value
public import proofs.«01_k».proof.Proof.Gen.QkvDxRefIdeal
public import proofs.«01_k».proof.Proof.Gen.QkvDxRefIdeal.Run
public import proofs.«01_k».proof.Proof.Gen.QkvDxRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.MixerA
public import proofs.«01_k».proof.Proof.Gen.MixerA.Skeleton
public import proofs.«01_k».proof.Proof.Gen.MixerA.Launch
public import proofs.«01_k».proof.Proof.Gen.MixerA.Points
public import proofs.«01_k».proof.Proof.Gen.MixerA.Frame
public import proofs.«01_k».proof.Proof.Gen.MixerAIdeal
public import proofs.«01_k».proof.Proof.Gen.MixerAIdeal.Skeleton
public import proofs.«01_k».proof.Proof.Gen.MixerAIdeal.Launch
public import proofs.«01_k».proof.Proof.Gen.MixerAIdeal.Points
public import proofs.«01_k».proof.Proof.Gen.MixerAIdeal.Frame
public import proofs.«01_k».proof.Proof.Gen.MixerAIdeal.Value
public import proofs.«01_k».proof.Proof.Gen.MixerARefIdeal
public import proofs.«01_k».proof.Proof.Gen.MixerARefIdeal.Run
public import proofs.«01_k».proof.Proof.Gen.MixerARefIdeal.Read
public import proofs.«01_k».proof.Proof.Gen.AdamWide
public import proofs.«01_k».proof.Proof.Gen.AdamWide.Skeleton
public import proofs.«01_k».proof.Proof.Gen.AdamWide.Launch
public import proofs.«01_k».proof.Proof.Gen.AdamWide.Points
public import proofs.«01_k».proof.Proof.Gen.AdamWide.Frame
public import proofs.«01_k».proof.Proof.Gen.AdamWideIdeal
public import proofs.«01_k».proof.Proof.Gen.AdamWideIdeal.Skeleton
public import proofs.«01_k».proof.Proof.Gen.AdamWideIdeal.Launch
public import proofs.«01_k».proof.Proof.Gen.AdamWideIdeal.Points
public import proofs.«01_k».proof.Proof.Gen.AdamWideIdeal.Frame
public import proofs.«01_k».proof.Proof.Gen.AdamWideIdeal.Value
public import proofs.«01_k».proof.Proof.Gen.AdamWideRefIdeal
public import proofs.«01_k».proof.Proof.Gen.AdamWideRefIdeal.Run
public import proofs.«01_k».proof.Proof.Gen.AdamWideRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasIdeal.Value
public import proofs.«01_k».proof.Proof.Gen.BiasRefIdeal
public import proofs.«01_k».proof.Proof.Gen.BiasRefIdeal.Run
public import proofs.«01_k».proof.Proof.Gen.BiasRefIdeal.Read
public import proofs.«01_k».proof.Proof.Gen.BiasReduce
public import proofs.«01_k».proof.Proof.Gen.BiasReduce.Skeleton
public import proofs.«01_k».proof.Proof.Gen.BiasReduce.Launch
public import proofs.«01_k».proof.Proof.Gen.BiasReduce.Points
public import proofs.«01_k».proof.Proof.Gen.BiasReduce.Frame
public import proofs.«01_k».proof.Proof.Gen.BiasReduceIdeal
public import proofs.«01_k».proof.Proof.Gen.BiasReduceIdeal.Skeleton
public import proofs.«01_k».proof.Proof.Gen.BiasReduceIdeal.Launch
public import proofs.«01_k».proof.Proof.Gen.BiasReduceIdeal.Points
public import proofs.«01_k».proof.Proof.Gen.BiasReduceIdeal.Frame
public import proofs.«01_k».proof.Proof.Gen.BiasReduceIdeal.Value
public import proofs.«01_k».proof.Proof.Gen.BiasReduceRefIdeal
public import proofs.«01_k».proof.Proof.Gen.BiasReduceRefIdeal.Run
public import proofs.«01_k».proof.Proof.Gen.BiasReduceRefIdeal.Read
public import proofs.«01_k».proof.Proof.AttnPre
public import proofs.«01_k».proof.Proof.AttnValue
public import proofs.«01_k».proof.Proof.AttnRefRead
public import proofs.«01_k».proof.Proof.BiasValue
public import proofs.«01_k».proof.Proof.BiasRefRead
public import proofs.«01_k».proof.Proof.BiasReduceValue
public import proofs.«01_k».proof.Proof.BiasReduceRefRead
public import proofs.«01_k».proof.Proof.BiasReducePre
public import proofs.«01_k».proof.Proof.GatePre
public import proofs.«01_k».proof.Proof.GateValue
public import proofs.«01_k».proof.Proof.GateRefRead
public import proofs.«01_k».proof.Proof.NormPre
public import proofs.«01_k».proof.Proof.InDwValue
public import proofs.«01_k».proof.Proof.DownDwValue
public import proofs.«01_k».proof.Proof.DownDxValue
public import proofs.«01_k».proof.Proof.InDxValue
public import proofs.«01_k».proof.Proof.OutDwValue
public import proofs.«01_k».proof.Proof.QDwValue
public import proofs.«01_k».proof.Proof.KvDwValue
public import proofs.«01_k».proof.Proof.MixerDwValue
public import proofs.«01_k».proof.Proof.OutDxValue
public import proofs.«01_k».proof.Proof.DownValue
public import proofs.«01_k».proof.Proof.AttnOutValue
public import proofs.«01_k».proof.Proof.MixerDxValue
public import proofs.«01_k».proof.Proof.QkvDxValue
public import proofs.«01_k».proof.Proof.QkvValue
public import proofs.«01_k».proof.Proof.InDxRefRead
public import proofs.«01_k».proof.Proof.MixerDxRefRead
public import proofs.«01_k».proof.Proof.QkvDxRefRead
public import proofs.«01_k».proof.Proof.MixerAValue
public import proofs.«01_k».proof.Proof.AdamWideValue
public import proofs.«01_k».proof.Proof.AdamDownValue
public import proofs.«01_k».proof.Proof.AdamInValue
public import proofs.«01_k».proof.Proof.AdamOutValue
public import proofs.«01_k».proof.Proof.AdamSmallValue
public import proofs.«01_k».proof.Proof.MixerRefRead
public import Idealize.ShloMosaic.Lib.Claim
public import Idealize.ShloMosaic.Adequacy
public import Idealize.ShloMosaic.Init

@[expose] public section

noncomputable section

namespace Cert.Proof

open Idealize.ShloMosaic Idealize.SL.Sem

/-- The side conditions of the precondition's operations. -/
theorem gateFacts : Cert.Pre_gate_finite.Facts := by
  constructor <;> decide

/-- The reference's four terms over the call's arguments are what the call leaves in its four result arrays. -/
theorem gateTie (m : (ℓ : Loc Cert.GateIdeal.nD Cert.GateIdeal.τ Cert.GateIdeal.sig) → Buf (Elt Ideal) ℓ)
    (hpre : Cert.Pre_GateIdeal_gate_finite (hPre_gate_finite := gateFacts) m) (c : Dev Cert.GateIdeal.nD)
    (x0 x1 x2 x3 x4)
    (e0 : x0 = m ((c.tc : Thread Cert.GateIdeal.nD Cert.GateIdeal.τ).loc Cert.GateIdeal.main_arg0))
    (e1 : x1 = m ((c.tc : Thread Cert.GateIdeal.nD Cert.GateIdeal.τ).loc Cert.GateIdeal.main_arg1))
    (e2 : x2 = m ((c.tc : Thread Cert.GateIdeal.nD Cert.GateIdeal.τ).loc Cert.GateIdeal.main_arg2))
    (e3 : x3 = m ((c.tc : Thread Cert.GateIdeal.nD Cert.GateIdeal.τ).loc Cert.GateIdeal.main_arg3))
    (e4 : x4 = m ((c.tc : Thread Cert.GateIdeal.nD Cert.GateIdeal.τ).loc Cert.GateIdeal.main_arg4)) :
    Cert.GateRefIdeal.Read.val_main_v104 (F := Ideal) x0 x1 x2 x3 x4 = (Cert.GateIdeal.Gen.dats m 0 c).arrAt 5 (Cert.GateIdeal.cfgs 0).N
    ∧ Cert.GateRefIdeal.Read.val_main_v71 (F := Ideal) x0 x1 x2 = (Cert.GateIdeal.Gen.dats m 0 c).arrAt 6 (Cert.GateIdeal.cfgs 0).N
    ∧ Cert.GateRefIdeal.Read.val_main_v65 (F := Ideal) x0 x1 = (Cert.GateIdeal.Gen.dats m 0 c).arrAt 7 (Cert.GateIdeal.cfgs 0).N
    ∧ Cert.GateRefIdeal.Read.val_main_v74 (F := Ideal) x0 x1 x3 = (Cert.GateIdeal.Gen.dats m 0 c).arrAt 8 (Cert.GateIdeal.cfgs 0).N := by
  have : Cert.Pre_gate_finite.Facts := gateFacts
  obtain ⟨h0, h1, h2, h3, h4⟩ := Cert.GatePre.real_args _ _ _ _ _ (hpre c)
  obtain ⟨Z, E0⟩ := Cert.GatePre.ext2 _ h0
  obtain ⟨D, E1⟩ := Cert.GatePre.ext2 _ h1
  obtain ⟨G, E2⟩ := Cert.GatePre.ext2 _ h2
  obtain ⟨W, E3⟩ := Cert.GatePre.ext3 _ h3
  obtain ⟨b, E4⟩ := Cert.GatePre.ext2 _ h4
  have E2 : ∀ i : Cert.GateIdeal.S1x1024.Idx, m ((c.tc : Thread Cert.GateIdeal.nD Cert.GateIdeal.τ).loc Cert.GateIdeal.main_arg2) i
      = ((G 0 (i 1).val : ℝ) : EReal) := fun i => by
    have h : (i 0).val = 0 := Nat.lt_one_iff.mp (i 0).isLt
    exact (E2 i).trans (by rw [h])
  obtain rfl : x0 = Cert.GateRefIdeal.RefValue.X0 Z := e0.trans (funext E0)
  obtain rfl : x1 = Cert.GateRefIdeal.RefValue.X1 D := e1.trans (funext E1)
  obtain rfl : x2 = Cert.GateRefIdeal.RefValue.X2 (G 0) := e2.trans (funext E2)
  obtain rfl : x3 = Cert.GateRefIdeal.RefValue.X3 W := e3.trans (funext E3)
  obtain rfl : x4 = Cert.GateRefIdeal.RefValue.X4 b := e4.trans (funext E4)
  refine ⟨Eq.trans ?_ (Cert.GateIdeal.GateValue.final5 m c Z D (G 0) W b E0 E1 E2 E3 E4).symm,
    Eq.trans ?_ (Cert.GateIdeal.GateValue.final6 m c Z D (G 0) E0 E1 E2).symm,
    Eq.trans ?_ (Cert.GateIdeal.GateValue.final7 m c Z D E0 E1).symm,
    Eq.trans ?_ (Cert.GateIdeal.GateValue.final8 m c Z D (G 0) W b E0 E1 E2 E3 E4).symm⟩
  · exact funext fun i => Cert.GateRefIdeal.RefValue.dz_read Z D (G 0) W b i
  · exact funext fun i => Cert.GateRefIdeal.RefValue.dws_read Z D (G 0) i
  · exact funext fun i => Cert.GateRefIdeal.RefValue.dbs_read Z D i
  · exact funext fun i => Cert.GateRefIdeal.RefValue.dgv_read Z D W i

/-- The results of the gate's backward call are the reference's. -/
theorem gateValue : Cert.algebraic_GateIdeal_GateRefIdeal_pre_gate_finite (hPre_gate_finite := gateFacts) := by
  pair_intro
  · run_from Cert.GateIdeal.Gen.run_main m g
  · run_from Cert.GateRefIdeal.Value.run m' g'
    · exact (Cert.GateRefIdeal.Read.val_main_v104_eq m' c).trans
        (gateTie m hpre c _ _ _ _ _ (hagree c).1 (hagree c).2.1 (hagree c).2.2.1 (hagree c).2.2.2.1 (hagree c).2.2.2.2).1
    · exact (Cert.GateRefIdeal.Read.val_main_v71_eq m' c).trans
        (gateTie m hpre c _ _ _ _ _ (hagree c).1 (hagree c).2.1 (hagree c).2.2.1 (hagree c).2.2.2.1 (hagree c).2.2.2.2).2.1
    · exact (Cert.GateRefIdeal.Read.val_main_v65_eq _ _).trans (gateTie m hpre c _ _ _ _ _ rfl rfl rfl rfl rfl).2.2.1
    · exact (Cert.GateRefIdeal.Read.val_main_v74_eq m' c).trans
        (gateTie m hpre c _ _ _ _ _ (hagree c).1 (hagree c).2.1 (hagree c).2.2.1 (hagree c).2.2.2.1 (hagree c).2.2.2.2).2.2.2

/-- The result of the gradient of the ConvFFN's up projection is the reference's. -/
theorem inDwValue : Cert.algebraic_InDwIdeal_InDwRefIdeal := by
  pair_intro
  · run_from Cert.InDwIdeal.Gen.run_main m g
  · run_from Cert.InDwRefIdeal.Value.run m' g'
    exact (Cert.InDwRefIdeal.Read.val_main_v13_eq _ _).trans ((Cert.InDwIdeal.InDwValue.ref _ _).trans (Cert.InDwIdeal.InDwValue.final m c).symm)

/-- The result of the gradient of the ConvFFN's down projection is the reference's. -/
theorem downDwValue : Cert.algebraic_DownDwIdeal_DownDwRefIdeal := by
  pair_intro
  · run_from Cert.DownDwIdeal.Gen.run_main m g
  · run_from Cert.DownDwRefIdeal.Value.run m' g'
    exact (Cert.DownDwRefIdeal.Read.val_main_v7_eq _ _).trans ((Cert.DownDwIdeal.DownDwValue.ref _ _).trans (Cert.DownDwIdeal.DownDwValue.final m c).symm)

/-- The result of the gradient through the ConvFFN's down projection is the reference's. -/
theorem downDxValue : Cert.algebraic_DownDxIdeal_DownDxRefIdeal := by
  pair_intro
  · run_from Cert.DownDxIdeal.Gen.run_main m g
  · run_from Cert.DownDxRefIdeal.Value.run m' g'
    exact (Cert.DownDxRefIdeal.Read.val_main_v5_eq _ _).trans ((Cert.DownDxIdeal.DownDxValue.ref _ _).trans (Cert.DownDxIdeal.DownDxValue.final m c).symm)

/-- The result of the gradient of an output projection is the reference's. -/
theorem outDwValue : Cert.algebraic_OutDwIdeal_OutDwRefIdeal := by
  pair_intro
  · run_from Cert.OutDwIdeal.Gen.run_main m g
  · run_from Cert.OutDwRefIdeal.Value.run m' g'
    exact (Cert.OutDwRefIdeal.Read.val_main_v7_eq _ _).trans ((Cert.OutDwIdeal.OutDwValue.ref _ _).trans (Cert.OutDwIdeal.OutDwValue.final m c).symm)

/-- The result of the gradient of the queries' projection is the reference's. -/
theorem qDwValue : Cert.algebraic_QDwIdeal_QDwRefIdeal := by
  pair_intro
  · run_from Cert.QDwIdeal.Gen.run_main m g
  · run_from Cert.QDwRefIdeal.Value.run m' g'
    exact (Cert.QDwRefIdeal.Read.val_main_v8_eq _ _).trans ((Cert.QDwIdeal.QDwValue.ref _ _).trans (Cert.QDwIdeal.QDwValue.final m c).symm)

/-- The result of the gradient of the keys' and values' projection is the reference's. -/
theorem kvDwValue : Cert.algebraic_KvDwIdeal_KvDwRefIdeal := by
  pair_intro
  · run_from Cert.KvDwIdeal.Gen.run_main m g
  · run_from Cert.KvDwRefIdeal.Value.run m' g'
    exact (Cert.KvDwRefIdeal.Read.val_main_v13_eq _ _).trans ((Cert.KvDwIdeal.KvDwValue.ref _ _).trans (Cert.KvDwIdeal.KvDwValue.final m c).symm)

/-- The result of the gradient of the mixer's input projection is the reference's. -/
theorem mixerDwValue : Cert.algebraic_MixerDwIdeal_MixerDwRefIdeal := by
  pair_intro
  · run_from Cert.MixerDwIdeal.Gen.run_main m g
  · run_from Cert.MixerDwRefIdeal.Value.run m' g'
    exact (Cert.MixerDwRefIdeal.Read.val_main_v8_eq _ _).trans ((Cert.MixerDwIdeal.MixerDwValue.ref _ _).trans (Cert.MixerDwIdeal.MixerDwValue.final m c).symm)

/-- The result of the gradient through an output projection is the reference's. -/
theorem outDxValue : Cert.algebraic_OutDxIdeal_OutDxRefIdeal := by
  pair_intro
  · run_from Cert.OutDxIdeal.Gen.run_main m g
  · run_from Cert.OutDxRefIdeal.Value.run m' g'
    exact (Cert.OutDxRefIdeal.Read.val_main_v5_eq _ _).trans ((Cert.OutDxIdeal.OutDxValue.ref _ _).trans (Cert.OutDxIdeal.OutDxValue.final m c).symm)

/-- The result of the ConvFFN's down projection is the reference's. -/
theorem downValue : Cert.algebraic_DownIdeal_DownRefIdeal := by
  pair_intro
  · run_from Cert.DownIdeal.Gen.run_main m g
  · run_from Cert.DownRefIdeal.Value.run m' g'
    exact (Cert.DownRefIdeal.Read.val_main_v4_eq _ _ _).trans ((Cert.DownIdeal.DownValue.ref _ _ _).trans (Cert.DownIdeal.DownValue.final m c).symm)

/-- The result of the attention's output projection is the reference's. -/
theorem attnOutValue : Cert.algebraic_AttnOutIdeal_AttnOutRefIdeal := by
  pair_intro
  · run_from Cert.AttnOutIdeal.Gen.run_main m g
  · run_from Cert.AttnOutRefIdeal.Value.run m' g'
    exact (Cert.AttnOutRefIdeal.Read.val_main_v4_eq _ _ _).trans ((Cert.AttnOutIdeal.AttnOutValue.ref _ _ _).trans (Cert.AttnOutIdeal.AttnOutValue.final m c).symm)

/-- The side conditions of the precondition's operations. -/
theorem inDxFacts : Cert.Pre_in_dx_finite.Facts := by
  constructor <;> decide

/-- The reference's terms over the call's arguments are what the call leaves in its result arrays. -/
theorem inDxTie (m : (ℓ : Loc Cert.InDxIdeal.nD Cert.InDxIdeal.τ Cert.InDxIdeal.sig) → Buf (Elt Ideal) ℓ)
    (hpre : Cert.Pre_InDxIdeal_in_dx_finite (hPre_in_dx_finite := inDxFacts) m) (c : Dev Cert.InDxIdeal.nD)
    (x0 x1 x2 x3 x4)
    (e0 : x0 = m ((c.tc : Thread Cert.InDxIdeal.nD Cert.InDxIdeal.τ).loc Cert.InDxIdeal.main_arg0))
    (e1 : x1 = m ((c.tc : Thread Cert.InDxIdeal.nD Cert.InDxIdeal.τ).loc Cert.InDxIdeal.main_arg1))
    (e2 : x2 = m ((c.tc : Thread Cert.InDxIdeal.nD Cert.InDxIdeal.τ).loc Cert.InDxIdeal.main_arg2))
    (e3 : x3 = m ((c.tc : Thread Cert.InDxIdeal.nD Cert.InDxIdeal.τ).loc Cert.InDxIdeal.main_arg3))
    (e4 : x4 = m ((c.tc : Thread Cert.InDxIdeal.nD Cert.InDxIdeal.τ).loc Cert.InDxIdeal.main_arg4)) :
    Cert.InDxRefIdeal.Read.val_main_v46 (F := Ideal) x0 x1 x2 x3 x4 = (Cert.InDxIdeal.Gen.dats m 0 c).arrAt 5 (Cert.InDxIdeal.cfgs 0).N
    ∧ Cert.InDxRefIdeal.Read.val_main_v47 (F := Ideal) x0 x1 x2 = (Cert.InDxIdeal.Gen.dats m 0 c).arrAt 6 (Cert.InDxIdeal.cfgs 0).N := by
  have : Cert.Pre_in_dx_finite.Facts := inDxFacts
  obtain ⟨h0, h1, h2, h3, h4⟩ := Cert.NormPre.in_dx _ _ _ _ _ (hpre c)
  obtain ⟨A, E0⟩ := Cert.GatePre.ext3 _ h0
  obtain ⟨W, E1⟩ := Cert.GatePre.ext3 _ h1
  obtain ⟨H, E2⟩ := Cert.GatePre.ext2 _ h2
  obtain ⟨g, E3⟩ := Cert.NormPre.ext1 _ h3
  obtain ⟨D, E4⟩ := Cert.GatePre.ext2 _ h4
  obtain rfl : x0 = Cert.InDxRefIdeal.RefValue.X0 A := e0.trans (funext E0)
  obtain rfl : x1 = Cert.InDxRefIdeal.RefValue.X1 W := e1.trans (funext E1)
  obtain rfl : x2 = Cert.InDxRefIdeal.RefValue.X2 H := e2.trans (funext E2)
  obtain rfl : x3 = Cert.InDxRefIdeal.RefValue.X3 g := e3.trans (funext E3)
  obtain rfl : x4 = Cert.InDxRefIdeal.RefValue.X4 D := e4.trans (funext E4)
  exact ⟨(funext fun i => Cert.InDxRefIdeal.RefValue.dx_read A W H g D i).trans (Cert.InDxIdeal.InDxValue.final5 A W H g D m c E0 E1 E2 E3 E4).symm,
    (funext fun i => Cert.InDxRefIdeal.RefValue.dg_read A W H i).trans (Cert.InDxIdeal.InDxValue.final6 A W H g D m c E0 E1 E2 E3 E4).symm⟩

/-- The results of the gradient through the ConvFFN's up projection and norm are the reference's. -/
theorem inDxValue : Cert.algebraic_InDxIdeal_InDxRefIdeal_pre_in_dx_finite (hPre_in_dx_finite := inDxFacts) := by
  pair_intro
  · run_from Cert.InDxIdeal.Gen.run_main m g
  · run_from Cert.InDxRefIdeal.Value.run m' g'
    · exact (Cert.InDxRefIdeal.Read.val_main_v46_eq m' c).trans
        (inDxTie m hpre c _ _ _ _ _ (hagree c).1 (hagree c).2.1 (hagree c).2.2.1 (hagree c).2.2.2.1 (hagree c).2.2.2.2).1
    · refine (Cert.InDxRefIdeal.Read.val_main_v47_eq _ _ _).trans
        (inDxTie m hpre c _ _ _ _ _ ?_ ?_ ?_ (hagree c).2.2.2.1 (hagree c).2.2.2.2).2
      all_goals first | rfl | exact (hagree c).1 | exact (hagree c).2.1 | exact (hagree c).2.2.1

/-- The side conditions of the precondition's operations. -/
theorem mixerDxFacts : Cert.Pre_mixer_dx_finite.Facts := by
  constructor <;> decide

/-- The reference's terms over the call's arguments are what the call leaves in its result arrays. -/
theorem mixerDxTie (m : (ℓ : Loc Cert.MixerDxIdeal.nD Cert.MixerDxIdeal.τ Cert.MixerDxIdeal.sig) → Buf (Elt Ideal) ℓ)
    (hpre : Cert.Pre_MixerDxIdeal_mixer_dx_finite (hPre_mixer_dx_finite := mixerDxFacts) m) (c : Dev Cert.MixerDxIdeal.nD)
    (x0 x1 x2 x3 x4)
    (e0 : x0 = m ((c.tc : Thread Cert.MixerDxIdeal.nD Cert.MixerDxIdeal.τ).loc Cert.MixerDxIdeal.main_arg0))
    (e1 : x1 = m ((c.tc : Thread Cert.MixerDxIdeal.nD Cert.MixerDxIdeal.τ).loc Cert.MixerDxIdeal.main_arg1))
    (e2 : x2 = m ((c.tc : Thread Cert.MixerDxIdeal.nD Cert.MixerDxIdeal.τ).loc Cert.MixerDxIdeal.main_arg2))
    (e3 : x3 = m ((c.tc : Thread Cert.MixerDxIdeal.nD Cert.MixerDxIdeal.τ).loc Cert.MixerDxIdeal.main_arg3))
    (e4 : x4 = m ((c.tc : Thread Cert.MixerDxIdeal.nD Cert.MixerDxIdeal.τ).loc Cert.MixerDxIdeal.main_arg4)) :
    Cert.MixerDxRefIdeal.Read.val_main_v41 (F := Ideal) x0 x1 x2 x3 x4 = (Cert.MixerDxIdeal.Gen.dats m 0 c).arrAt 5 (Cert.MixerDxIdeal.cfgs 0).N
    ∧ Cert.MixerDxRefIdeal.Read.val_main_v42 (F := Ideal) x0 x1 x2 = (Cert.MixerDxIdeal.Gen.dats m 0 c).arrAt 6 (Cert.MixerDxIdeal.cfgs 0).N := by
  have : Cert.Pre_mixer_dx_finite.Facts := mixerDxFacts
  obtain ⟨h0, h1, h2, h3, h4⟩ := Cert.NormPre.mixer_dx _ _ _ _ _ (hpre c)
  obtain ⟨A, E0⟩ := Cert.GatePre.ext2 _ h0
  obtain ⟨W, E1⟩ := Cert.GatePre.ext3 _ h1
  obtain ⟨H, E2⟩ := Cert.GatePre.ext2 _ h2
  obtain ⟨g, E3⟩ := Cert.NormPre.ext1 _ h3
  obtain ⟨D, E4⟩ := Cert.GatePre.ext2 _ h4
  obtain rfl : x0 = Cert.MixerDxRefIdeal.RefValue.X0 A := e0.trans (funext E0)
  obtain rfl : x1 = Cert.MixerDxRefIdeal.RefValue.X1 W := e1.trans (funext E1)
  obtain rfl : x2 = Cert.MixerDxRefIdeal.RefValue.X2 H := e2.trans (funext E2)
  obtain rfl : x3 = Cert.MixerDxRefIdeal.RefValue.X3 g := e3.trans (funext E3)
  obtain rfl : x4 = Cert.MixerDxRefIdeal.RefValue.X4 D := e4.trans (funext E4)
  exact ⟨(funext fun i => Cert.MixerDxRefIdeal.RefValue.dx_read A W H g D i).trans (Cert.MixerDxIdeal.MixerDxValue.final5 A W H g D m c E0 E1 E2 E3 E4).symm,
    (funext fun i => Cert.MixerDxRefIdeal.RefValue.dg_read A W H i).trans (Cert.MixerDxIdeal.MixerDxValue.final6 A W H g D m c E0 E1 E2 E3 E4).symm⟩

/-- The results of the gradient through the mixer's input projection and norm are the reference's. -/
theorem mixerDxValue : Cert.algebraic_MixerDxIdeal_MixerDxRefIdeal_pre_mixer_dx_finite (hPre_mixer_dx_finite := mixerDxFacts) := by
  pair_intro
  · run_from Cert.MixerDxIdeal.Gen.run_main m g
  · run_from Cert.MixerDxRefIdeal.Value.run m' g'
    · exact (Cert.MixerDxRefIdeal.Read.val_main_v41_eq m' c).trans
        (mixerDxTie m hpre c _ _ _ _ _ (hagree c).1 (hagree c).2.1 (hagree c).2.2.1 (hagree c).2.2.2.1 (hagree c).2.2.2.2).1
    · refine (Cert.MixerDxRefIdeal.Read.val_main_v42_eq _ _ _).trans
        (mixerDxTie m hpre c _ _ _ _ _ ?_ ?_ ?_ (hagree c).2.2.2.1 (hagree c).2.2.2.2).2
      all_goals first | rfl | exact (hagree c).1 | exact (hagree c).2.1 | exact (hagree c).2.2.1

/-- The side conditions of the precondition's operations. -/
theorem qkvDxFacts : Cert.Pre_qkv_dx_finite.Facts := by
  constructor <;> decide

/-- The reference's terms over the call's arguments are what the call leaves in its result arrays. -/
theorem qkvDxTie (m : (ℓ : Loc Cert.QkvDxIdeal.nD Cert.QkvDxIdeal.τ Cert.QkvDxIdeal.sig) → Buf (Elt Ideal) ℓ)
    (hpre : Cert.Pre_QkvDxIdeal_qkv_dx_finite (hPre_qkv_dx_finite := qkvDxFacts) m) (c : Dev Cert.QkvDxIdeal.nD)
    (x0 x1 x2 x3 x4 x5 x6 x7)
    (e0 : x0 = m ((c.tc : Thread Cert.QkvDxIdeal.nD Cert.QkvDxIdeal.τ).loc Cert.QkvDxIdeal.main_arg0))
    (e1 : x1 = m ((c.tc : Thread Cert.QkvDxIdeal.nD Cert.QkvDxIdeal.τ).loc Cert.QkvDxIdeal.main_arg1))
    (e2 : x2 = m ((c.tc : Thread Cert.QkvDxIdeal.nD Cert.QkvDxIdeal.τ).loc Cert.QkvDxIdeal.main_arg2))
    (e3 : x3 = m ((c.tc : Thread Cert.QkvDxIdeal.nD Cert.QkvDxIdeal.τ).loc Cert.QkvDxIdeal.main_arg3))
    (e4 : x4 = m ((c.tc : Thread Cert.QkvDxIdeal.nD Cert.QkvDxIdeal.τ).loc Cert.QkvDxIdeal.main_arg4))
    (e5 : x5 = m ((c.tc : Thread Cert.QkvDxIdeal.nD Cert.QkvDxIdeal.τ).loc Cert.QkvDxIdeal.main_arg5))
    (e6 : x6 = m ((c.tc : Thread Cert.QkvDxIdeal.nD Cert.QkvDxIdeal.τ).loc Cert.QkvDxIdeal.main_arg6))
    (e7 : x7 = m ((c.tc : Thread Cert.QkvDxIdeal.nD Cert.QkvDxIdeal.τ).loc Cert.QkvDxIdeal.main_arg7)) :
    Cert.QkvDxRefIdeal.Read.val_main_v61 (F := Ideal) x0 x1 x2 x3 x4 x5 x6 x7 = (Cert.QkvDxIdeal.Gen.dats m 0 c).arrAt 8 (Cert.QkvDxIdeal.cfgs 0).N
    ∧ Cert.QkvDxRefIdeal.Read.val_main_v62 (F := Ideal) x0 x1 x6 = (Cert.QkvDxIdeal.Gen.dats m 0 c).arrAt 9 (Cert.QkvDxIdeal.cfgs 0).N
    ∧ Cert.QkvDxRefIdeal.Read.val_main_v63 (F := Ideal) x3 x4 x6 = (Cert.QkvDxIdeal.Gen.dats m 0 c).arrAt 10 (Cert.QkvDxIdeal.cfgs 0).N := by
  have : Cert.Pre_qkv_dx_finite.Facts := qkvDxFacts
  obtain ⟨h0, h1, h2, h3, h4, h5, h6, h7⟩ := Cert.NormPre.qkv_dx _ _ _ _ _ _ _ _ (hpre c)
  obtain ⟨Q, E0⟩ := Cert.GatePre.ext2 _ h0
  obtain ⟨V, E1⟩ := Cert.GatePre.ext3 _ h1
  obtain ⟨f, E2⟩ := Cert.NormPre.ext1 _ h2
  obtain ⟨A, E3⟩ := Cert.GatePre.ext3 _ h3
  obtain ⟨W, E4⟩ := Cert.GatePre.ext3 _ h4
  obtain ⟨g, E5⟩ := Cert.NormPre.ext1 _ h5
  obtain ⟨H, E6⟩ := Cert.GatePre.ext2 _ h6
  obtain ⟨D, E7⟩ := Cert.GatePre.ext2 _ h7
  obtain rfl : x0 = Cert.QkvDxRefIdeal.RefValue.X0 Q := e0.trans (funext E0)
  obtain rfl : x1 = Cert.QkvDxRefIdeal.RefValue.X1 V := e1.trans (funext E1)
  obtain rfl : x2 = Cert.QkvDxRefIdeal.RefValue.X2 f := e2.trans (funext E2)
  obtain rfl : x3 = Cert.QkvDxRefIdeal.RefValue.X3 A := e3.trans (funext E3)
  obtain rfl : x4 = Cert.QkvDxRefIdeal.RefValue.X4 W := e4.trans (funext E4)
  obtain rfl : x5 = Cert.QkvDxRefIdeal.RefValue.X2 g := e5.trans (funext E5)
  obtain rfl : x6 = Cert.QkvDxRefIdeal.RefValue.X6 H := e6.trans (funext E6)
  obtain rfl : x7 = Cert.QkvDxRefIdeal.RefValue.X6 D := e7.trans (funext E7)
  exact ⟨(funext fun i => Cert.QkvDxRefIdeal.RefValue.dx_read A W V Q H D f g i).trans (Cert.QkvDxIdeal.QkvDxValue.final8 A W V Q H D f g m c E0 E1 E2 E3 E4 E5 E6 E7).symm,
    (funext fun i => Cert.QkvDxRefIdeal.RefValue.dgq_read V Q H i).trans (Cert.QkvDxIdeal.QkvDxValue.final9 A W V Q H D f g m c E0 E1 E2 E3 E4 E5 E6 E7).symm,
    (funext fun i => Cert.QkvDxRefIdeal.RefValue.dgkv_read A W H i).trans (Cert.QkvDxIdeal.QkvDxValue.final10 A W V Q H D f g m c E0 E1 E2 E3 E4 E5 E6 E7).symm⟩

/-- The results of the gradient through the attention's projections and norms are the reference's. -/
theorem qkvDxValue : Cert.algebraic_QkvDxIdeal_QkvDxRefIdeal_pre_qkv_dx_finite (hPre_qkv_dx_finite := qkvDxFacts) := by
  pair_intro
  · run_from Cert.QkvDxIdeal.Gen.run_main m g
  · run_from Cert.QkvDxRefIdeal.Value.run m' g'
    · exact (Cert.QkvDxRefIdeal.Read.val_main_v61_eq m' c).trans
        (qkvDxTie m hpre c _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2).1
    · refine (Cert.QkvDxRefIdeal.Read.val_main_v62_eq _ _ _).trans
        (qkvDxTie m hpre c _ _ _ _ _ _ _ _ ?_ ?_ (hagree c).2.2.1 (hagree c).2.2.2.1 (hagree c).2.2.2.2.1 (hagree c).2.2.2.2.2.1 ?_ (hagree c).2.2.2.2.2.2.2).2.1
      all_goals first | rfl | exact (hagree c).1 | exact (hagree c).2.1 | exact (hagree c).2.2.2.2.2.2.1
    · refine (Cert.QkvDxRefIdeal.Read.val_main_v63_eq _ _ _).trans
        (qkvDxTie m hpre c _ _ _ _ _ _ _ _ (hagree c).1 (hagree c).2.1 (hagree c).2.2.1 ?_ ?_ (hagree c).2.2.2.2.2.1 ?_ (hagree c).2.2.2.2.2.2.2).2.2
      all_goals first | rfl | exact (hagree c).2.2.2.1 | exact (hagree c).2.2.2.2.1 | exact (hagree c).2.2.2.2.2.2.1

/-- The results of the attention's norms and projections are the reference's. -/
theorem qkvValue : Cert.algebraic_QkvIdeal_QkvRefIdeal := by
  pair_intro
  · run_from Cert.QkvIdeal.Gen.run_main m g
  · run_from Cert.QkvRefIdeal.Value.run m' g'
    · exact (Cert.QkvRefIdeal.Read.val_main_v29_eq _ _ _).trans ((Cert.QkvIdeal.QkvValue.ref_q _ _ _).trans (Cert.QkvIdeal.QkvValue.final5 m c).symm)
    · exact (Cert.QkvRefIdeal.Read.val_main_v30_eq _ _ _).trans ((Cert.QkvIdeal.QkvValue.ref_kv _ _ _).trans
        ((congrArg₂ (Cert.QkvIdeal.QkvValue.keys _) (hagree c).2.2.2.1 (hagree c).2.2.2.2).trans (Cert.QkvIdeal.QkvValue.final6 m c).symm))
    · exact (Cert.QkvRefIdeal.Read.val_main_v31_eq _ _).trans ((Cert.QkvIdeal.QkvValue.ref_nq _ _).trans (Cert.QkvIdeal.QkvValue.final7 m c).symm)
    · exact (Cert.QkvRefIdeal.Read.val_main_v32_eq _ _).trans ((Cert.QkvIdeal.QkvValue.ref_nkv _ _).trans (Cert.QkvIdeal.QkvValue.final8 m c).symm)

/-- The reference's terms over the call's arguments are what the call leaves in its result arrays. -/
theorem mixerATie (m : (ℓ : Loc Cert.MixerAIdeal.nD Cert.MixerAIdeal.τ Cert.MixerAIdeal.sig) → Buf (Elt Ideal) ℓ) (c : Dev Cert.MixerAIdeal.nD)
    (x0 x1 x2 x3 x4 x5 x6)
    (e0 : x0 = m ((c.tc : Thread Cert.MixerAIdeal.nD Cert.MixerAIdeal.τ).loc Cert.MixerAIdeal.main_arg0))
    (e1 : x1 = m ((c.tc : Thread Cert.MixerAIdeal.nD Cert.MixerAIdeal.τ).loc Cert.MixerAIdeal.main_arg1))
    (e2 : x2 = m ((c.tc : Thread Cert.MixerAIdeal.nD Cert.MixerAIdeal.τ).loc Cert.MixerAIdeal.main_arg2))
    (e3 : x3 = m ((c.tc : Thread Cert.MixerAIdeal.nD Cert.MixerAIdeal.τ).loc Cert.MixerAIdeal.main_arg3))
    (e4 : x4 = m ((c.tc : Thread Cert.MixerAIdeal.nD Cert.MixerAIdeal.τ).loc Cert.MixerAIdeal.main_arg4))
    (e5 : x5 = m ((c.tc : Thread Cert.MixerAIdeal.nD Cert.MixerAIdeal.τ).loc Cert.MixerAIdeal.main_arg5))
    (e6 : x6 = m ((c.tc : Thread Cert.MixerAIdeal.nD Cert.MixerAIdeal.τ).loc Cert.MixerAIdeal.main_arg6)) :
    Cert.MixerARefIdeal.Read.val_main_v65 (F := Ideal) x0 x1 x2 x3 x4 x5 x6 = (Cert.MixerAIdeal.Gen.dats m 0 c).arrAt 7 (Cert.MixerAIdeal.cfgs 0).N
    ∧ Cert.MixerARefIdeal.Read.val_main_v66 (F := Ideal) x0 x1 x2 = (Cert.MixerAIdeal.Gen.dats m 0 c).arrAt 8 (Cert.MixerAIdeal.cfgs 0).N
    ∧ Cert.MixerARefIdeal.Read.val_main_v67 (F := Ideal) x0 x1 x2 x3 x4 x5 = (Cert.MixerAIdeal.Gen.dats m 0 c).arrAt 9 (Cert.MixerAIdeal.cfgs 0).N
    ∧ Cert.MixerARefIdeal.Read.val_main_v68 (F := Ideal) x0 x2 = (Cert.MixerAIdeal.Gen.dats m 0 c).arrAt 10 (Cert.MixerAIdeal.cfgs 0).N := by
  obtain ⟨H, E0⟩ := Cert.MixerMath.nat2 (m ((c.tc : Thread Cert.MixerAIdeal.nD Cert.MixerAIdeal.τ).loc Cert.MixerAIdeal.main_arg0))
  obtain ⟨A, E1⟩ := Cert.MixerMath.row2 (m ((c.tc : Thread Cert.MixerAIdeal.nD Cert.MixerAIdeal.τ).loc Cert.MixerAIdeal.main_arg1))
  obtain ⟨g, E2⟩ := Cert.MixerMath.nat1 (m ((c.tc : Thread Cert.MixerAIdeal.nD Cert.MixerAIdeal.τ).loc Cert.MixerAIdeal.main_arg2))
  obtain ⟨gv, E3⟩ := Cert.MixerMath.row1 (m ((c.tc : Thread Cert.MixerAIdeal.nD Cert.MixerAIdeal.τ).loc Cert.MixerAIdeal.main_arg3))
  obtain ⟨W, E4⟩ := Cert.MixerMath.nat3 (m ((c.tc : Thread Cert.MixerAIdeal.nD Cert.MixerAIdeal.τ).loc Cert.MixerAIdeal.main_arg4))
  obtain ⟨b, E5⟩ := Cert.MixerMath.nat2 (m ((c.tc : Thread Cert.MixerAIdeal.nD Cert.MixerAIdeal.τ).loc Cert.MixerAIdeal.main_arg5))
  obtain ⟨O, E6⟩ := Cert.MixerMath.row2 (m ((c.tc : Thread Cert.MixerAIdeal.nD Cert.MixerAIdeal.τ).loc Cert.MixerAIdeal.main_arg6))
  obtain rfl : x0 = Cert.MixerARefIdeal.RefValue.X0 H := e0.trans (funext E0)
  obtain rfl : x1 = Cert.MixerARefIdeal.RefValue.X1 A := e1.trans (funext E1)
  obtain rfl : x2 = Cert.MixerARefIdeal.RefValue.X2 g := e2.trans (funext E2)
  obtain rfl : x3 = Cert.MixerARefIdeal.RefValue.X3 gv := e3.trans (funext E3)
  obtain rfl : x4 = Cert.MixerARefIdeal.RefValue.X4 W := e4.trans (funext E4)
  obtain rfl : x5 = Cert.MixerARefIdeal.RefValue.X5 b := e5.trans (funext E5)
  obtain rfl : x6 = Cert.MixerARefIdeal.RefValue.X6 O := e6.trans (funext E6)
  exact ⟨(funext fun i => Cert.MixerARefIdeal.RefValue.oo_read H A g gv W b O i).trans (Cert.MixerAIdeal.MixerAValue.final7 m c H A g gv W b O E0 E1 E2 E3 E4 E5 E6).symm,
    (funext fun i => Cert.MixerARefIdeal.RefValue.zz_read H A g i).trans (Cert.MixerAIdeal.MixerAValue.final8 m c H A g E0 E1 E2).symm,
    (funext fun i => Cert.MixerARefIdeal.RefValue.ga_read H A g gv W b i).trans (Cert.MixerAIdeal.MixerAValue.final9 m c H A g gv W b E0 E1 E2 E3 E4 E5).symm,
    (funext fun i => Cert.MixerARefIdeal.RefValue.nn_read H g i).trans (Cert.MixerAIdeal.MixerAValue.final10 m c H g E0 E2).symm⟩

/-- The results of the first mixer's forward call are the reference's. -/
theorem mixerAValue : Cert.algebraic_MixerAIdeal_MixerARefIdeal := by
  pair_intro
  · run_from Cert.MixerAIdeal.Gen.run_main m g
  · run_from Cert.MixerARefIdeal.Value.run m' g'
    · exact (Cert.MixerARefIdeal.Read.val_main_v65_eq m' c).trans
        (mixerATie m c _ _ _ _ _ _ _ (hagree c).1 (hagree c).2.1 (hagree c).2.2.1 (hagree c).2.2.2.1 (hagree c).2.2.2.2.1 (hagree c).2.2.2.2.2.1 (hagree c).2.2.2.2.2.2).1
    · refine (Cert.MixerARefIdeal.Read.val_main_v66_eq _ _ _).trans
        (mixerATie m c _ _ _ _ _ _ _ ?_ ?_ ?_ (hagree c).2.2.2.1 (hagree c).2.2.2.2.1 (hagree c).2.2.2.2.2.1 (hagree c).2.2.2.2.2.2).2.1
      all_goals first | rfl | exact (hagree c).1 | exact (hagree c).2.1 | exact (hagree c).2.2.1
    · exact (Cert.MixerARefIdeal.Read.val_main_v67_eq m' c).trans
        (mixerATie m c _ _ _ _ _ _ _ (hagree c).1 (hagree c).2.1 (hagree c).2.2.1 (hagree c).2.2.2.1 (hagree c).2.2.2.2.1 (hagree c).2.2.2.2.2.1 (hagree c).2.2.2.2.2.2).2.2.1
    · refine (Cert.MixerARefIdeal.Read.val_main_v68_eq _ _).trans
        (mixerATie m c _ _ _ _ _ _ _ ?_ (hagree c).2.1 ?_ (hagree c).2.2.2.1 (hagree c).2.2.2.2.1 (hagree c).2.2.2.2.2.1 (hagree c).2.2.2.2.2.2).2.2.2
      all_goals first | rfl | exact (hagree c).1 | exact (hagree c).2.2.1

/-- The results of the optimiser's step on the ConvFFNs' input weights are the reference's. -/
theorem adamWideValue : Cert.algebraic_AdamWideIdeal_AdamWideRefIdeal := by
  pair_intro
  · run_from Cert.AdamWideIdeal.Gen.run_main m g
  · run_from Cert.AdamWideRefIdeal.Value.run m' g'
    · exact (Cert.AdamWideRefIdeal.Read.val_main_v23_eq _ _ _ _).trans ((Cert.AdamWideIdeal.Adam.ref _ _ _ _).1.trans (Cert.AdamWideIdeal.Adam.final4 m c).symm)
    · exact (Cert.AdamWideRefIdeal.Read.val_main_v4_eq _ _).trans ((Cert.AdamWideIdeal.Adam.ref (Cert.AdamWideIdeal.Adam.W m c) _ _ (Cert.AdamWideIdeal.Adam.W m c)).2.1.trans (Cert.AdamWideIdeal.Adam.final5 m c).symm)
    · exact (Cert.AdamWideRefIdeal.Read.val_main_v10_eq _ _).trans ((Cert.AdamWideIdeal.Adam.ref (Cert.AdamWideIdeal.Adam.W m c) _ (Cert.AdamWideIdeal.Adam.W m c) _).2.2.trans (Cert.AdamWideIdeal.Adam.final6 m c).symm)

/-- The results of the optimiser's step on the ConvFFNs' output weights are the reference's. -/
theorem adamDownValue : Cert.algebraic_AdamDownIdeal_AdamDownRefIdeal := by
  pair_intro
  · run_from Cert.AdamDownIdeal.Gen.run_main m g
  · run_from Cert.AdamDownRefIdeal.Value.run m' g'
    · exact (Cert.AdamDownRefIdeal.Read.val_main_v23_eq _ _ _ _).trans ((Cert.AdamDownIdeal.Adam.ref _ _ _ _).1.trans (Cert.AdamDownIdeal.Adam.final4 m c).symm)
    · exact (Cert.AdamDownRefIdeal.Read.val_main_v4_eq _ _).trans ((Cert.AdamDownIdeal.Adam.ref (Cert.AdamDownIdeal.Adam.W m c) _ _ (Cert.AdamDownIdeal.Adam.W m c)).2.1.trans (Cert.AdamDownIdeal.Adam.final5 m c).symm)
    · exact (Cert.AdamDownRefIdeal.Read.val_main_v10_eq _ _).trans ((Cert.AdamDownIdeal.Adam.ref (Cert.AdamDownIdeal.Adam.W m c) _ (Cert.AdamDownIdeal.Adam.W m c) _).2.2.trans (Cert.AdamDownIdeal.Adam.final6 m c).symm)

/-- The results of the optimiser's step on the first mixer's input weights, or the keys' and values' are the reference's. -/
theorem adamInValue : Cert.algebraic_AdamInIdeal_AdamInRefIdeal := by
  pair_intro
  · run_from Cert.AdamInIdeal.Gen.run_main m g
  · run_from Cert.AdamInRefIdeal.Value.run m' g'
    · exact (Cert.AdamInRefIdeal.Read.val_main_v23_eq _ _ _ _).trans ((Cert.AdamInIdeal.Adam.ref _ _ _ _).1.trans (Cert.AdamInIdeal.Adam.final4 m c).symm)
    · exact (Cert.AdamInRefIdeal.Read.val_main_v4_eq _ _).trans ((Cert.AdamInIdeal.Adam.ref (Cert.AdamInIdeal.Adam.W m c) _ _ (Cert.AdamInIdeal.Adam.W m c)).2.1.trans (Cert.AdamInIdeal.Adam.final5 m c).symm)
    · exact (Cert.AdamInRefIdeal.Read.val_main_v10_eq _ _).trans ((Cert.AdamInIdeal.Adam.ref (Cert.AdamInIdeal.Adam.W m c) _ (Cert.AdamInIdeal.Adam.W m c) _).2.2.trans (Cert.AdamInIdeal.Adam.final6 m c).symm)

/-- The results of the optimiser's step on a mixer's output weights, or the queries' are the reference's. -/
theorem adamOutValue : Cert.algebraic_AdamOutIdeal_AdamOutRefIdeal := by
  pair_intro
  · run_from Cert.AdamOutIdeal.Gen.run_main m g
  · run_from Cert.AdamOutRefIdeal.Value.run m' g'
    · exact (Cert.AdamOutRefIdeal.Read.val_main_v23_eq _ _ _ _).trans ((Cert.AdamOutIdeal.Adam.ref _ _ _ _).1.trans (Cert.AdamOutIdeal.Adam.final4 m c).symm)
    · exact (Cert.AdamOutRefIdeal.Read.val_main_v4_eq _ _).trans ((Cert.AdamOutIdeal.Adam.ref (Cert.AdamOutIdeal.Adam.W m c) _ _ (Cert.AdamOutIdeal.Adam.W m c)).2.1.trans (Cert.AdamOutIdeal.Adam.final5 m c).symm)
    · exact (Cert.AdamOutRefIdeal.Read.val_main_v10_eq _ _).trans ((Cert.AdamOutIdeal.Adam.ref (Cert.AdamOutIdeal.Adam.W m c) _ (Cert.AdamOutIdeal.Adam.W m c) _).2.2.trans (Cert.AdamOutIdeal.Adam.final6 m c).symm)

/-- The results of the optimiser's step on all the small weights, packed in rows of 128 are the reference's. -/
theorem adamSmallValue : Cert.algebraic_AdamSmallIdeal_AdamSmallRefIdeal := by
  pair_intro
  · run_from Cert.AdamSmallIdeal.Gen.run_main m g
  · run_from Cert.AdamSmallRefIdeal.Value.run m' g'
    · exact (Cert.AdamSmallRefIdeal.Read.val_main_v23_eq _ _ _ _).trans ((Cert.AdamSmallIdeal.Adam.ref _ _ _ _).1.trans (Cert.AdamSmallIdeal.Adam.final4 m c).symm)
    · exact (Cert.AdamSmallRefIdeal.Read.val_main_v4_eq _ _).trans ((Cert.AdamSmallIdeal.Adam.ref (Cert.AdamSmallIdeal.Adam.W m c) _ _ (Cert.AdamSmallIdeal.Adam.W m c)).2.1.trans (Cert.AdamSmallIdeal.Adam.final5 m c).symm)
    · exact (Cert.AdamSmallRefIdeal.Read.val_main_v10_eq _ _).trans ((Cert.AdamSmallIdeal.Adam.ref (Cert.AdamSmallIdeal.Adam.W m c) _ (Cert.AdamSmallIdeal.Adam.W m c) _).2.2.trans (Cert.AdamSmallIdeal.Adam.final6 m c).symm)

/-- The side conditions of the attention's precondition. -/
theorem attnFacts : Cert.Pre_attn_finite.Facts := by
  constructor <;> decide

/-- The reference's attention over the call's arguments is what the call leaves in its result array. -/
theorem attnTie (m : (ℓ : Loc Cert.AttnIdeal.nD Cert.AttnIdeal.τ Cert.AttnIdeal.sig) → Buf (Elt Ideal) ℓ)
    (hpre : Cert.Pre_AttnIdeal_attn_finite (hPre_attn_finite := attnFacts) m) (c : Dev Cert.AttnIdeal.nD)
    (x0 x1 x2)
    (e0 : x0 = m ((c.tc : Thread Cert.AttnIdeal.nD Cert.AttnIdeal.τ).loc Cert.AttnIdeal.main_arg0))
    (e1 : x1 = m ((c.tc : Thread Cert.AttnIdeal.nD Cert.AttnIdeal.τ).loc Cert.AttnIdeal.main_arg1))
    (e2 : x2 = m ((c.tc : Thread Cert.AttnIdeal.nD Cert.AttnIdeal.τ).loc Cert.AttnIdeal.main_arg2)) :
    Cert.AttnRefIdeal.Read.val_main_v51 (F := Ideal) x0 x1 x2 = (Cert.AttnIdeal.Gen.dats m 0 c).arrAt 4 (Cert.AttnIdeal.cfgs 0).N := by
  have : Cert.Pre_attn_finite.Facts := attnFacts
  obtain ⟨h0, h1, h2⟩ := Cert.AttnPre.attn _ _ _ (hpre c)
  obtain ⟨Q, E0⟩ := Cert.GatePre.ext3 _ h0
  obtain ⟨KV, E1⟩ := Cert.AttnPre.ext4 _ h1
  obtain ⟨B, E2⟩ := Cert.GatePre.ext3 _ h2
  obtain rfl : x0 = Cert.AttnRefIdeal.RefValue.X0 Q := e0.trans (funext E0)
  obtain rfl : x1 = Cert.AttnRefIdeal.RefValue.X1 KV := e1.trans (funext E1)
  obtain rfl : x2 = Cert.AttnRefIdeal.RefValue.X2 B := e2.trans (funext E2)
  exact (funext fun i => Cert.AttnRefIdeal.RefValue.att_read Q KV B i).trans (Cert.AttnIdeal.AttnValue.final m c Q KV B E0 E1 E2).symm

/-- The result of the windowed attention is the reference's. -/
theorem attnValue : Cert.algebraic_AttnIdeal_AttnRefIdeal_pre_attn_finite (hPre_attn_finite := attnFacts) := by
  pair_intro
  · run_from Cert.AttnIdeal.Gen.run_main m g
  · run_from Cert.AttnRefIdeal.Value.run m' g'
    exact (Cert.AttnRefIdeal.Read.val_main_v51_eq m' c).trans (attnTie m hpre c _ _ _ (hagree c).1 (hagree c).2.1 (hagree c).2.2)

/-- The relative position bias with its band is the reference's. -/
theorem biasValue : Cert.algebraic_BiasIdeal_BiasRefIdeal := by
  pair_intro
  · run_from Cert.BiasIdeal.Gen.run_main m g
  · run_from Cert.BiasRefIdeal.Value.run m' g'
    exact (Cert.BiasRefIdeal.Read.val_main_v37_eq _).trans ((Cert.BiasRefIdeal.BiasRead.ref _).trans (Cert.BiasIdeal.BiasValue.final m c).symm)

theorem biasReduceFacts : Cert.Pre_bias_reduce_finite.Facts := by
  constructor <;> decide

/-- The product with the given matrix, as both programs leave it. -/
theorem biasReduceTie (m : (ℓ : Loc Cert.BiasReduceIdeal.nD Cert.BiasReduceIdeal.τ Cert.BiasReduceIdeal.sig) → Buf (Elt Ideal) ℓ)
    (hpre : Cert.Pre_BiasReduceIdeal_bias_reduce_finite (hPre_bias_reduce_finite := biasReduceFacts) m) (c : Dev Cert.BiasReduceIdeal.nD)
    (x0 x1) (e0 : x0 = m ((c.tc : Thread Cert.BiasReduceIdeal.nD Cert.BiasReduceIdeal.τ).loc Cert.BiasReduceIdeal.main_arg0))
    (e1 : x1 = m ((c.tc : Thread Cert.BiasReduceIdeal.nD Cert.BiasReduceIdeal.τ).loc Cert.BiasReduceIdeal.main_arg1)) :
    Cert.BiasReduceRefIdeal.Read.val_main_v29 (F := Ideal) x0 x1
      = (Cert.BiasReduceIdeal.Gen.dats m 0 c).arrAt 2 (Cert.BiasReduceIdeal.cfgs 0).N := by
  have : Cert.Pre_bias_reduce_finite.Facts := biasReduceFacts
  obtain ⟨D, E0⟩ := Cert.GatePre.ext3 _ (Cert.BiasReducePre.real _ _ (hpre c))
  obtain rfl : x0 = Cert.BiasReduceRefIdeal.RefRead.X D := e0.trans (funext E0)
  subst e1
  exact (funext fun i => Cert.BiasReduceRefIdeal.RefRead.ref D _ i).trans (Cert.BiasReduceIdeal.ReduceValue.final m c D E0).symm

/-- The sums over the places, times the given matrix, are the reference's. -/
theorem biasReduceValue :
    Cert.algebraic_BiasReduceIdeal_BiasReduceRefIdeal_pre_bias_reduce_finite (hPre_bias_reduce_finite := biasReduceFacts) := by
  pair_intro
  · run_from Cert.BiasReduceIdeal.Gen.run_main m g
  · run_from Cert.BiasReduceRefIdeal.Value.run m' g'
    exact (Cert.BiasReduceRefIdeal.Read.val_main_v29_eq _ _).trans (biasReduceTie m hpre c _ _ rfl rfl)

theorem claim : Cert.Claim :=
  ⟨Cert.Gate.Gen.facts, Cert.GateIdeal.Gen.facts, Cert.GateRefIdeal.Gen.facts,
    Cert.InDw.Gen.facts, Cert.InDwIdeal.Gen.facts, Cert.InDwRefIdeal.Gen.facts,
    Cert.DownDw.Gen.facts, Cert.DownDwIdeal.Gen.facts, Cert.DownDwRefIdeal.Gen.facts,
    Cert.DownDx.Gen.facts, Cert.DownDxIdeal.Gen.facts, Cert.DownDxRefIdeal.Gen.facts,
    Cert.InDx.Gen.facts, Cert.InDxIdeal.Gen.facts, Cert.InDxRefIdeal.Gen.facts,
    Cert.OutDw.Gen.facts, Cert.OutDwIdeal.Gen.facts, Cert.OutDwRefIdeal.Gen.facts,
    Cert.QDw.Gen.facts, Cert.QDwIdeal.Gen.facts, Cert.QDwRefIdeal.Gen.facts,
    Cert.KvDw.Gen.facts, Cert.KvDwIdeal.Gen.facts, Cert.KvDwRefIdeal.Gen.facts,
    Cert.MixerDw.Gen.facts, Cert.MixerDwIdeal.Gen.facts, Cert.MixerDwRefIdeal.Gen.facts,
    Cert.OutDx.Gen.facts, Cert.OutDxIdeal.Gen.facts, Cert.OutDxRefIdeal.Gen.facts,
    Cert.Down.Gen.facts, Cert.DownIdeal.Gen.facts, Cert.DownRefIdeal.Gen.facts,
    Cert.AttnOut.Gen.facts, Cert.AttnOutIdeal.Gen.facts, Cert.AttnOutRefIdeal.Gen.facts,
    Cert.MixerDx.Gen.facts, Cert.MixerDxIdeal.Gen.facts, Cert.MixerDxRefIdeal.Gen.facts,
    Cert.QkvDx.Gen.facts, Cert.QkvDxIdeal.Gen.facts, Cert.QkvDxRefIdeal.Gen.facts,
    Cert.Qkv.Gen.facts, Cert.QkvIdeal.Gen.facts, Cert.QkvRefIdeal.Gen.facts,
    Cert.MixerA.Gen.facts, Cert.MixerAIdeal.Gen.facts, Cert.MixerARefIdeal.Gen.facts,
    Cert.AdamWide.Gen.facts, Cert.AdamWideIdeal.Gen.facts, Cert.AdamWideRefIdeal.Gen.facts,
    Cert.AdamDown.Gen.facts, Cert.AdamDownIdeal.Gen.facts, Cert.AdamDownRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamSmall.Gen.facts, Cert.AdamSmallIdeal.Gen.facts, Cert.AdamSmallRefIdeal.Gen.facts,
    Cert.Attn.Gen.facts, Cert.AttnIdeal.Gen.facts, Cert.AttnRefIdeal.Gen.facts,
    Cert.Bias.Gen.facts, Cert.BiasIdeal.Gen.facts, Cert.BiasRefIdeal.Gen.facts,
    Cert.BiasReduce.Gen.facts, Cert.BiasReduceIdeal.Gen.facts, Cert.BiasReduceRefIdeal.Gen.facts,
    gateFacts, inDxFacts, mixerDxFacts, qkvDxFacts, attnFacts, biasReduceFacts,
    fun m g _ => Cert.Gate.Gen.frame m g, fun m g _ => Cert.GateIdeal.Gen.frame m g, fun m g _ => Cert.GateIdeal.Gen.frame m g,
    fun m g _ => (θ_run_mono (Cert.GateRefIdeal.Value.run m g) fun r h => ⟨fun c => (h c).2.2.2.2, sem_eq_zero_of_no_sems (by decide) r.2⟩),
    fun m g _ => (θ_run_mono (Cert.GateRefIdeal.Value.run m g) fun r h => ⟨fun c => (h c).2.2.2.2, sem_eq_zero_of_no_sems (by decide) r.2⟩),
    fun m g _ => Cert.InDw.Gen.frame m g, fun m g _ => Cert.InDwIdeal.Gen.frame m g,
    fun m g _ => (θ_run_mono (Cert.InDwRefIdeal.Value.run m g) fun r h => ⟨fun c => (h c).2, sem_eq_zero_of_no_sems (by decide) r.2⟩),
    fun m g _ => Cert.DownDw.Gen.frame m g, fun m g _ => Cert.DownDwIdeal.Gen.frame m g,
    fun m g _ => (θ_run_mono (Cert.DownDwRefIdeal.Value.run m g) fun r h => ⟨fun c => (h c).2, sem_eq_zero_of_no_sems (by decide) r.2⟩),
    fun m g _ => Cert.DownDx.Gen.frame m g, fun m g _ => Cert.DownDxIdeal.Gen.frame m g,
    fun m g _ => (θ_run_mono (Cert.DownDxRefIdeal.Value.run m g) fun r h => ⟨fun c => (h c).2, sem_eq_zero_of_no_sems (by decide) r.2⟩),
    fun m g _ => Cert.InDx.Gen.frame m g, fun m g _ => Cert.InDxIdeal.Gen.frame m g, fun m g _ => Cert.InDxIdeal.Gen.frame m g,
    fun m g _ => (θ_run_mono (Cert.InDxRefIdeal.Value.run m g) fun r h => ⟨fun c => (h c).2.2, sem_eq_zero_of_no_sems (by decide) r.2⟩),
    fun m g _ => (θ_run_mono (Cert.InDxRefIdeal.Value.run m g) fun r h => ⟨fun c => (h c).2.2, sem_eq_zero_of_no_sems (by decide) r.2⟩),
    fun m g _ => Cert.OutDw.Gen.frame m g, fun m g _ => Cert.OutDwIdeal.Gen.frame m g,
    fun m g _ => (θ_run_mono (Cert.OutDwRefIdeal.Value.run m g) fun r h => ⟨fun c => (h c).2, sem_eq_zero_of_no_sems (by decide) r.2⟩),
    fun m g _ => Cert.QDw.Gen.frame m g, fun m g _ => Cert.QDwIdeal.Gen.frame m g,
    fun m g _ => (θ_run_mono (Cert.QDwRefIdeal.Value.run m g) fun r h => ⟨fun c => (h c).2, sem_eq_zero_of_no_sems (by decide) r.2⟩),
    fun m g _ => Cert.KvDw.Gen.frame m g, fun m g _ => Cert.KvDwIdeal.Gen.frame m g,
    fun m g _ => (θ_run_mono (Cert.KvDwRefIdeal.Value.run m g) fun r h => ⟨fun c => (h c).2, sem_eq_zero_of_no_sems (by decide) r.2⟩),
    fun m g _ => Cert.MixerDw.Gen.frame m g, fun m g _ => Cert.MixerDwIdeal.Gen.frame m g,
    fun m g _ => (θ_run_mono (Cert.MixerDwRefIdeal.Value.run m g) fun r h => ⟨fun c => (h c).2, sem_eq_zero_of_no_sems (by decide) r.2⟩),
    fun m g _ => Cert.OutDx.Gen.frame m g, fun m g _ => Cert.OutDxIdeal.Gen.frame m g,
    fun m g _ => (θ_run_mono (Cert.OutDxRefIdeal.Value.run m g) fun r h => ⟨fun c => (h c).2, sem_eq_zero_of_no_sems (by decide) r.2⟩),
    fun m g _ => Cert.Down.Gen.frame m g, fun m g _ => Cert.DownIdeal.Gen.frame m g,
    fun m g _ => (θ_run_mono (Cert.DownRefIdeal.Value.run m g) fun r h => ⟨fun c => (h c).2, sem_eq_zero_of_no_sems (by decide) r.2⟩),
    fun m g _ => Cert.AttnOut.Gen.frame m g, fun m g _ => Cert.AttnOutIdeal.Gen.frame m g,
    fun m g _ => (θ_run_mono (Cert.AttnOutRefIdeal.Value.run m g) fun r h => ⟨fun c => (h c).2, sem_eq_zero_of_no_sems (by decide) r.2⟩),
    fun m g _ => Cert.MixerDx.Gen.frame m g, fun m g _ => Cert.MixerDxIdeal.Gen.frame m g, fun m g _ => Cert.MixerDxIdeal.Gen.frame m g,
    fun m g _ => (θ_run_mono (Cert.MixerDxRefIdeal.Value.run m g) fun r h => ⟨fun c => (h c).2.2, sem_eq_zero_of_no_sems (by decide) r.2⟩),
    fun m g _ => (θ_run_mono (Cert.MixerDxRefIdeal.Value.run m g) fun r h => ⟨fun c => (h c).2.2, sem_eq_zero_of_no_sems (by decide) r.2⟩),
    fun m g _ => Cert.QkvDx.Gen.frame m g, fun m g _ => Cert.QkvDxIdeal.Gen.frame m g, fun m g _ => Cert.QkvDxIdeal.Gen.frame m g,
    fun m g _ => (θ_run_mono (Cert.QkvDxRefIdeal.Value.run m g) fun r h => ⟨fun c => (h c).2.2.2, sem_eq_zero_of_no_sems (by decide) r.2⟩),
    fun m g _ => (θ_run_mono (Cert.QkvDxRefIdeal.Value.run m g) fun r h => ⟨fun c => (h c).2.2.2, sem_eq_zero_of_no_sems (by decide) r.2⟩),
    fun m g _ => Cert.Qkv.Gen.frame m g, fun m g _ => Cert.QkvIdeal.Gen.frame m g,
    fun m g _ => (θ_run_mono (Cert.QkvRefIdeal.Value.run m g) fun r h => ⟨fun c => (h c).2.2.2.2, sem_eq_zero_of_no_sems (by decide) r.2⟩),
    fun m g _ => Cert.MixerA.Gen.frame m g, fun m g _ => Cert.MixerAIdeal.Gen.frame m g,
    fun m g _ => (θ_run_mono (Cert.MixerARefIdeal.Value.run m g) fun r h => ⟨fun c => (h c).2.2.2.2, sem_eq_zero_of_no_sems (by decide) r.2⟩),
    fun m g _ => Cert.AdamWide.Gen.frame m g, fun m g _ => Cert.AdamWideIdeal.Gen.frame m g,
    fun m g _ => (θ_run_mono (Cert.AdamWideRefIdeal.Value.run m g) fun r h => ⟨fun c => (h c).2.2.2, sem_eq_zero_of_no_sems (by decide) r.2⟩),
    fun m g _ => Cert.AdamDown.Gen.frame m g, fun m g _ => Cert.AdamDownIdeal.Gen.frame m g,
    fun m g _ => (θ_run_mono (Cert.AdamDownRefIdeal.Value.run m g) fun r h => ⟨fun c => (h c).2.2.2, sem_eq_zero_of_no_sems (by decide) r.2⟩),
    fun m g _ => Cert.AdamIn.Gen.frame m g, fun m g _ => Cert.AdamInIdeal.Gen.frame m g,
    fun m g _ => (θ_run_mono (Cert.AdamInRefIdeal.Value.run m g) fun r h => ⟨fun c => (h c).2.2.2, sem_eq_zero_of_no_sems (by decide) r.2⟩),
    fun m g _ => Cert.AdamOut.Gen.frame m g, fun m g _ => Cert.AdamOutIdeal.Gen.frame m g,
    fun m g _ => (θ_run_mono (Cert.AdamOutRefIdeal.Value.run m g) fun r h => ⟨fun c => (h c).2.2.2, sem_eq_zero_of_no_sems (by decide) r.2⟩),
    fun m g _ => Cert.AdamSmall.Gen.frame m g, fun m g _ => Cert.AdamSmallIdeal.Gen.frame m g,
    fun m g _ => (θ_run_mono (Cert.AdamSmallRefIdeal.Value.run m g) fun r h => ⟨fun c => (h c).2.2.2, sem_eq_zero_of_no_sems (by decide) r.2⟩),
    fun m g _ => Cert.Attn.Gen.frame m g, fun m g _ => Cert.AttnIdeal.Gen.frame m g, fun m g _ => Cert.AttnIdeal.Gen.frame m g,
    fun m g _ => (θ_run_mono (Cert.AttnRefIdeal.Value.run m g) fun r h => ⟨fun c => (h c).2, sem_eq_zero_of_no_sems (by decide) r.2⟩),
    fun m g _ => (θ_run_mono (Cert.AttnRefIdeal.Value.run m g) fun r h => ⟨fun c => (h c).2, sem_eq_zero_of_no_sems (by decide) r.2⟩),
    fun m g _ => Cert.Bias.Gen.frame m g, fun m g _ => Cert.BiasIdeal.Gen.frame m g,
    fun m g _ => (θ_run_mono (Cert.BiasRefIdeal.Value.run m g) fun r h => ⟨fun c => (h c).2, sem_eq_zero_of_no_sems (by decide) r.2⟩),
    fun m g _ => Cert.BiasReduce.Gen.frame m g, fun m g _ => Cert.BiasReduceIdeal.Gen.frame m g, fun m g _ => Cert.BiasReduceIdeal.Gen.frame m g,
    fun m g _ => (θ_run_mono (Cert.BiasReduceRefIdeal.Value.run m g) fun r h => ⟨fun c => (h c).2, sem_eq_zero_of_no_sems (by decide) r.2⟩),
    fun m g _ => (θ_run_mono (Cert.BiasReduceRefIdeal.Value.run m g) fun r h => ⟨fun c => (h c).2, sem_eq_zero_of_no_sems (by decide) r.2⟩),
    ⟨IdealRules.named_const.statement _ _ _ _ _ rfl, IdealRules.named_const.statement _ _ _ _ _ rfl⟩, gateValue,
    trivial, inDwValue,
    trivial, downDwValue,
    trivial, downDxValue,
    trivial, inDxValue,
    trivial, outDwValue,
    trivial, qDwValue,
    trivial, kvDwValue,
    trivial, mixerDwValue,
    trivial, outDxValue,
    trivial, downValue,
    trivial, attnOutValue,
    trivial, mixerDxValue,
    trivial, qkvDxValue,
    trivial, qkvValue,
    IdealRules.named_const.statement _ _ _ _ _ rfl, mixerAValue,
    trivial, adamWideValue,
    trivial, adamDownValue,
    trivial, adamInValue,
    trivial, adamOutValue,
    trivial, adamSmallValue,
    trivial, attnValue,
    trivial, biasValue,
    trivial, biasReduceValue⟩

end Cert.Proof

end
